-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14))).2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14))).2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "gelu" .f32 0x3D372713#32 ((8943 / 200000 : ℝ) : EReal)
  ∧ IdealRules.named_const.Statement Cert.Kernel2Ideal.κ "gelu3" .f32 0x3E095D4F#32 ((26829 / 200000 : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) →
    ∃ (v0 : (c : Dev Cert.Kernel2Ideal.nD) → Buf (Elt Ideal) ((c.tc : Thread Cert.Kernel2Ideal.nD Cert.Kernel2Ideal.τ).loc Cert.Kernel2Ideal.main_v117)) (v1 : (c : Dev Cert.Kernel2Ideal.nD) → Buf (Elt Ideal) ((c.tc : Thread Cert.Kernel2Ideal.nD Cert.Kernel2Ideal.τ).loc Cert.Kernel2Ideal.main_v116_1)) (v2 : (c : Dev Cert.Kernel2Ideal.nD) → Buf (Elt Ideal) ((c.tc : Thread Cert.Kernel2Ideal.nD Cert.Kernel2Ideal.τ).loc Cert.Kernel2Ideal.main_v116_3)) (v3 : (c : Dev Cert.Kernel2Ideal.nD) → Buf (Elt Ideal) ((c.tc : Thread Cert.Kernel2Ideal.nD Cert.Kernel2Ideal.τ).loc Cert.Kernel2Ideal.main_v116_4)) (v4 : (c : Dev Cert.Kernel2Ideal.nD) → Buf (Elt Ideal) ((c.tc : Thread Cert.Kernel2Ideal.nD Cert.Kernel2Ideal.τ).loc Cert.Kernel2Ideal.main_v116_5)) (v5 : (c : Dev Cert.Kernel2Ideal.nD) → Buf (Elt Ideal) ((c.tc : Thread Cert.Kernel2Ideal.nD Cert.Kernel2Ideal.τ).loc Cert.Kernel2Ideal.main_v116_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v117) = v0 c
          ∧ r.2.mem ((c.tc : Thread Cert.Kernel2Ideal.nD Cert.Kernel2Ideal.τ).loc Cert.Kernel2Ideal.main_v116_1) = v1 c
          ∧ r.2.mem ((c.tc : Thread Cert.Kernel2Ideal.nD Cert.Kernel2Ideal.τ).loc Cert.Kernel2Ideal.main_v116_3) = v2 c
          ∧ r.2.mem ((c.tc : Thread Cert.Kernel2Ideal.nD Cert.Kernel2Ideal.τ).loc Cert.Kernel2Ideal.main_v116_4) = v3 c
          ∧ r.2.mem ((c.tc : Thread Cert.Kernel2Ideal.nD Cert.Kernel2Ideal.τ).loc Cert.Kernel2Ideal.main_v116_5) = v4 c
          ∧ r.2.mem ((c.tc : Thread Cert.Kernel2Ideal.nD Cert.Kernel2Ideal.τ).loc Cert.Kernel2Ideal.main_v116_6) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v204) = v0 c
          ∧ r.2.mem ((c.tc : Thread Cert.Reference2Ideal.nD Cert.Reference2Ideal.τ).loc Cert.Reference2Ideal.main_v206) = v1 c
          ∧ r.2.mem ((c.tc : Thread Cert.Reference2Ideal.nD Cert.Reference2Ideal.τ).loc Cert.Reference2Ideal.main_v208) = v2 c
          ∧ r.2.mem ((c.tc : Thread Cert.Reference2Ideal.nD Cert.Reference2Ideal.τ).loc Cert.Reference2Ideal.main_v210) = v3 c
          ∧ r.2.mem ((c.tc : Thread Cert.Reference2Ideal.nD Cert.Reference2Ideal.τ).loc Cert.Reference2Ideal.main_v213) = v4 c
          ∧ r.2.mem ((c.tc : Thread Cert.Reference2Ideal.nD Cert.Reference2Ideal.τ).loc Cert.Reference2Ideal.main_v146) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)) (v2 : (c : Dev Cert.Kernel3Ideal.nD) → Buf (Elt Ideal) ((c.tc : Thread Cert.Kernel3Ideal.nD Cert.Kernel3Ideal.τ).loc Cert.Kernel3Ideal.main_v11_2)) (v3 : (c : Dev Cert.Kernel3Ideal.nD) → Buf (Elt Ideal) ((c.tc : Thread Cert.Kernel3Ideal.nD Cert.Kernel3Ideal.τ).loc Cert.Kernel3Ideal.main_v11_3)) (v4 : (c : Dev Cert.Kernel3Ideal.nD) → Buf (Elt Ideal) ((c.tc : Thread Cert.Kernel3Ideal.nD Cert.Kernel3Ideal.τ).loc Cert.Kernel3Ideal.main_v11_4)) (v5 : (c : Dev Cert.Kernel3Ideal.nD) → Buf (Elt Ideal) ((c.tc : Thread Cert.Kernel3Ideal.nD Cert.Kernel3Ideal.τ).loc Cert.Kernel3Ideal.main_v11_5)) (v6 : (c : Dev Cert.Kernel3Ideal.nD) → Buf (Elt Ideal) ((c.tc : Thread Cert.Kernel3Ideal.nD Cert.Kernel3Ideal.τ).loc Cert.Kernel3Ideal.main_v11_6)) (v7 : (c : Dev Cert.Kernel3Ideal.nD) → Buf (Elt Ideal) ((c.tc : Thread Cert.Kernel3Ideal.nD Cert.Kernel3Ideal.τ).loc Cert.Kernel3Ideal.main_v11_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_v11_2) = v2 c
          ∧ r.2.mem ((c.tc : Thread Cert.Kernel3Ideal.nD Cert.Kernel3Ideal.τ).loc Cert.Kernel3Ideal.main_v11_3) = v3 c
          ∧ r.2.mem ((c.tc : Thread Cert.Kernel3Ideal.nD Cert.Kernel3Ideal.τ).loc Cert.Kernel3Ideal.main_v11_4) = v4 c
          ∧ r.2.mem ((c.tc : Thread Cert.Kernel3Ideal.nD Cert.Kernel3Ideal.τ).loc Cert.Kernel3Ideal.main_v11_5) = v5 c
          ∧ r.2.mem ((c.tc : Thread Cert.Kernel3Ideal.nD Cert.Kernel3Ideal.τ).loc Cert.Kernel3Ideal.main_v11_6) = v6 c
          ∧ r.2.mem ((c.tc : Thread Cert.Kernel3Ideal.nD Cert.Kernel3Ideal.τ).loc Cert.Kernel3Ideal.main_v11_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v85) = v0 c
          ∧ r.2.mem ((c.tc : Thread Cert.Reference3Ideal.nD Cert.Reference3Ideal.τ).loc Cert.Reference3Ideal.main_v86) = v1 c
          ∧ r.2.mem ((c.tc : Thread Cert.Reference3Ideal.nD Cert.Reference3Ideal.τ).loc Cert.Reference3Ideal.main_v61) = v2 c
          ∧ r.2.mem ((c.tc : Thread Cert.Reference3Ideal.nD Cert.Reference3Ideal.τ).loc Cert.Reference3Ideal.main_v87) = v3 c
          ∧ r.2.mem ((c.tc : Thread Cert.Reference3Ideal.nD Cert.Reference3Ideal.τ).loc Cert.Reference3Ideal.main_v84) = v4 c
          ∧ r.2.mem ((c.tc : Thread Cert.Reference3Ideal.nD Cert.Reference3Ideal.τ).loc Cert.Reference3Ideal.main_v89) = v5 c
          ∧ r.2.mem ((c.tc : Thread Cert.Reference3Ideal.nD Cert.Reference3Ideal.τ).loc Cert.Reference3Ideal.main_v90) = v6 c
          ∧ r.2.mem ((c.tc : Thread Cert.Reference3Ideal.nD Cert.Reference3Ideal.τ).loc Cert.Reference3Ideal.main_v91) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_v18) = v1 c
          ∧ r.2.mem ((c.tc : Thread Cert.Reference4Ideal.nD Cert.Reference4Ideal.τ).loc Cert.Reference4Ideal.main_v20) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v18)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)) (v3 : (c : Dev Cert.Kernel6Ideal.nD) → Buf (Elt Ideal) ((c.tc : Thread Cert.Kernel6Ideal.nD Cert.Kernel6Ideal.τ).loc Cert.Kernel6Ideal.main_v4_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_v4_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_arg1) = v0 c
          ∧ r.2.mem ((c.tc : Thread Cert.Reference6Ideal.nD Cert.Reference6Ideal.τ).loc Cert.Reference6Ideal.main_v26) = v1 c
          ∧ r.2.mem ((c.tc : Thread Cert.Reference6Ideal.nD Cert.Reference6Ideal.τ).loc Cert.Reference6Ideal.main_v5) = v2 c
          ∧ r.2.mem ((c.tc : Thread Cert.Reference6Ideal.nD Cert.Reference6Ideal.τ).loc Cert.Reference6Ideal.main_v12) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S1x8192x2048 : Shape := ⟨3, ![1, 8192, 2048]⟩
abbrev S1x2048 : Shape := ⟨2, ![1, 2048]⟩
abbrev S1x2048x5120 : Shape := ⟨3, ![1, 2048, 5120]⟩
abbrev S8192x5120 : Shape := ⟨2, ![8192, 5120]⟩
abbrev S8192x2048 : Shape := ⟨2, ![8192, 2048]⟩
abbrev S_ : Shape := ⟨0, ![]⟩

class Facts : Prop where
  bcast_S_S1x8192x2048 : S_.BroadcastsInDim S1x8192x2048 (![] : Fin 0 → Fin S1x8192x2048.rank)
  bcast_S_S1x2048 : S_.BroadcastsInDim S1x2048 (![] : Fin 0 → Fin S1x2048.rank)
  bcast_S_S1x2048x5120 : S_.BroadcastsInDim S1x2048x5120 (![] : Fin 0 → Fin S1x2048x5120.rank)
  bcast_S_S8192x5120 : S_.BroadcastsInDim S8192x5120 (![] : Fin 0 → Fin S8192x5120.rank)

variable [Facts]

def fn {F : FTy → Type} [FloatOps F] (main_arg0 : FVec F S1x8192x2048 .f32) (main_arg1 : FVec F S1x2048 .f32) (main_arg2 : FVec F S1x2048x5120 .f32) (main_arg3 : FVec F S8192x5120 .bf16) (main_arg4 : FVec F S8192x2048 .f32) : IVec S1x8192x2048 1 × IVec S1x2048 1 × IVec S1x2048x5120 1 × IVec S8192x5120 1 :=
  let main_v0 : FVec F S1x8192x2048 .f32 := Host.absf main_arg0
  let main_cst : FVec F S_ .f32 := constant S_ .f32 0x7F800000#32
  let main_v1 : FVec F S1x8192x2048 .f32 := broadcastInDim S1x8192x2048 ![] bcast_S_S1x8192x2048 main_cst
  let main_v2 : IVec S1x8192x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S1x2048x5120 .f32 := Host.absf main_arg2
  let main_cst_1 : FVec F S_ .f32 := constant S_ .f32 0x7F800000#32
  let main_v7 : FVec F S1x2048x5120 .f32 := broadcastInDim S1x2048x5120 ![] bcast_S_S1x2048x5120 main_cst_1
  let main_v8 : IVec S1x2048x5120 1 := cmpf .olt main_v6 main_v7
  let main_v9 : FVec F S8192x5120 .bf16 := Host.absf main_arg3
  let main_cst_2 : FVec F S_ .bf16 := constant S_ .bf16 0x7F80#16
  let main_v10 : FVec F S8192x5120 .bf16 := broadcastInDim S8192x5120 ![] bcast_S_S8192x5120 main_cst_2
  let main_v11 : IVec S8192x5120 1 := cmpf .olt main_v9 main_v10
  (main_v2, main_v5, main_v8, main_v11)
-- ==== Pre_finite2.lean ====
abbrev S8192x5120 : Shape := ⟨2, ![8192, 5120]⟩
abbrev S8192x2048 : Shape := ⟨2, ![8192, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x4x1x1024 : Shape := ⟨4, ![1, 4, 1, 1024]⟩
abbrev S_ : Shape := ⟨0, ![]⟩

class Facts : Prop where
  bcast_S_S8192x5120 : S_.BroadcastsInDim S8192x5120 (![] : Fin 0 → Fin S8192x5120.rank)
  bcast_S_S8192x2048 : S_.BroadcastsInDim S8192x2048 (![] : Fin 0 → Fin S8192x2048.rank)
  bcast_S_S1x1024 : S_.BroadcastsInDim S1x1024 (![] : Fin 0 → Fin S1x1024.rank)
  bcast_S_S1x8x128x128 : S_.BroadcastsInDim S1x8x128x128 (![] : Fin 0 → Fin S1x8x128x128.rank)
  bcast_S_S1x8x128 : S_.BroadcastsInDim S1x8x128 (![] : Fin 0 → Fin S1x8x128.rank)

variable [Facts]

def fn_part1 {F : FTy → Type} [FloatOps F] (main_arg13 : FVec F S1x1024 .f32) (main_v2 : IVec S8192x5120 1) (main_v5 : IVec S8192x2048 1) (main_v8 : IVec S1x1024 1) (main_v11 : IVec S1x1024 1) (main_v14 : IVec S1x8x128x128 1) (main_v17 : IVec S1x8x128 1) : IVec S8192x5120 1 × IVec S8192x2048 1 × IVec S1x1024 1 × IVec S1x1024 1 × IVec S1x8x128x128 1 × IVec S1x8x128 1 × IVec S1x1024 1 :=
  let main_v18 : FVec F S1x1024 .f32 := Host.absf main_arg13
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  (main_v2, main_v5, main_v8, main_v11, main_v14, main_v17, main_v20)

def fn {F : FTy → Type} [FloatOps F] (main_arg0 : FVec F S8192x5120 .bf16) (main_arg1 : FVec F S8192x2048 .f32) (main_arg2 : FVec F S1x1024 .f32) (main_arg3 : FVec F S1x1024 .f32) (main_arg4 : FVec F S1x8x128x128 .f32) (main_arg5 : FVec F S1x8x128 .f32) (main_arg6 : FVec F S1x4x1x1024 .f32) (main_arg7 : FVec F S1x1024 .f32) (main_arg8 : FVec F S1x8x128x128 .f32) (main_arg9 : FVec F S1x8x128 .f32) (main_arg10 : FVec F S1x8x128x128 .f32) (main_arg11 : FVec F S1x8x128 .f32) (main_arg12 : FVec F S1x1024 .f32) (main_arg13 : FVec F S1x1024 .f32) (main_arg14 : FVec F S1x1024 .f32) : IVec S8192x5120 1 × IVec S8192x2048 1 × IVec S1x1024 1 × IVec S1x1024 1 × IVec S1x8x128x128 1 × IVec S1x8x128 1 × IVec S1x1024 1 :=
  let main_v0 : FVec F S8192x5120 .bf16 := Host.absf main_arg0
  let main_cst : FVec F S_ .bf16 := constant S_ .bf16 0x7F80#16
  let main_v1 : FVec F S8192x5120 .bf16 := broadcastInDim S8192x5120 ![] bcast_S_S8192x5120 main_cst
  let main_v2 : IVec S8192x5120 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x8x128x128 .f32 := Host.absf main_arg4
  let main_cst_3 : FVec F S_ .f32 := constant S_ .f32 0x7F800000#32
  let main_v13 : FVec F S1x8x128x128 .f32 := broadcastInDim S1x8x128x128 ![] bcast_S_S1x8x128x128 main_cst_3
  let main_v14 : IVec S1x8x128x128 1 := cmpf .olt main_v12 main_v13
  let main_v15 : FVec F S1x8x128 .f32 := Host.absf main_arg5
  let main_cst_4 : FVec F S_ .f32 := constant S_ .f32 0x7F800000#32
  let main_v16 : FVec F S1x8x128 .f32 := broadcastInDim S1x8x128 ![] bcast_S_S1x8x128 main_cst_4
  let main_v17 : IVec S1x8x128 1 := cmpf .olt main_v15 main_v16
  fn_part1 (F := F) main_arg13 main_v2 main_v5 main_v8 main_v11 main_v14 main_v17
-- ==== Pre_finite3.lean ====
abbrev S1x8192x2048 : Shape := ⟨3, ![1, 8192, 2048]⟩
abbrev S8192x2048 : Shape := ⟨2, ![8192, 2048]⟩
abbrev S1x1x8192x256 : Shape := ⟨4, ![1, 1, 8192, 256]⟩
abbrev S1x2048 : Shape := ⟨2, ![1, 2048]⟩
abbrev S1x2048x2048 : Shape := ⟨3, ![1, 2048, 2048]⟩
abbrev S1x256x2048 : Shape := ⟨3, ![1, 256, 2048]⟩
abbrev S_ : Shape := ⟨0, ![]⟩

class Facts : Prop where
  bcast_S_S1x8192x2048 : S_.BroadcastsInDim S1x8192x2048 (![] : Fin 0 → Fin S1x8192x2048.rank)
  bcast_S_S8192x2048 : S_.BroadcastsInDim S8192x2048 (![] : Fin 0 → Fin S8192x2048.rank)
  bcast_S_S1x1x8192x256 : S_.BroadcastsInDim S1x1x8192x256 (![] : Fin 0 → Fin S1x1x8192x256.rank)
  bcast_S_S1x2048 : S_.BroadcastsInDim S1x2048 (![] : Fin 0 → Fin S1x2048.rank)
  bcast_S_S1x2048x2048 : S_.BroadcastsInDim S1x2048x2048 (![] : Fin 0 → Fin S1x2048x2048.rank)
  bcast_S_S1x256x2048 : S_.BroadcastsInDim S1x256x2048 (![] : Fin 0 → Fin S1x256x2048.rank)

variable [Facts]

def fn_part1 {F : FTy → Type} [FloatOps F] (main_arg6 : FVec F S1x2048x2048 .f32) (main_arg7 : FVec F S1x256x2048 .f32) (main_v2 : IVec S1x8192x2048 1) (main_v5 : IVec S8192x2048 1) (main_v8 : IVec S1x1x8192x256 1) (main_v11 : IVec S1x8192x2048 1) (main_v14 : IVec S1x2048 1) (main_v17 : IVec S1x2048x2048 1) : IVec S1x8192x2048 1 × IVec S8192x2048 1 × IVec S1x1x8192x256 1 × IVec S1x8192x2048 1 × IVec S1x2048 1 × IVec S1x2048x2048 1 × IVec S1x2048x2048 1 × IVec S1x256x2048 1 :=
  let main_v18 : FVec F S1x2048x2048 .f32 := Host.absf main_arg6
  let main_cst_5 : FVec F S_ .f32 := constant S_ .f32 0x7F800000#32
  let main_v19 : FVec F S1x2048x2048 .f32 := broadcastInDim S1x2048x2048 ![] bcast_S_S1x2048x2048 main_cst_5
  let main_v20 : IVec S1x2048x2048 1 := cmpf .olt main_v18 main_v19
  let main_v21 : FVec F S1x256x2048 .f32 := Host.absf main_arg7
  let main_cst_6 : FVec F S_ .f32 := constant S_ .f32 0x7F800000#32
  let main_v22 : FVec F S1x256x2048 .f32 := broadcastInDim S1x256x2048 ![] bcast_S_S1x256x2048 main_cst_6
  let main_v23 : IVec S1x256x2048 1 := cmpf .olt main_v21 main_v22
  (main_v2, main_v5, main_v8, main_v11, main_v14, main_v17, main_v20, main_v23)

def fn {F : FTy → Type} [FloatOps F] (main_arg0 : FVec F S1x8192x2048 .f32) (main_arg1 : FVec F S8192x2048 .bf16) (main_arg2 : FVec F S1x1x8192x256 .f32) (main_arg3 : FVec F S1x8192x2048 .f32) (main_arg4 : FVec F S1x2048 .f32) (main_arg5 : FVec F S1x2048x2048 .f32) (main_arg6 : FVec F S1x2048x2048 .f32) (main_arg7 : FVec F S1x256x2048 .f32) : IVec S1x8192x2048 1 × IVec S8192x2048 1 × IVec S1x1x8192x256 1 × IVec S1x8192x2048 1 × IVec S1x2048 1 × IVec S1x2048x2048 1 × IVec S1x2048x2048 1 × IVec S1x256x2048 1 :=
  let main_v0 : FVec F S1x8192x2048 .f32 := Host.absf main_arg0
  let main_cst : FVec F S_ .f32 := constant S_ .f32 0x7F800000#32
  let main_v1 : FVec F S1x8192x2048 .f32 := broadcastInDim S1x8192x2048 ![] bcast_S_S1x8192x2048 main_cst
  let main_v2 : IVec S1x8192x2048 1 := cmpf .olt main_v0 main_v1
  let main_v3 : FVec F S8192x2048 .bf16 := Host.absf main_arg1
  let main_cst_0 : FVec F S_ .bf16 := constant S_ .bf16 0x7F80#16
  let main_v4 : FVec F S8192x2048 .bf16 := broadcastInDim S8192x2048 ![] bcast_S_S8192x2048 main_cst_0
  let main_v5 : IVec S8192x2048 1 := cmpf .olt main_v3 main_v4
  let main_v6 : FVec F S1x1x8192x256 .f32 := Host.absf main_arg2
  let main_cst_1 : FVec F S_ .f32 := constant S_ .f32 0x7F800000#32
  let main_v7 : FVec F S1x1x8192x256 .f32 := broadcastInDim S1x1x8192x256 ![] bcast_S_S1x1x8192x256 main_cst_1
  let main_v8 : IVec S1x1x8192x256 1 := cmpf .olt main_v6 main_v7
  let main_v9 : FVec F S1x8192x2048 .f32 := Host.absf main_arg3
  let main_cst_2 : FVec F S_ .f32 := constant S_ .f32 0x7F800000#32
  let main_v10 : FVec F S1x8192x2048 .f32 := broadcastInDim S1x8192x2048 ![] bcast_S_S1x8192x2048 main_cst_2
  let main_v11 : IVec S1x8192x2048 1 := cmpf .olt main_v9 main_v10
  let main_v12 : FVec F S1x2048 .f32 := Host.absf main_arg4
  let main_cst_3 : FVec F S_ .f32 := constant S_ .f32 0x7F800000#32
  let main_v13 : FVec F S1x2048 .f32 := broadcastInDim S1x2048 ![] bcast_S_S1x2048 main_cst_3
  let main_v14 : IVec S1x2048 1 := cmpf .olt main_v12 main_v13
  let main_v15 : FVec F S1x2048x2048 .f32 := Host.absf main_arg5
  let main_cst_4 : FVec F S_ .f32 := constant S_ .f32 0x7F800000#32
  let main_v16 : FVec F S1x2048x2048 .f32 := broadcastInDim S1x2048x2048 ![] bcast_S_S1x2048x2048 main_cst_4
  let main_v17 : IVec S1x2048x2048 1 := cmpf .olt main_v15 main_v16
  fn_part1 (F := F) main_arg6 main_arg7 main_v2 main_v5 main_v8 main_v11 main_v14 main_v17
-- ==== Kernel.lean ====
abbrev S1x8192x2048 : Shape := ⟨3, ![1, 8192, 2048]⟩
abbrev S1x2048 : Shape := ⟨2, ![1, 2048]⟩
abbrev S1x2048x5120 : Shape := ⟨3, ![1, 2048, 5120]⟩
abbrev S8192x5120 : Shape := ⟨2, ![8192, 5120]⟩
abbrev S8192x2048 : Shape := ⟨2, ![8192, 2048]⟩
abbrev S2048x5120 : Shape := ⟨2, ![2048, 5120]⟩
abbrev S2048x4x1280 : Shape := ⟨3, ![2048, 4, 1280]⟩
abbrev S4x2048x1280 : Shape := ⟨3, ![4, 2048, 1280]⟩
abbrev S_ : Shape := ⟨0, ![]⟩
abbrev S8x128 : Shape := ⟨2, ![8, 128]⟩
abbrev S8x2048 : Shape := ⟨2, ![8, 2048]⟩
abbrev S256x5120 : Shape := ⟨2, ![256, 5120]⟩
abbrev S256x2048 : Shape := ⟨2, ![256, 2048]⟩
abbrev S256x1280 : Shape := ⟨2, ![256, 1280]⟩
abbrev S1x2048x1280 : Shape := ⟨3, ![1, 2048, 1280]⟩
abbrev S2048x1280 : Shape := ⟨2, ![2048, 1280]⟩
abbrev S128x2048 : Shape := ⟨2, ![128, 2048]⟩
abbrev S128 : Shape := ⟨1, ![128]⟩
abbrev S128x1 : Shape := ⟨2, ![128, 1]⟩
abbrev S16x8x2048 : Shape := ⟨3, ![16, 8, 2048]⟩
abbrev S2048 : Shape := ⟨1, ![2048]⟩

abbrev nBuf : Space → Nat
  | .hbm => 16
  | .vmem => 27
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S1x2048x5120, .f32⟩
  | .hbm, ⟨3, _⟩ => ⟨S8192x5120, .bf16⟩
  | .hbm, ⟨4, _⟩ => ⟨S8192x2048, .f32⟩
  | .hbm, ⟨5, _⟩ => ⟨S8192x2048, .f32⟩
  | .hbm, ⟨6, _⟩ => ⟨S2048x5120, .f32⟩
  | .hbm, ⟨7, _⟩ => ⟨S2048x5120, .bf16⟩
  | .hbm, ⟨8, _⟩ => ⟨S2048x4x1280, .bf16⟩
  | .hbm, ⟨9, _⟩ => ⟨S4x2048x1280, .bf16⟩
  | .hbm, ⟨10, _⟩ => ⟨S_, .f32⟩
  | .hbm, ⟨11, _⟩ => ⟨S8x128, .f32⟩
  | .hbm, ⟨12, _⟩ => ⟨S8192x2048, .f32⟩
  | .hbm, ⟨13, _⟩ => ⟨S8x2048, .f32⟩
  | .hbm, ⟨14, _⟩ => ⟨S8192x2048, .f32⟩
  | .hbm, ⟨15, _⟩ => ⟨S8x2048, .f32⟩
  | .local _ .vmem, ⟨0, _⟩ => ⟨S256x5120, .bf16⟩
  | .local _ .vmem, ⟨1, _⟩ => ⟨S256x5120, .bf16⟩
  | .local _ .vmem, ⟨2, _⟩ => ⟨S4x2048x1280, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S8x128, .f32⟩
  | .local _ .vmem, ⟨9, _⟩ => ⟨S256x2048, .f32⟩
  | .local _ .vmem, ⟨10, _⟩ => ⟨S256x2048, .f32⟩
  | .local _ .vmem, ⟨11, _⟩ => ⟨S8x2048, .f32⟩
  | .local _ .vmem, ⟨12, _⟩ => ⟨S256x2048, .f32⟩
  | .local _ .vmem, ⟨13, _⟩ => ⟨S256x5120, .bf16⟩
  | .local _ .vmem, ⟨14, _⟩ => ⟨S256x5120, .bf16⟩
  | .local _ .vmem, ⟨15, _⟩ => ⟨S4x2048x1280, .bf16⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S1x2048, .f32⟩
  | .local _ .vmem, ⟨21, _⟩ => ⟨S8x128, .f32⟩
  | .local _ .vmem, ⟨22, _⟩ => ⟨S8x2048, .f32⟩
  | .local _ .vmem, ⟨23, _⟩ => ⟨S256x2048, .f32⟩
  | .local _ .vmem, ⟨24, _⟩ => ⟨S256x2048, .f32⟩
  | .local _ .vmem, ⟨25, _⟩ => ⟨S8x2048, .f32⟩
  | .local _ .vmem, ⟨26, _⟩ => ⟨S256x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc1_sem8_0 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x2048x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![22], ![false]⟩

def cc1_transform_0 (i : grid1.Coords) : Fin 2 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  ![v0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x5120 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x2048x1280 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S8x2048 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]
-- ==== ReferenceIdeal.lean ====
abbrev S1x8192x2048 : Shape := ⟨3, ![1, 8192, 2048]⟩
abbrev S1x2048 : Shape := ⟨2, ![1, 2048]⟩
abbrev S1x2048x5120 : Shape := ⟨3, ![1, 2048, 5120]⟩
abbrev S8192x5120 : Shape := ⟨2, ![8192, 5120]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x5120 : Shape := ⟨2, ![2048, 5120]⟩
abbrev S8x2048 : Shape := ⟨2, ![8, 2048]⟩

abbrev nBuf : Space → Nat
  | .hbm => 61
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S1x2048x5120, .f32⟩
  | .hbm, ⟨3, _⟩ => ⟨S8192x5120, .bf16⟩
  | .hbm, ⟨4, _⟩ => ⟨S8192x2048, .f32⟩
  | .hbm, ⟨5, _⟩ => ⟨S8192x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S2048x5120, .f32⟩
  | .hbm, ⟨28, _⟩ => ⟨S8192x5120, .f32⟩
  | .hbm, ⟨29, _⟩ => ⟨S8192x5120, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S2048, .f32⟩
  | .hbm, ⟨39, _⟩ => ⟨S8192x2048, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S1x2048, .f32⟩
  | .hbm, ⟨58, _⟩ => ⟨S1x8192x2048, .f32⟩
  | .hbm, ⟨59, _⟩ => ⟨S8192x2048, .f32⟩
  | .hbm, ⟨60, _⟩ => ⟨S8x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Kernel2.lean ====
abbrev S8192x5120 : Shape := ⟨2, ![8192, 5120]⟩
abbrev S8192x2048 : Shape := ⟨2, ![8192, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x4x1x1024 : Shape := ⟨4, ![1, 4, 1, 1024]⟩
abbrev S_ : Shape := ⟨0, ![]⟩
abbrev S8x128 : Shape := ⟨2, ![8, 128]⟩
abbrev S128x128 : Shape := ⟨2, ![128, 128]⟩
abbrev S1x128x128 : Shape := ⟨3, ![1, 128, 128]⟩
abbrev S8x128x128 : Shape := ⟨3, ![8, 128, 128]⟩
abbrev S128x8 : Shape := ⟨2, ![128, 8]⟩
abbrev S128x8x128 : Shape := ⟨3, ![128, 8, 128]⟩
abbrev S128x1024 : Shape := ⟨2, ![128, 1024]⟩
abbrev S4x1024 : Shape := ⟨2, ![4, 1024]⟩
abbrev S8192x1024 : Shape := ⟨2, ![8192, 1024]⟩
abbrev S1024 : Shape := ⟨1, ![1024]⟩
abbrev S3x1024 : Shape := ⟨2, ![3, 1024]⟩
abbrev S8195x1024 : Shape := ⟨2, ![8195, 1024]⟩
abbrev S8192x8x128 : Shape := ⟨3, ![8192, 8, 128]⟩
abbrev S8x128x8192 : Shape := ⟨3, ![8, 128, 8192]⟩
abbrev S8192 : Shape := ⟨1, ![8192]⟩
abbrev S8192x1 : Shape := ⟨2, ![8192, 1]⟩
abbrev S8192x4x1280 : Shape := ⟨3, ![8192, 4, 1280]⟩
abbrev S4x8192x1280 : Shape := ⟨3, ![4, 8192, 1280]⟩
abbrev S8x1024 : Shape := ⟨2, ![8, 1024]⟩
abbrev S32x1024 : Shape := ⟨2, ![32, 1024]⟩
abbrev S4x256x1280 : Shape := ⟨3, ![4, 256, 1280]⟩
abbrev S4x16x1280 : Shape := ⟨3, ![4, 16, 1280]⟩
abbrev S256x1024 : Shape := ⟨2, ![256, 1024]⟩
abbrev S256x2048 : Shape := ⟨2, ![256, 2048]⟩
abbrev S256x5120 : Shape := ⟨2, ![256, 5120]⟩
abbrev S1x256x1024 : Shape := ⟨3, ![1, 256, 1024]⟩
abbrev S1x256x256 : Shape := ⟨3, ![1, 256, 256]⟩
abbrev S256x256 : Shape := ⟨2, ![256, 256]⟩
abbrev S1x256x768 : Shape := ⟨3, ![1, 256, 768]⟩
abbrev S256x768 : Shape := ⟨2, ![256, 768]⟩
abbrev S256 : Shape := ⟨1, ![256]⟩
abbrev S256x1 : Shape := ⟨2, ![256, 1]⟩
abbrev S1x256x512 : Shape := ⟨3, ![1, 256, 512]⟩
abbrev S256x512 : Shape := ⟨2, ![256, 512]⟩
abbrev S32x8x1024 : Shape := ⟨3, ![32, 8, 1024]⟩
abbrev S2x128x1024 : Shape := ⟨3, ![2, 128, 1024]⟩
abbrev S1x16x768 : Shape := ⟨3, ![1, 16, 768]⟩
abbrev S16x768 : Shape := ⟨2, ![16, 768]⟩
abbrev S1x16x256 : Shape := ⟨3, ![1, 16, 256]⟩
abbrev S16x256 : Shape := ⟨2, ![16, 256]⟩
abbrev S16x1024 : Shape := ⟨2, ![16, 1024]⟩
abbrev S248x1024 : Shape := ⟨2, ![248, 1024]⟩
abbrev S256x128 : Shape := ⟨2, ![256, 128]⟩
abbrev S1x128 : Shape := ⟨2, ![1, 128]⟩
abbrev S128 : Shape := ⟨1, ![128]⟩
abbrev S128x1 : Shape := ⟨2, ![128, 1]⟩
abbrev S8192x3072 : Shape := ⟨2, ![8192, 3072]⟩

abbrev nBuf : Space → Nat
  | .hbm => 206
  | .vmem => 56
  | .smem => 0
  | _ => 0

abbrev hbmTy0_0 (i : Nat) : BufTy := match i % 128 with
  | 0 => ⟨S8192x5120, .bf16⟩
  | 1 => ⟨S8192x2048, .f32⟩
  | 2 => ⟨S1x1024, .f32⟩
  | 3 => ⟨S1x1024, .f32⟩
  | 4 => ⟨S1x8x128x128, .f32⟩
  | 5 => ⟨S1x8x128, .f32⟩
  | 6 => ⟨S1x4x1x1024, .f32⟩
  | 7 => ⟨S1x1024, .f32⟩
  | 8 => ⟨S1x8x128x128, .f32⟩
  | 9 => ⟨S1x8x128, .f32⟩
  | 10 => ⟨S1x8x128x128, .f32⟩
  | 11 => ⟨S1x8x128, .f32⟩
  | 12 => ⟨S1x1024, .f32⟩
  | 13 => ⟨S1x1024, .f32⟩
  | 14 => ⟨S1x1024, .f32⟩
  | 15 => ⟨S_, .f32⟩
  | 16 => ⟨S8x128, .f32⟩
  | 17 => ⟨S_, .i1⟩
  | 18 => ⟨S128x128, .i1⟩
  | 19 => ⟨S128x128, .i32⟩
  | 20 => ⟨S_, .i32⟩
  | 21 => ⟨S128x128, .i32⟩
  | 22 => ⟨S128x128, .i32⟩
  | 23 => ⟨S128x128, .i32⟩
  | 24 => ⟨S128x128, .i1⟩
  | 25 => ⟨S_, .i1⟩
  | 26 => ⟨S128x128, .i1⟩
  | 27 => ⟨S128x128, .i1⟩
  | 28 => ⟨S1x128x128, .i1⟩
  | 29 => ⟨S8x128x128, .f32⟩
  | 30 => ⟨S_, .f32⟩
  | 31 => ⟨S_, .f32⟩
  | 32 => ⟨S8x128x128, .i1⟩
  | 33 => ⟨S8x128x128, .f32⟩
  | 34 => ⟨S8x128x128, .f32⟩
  | 35 => ⟨S8x128x128, .bf16⟩
  | 36 => ⟨S8x128x128, .f32⟩
  | 37 => ⟨S8x128x128, .bf16⟩
  | 38 => ⟨S8x128, .f32⟩
  | 39 => ⟨S128x8, .f32⟩
  | 40 => ⟨S128x8x128, .f32⟩
  | 41 => ⟨S128x1024, .f32⟩
  | 42 => ⟨S8x128x128, .f32⟩
  | 43 => ⟨S8x128x128, .bf16⟩
  | 44 => ⟨S8x128x128, .f32⟩
  | 45 => ⟨S8x128x128, .bf16⟩
  | 46 => ⟨S8x128, .f32⟩
  | 47 => ⟨S1x1024, .f32⟩
  | 48 => ⟨S8x128, .f32⟩
  | 49 => ⟨S1x1024, .f32⟩
  | 50 => ⟨S4x1024, .f32⟩
  | 51 => ⟨S8192x1024, .bf16⟩
  | 52 => ⟨S8192x1024, .f32⟩
  | 53 => ⟨S4x1024, .f32⟩
  | 54 => ⟨S1024, .f32⟩
  | 55 => ⟨S8x128x128, .f32⟩
  | 56 => ⟨S8x128, .f32⟩
  | 57 => ⟨S8x128x128, .f32⟩
  | 58 => ⟨S8x128, .f32⟩
  | 59 => ⟨S1024, .f32⟩
  | 60 => ⟨S_, .f32⟩
  | 61 => ⟨S3x1024, .f32⟩
  | 62 => ⟨S8195x1024, .f32⟩
  | 63 => ⟨S8192x1024, .f32⟩
  | 64 => ⟨S1x1024, .f32⟩
  | 65 => ⟨S1024, .f32⟩
  | 66 => ⟨S1x1024, .f32⟩
  | 67 => ⟨S8192x1024, .f32⟩
  | 68 => ⟨S8192x1024, .f32⟩
  | 69 => ⟨S_, .f32⟩
  | 70 => ⟨S8192x1024, .f32⟩
  | 71 => ⟨S8192x1024, .f32⟩
  | 72 => ⟨S8192x1024, .f32⟩
  | 73 => ⟨S1x1024, .f32⟩
  | 74 => ⟨S1024, .f32⟩
  | 75 => ⟨S1x1024, .f32⟩
  | 76 => ⟨S8192x1024, .f32⟩
  | 77 => ⟨S8192x1024, .f32⟩
  | 78 => ⟨S8192x1024, .f32⟩
  | 79 => ⟨S8192x1024, .f32⟩
  | 80 => ⟨S1x1024, .f32⟩
  | 81 => ⟨S1024, .f32⟩
  | 82 => ⟨S1x1024, .f32⟩
  | 83 => ⟨S8192x1024, .f32⟩
  | 84 => ⟨S8192x1024, .f32⟩
  | 85 => ⟨S8192x1024, .f32⟩
  | 86 => ⟨S8192x1024, .f32⟩
  | 87 => ⟨S1x1024, .f32⟩
  | 88 => ⟨S1024, .f32⟩
  | 89 => ⟨S1x1024, .f32⟩
  | 90 => ⟨S8192x1024, .f32⟩
  | 91 => ⟨S8192x1024, .f32⟩
  | 92 => ⟨S8192x1024, .f32⟩
  | 93 => ⟨S1x1024, .f32⟩
  | 94 => ⟨S8192x1024, .f32⟩
  | 95 => ⟨S8192x1024, .f32⟩
  | 96 => ⟨S8192x8x128, .f32⟩
  | 97 => ⟨S8x128x8192, .f32⟩
  | 98 => ⟨S8192x8x128, .f32⟩
  | 99 => ⟨S1x8x128, .f32⟩
  | 100 => ⟨S8192x8x128, .f32⟩
  | 101 => ⟨S8192x8x128, .f32⟩
  | 102 => ⟨S8192x8x128, .f32⟩
  | 103 => ⟨S8192x8x128, .f32⟩
  | 104 => ⟨S_, .f32⟩
  | 105 => ⟨S8192x8x128, .f32⟩
  | 106 => ⟨S8192x8x128, .f32⟩
  | 107 => ⟨S_, .f32⟩
  | 108 => ⟨S8192x8x128, .f32⟩
  | 109 => ⟨S8192x8x128, .f32⟩
  | 110 => ⟨S8192x1024, .f32⟩
  | 111 => ⟨S8x128x8192, .f32⟩
  | 112 => ⟨S8192x8x128, .f32⟩
  | 113 => ⟨S1x8x128, .f32⟩
  | 114 => ⟨S8192x8x128, .f32⟩
  | 115 => ⟨S8192x8x128, .f32⟩
  | 116 => ⟨S8192x8x128, .f32⟩
  | 117 => ⟨S8192x8x128, .f32⟩
  | 118 => ⟨S_, .f32⟩
  | 119 => ⟨S8192x8x128, .f32⟩
  | 120 => ⟨S8192x8x128, .f32⟩
  | 121 => ⟨S_, .f32⟩
  | 122 => ⟨S8192x8x128, .f32⟩
  | 123 => ⟨S8192x8x128, .f32⟩
  | 124 => ⟨S8192x1024, .f32⟩
  | 125 => ⟨S_, .f32⟩
  | 126 => ⟨S8192x1024, .f32⟩
  | 127 => ⟨S8192x1024, .f32⟩
  | _ => ⟨S8192x5120, .bf16⟩

abbrev hbmTy0_1 (i : Nat) : BufTy := match i % 128 with
  | 0 => ⟨S1024, .f32⟩
  | 1 => ⟨S_, .f32⟩
  | 2 => ⟨S1024, .f32⟩
  | 3 => ⟨S1024, .f32⟩
  | 4 => ⟨S1024, .f32⟩
  | 5 => ⟨S1024, .f32⟩
  | 6 => ⟨S1024, .i1⟩
  | 7 => ⟨S1024, .f32⟩
  | 8 => ⟨S1024, .f32⟩
  | 9 => ⟨S1024, .f32⟩
  | 10 => ⟨S1024, .f32⟩
  | 11 => ⟨S1024, .f32⟩
  | 12 => ⟨S1024, .f32⟩
  | 13 => ⟨S1024, .f32⟩
  | 14 => ⟨S1024, .f32⟩
  | 15 => ⟨S1x1024, .f32⟩
  | 16 => ⟨S8192x1024, .f32⟩
  | 17 => ⟨S8192x1024, .f32⟩
  | 18 => ⟨S8192x1024, .f32⟩
  | 19 => ⟨S_, .f32⟩
  | 20 => ⟨S8192x1024, .f32⟩
  | 21 => ⟨S8192x1024, .f32⟩
  | 22 => ⟨S8192x1024, .f32⟩
  | 23 => ⟨S8192x1024, .f32⟩
  | 24 => ⟨S8192x1024, .f32⟩
  | 25 => ⟨S8192, .i32⟩
  | 26 => ⟨S_, .i32⟩
  | 27 => ⟨S8192, .i32⟩
  | 28 => ⟨S8192, .i1⟩
  | 29 => ⟨S8192x1, .i1⟩
  | 30 => ⟨S_, .f32⟩
  | 31 => ⟨S8192x1024, .f32⟩
  | 32 => ⟨S8192x1024, .i1⟩
  | 33 => ⟨S8192x1024, .f32⟩
  | 34 => ⟨S8192x1024, .f32⟩
  | 35 => ⟨S8192x1024, .f32⟩
  | 36 => ⟨S_, .f32⟩
  | 37 => ⟨S1024, .f32⟩
  | 38 => ⟨S_, .f32⟩
  | 39 => ⟨S8192x1024, .f32⟩
  | 40 => ⟨S_, .i32⟩
  | 41 => ⟨S8192x1024, .f32⟩
  | 42 => ⟨S8192x1024, .f32⟩
  | 43 => ⟨S_, .i32⟩
  | 44 => ⟨S1024, .f32⟩
  | 45 => ⟨S8192x1024, .f32⟩
  | 46 => ⟨S_, .i32⟩
  | 47 => ⟨S_, .i1⟩
  | 48 => ⟨S_, .i32⟩
  | 49 => ⟨S1x1024, .f32⟩
  | 50 => ⟨S1024, .f32⟩
  | 51 => ⟨S_, .i32⟩
  | 52 => ⟨S1x1024, .f32⟩
  | 53 => ⟨S1024, .f32⟩
  | 54 => ⟨S1024, .f32⟩
  | 55 => ⟨S1024, .f32⟩
  | 56 => ⟨S1x1024, .f32⟩
  | 57 => ⟨S_, .i32⟩
  | 58 => ⟨S8192x1024, .f32⟩
  | 59 => ⟨S_, .i32⟩
  | 60 => ⟨S_, .i32⟩
  | 61 => ⟨S8192x4x1280, .bf16⟩
  | 62 => ⟨S4x8192x1280, .bf16⟩
  | 63 => ⟨S8192x5120, .bf16⟩
  | 64 => ⟨S8x1024, .f32⟩
  | 65 => ⟨S8x1024, .f32⟩
  | 66 => ⟨S8x1024, .f32⟩
  | 67 => ⟨S8x1024, .f32⟩
  | 68 => ⟨S128x1024, .f32⟩
  | 69 => ⟨S8x128x128, .f32⟩
  | 70 => ⟨S32x1024, .f32⟩
  | 71 => ⟨S8x1024, .f32⟩
  | 72 => ⟨S8x128x128, .f32⟩
  | 73 => ⟨S8x1024, .f32⟩
  | 74 => ⟨S8x128x128, .f32⟩
  | 75 => ⟨S8x1024, .f32⟩
  | 76 => ⟨S8x1024, .f32⟩
  | 77 => ⟨S8192x3072, .bf16⟩
  | _ => ⟨S8192x5120, .bf16⟩

abbrev hbmTy (i : Nat) : BufTy := match i / 128 with
  | 0 => hbmTy0_0 i
  | 1 => hbmTy0_1 i
  | _ => ⟨S8192x5120, .bf16⟩

abbrev bufTy : (tb : Table) → Fin (tcTables nBuf tb) → BufTy
  | .hbm, ⟨i, _⟩ => hbmTy i
  | .local _ .vmem, ⟨0, _⟩ => ⟨S4x256x1280, .bf16⟩
  | .local _ .vmem, ⟨1, _⟩ => ⟨S4x256x1280, .bf16⟩
  | .local _ .vmem, ⟨2, _⟩ => ⟨S4x16x1280, .bf16⟩
  | .local _ .vmem, ⟨3, _⟩ => ⟨S4x16x1280, .bf16⟩
  | .local _ .vmem, ⟨4, _⟩ => ⟨S256x1024, .f32⟩
  | .local _ .vmem, ⟨5, _⟩ => ⟨S256x1024, .f32⟩
  | .local _ .vmem, ⟨6, _⟩ => ⟨S8x1024, .f32⟩
  | .local _ .vmem, ⟨7, _⟩ => ⟨S8x1024, .f32⟩
  | .local _ .vmem, ⟨8, _⟩ => ⟨S256x2048, .f32⟩
  | .local _ .vmem, ⟨9, _⟩ => ⟨S256x2048, .f32⟩
  | .local _ .vmem, ⟨10, _⟩ => ⟨S1x1024, .f32⟩
  | .local _ .vmem, ⟨11, _⟩ => ⟨S1x1024, .f32⟩
  | .local _ .vmem, ⟨12, _⟩ => ⟨S8x128x128, .bf16⟩
  | .local _ .vmem, ⟨13, _⟩ => ⟨S8x128x128, .bf16⟩
  | .local _ .vmem, ⟨14, _⟩ => ⟨S128x1024, .f32⟩
  | .local _ .vmem, ⟨15, _⟩ => ⟨S4x1024, .f32⟩
  | .local _ .vmem, ⟨16, _⟩ => ⟨S1x1024, .f32⟩
  | .local _ .vmem, ⟨17, _⟩ => ⟨S8x128x128, .bf16⟩
  | .local _ .vmem, ⟨18, _⟩ => ⟨S8x128x128, .bf16⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S8x128, .f32⟩
  | .local _ .vmem, ⟨25, _⟩ => ⟨S256x5120, .bf16⟩
  | .local _ .vmem, ⟨26, _⟩ => ⟨S256x5120, .bf16⟩
  | .local _ .vmem, ⟨27, _⟩ => ⟨S8x1024, .f32⟩
  | .local _ .vmem, ⟨28, _⟩ => ⟨S8x1024, .f32⟩
  | .local _ .vmem, ⟨29, _⟩ => ⟨S8x1024, .f32⟩
  | .local _ .vmem, ⟨30, _⟩ => ⟨S8x1024, .f32⟩
  | .local _ .vmem, ⟨31, _⟩ => ⟨S128x1024, .f32⟩
  | .local _ .vmem, ⟨32, _⟩ => ⟨S8x128x128, .f32⟩
  | .local _ .vmem, ⟨33, _⟩ => ⟨S32x1024, .f32⟩
  | .local _ .vmem, ⟨34, _⟩ => ⟨S8x1024, .f32⟩
  | .local _ .vmem, ⟨35, _⟩ => ⟨S8x128x128, .f32⟩
  | .local _ .vmem, ⟨36, _⟩ => ⟨S8x1024, .f32⟩
  | .local _ .vmem, ⟨37, _⟩ => ⟨S8x128x128, .f32⟩
  | .local _ .vmem, ⟨38, _⟩ => ⟨S8x1024, .f32⟩
  | .local _ .vmem, ⟨39, _⟩ => ⟨S8x1024, .f32⟩
  | .local _ .vmem, ⟨40, _⟩ => ⟨S256x1024, .bf16⟩
  | .local _ .vmem, ⟨41, _⟩ => ⟨S256x1024, .f32⟩
  | .local _ .vmem, ⟨42, _⟩ => ⟨S256x1024, .bf16⟩
  | .local _ .vmem, ⟨43, _⟩ => ⟨S256x1024, .f32⟩
  | .local _ .vmem, ⟨44, _⟩ => ⟨S256x1024, .bf16⟩
  | .local _ .vmem, ⟨45, _⟩ => ⟨S256x1024, .f32⟩
  | .local _ .vmem, ⟨46, _⟩ => ⟨S256x1024, .f32⟩
  | .local _ .vmem, ⟨47, _⟩ => ⟨S256x1024, .f32⟩
  | .local _ .vmem, ⟨48, _⟩ => ⟨S256x1024, .f32⟩
  | .local _ .vmem, ⟨49, _⟩ => ⟨S256x1024, .f32⟩
  | .local _ .vmem, ⟨50, _⟩ => ⟨S256x1024, .bf16⟩
  | .local _ .vmem, ⟨51, _⟩ => ⟨S256x1024, .bf16⟩
  | .local _ .vmem, ⟨52, _⟩ => ⟨S256x1024, .f32⟩
  | .local _ .vmem, ⟨53, _⟩ => ⟨S8x1024, .f32⟩
  | .local _ .vmem, ⟨54, _⟩ => ⟨S8x1024, .f32⟩
  | .local _ .vmem, ⟨55, _⟩ => ⟨S8x1024, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_0 : Ref sig .tc := ⟨.hbm, 25, rfl⟩
abbrev main_call0_v5 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_1 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_2 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_3 : Ref sig .tc := ⟨.hbm, 104, rfl⟩
abbrev main_v73 : Ref sig .tc := ⟨.hbm, 105, rfl⟩
abbrev main_v74 : Ref sig .tc := ⟨.hbm, 106, rfl⟩
abbrev main_cst_4 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_5 : Ref sig .tc := ⟨.hbm, 118, rfl⟩
abbrev main_v85 : Ref sig .tc := ⟨.hbm, 119, rfl⟩
abbrev main_v86 : Ref sig .tc := ⟨.hbm, 120, rfl⟩
abbrev main_cst_6 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_7 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_call2_cst : Ref sig .tc := ⟨.hbm, 129, rfl⟩
abbrev main_call2_v0 : Ref sig .tc := ⟨.hbm, 130, rfl⟩
abbrev main_call2_v1 : Ref sig .tc := ⟨.hbm, 131, rfl⟩
abbrev main_call2_v2 : Ref sig .tc := ⟨.hbm, 132, rfl⟩
abbrev main_call2_v3 : Ref sig .tc := ⟨.hbm, 133, rfl⟩
abbrev main_call2_v4 : Ref sig .tc := ⟨.hbm, 134, rfl⟩
abbrev main_call2_v5 : Ref sig .tc := ⟨.hbm, 135, rfl⟩
abbrev main_call2_v6 : Ref sig .tc := ⟨.hbm, 136, rfl⟩
abbrev main_call2_v7 : Ref sig .tc := ⟨.hbm, 137, rfl⟩
abbrev main_call2_v8 : Ref sig .tc := ⟨.hbm, 138, rfl⟩
abbrev main_call2_v9 : Ref sig .tc := ⟨.hbm, 139, rfl⟩
abbrev main_call2_v10 : Ref sig .tc := ⟨.hbm, 140, rfl⟩
abbrev main_call2_v11 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_cst_8 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_c_9 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_cst_10 : Ref sig .tc := ⟨.hbm, 158, rfl⟩
abbrev main_v107 : Ref sig .tc := ⟨.hbm, 159, rfl⟩
abbrev main_call3_v0 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_cst_11 : Ref sig .tc := ⟨.hbm, 164, rfl⟩
abbrev main_v111 : Ref sig .tc := ⟨.hbm, 165, rfl⟩
abbrev main_cst_12 : Ref sig .tc := ⟨.hbm, 166, rfl⟩
abbrev main_v112 : Ref sig .tc := ⟨.hbm, 167, rfl⟩
abbrev main_c_13 : Ref sig .tc := ⟨.hbm, 168, rfl⟩
abbrev main_v113_0 : Ref sig .tc := ⟨.hbm, 169, rfl⟩
abbrev main_v113_1 : Ref sig .tc := ⟨.hbm, 170, rfl⟩
abbrev main_v113_2 : Ref sig .tc := ⟨.hbm, 171, rfl⟩
abbrev main_v113_3 : Ref sig .tc := ⟨.hbm, 172, rfl⟩
abbrev main_v113_4 : Ref sig .tc := ⟨.hbm, 173, rfl⟩
abbrev main_while0c_c_18 : Ref sig .tc := ⟨.hbm, 174, rfl⟩
abbrev main_while0c_v118 : Ref sig .tc := ⟨.hbm, 175, rfl⟩
abbrev main_while0b_call4_c : Ref sig .tc := ⟨.hbm, 176, rfl⟩
abbrev main_while0b_call4_v0 : Ref sig .tc := ⟨.hbm, 177, rfl⟩
abbrev main_while0b_v118 : Ref sig .tc := ⟨.hbm, 178, rfl⟩
abbrev main_while0b_call5_c : Ref sig .tc := ⟨.hbm, 179, rfl⟩
abbrev main_while0b_call5_v0 : Ref sig .tc := ⟨.hbm, 180, rfl⟩
abbrev main_while0b_v119 : Ref sig .tc := ⟨.hbm, 181, rfl⟩
abbrev main_while0b_v120 : Ref sig .tc := ⟨.hbm, 182, rfl⟩
abbrev main_while0b_v121 : Ref sig .tc := ⟨.hbm, 183, rfl⟩
abbrev main_while0b_call6_v0 : Ref sig .tc := ⟨.hbm, 184, rfl⟩
abbrev main_while0b_call6_c : Ref sig .tc := ⟨.hbm, 185, rfl⟩
abbrev main_while0b_v122 : Ref sig .tc := ⟨.hbm, 186, rfl⟩
abbrev main_while0b_c_18 : Ref sig .tc := ⟨.hbm, 187, rfl⟩
abbrev main_while0b_v123 : Ref sig .tc := ⟨.hbm, 188, rfl⟩
abbrev main_v114 : Ref sig .tc := ⟨.hbm, 189, rfl⟩
abbrev main_v115 : Ref sig .tc := ⟨.hbm, 190, rfl⟩
abbrev main_v116_0 : Ref sig .tc := ⟨.hbm, 191, rfl⟩
abbrev main_v116_1 : Ref sig .tc := ⟨.hbm, 192, rfl⟩
abbrev main_v116_2 : Ref sig .tc := ⟨.hbm, 193, rfl⟩
abbrev main_v116_3 : Ref sig .tc := ⟨.hbm, 194, rfl⟩
abbrev main_v116_4 : Ref sig .tc := ⟨.hbm, 195, rfl⟩
abbrev main_v116_5 : Ref sig .tc := ⟨.hbm, 196, rfl⟩
abbrev main_v116_6 : Ref sig .tc := ⟨.hbm, 197, rfl⟩
abbrev main_v116_7 : Ref sig .tc := ⟨.hbm, 198, rfl⟩
abbrev main_v116_8 : Ref sig .tc := ⟨.hbm, 199, rfl⟩
abbrev main_v116_9 : Ref sig .tc := ⟨.hbm, 200, rfl⟩
abbrev main_v116_10 : Ref sig .tc := ⟨.hbm, 201, rfl⟩
abbrev main_v116_11 : Ref sig .tc := ⟨.hbm, 202, rfl⟩
abbrev main_v116_12 : Ref sig .tc := ⟨.hbm, 203, rfl⟩
abbrev main_v116_13 : Ref sig .tc := ⟨.hbm, 204, rfl⟩
abbrev main_v117 : Ref sig .tc := ⟨.hbm, 205, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg22_0 : Ref sig .tc := ⟨.vmem, 28, rfl⟩
abbrev cc0_stg23_0 : Ref sig .tc := ⟨.vmem, 29, rfl⟩
abbrev cc0_stg24_0 : Ref sig .tc := ⟨.vmem, 30, rfl⟩
abbrev cc0_stg25_0 : Ref sig .tc := ⟨.vmem, 31, rfl⟩
abbrev cc0_stg26_0 : Ref sig .tc := ⟨.vmem, 32, rfl⟩
abbrev cc0_stg27_0 : Ref sig .tc := ⟨.vmem, 33, rfl⟩
abbrev cc0_stg28_0 : Ref sig .tc := ⟨.vmem, 34, rfl⟩
abbrev cc0_stg29_0 : Ref sig .tc := ⟨.vmem, 35, rfl⟩
abbrev cc0_stg30_0 : Ref sig .tc := ⟨.vmem, 36, rfl⟩
abbrev cc0_stg31_0 : Ref sig .tc := ⟨.vmem, 37, rfl⟩
abbrev cc0_stg32_0 : Ref sig .tc := ⟨.vmem, 38, rfl⟩
abbrev cc0_stg33_0 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_scratch3 : Ref sig .tc := ⟨.vmem, 43, rfl⟩
abbrev cc0_scratch4 : Ref sig .tc := ⟨.vmem, 44, rfl⟩
abbrev cc0_scratch5 : Ref sig .tc := ⟨.vmem, 45, rfl⟩
abbrev cc0_scratch6 : Ref sig .tc := ⟨.vmem, 46, rfl⟩
abbrev cc0_scratch7 : Ref sig .tc := ⟨.vmem, 47, rfl⟩
abbrev cc0_scratch8 : Ref sig .tc := ⟨.vmem, 48, rfl⟩
abbrev cc0_scratch9 : Ref sig .tc := ⟨.vmem, 49, rfl⟩
abbrev cc0_scratch10 : Ref sig .tc := ⟨.vmem, 50, rfl⟩
abbrev cc0_scratch11 : Ref sig .tc := ⟨.vmem, 51, rfl⟩
abbrev cc0_scratch12 : Ref sig .tc := ⟨.vmem, 52, rfl⟩
abbrev cc0_scratch13 : Ref sig .tc := ⟨.vmem, 53, rfl⟩
abbrev cc0_scratch14 : Ref sig .tc := ⟨.vmem, 54, rfl⟩
abbrev cc0_scratch15 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem20_0 : DmaSem sig := 25
abbrev cc0_sem20_1 : DmaSem sig := 26
abbrev cc0_sem21_0 : DmaSem sig := 27
abbrev cc0_sem22_0 : DmaSem sig := 28
abbrev cc0_sem23_0 : DmaSem sig := 29
abbrev cc0_sem24_0 : DmaSem sig := 30
abbrev cc0_sem25_0 : DmaSem sig := 31
abbrev cc0_sem26_0 : DmaSem sig := 32
abbrev cc0_sem27_0 : DmaSem sig := 33
abbrev cc0_sem28_0 : DmaSem sig := 34
abbrev cc0_sem29_0 : DmaSem sig := 35
abbrev cc0_sem30_0 : DmaSem sig := 36
abbrev cc0_sem31_0 : DmaSem sig := 37
abbrev cc0_sem32_0 : DmaSem sig := 38
abbrev cc0_sem33_0 : DmaSem sig := 39

abbrev nD : Nat := 1
abbrev τ : Topo := Topo.v7x

variable {F : FTy → Type} [FloatOps F]

abbrev main_while0_count : Scf.Loop 32 := ⟨0#32, 8192#32, 1#32⟩

abbrev grid0 : Pipeline.Grid := ⟨1, ![32], ![false]⟩

@[reducible] def k0_t1_loop : Scf.Loop 32 :=
  let c0_i32_752 : BitVec 32 := 0#32
  let c32_i32 : BitVec 32 := 32#32
  let v1014 : BitVec 32 := Scalar.addi c0_i32_752 c32_i32
  let c1_i32_753 : BitVec 32 := 1#32
  ⟨c0_i32_752, v1014, c1_i32_753⟩
def k0_mult1 (k0_t1 : Fin k0_t1_loop.trips) : BitVec 32 :=
  let c31_i32_1073 : BitVec 32 := 31#32
  let c0_i32_752 : BitVec 32 := 0#32
  let c1_i32_753 : BitVec 32 := 1#32
  let arg51 : BitVec 32 := Scf.iv c0_i32_752 c1_i32_753 k0_t1
  let v1399 : BitVec 32 := Scalar.subi c31_i32_1073 arg51
  let c8_i32_1074 : BitVec 32 := 8#32
  let v1400 : BitVec 32 := Scalar.muli v1399 c8_i32_1074
  v1400
def k0_off1 (k0_t1 : Fin k0_t1_loop.trips) : Fin 2 → Nat :=
  let c31_i32_1073 : BitVec 32 := 31#32
  let c0_i32_752 : BitVec 32 := 0#32
  let c1_i32_753 : BitVec 32 := 1#32
  let arg51 : BitVec 32 := Scf.iv c0_i32_752 c1_i32_753 k0_t1
  let v1399 : BitVec 32 := Scalar.subi c31_i32_1073 arg51
  let c8_i32_1074 : BitVec 32 := 8#32
  let v1400 : BitVec 32 := Scalar.muli v1399 c8_i32_1074
  let v1401 : BitVec 32 := v1400
  let v1402 : Index := Scalar.indexCast v1401
  let c0_1075 : Index := 0#32
  ![v1402.toNat, 0]
def cc0_transform_0 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c31_i32 : BitVec 32 := 31#32
  let v0 : BitVec 32 := Scalar.subi c31_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  ![c0_i32_0.toNat, v3.toNat, c0_i32_1.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x16x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S256x5120 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S8x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S8x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S8x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S8x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S128x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S8x128x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S32x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S8x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S8x128x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S8x1024 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S8x128x128 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S8x1024 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S8x1024 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]
-- ==== Kernel2Ideal.lean ====
variable {F : FTy → Type} [FloatOps F] [Named F]
def κ : String → Option EReal := fun
  | "gelu" => some ((8943 / 200000 : ℝ) : EReal)
  | "gelu3" => some ((26829 / 200000 : ℝ) : EReal)
  | _ => none
-- ==== Reference2Ideal.lean ====
abbrev S8192x5120 : Shape := ⟨2, ![8192, 5120]⟩
abbrev S8192x2048 : Shape := ⟨2, ![8192, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x4x1x1024 : Shape := ⟨4, ![1, 4, 1, 1024]⟩
abbrev S8192x3072 : Shape := ⟨2, ![8192, 3072]⟩
abbrev S8192x1024 : Shape := ⟨2, ![8192, 1024]⟩
abbrev S1024 : Shape := ⟨1, ![1024]⟩
abbrev S8x128x128 : Shape := ⟨3, ![8, 128, 128]⟩
abbrev S8x128 : Shape := ⟨2, ![8, 128]⟩
abbrev S_ : Shape := ⟨0, ![]⟩
abbrev S8192 : Shape := ⟨1, ![8192]⟩
abbrev S8192x1 : Shape := ⟨2, ![8192, 1]⟩
abbrev S64x128x8x128 : Shape := ⟨4, ![64, 128, 8, 128]⟩
abbrev S128x128 : Shape := ⟨2, ![128, 128]⟩
abbrev S1x128x128 : Shape := ⟨3, ![1, 128, 128]⟩
abbrev S8x64x128x128 : Shape := ⟨4, ![8, 64, 128, 128]⟩
abbrev S128x8 : Shape := ⟨2, ![128, 8]⟩
abbrev S1x128x8x1 : Shape := ⟨4, ![1, 128, 8, 1]⟩
abbrev S8x1024 : Shape := ⟨2, ![8, 1024]⟩
abbrev S128x8x128 : Shape := ⟨3, ![128, 8, 128]⟩
abbrev S128x1024 : Shape := ⟨2, ![128, 1024]⟩

abbrev nBuf : Space → Nat
  | .hbm => 306
  | .vmem => 0
  | .smem => 0
  | _ => 0

abbrev hbmTy0_0 (i : Nat) : BufTy := match i % 128 with
  | 0 => ⟨S8192x5120, .bf16⟩
  | 1 => ⟨S8192x2048, .f32⟩
  | 2 => ⟨S1x1024, .f32⟩
  | 3 => ⟨S1x1024, .f32⟩
  | 4 => ⟨S1x8x128x128, .f32⟩
  | 5 => ⟨S1x8x128, .f32⟩
  | 6 => ⟨S1x4x1x1024, .f32⟩
  | 7 => ⟨S1x1024, .f32⟩
  | 8 => ⟨S1x8x128x128, .f32⟩
  | 9 => ⟨S1x8x128, .f32⟩
  | 10 => ⟨S1x8x128x128, .f32⟩
  | 11 => ⟨S1x8x128, .f32⟩
  | 12 => ⟨S1x1024, .f32⟩
  | 13 => ⟨S1x1024, .f32⟩
  | 14 => ⟨S1x1024, .f32⟩
  | 15 => ⟨S8192x3072, .bf16⟩
  | 16 => ⟨S8192x3072, .f32⟩
  | 17 => ⟨S8192x1024, .f32⟩
  | 18 => ⟨S8192x1024, .f32⟩
  | 19 => ⟨S8192x1024, .f32⟩
  | 20 => ⟨S1024, .f32⟩
  | 21 => ⟨S1024, .f32⟩
  | 22 => ⟨S8x128x128, .f32⟩
  | 23 => ⟨S8x128, .f32⟩
  | 24 => ⟨S1024, .f32⟩
  | 25 => ⟨S_, .f32⟩
  | 26 => ⟨S_, .f32⟩
  | 27 => ⟨S_, .f32⟩
  | 28 => ⟨S8192x1024, .f32⟩
  | 29 => ⟨S8192x1024, .f32⟩
  | 30 => ⟨S8192x1024, .f32⟩
  | 31 => ⟨S_, .f32⟩
  | 32 => ⟨S8192x1024, .f32⟩
  | 33 => ⟨S8192x1024, .f32⟩
  | 34 => ⟨S8192x1024, .f32⟩
  | 35 => ⟨S8192x1024, .f32⟩
  | 36 => ⟨S8192x1024, .f32⟩
  | 37 => ⟨S_, .f32⟩
  | 38 => ⟨S8192x1024, .f32⟩
  | 39 => ⟨S8192x1024, .f32⟩
  | 40 => ⟨S8192x1024, .f32⟩
  | 41 => ⟨S_, .f32⟩
  | 42 => ⟨S8192x1024, .f32⟩
  | 43 => ⟨S8192x1024, .f32⟩
  | 44 => ⟨S_, .f32⟩
  | 45 => ⟨S8192x1024, .f32⟩
  | 46 => ⟨S8192x1024, .f32⟩
  | 47 => ⟨S8192x1024, .f32⟩
  | 48 => ⟨S_, .f32⟩
  | 49 => ⟨S8192x1024, .f32⟩
  | 50 => ⟨S8192x1024, .f32⟩
  | 51 => ⟨S_, .f32⟩
  | 52 => ⟨S8192x1024, .f32⟩
  | 53 => ⟨S8192x1024, .f32⟩
  | 54 => ⟨S8192x1024, .f32⟩
  | 55 => ⟨S_, .f32⟩
  | 56 => ⟨S_, .f32⟩
  | 57 => ⟨S_, .f32⟩
  | 58 => ⟨S8192x1024, .f32⟩
  | 59 => ⟨S8192x1024, .f32⟩
  | 60 => ⟨S8192x1024, .f32⟩
  | 61 => ⟨S_, .f32⟩
  | 62 => ⟨S8192x1024, .f32⟩
  | 63 => ⟨S8192x1024, .f32⟩
  | 64 => ⟨S8192x1024, .f32⟩
  | 65 => ⟨S8192x1024, .f32⟩
  | 66 => ⟨S8192x1024, .f32⟩
  | 67 => ⟨S_, .f32⟩
  | 68 => ⟨S8192x1024, .f32⟩
  | 69 => ⟨S8192x1024, .f32⟩
  | 70 => ⟨S8192x1024, .f32⟩
  | 71 => ⟨S_, .f32⟩
  | 72 => ⟨S8192x1024, .f32⟩
  | 73 => ⟨S8192x1024, .f32⟩
  | 74 => ⟨S_, .f32⟩
  | 75 => ⟨S8192x1024, .f32⟩
  | 76 => ⟨S8192x1024, .f32⟩
  | 77 => ⟨S8192x1024, .f32⟩
  | 78 => ⟨S_, .f32⟩
  | 79 => ⟨S8192x1024, .f32⟩
  | 80 => ⟨S8192x1024, .f32⟩
  | 81 => ⟨S_, .f32⟩
  | 82 => ⟨S8192x1024, .f32⟩
  | 83 => ⟨S8192x1024, .f32⟩
  | 84 => ⟨S8192x1024, .f32⟩
  | 85 => ⟨S_, .f32⟩
  | 86 => ⟨S8192, .f32⟩
  | 87 => ⟨S8192x1, .f32⟩
  | 88 => ⟨S_, .f32⟩
  | 89 => ⟨S8192x1, .f32⟩
  | 90 => ⟨S8192x1, .f32⟩
  | 91 => ⟨S8192x1024, .f32⟩
  | 92 => ⟨S8192x1024, .f32⟩
  | 93 => ⟨S8192x1024, .f32⟩
  | 94 => ⟨S_, .f32⟩
  | 95 => ⟨S8192, .f32⟩
  | 96 => ⟨S8192x1, .f32⟩
  | 97 => ⟨S_, .f32⟩
  | 98 => ⟨S8192x1, .f32⟩
  | 99 => ⟨S8192x1, .f32⟩
  | 100 => ⟨S_, .f32⟩
  | 101 => ⟨S8192x1, .f32⟩
  | 102 => ⟨S8192x1, .f32⟩
  | 103 => ⟨S8192x1, .f32⟩
  | 104 => ⟨S8192x1, .f32⟩
  | 105 => ⟨S_, .f32⟩
  | 106 => ⟨S8192x1, .f32⟩
  | 107 => ⟨S8192x1, .f32⟩
  | 108 => ⟨S8192x1024, .f32⟩
  | 109 => ⟨S8192x1024, .f32⟩
  | 110 => ⟨S1x1024, .f32⟩
  | 111 => ⟨S8192x1024, .f32⟩
  | 112 => ⟨S8192x1024, .f32⟩
  | 113 => ⟨S1x1024, .f32⟩
  | 114 => ⟨S8192x1024, .f32⟩
  | 115 => ⟨S8192x1024, .f32⟩
  | 116 => ⟨S64x128x8x128, .f32⟩
  | 117 => ⟨S_, .i1⟩
  | 118 => ⟨S128x128, .i1⟩
  | 119 => ⟨S128x128, .i32⟩
  | 120 => ⟨S_, .i32⟩
  | 121 => ⟨S128x128, .i32⟩
  | 122 => ⟨S128x128, .i32⟩
  | 123 => ⟨S128x128, .i32⟩
  | 124 => ⟨S128x128, .i1⟩
  | 125 => ⟨S_, .i1⟩
  | 126 => ⟨S128x128, .i1⟩
  | 127 => ⟨S128x128, .i1⟩
  | _ => ⟨S8192x5120, .bf16⟩

abbrev hbmTy0_1 (i : Nat) : BufTy := match i % 128 with
  | 0 => ⟨S1x128x128, .i1⟩
  | 1 => ⟨S_, .f32⟩
  | 2 => ⟨S8x128x128, .f32⟩
  | 3 => ⟨S8x128x128, .i1⟩
  | 4 => ⟨S8x128x128, .f32⟩
  | 5 => ⟨S_, .f32⟩
  | 6 => ⟨S8x128x128, .f32⟩
  | 7 => ⟨S8x64x128x128, .f32⟩
  | 8 => ⟨S64x128x8x128, .f32⟩
  | 9 => ⟨S128x8, .f32⟩
  | 10 => ⟨S1x128x8x1, .f32⟩
  | 11 => ⟨S64x128x8x128, .f32⟩
  | 12 => ⟨S64x128x8x128, .f32⟩
  | 13 => ⟨S8192x1024, .f32⟩
  | 14 => ⟨S8192x1024, .f32⟩
  | 15 => ⟨S8192x1024, .f32⟩
  | 16 => ⟨S8192x1024, .f32⟩
  | 17 => ⟨S_, .f32⟩
  | 18 => ⟨S8192x1024, .f32⟩
  | 19 => ⟨S8192x1024, .f32⟩
  | 20 => ⟨S_, .f32⟩
  | 21 => ⟨S8192x1024, .f32⟩
  | 22 => ⟨S8192x1024, .f32⟩
  | 23 => ⟨S_, .f32⟩
  | 24 => ⟨S8192x1024, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S_, .f32⟩
  | 31 => ⟨S8192, .f32⟩
  | 32 => ⟨S8192x1, .f32⟩
  | 33 => ⟨S_, .f32⟩
  | 34 => ⟨S8192x1, .f32⟩
  | 35 => ⟨S8192x1, .f32⟩
  | 36 => ⟨S_, .f32⟩
  | 37 => ⟨S8192x1, .f32⟩
  | 38 => ⟨S8192x1, .f32⟩
  | 39 => ⟨S8192x1, .f32⟩
  | 40 => ⟨S8192x1, .f32⟩
  | 41 => ⟨S_, .f32⟩
  | 42 => ⟨S8192x1, .f32⟩
  | 43 => ⟨S8192x1, .f32⟩
  | 44 => ⟨S8192x1024, .f32⟩
  | 45 => ⟨S8192x1024, .f32⟩
  | 46 => ⟨S1x1024, .f32⟩
  | 47 => ⟨S8192x1024, .f32⟩
  | 48 => ⟨S8192x1024, .f32⟩
  | 49 => ⟨S8192x1024, .f32⟩
  | 50 => ⟨S8192x1024, .f32⟩
  | 51 => ⟨S_, .f32⟩
  | 52 => ⟨S1024, .f32⟩
  | 53 => ⟨S1x1024, .f32⟩
  | 54 => ⟨S8192x1024, .f32⟩
  | 55 => ⟨S8192x1024, .f32⟩
  | 56 => ⟨S_, .f32⟩
  | 57 => ⟨S1024, .f32⟩
  | 58 => ⟨S8192x1024, .f32⟩
  | 59 => ⟨S_, .f32⟩
  | 60 => ⟨S8192, .f32⟩
  | 61 => ⟨S8192x1, .f32⟩
  | 62 => ⟨S8192x1024, .f32⟩
  | 63 => ⟨S8192x1024, .f32⟩
  | 64 => ⟨S8192x1, .f32⟩
  | 65 => ⟨S_, .f32⟩
  | 66 => ⟨S8192x1, .f32⟩
  | 67 => ⟨S8192x1, .f32⟩
  | 68 => ⟨S_, .f32⟩
  | 69 => ⟨S8192, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S8192x1024, .f32⟩
  | 77 => ⟨S8192x1024, .f32⟩
  | 78 => ⟨S8192x1024, .f32⟩
  | 79 => ⟨S8192x1024, .f32⟩
  | 80 => ⟨S8192x1024, .f32⟩
  | 81 => ⟨S8192x1024, .f32⟩
  | 82 => ⟨S8192x1024, .f32⟩
  | 83 => ⟨S64x128x8x128, .f32⟩
  | 84 => ⟨S_, .f32⟩
  | 85 => ⟨S128x8, .f32⟩
  | 86 => ⟨S1x128x8x1, .f32⟩
  | 87 => ⟨S_, .f32⟩
  | 88 => ⟨S128x8, .f32⟩
  | 89 => ⟨S8x128, .f32⟩
  | 90 => ⟨S8x64x128x128, .f32⟩
  | 91 => ⟨S8x128x128, .f32⟩
  | 92 => ⟨S8x64x128x128, .f32⟩
  | 93 => ⟨S64x128x8x128, .f32⟩
  | 94 => ⟨S_, .f32⟩
  | 95 => ⟨S8x128x128, .f32⟩
  | 96 => ⟨S8x128x128, .f32⟩
  | 97 => ⟨S8192x1024, .f32⟩
  | 98 => ⟨S_, .f32⟩
  | 99 => ⟨S1024, .f32⟩
  | 100 => ⟨S1x1024, .f32⟩
  | 101 => ⟨S_, .f32⟩
  | 102 => ⟨S1024, .f32⟩
  | 103 => ⟨S8192x1024, .f32⟩
  | 104 => ⟨S_, .f32⟩
  | 105 => ⟨S1024, .f32⟩
  | 106 => ⟨S1x1024, .f32⟩
  | 107 => ⟨S8192x1024, .f32⟩
  | 108 => ⟨S8192x1024, .f32⟩
  | 109 => ⟨S_, .f32⟩
  | 110 => ⟨S1024, .f32⟩
  | 111 => ⟨S8192x1024, .f32⟩
  | 112 => ⟨S_, .f32⟩
  | 113 => ⟨S8192, .f32⟩
  | 114 => ⟨S8192x1, .f32⟩
  | 115 => ⟨S8192x1024, .f32⟩
  | 116 => ⟨S8192x1024, .f32⟩
  | 117 => ⟨S8192x1, .f32⟩
  | 118 => ⟨S_, .f32⟩
  | 119 => ⟨S8192x1, .f32⟩
  | 120 => ⟨S8192x1, .f32⟩
  | 121 => ⟨S_, .f32⟩
  | 122 => ⟨S8192, .f32⟩
  | 123 => ⟨S8192x1024, .f32⟩
  | 124 => ⟨S8192x1024, .f32⟩
  | 125 => ⟨S8192x1024, .f32⟩
  | 126 => ⟨S8192x1024, .f32⟩
  | 127 => ⟨S8192x1024, .f32⟩
  | _ => ⟨S8192x5120, .bf16⟩

abbrev hbmTy0_2 (i : Nat) : BufTy := match i % 128 with
  | 0 => ⟨S8192x1024, .f32⟩
  | 1 => ⟨S_, .f32⟩
  | 2 => ⟨S8192, .f32⟩
  | 3 => ⟨S8192x1, .f32⟩
  | 4 => ⟨S_, .f32⟩
  | 5 => ⟨S8192x1, .f32⟩
  | 6 => ⟨S8192x1, .f32⟩
  | 7 => ⟨S_, .f32⟩
  | 8 => ⟨S8192, .f32⟩
  | 9 => ⟨S8192x1024, .f32⟩
  | 10 => ⟨S8192x1024, .f32⟩
  | 11 => ⟨S8192x1024, .f32⟩
  | 12 => ⟨S8192x1024, .f32⟩
  | 13 => ⟨S_, .f32⟩
  | 14 => ⟨S8192x1024, .f32⟩
  | 15 => ⟨S8192x1024, .f32⟩
  | 16 => ⟨S8192x1024, .f32⟩
  | 17 => ⟨S_, .f32⟩
  | 18 => ⟨S8192x1024, .f32⟩
  | 19 => ⟨S8192x1024, .f32⟩
  | 20 => ⟨S8192x1024, .f32⟩
  | 21 => ⟨S8192x1024, .f32⟩
  | 22 => ⟨S8192x1024, .f32⟩
  | 23 => ⟨S8192x1024, .f32⟩
  | 24 => ⟨S8192x1024, .f32⟩
  | 25 => ⟨S8192x1024, .f32⟩
  | 26 => ⟨S8192x1024, .f32⟩
  | 27 => ⟨S_, .f32⟩
  | 28 => ⟨S8192x1024, .f32⟩
  | 29 => ⟨S8192x1024, .f32⟩
  | 30 => ⟨S8192x1024, .f32⟩
  | 31 => ⟨S_, .f32⟩
  | 32 => ⟨S8192x1024, .f32⟩
  | 33 => ⟨S8192x1024, .f32⟩
  | 34 => ⟨S8192x1024, .f32⟩
  | 35 => ⟨S8192x1024, .f32⟩
  | 36 => ⟨S8192x1024, .f32⟩
  | 37 => ⟨S8192x1024, .f32⟩
  | 38 => ⟨S8192x1024, .f32⟩
  | 39 => ⟨S8192x3072, .f32⟩
  | 40 => ⟨S8192x3072, .bf16⟩
  | 41 => ⟨S1x1024, .f32⟩
  | 42 => ⟨S8x1024, .f32⟩
  | 43 => ⟨S1x1024, .f32⟩
  | 44 => ⟨S8x1024, .f32⟩
  | 45 => ⟨S1x1024, .f32⟩
  | 46 => ⟨S8x1024, .f32⟩
  | 47 => ⟨S128x8, .f32⟩
  | 48 => ⟨S128x8x128, .f32⟩
  | 49 => ⟨S128x1024, .f32⟩
  | _ => ⟨S8192x5120, .bf16⟩

abbrev hbmTy (i : Nat) : BufTy := match i / 128 with
  | 0 => hbmTy0_0 i
  | 1 => hbmTy0_1 i
  | 2 => hbmTy0_2 i
  | _ => ⟨S8192x5120, .bf16⟩

abbrev bufTy : (tb : Table) → Fin (tcTables nBuf tb) → BufTy
  | .hbm, ⟨i, _⟩ => hbmTy i
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_cst_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_7 : Ref sig .tc := ⟨.hbm, 55, rfl⟩
abbrev main_cst_8 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_9 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_10 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_11 : Ref sig .tc := ⟨.hbm, 71, rfl⟩
abbrev main_v44 : Ref sig .tc := ⟨.hbm, 72, rfl⟩
abbrev main_v45 : Ref sig .tc := ⟨.hbm, 73, rfl⟩
abbrev main_cst_12 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_13 : Ref sig .tc := ⟨.hbm, 78, rfl⟩
abbrev main_v49 : Ref sig .tc := ⟨.hbm, 79, rfl⟩
abbrev main_v50 : Ref sig .tc := ⟨.hbm, 80, rfl⟩
abbrev main_cst_14 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_15 : Ref sig .tc := ⟨.hbm, 85, rfl⟩
abbrev main_v54 : Ref sig .tc := ⟨.hbm, 86, rfl⟩
abbrev main_v55 : Ref sig .tc := ⟨.hbm, 87, rfl⟩
abbrev main_cst_16 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_17 : Ref sig .tc := ⟨.hbm, 94, rfl⟩
abbrev main_v61 : Ref sig .tc := ⟨.hbm, 95, rfl⟩
abbrev main_v62 : Ref sig .tc := ⟨.hbm, 96, rfl⟩
abbrev main_cst_18 : Ref sig .tc := ⟨.hbm, 97, rfl⟩
abbrev main_v63 : Ref sig .tc := ⟨.hbm, 98, rfl⟩
abbrev main_v64 : Ref sig .tc := ⟨.hbm, 99, rfl⟩
abbrev main_cst_19 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_20 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_c : Ref sig .tc := ⟨.hbm, 117, rfl⟩
abbrev main_v80 : Ref sig .tc := ⟨.hbm, 118, rfl⟩
abbrev main_call0_v0 : Ref sig .tc := ⟨.hbm, 119, rfl⟩
abbrev main_call0_c : Ref sig .tc := ⟨.hbm, 120, rfl⟩
abbrev main_call0_v1 : Ref sig .tc := ⟨.hbm, 121, rfl⟩
abbrev main_call0_v2 : Ref sig .tc := ⟨.hbm, 122, rfl⟩
abbrev main_call0_v3 : Ref sig .tc := ⟨.hbm, 123, rfl⟩
abbrev main_call0_v4 : Ref sig .tc := ⟨.hbm, 124, rfl⟩
abbrev main_call0_c_0 : Ref sig .tc := ⟨.hbm, 125, rfl⟩
abbrev main_call0_v5 : Ref sig .tc := ⟨.hbm, 126, rfl⟩
abbrev main_v81 : Ref sig .tc := ⟨.hbm, 127, rfl⟩
abbrev main_v82 : Ref sig .tc := ⟨.hbm, 128, rfl⟩
abbrev main_cst_21 : Ref sig .tc := ⟨.hbm, 129, rfl⟩
abbrev main_v83 : Ref sig .tc := ⟨.hbm, 130, rfl⟩
abbrev main_v84_1 : Ref sig .tc := ⟨.hbm, 131, rfl⟩
abbrev main_v84_0 : Ref sig .tc := ⟨.hbm, 132, rfl⟩
abbrev main_call1_cst : Ref sig .tc := ⟨.hbm, 133, rfl⟩
abbrev main_v84_2 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_call2_v0 : Ref sig .tc := ⟨.hbm, 143, rfl⟩
abbrev main_call2_v1 : Ref sig .tc := ⟨.hbm, 144, rfl⟩
abbrev main_call2_cst : Ref sig .tc := ⟨.hbm, 145, rfl⟩
abbrev main_call2_v2 : Ref sig .tc := ⟨.hbm, 146, rfl⟩
abbrev main_call2_v3 : Ref sig .tc := ⟨.hbm, 147, rfl⟩
abbrev main_call2_cst_0 : Ref sig .tc := ⟨.hbm, 148, rfl⟩
abbrev main_call2_v4 : Ref sig .tc := ⟨.hbm, 149, rfl⟩
abbrev main_v93_2 : Ref sig .tc := ⟨.hbm, 150, rfl⟩
abbrev main_call2_cst_1 : Ref sig .tc := ⟨.hbm, 151, rfl⟩
abbrev main_call2_v6 : Ref sig .tc := ⟨.hbm, 152, rfl⟩
abbrev main_call2_v7 : Ref sig .tc := ⟨.hbm, 153, rfl⟩
abbrev main_v93_1 : Ref sig .tc := ⟨.hbm, 154, rfl⟩
abbrev main_v93_0 : Ref sig .tc := ⟨.hbm, 155, rfl⟩
abbrev main_v94 : Ref sig .tc := ⟨.hbm, 156, rfl⟩
abbrev main_v95 : Ref sig .tc := ⟨.hbm, 157, rfl⟩
abbrev main_cst_22 : Ref sig .tc := ⟨.hbm, 158, rfl⟩
abbrev main_v96 : Ref sig .tc := ⟨.hbm, 159, rfl⟩
abbrev main_v97 : Ref sig .tc := ⟨.hbm, 160, rfl⟩
abbrev main_cst_23 : Ref sig .tc := ⟨.hbm, 161, rfl⟩
abbrev main_v98 : Ref sig .tc := ⟨.hbm, 162, rfl⟩
abbrev main_v99 : Ref sig .tc := ⟨.hbm, 163, rfl⟩
abbrev main_cst_24 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_cst_25 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_cst_26 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_cst_27 : Ref sig .tc := ⟨.hbm, 184, rfl⟩
abbrev main_v117 : Ref sig .tc := ⟨.hbm, 185, rfl⟩
abbrev main_v118 : Ref sig .tc := ⟨.hbm, 186, rfl⟩
abbrev main_cst_28 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_cst_29 : Ref sig .tc := ⟨.hbm, 193, rfl⟩
abbrev main_v124 : Ref sig .tc := ⟨.hbm, 194, rfl⟩
abbrev main_v125 : Ref sig .tc := ⟨.hbm, 195, rfl⟩
abbrev main_cst_30 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_call3_v0 : Ref sig .tc := ⟨.hbm, 205, rfl⟩
abbrev main_call3_v1 : Ref sig .tc := ⟨.hbm, 206, rfl⟩
abbrev main_call3_v2 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_cst_31 : Ref sig .tc := ⟨.hbm, 212, rfl⟩
abbrev main_v138 : Ref sig .tc := ⟨.hbm, 213, rfl⟩
abbrev main_v139 : Ref sig .tc := ⟨.hbm, 214, rfl⟩
abbrev main_cst_32 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_call4_cst : Ref sig .tc := ⟨.hbm, 222, rfl⟩
abbrev main_call4_v0 : Ref sig .tc := ⟨.hbm, 223, rfl⟩
abbrev main_v146 : Ref sig .tc := ⟨.hbm, 224, rfl⟩
abbrev main_v147 : Ref sig .tc := ⟨.hbm, 225, rfl⟩
abbrev main_cst_33 : Ref sig .tc := ⟨.hbm, 226, rfl⟩
abbrev main_v148 : Ref sig .tc := ⟨.hbm, 227, rfl⟩
abbrev main_v149 : Ref sig .tc := ⟨.hbm, 228, rfl⟩
abbrev main_cst_34 : Ref sig .tc := ⟨.hbm, 229, rfl⟩
abbrev main_v150 : Ref sig .tc := ⟨.hbm, 230, rfl⟩
abbrev main_v151 : Ref sig .tc := ⟨.hbm, 231, rfl⟩
abbrev main_cst_35 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_v155 : Ref sig .tc := ⟨.hbm, 236, rfl⟩
abbrev main_cst_36 : Ref sig .tc := ⟨.hbm, 237, rfl⟩
abbrev main_v156 : Ref sig .tc := ⟨.hbm, 238, rfl⟩
abbrev main_v157 : Ref sig .tc := ⟨.hbm, 239, rfl⟩
abbrev main_cst_37 : Ref sig .tc := ⟨.hbm, 240, rfl⟩
abbrev main_v158 : Ref sig .tc := ⟨.hbm, 241, rfl⟩
abbrev main_v159 : Ref sig .tc := ⟨.hbm, 242, rfl⟩
abbrev main_v160 : Ref sig .tc := ⟨.hbm, 243, rfl⟩
abbrev main_v161 : Ref sig .tc := ⟨.hbm, 244, rfl⟩
abbrev main_v162 : Ref sig .tc := ⟨.hbm, 245, rfl⟩
abbrev main_cst_38 : Ref sig .tc := ⟨.hbm, 246, rfl⟩
abbrev main_v163 : Ref sig .tc := ⟨.hbm, 247, rfl⟩
abbrev main_v164 : Ref sig .tc := ⟨.hbm, 248, rfl⟩
abbrev main_cst_39 : Ref sig .tc := ⟨.hbm, 249, rfl⟩
abbrev main_v165 : Ref sig .tc := ⟨.hbm, 250, rfl⟩
abbrev main_v166 : Ref sig .tc := ⟨.hbm, 251, rfl⟩
abbrev main_v167 : Ref sig .tc := ⟨.hbm, 252, rfl⟩
abbrev main_v168 : Ref sig .tc := ⟨.hbm, 253, rfl⟩
abbrev main_v169 : Ref sig .tc := ⟨.hbm, 254, rfl⟩
abbrev main_v170 : Ref sig .tc := ⟨.hbm, 255, rfl⟩
abbrev main_v171 : Ref sig .tc := ⟨.hbm, 256, rfl⟩
abbrev main_cst_40 : Ref sig .tc := ⟨.hbm, 257, rfl⟩
abbrev main_v172 : Ref sig .tc := ⟨.hbm, 258, rfl⟩
abbrev main_v173 : Ref sig .tc := ⟨.hbm, 259, rfl⟩
abbrev main_cst_41 : Ref sig .tc := ⟨.hbm, 260, rfl⟩
abbrev main_v174 : Ref sig .tc := ⟨.hbm, 261, rfl⟩
abbrev main_v175 : Ref sig .tc := ⟨.hbm, 262, rfl⟩
abbrev main_cst_42 : Ref sig .tc := ⟨.hbm, 263, rfl⟩
abbrev main_v176 : Ref sig .tc := ⟨.hbm, 264, rfl⟩
abbrev main_v177 : Ref sig .tc := ⟨.hbm, 265, rfl⟩
abbrev main_v178 : Ref sig .tc := ⟨.hbm, 266, rfl⟩
abbrev main_v179 : Ref sig .tc := ⟨.hbm, 267, rfl⟩
abbrev main_v180 : Ref sig .tc := ⟨.hbm, 268, rfl⟩
abbrev main_cst_43 : Ref sig .tc := ⟨.hbm, 269, rfl⟩
abbrev main_v181 : Ref sig .tc := ⟨.hbm, 270, rfl⟩
abbrev main_v182 : Ref sig .tc := ⟨.hbm, 271, rfl⟩
abbrev main_v183 : Ref sig .tc := ⟨.hbm, 272, rfl⟩
abbrev main_cst_44 : Ref sig .tc := ⟨.hbm, 273, rfl⟩
abbrev main_v184 : Ref sig .tc := ⟨.hbm, 274, rfl⟩
abbrev main_v185 : Ref sig .tc := ⟨.hbm, 275, rfl⟩
abbrev main_v186 : Ref sig .tc := ⟨.hbm, 276, rfl⟩
abbrev main_v187 : Ref sig .tc := ⟨.hbm, 277, rfl⟩
abbrev main_v188 : Ref sig .tc := ⟨.hbm, 278, rfl⟩
abbrev main_v189 : Ref sig .tc := ⟨.hbm, 279, rfl⟩
abbrev main_v190 : Ref sig .tc := ⟨.hbm, 280, rfl⟩
abbrev main_v191 : Ref sig .tc := ⟨.hbm, 281, rfl⟩
abbrev main_v192 : Ref sig .tc := ⟨.hbm, 282, rfl⟩
abbrev main_cst_45 : Ref sig .tc := ⟨.hbm, 283, rfl⟩
abbrev main_v193 : Ref sig .tc := ⟨.hbm, 284, rfl⟩
abbrev main_v194 : Ref sig .tc := ⟨.hbm, 285, rfl⟩
abbrev main_v195 : Ref sig .tc := ⟨.hbm, 286, rfl⟩
abbrev main_cst_46 : Ref sig .tc := ⟨.hbm, 287, rfl⟩
abbrev main_v196 : Ref sig .tc := ⟨.hbm, 288, rfl⟩
abbrev main_v197 : Ref sig .tc := ⟨.hbm, 289, rfl⟩
abbrev main_v198 : Ref sig .tc := ⟨.hbm, 290, rfl⟩
abbrev main_v199 : Ref sig .tc := ⟨.hbm, 291, rfl⟩
abbrev main_v200 : Ref sig .tc := ⟨.hbm, 292, rfl⟩
abbrev main_v201 : Ref sig .tc := ⟨.hbm, 293, rfl⟩
abbrev main_v202 : Ref sig .tc := ⟨.hbm, 294, rfl⟩
abbrev main_v203 : Ref sig .tc := ⟨.hbm, 295, rfl⟩
abbrev main_v204 : Ref sig .tc := ⟨.hbm, 296, rfl⟩
abbrev main_v205 : Ref sig .tc := ⟨.hbm, 297, rfl⟩
abbrev main_v206 : Ref sig .tc := ⟨.hbm, 298, rfl⟩
abbrev main_v207 : Ref sig .tc := ⟨.hbm, 299, rfl⟩
abbrev main_v208 : Ref sig .tc := ⟨.hbm, 300, rfl⟩
abbrev main_v209 : Ref sig .tc := ⟨.hbm, 301, rfl⟩
abbrev main_v210 : Ref sig .tc := ⟨.hbm, 302, rfl⟩
abbrev main_v211 : Ref sig .tc := ⟨.hbm, 303, rfl⟩
abbrev main_v212 : Ref sig .tc := ⟨.hbm, 304, rfl⟩
abbrev main_v213 : Ref sig .tc := ⟨.hbm, 305, rfl⟩

abbrev nD : Nat := 1
abbrev τ : Topo := Topo.v7x

variable {F : FTy → Type} [FloatOps F]
-- ==== Kernel3.lean ====
abbrev S1x8192x2048 : Shape := ⟨3, ![1, 8192, 2048]⟩
abbrev S8192x2048 : Shape := ⟨2, ![8192, 2048]⟩
abbrev S1x1x8192x256 : Shape := ⟨4, ![1, 1, 8192, 256]⟩
abbrev S1x2048 : Shape := ⟨2, ![1, 2048]⟩
abbrev S1x2048x2048 : Shape := ⟨3, ![1, 2048, 2048]⟩
abbrev S1x256x2048 : Shape := ⟨3, ![1, 256, 2048]⟩
abbrev S256x2048 : Shape := ⟨2, ![256, 2048]⟩
abbrev S256x4x512 : Shape := ⟨3, ![256, 4, 512]⟩
abbrev S4x256x512 : Shape := ⟨3, ![4, 256, 512]⟩
abbrev S8192x256 : Shape := ⟨2, ![8192, 256]⟩
abbrev S2048x2048 : Shape := ⟨2, ![2048, 2048]⟩
abbrev S8x2048 : Shape := ⟨2, ![8, 2048]⟩
abbrev S8x128 : Shape := ⟨2, ![8, 128]⟩
abbrev S256x256 : Shape := ⟨2, ![256, 256]⟩
abbrev S1x256x512 : Shape := ⟨3, ![1, 256, 512]⟩
abbrev S256x512 : Shape := ⟨2, ![256, 512]⟩
abbrev S256 : Shape := ⟨1, ![256]⟩
abbrev S256x1 : Shape := ⟨2, ![256, 1]⟩
abbrev S1 : Shape := ⟨1, ![1]⟩
abbrev S1x1x1 : Shape := ⟨3, ![1, 1, 1]⟩
abbrev S32x8x2048 : Shape := ⟨3, ![32, 8, 2048]⟩
abbrev S2048 : Shape := ⟨1, ![2048]⟩

abbrev nBuf : Space → Nat
  | .hbm => 27
  | .vmem => 26
  | .smem => 0
  | _ => 0

abbrev bufTy : (tb : Table) → Fin (tcTables nBuf tb) → BufTy
  | .hbm, ⟨0, _⟩ => ⟨S1x8192x2048, .f32⟩
  | .hbm, ⟨1, _⟩ => ⟨S8192x2048, .bf16⟩
  | .hbm, ⟨2, _⟩ => ⟨S1x1x8192x256, .f32⟩
  | .hbm, ⟨3, _⟩ => ⟨S1x8192x2048, .f32⟩
  | .hbm, ⟨4, _⟩ => ⟨S1x2048, .f32⟩
  | .hbm, ⟨5, _⟩ => ⟨S1x2048x2048, .f32⟩
  | .hbm, ⟨6, _⟩ => ⟨S1x2048x2048, .f32⟩
  | .hbm, ⟨7, _⟩ => ⟨S1x256x2048, .f32⟩
  | .hbm, ⟨8, _⟩ => ⟨S256x2048, .f32⟩
  | .hbm, ⟨9, _⟩ => ⟨S256x2048, .bf16⟩
  | .hbm, ⟨10, _⟩ => ⟨S256x4x512, .bf16⟩
  | .hbm, ⟨11, _⟩ => ⟨S4x256x512, .bf16⟩
  | .hbm, ⟨12, _⟩ => ⟨S8192x2048, .f32⟩
  | .hbm, ⟨13, _⟩ => ⟨S8192x256, .f32⟩
  | .hbm, ⟨14, _⟩ => ⟨S8192x2048, .f32⟩
  | .hbm, ⟨15, _⟩ => ⟨S2048x2048, .f32⟩
  | .hbm, ⟨16, _⟩ => ⟨S2048x2048, .bf16⟩
  | .hbm, ⟨17, _⟩ => ⟨S2048x2048, .f32⟩
  | .hbm, ⟨18, _⟩ => ⟨S2048x2048, .bf16⟩
  | .hbm, ⟨19, _⟩ => ⟨S8192x2048, .bf16⟩
  | .hbm, ⟨20, _⟩ => ⟨S8192x2048, .bf16⟩
  | .hbm, ⟨21, _⟩ => ⟨S8192x2048, .f32⟩
  | .hbm, ⟨22, _⟩ => ⟨S8192x2048, .bf16⟩
  | .hbm, ⟨23, _⟩ => ⟨S8192x2048, .f32⟩
  | .hbm, ⟨24, _⟩ => ⟨S4x256x512, .f32⟩
  | .hbm, ⟨25, _⟩ => ⟨S8x2048, .f32⟩
  | .hbm, ⟨26, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x256, .f32⟩
  | .local _ .vmem, ⟨5, _⟩ => ⟨S256x256, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S2048x2048, .bf16⟩
  | .local _ .vmem, ⟨10, _⟩ => ⟨S2048x2048, .bf16⟩
  | .local _ .vmem, ⟨11, _⟩ => ⟨S4x256x512, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .f32⟩
  | .local _ .vmem, ⟨17, _⟩ => ⟨S256x2048, .f32⟩
  | .local _ .vmem, ⟨18, _⟩ => ⟨S256x2048, .bf16⟩
  | .local _ .vmem, ⟨19, _⟩ => ⟨S256x2048, .bf16⟩
  | .local _ .vmem, ⟨20, _⟩ => ⟨S256x2048, .f32⟩
  | .local _ .vmem, ⟨21, _⟩ => ⟨S256x2048, .f32⟩
  | .local _ .vmem, ⟨22, _⟩ => ⟨S4x256x512, .f32⟩
  | .local _ .vmem, ⟨23, _⟩ => ⟨S8x2048, .f32⟩
  | .local _ .vmem, ⟨24, _⟩ => ⟨S8x128, .f32⟩
  | .local _ .vmem, ⟨25, _⟩ => ⟨S256x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev main_v11_5 : Ref sig .tc := ⟨.hbm, 24, rfl⟩
abbrev main_v11_6 : Ref sig .tc := ⟨.hbm, 25, rfl⟩
abbrev main_v11_7 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S4x256x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference3Ideal.lean ====
abbrev S1x8192x2048 : Shape := ⟨3, ![1, 8192, 2048]⟩
abbrev S8192x2048 : Shape := ⟨2, ![8192, 2048]⟩
abbrev S1x1x8192x256 : Shape := ⟨4, ![1, 1, 8192, 256]⟩
abbrev S1x2048 : Shape := ⟨2, ![1, 2048]⟩
abbrev S1x2048x2048 : Shape := ⟨3, ![1, 2048, 2048]⟩
abbrev S1x256x2048 : Shape := ⟨3, ![1, 256, 2048]⟩
abbrev S_ : Shape := ⟨0, ![]⟩
abbrev S2048 : Shape := ⟨1, ![2048]⟩
abbrev S256x2048 : Shape := ⟨2, ![256, 2048]⟩
abbrev S2048x2048 : Shape := ⟨2, ![2048, 2048]⟩
abbrev S8192 : Shape := ⟨1, ![8192]⟩
abbrev S8192x1 : Shape := ⟨2, ![8192, 1]⟩
abbrev S8192x256 : Shape := ⟨2, ![8192, 256]⟩
abbrev S2048x256 : Shape := ⟨2, ![2048, 256]⟩
abbrev S256x4x512 : Shape := ⟨3, ![256, 4, 512]⟩
abbrev S4x256x512 : Shape := ⟨3, ![4, 256, 512]⟩
abbrev S8x2048 : Shape := ⟨2, ![8, 2048]⟩
abbrev S8x128 : Shape := ⟨2, ![8, 128]⟩

abbrev nBuf : Space → Nat
  | .hbm => 121
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S8192x2048, .bf16⟩
  | .hbm, ⟨2, _⟩ => ⟨S1x1x8192x256, .f32⟩
  | .hbm, ⟨3, _⟩ => ⟨S1x8192x2048, .f32⟩
  | .hbm, ⟨4, _⟩ => ⟨S1x2048, .f32⟩
  | .hbm, ⟨5, _⟩ => ⟨S1x2048x2048, .f32⟩
  | .hbm, ⟨6, _⟩ => ⟨S1x2048x2048, .f32⟩
  | .hbm, ⟨7, _⟩ => ⟨S1x256x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S2048, .f32⟩
  | .hbm, ⟨13, _⟩ => ⟨S256x2048, .f32⟩
  | .hbm, ⟨14, _⟩ => ⟨S2048x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x256, .f32⟩
  | .hbm, ⟨39, _⟩ => ⟨S8192x2048, .f32⟩
  | .hbm, ⟨40, _⟩ => ⟨S2048x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S_, .f32⟩
  | .hbm, ⟨61, _⟩ => ⟨S8192x2048, .f32⟩
  | .hbm, ⟨62, _⟩ => ⟨S8192x2048, .f32⟩
  | .hbm, ⟨63, _⟩ => ⟨S_, .f32⟩
  | .hbm, ⟨64, _⟩ => ⟨S8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S8192, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S8192x2048, .f32⟩
  | .hbm, ⟨80, _⟩ => ⟨S8192x2048, .f32⟩
  | .hbm, ⟨81, _⟩ => ⟨S8192x2048, .f32⟩
  | .hbm, ⟨82, _⟩ => ⟨S8192x2048, .f32⟩
  | .hbm, ⟨83, _⟩ => ⟨S8192x2048, .f32⟩
  | .hbm, ⟨84, _⟩ => ⟨S8192x2048, .f32⟩
  | .hbm, ⟨85, _⟩ => ⟨S8192x2048, .f32⟩
  | .hbm, ⟨86, _⟩ => ⟨S2048x256, .f32⟩
  | .hbm, ⟨87, _⟩ => ⟨S256x2048, .f32⟩
  | .hbm, ⟨88, _⟩ => ⟨S8192x2048, .f32⟩
  | .hbm, ⟨89, _⟩ => ⟨S_, .f32⟩
  | .hbm, ⟨90, _⟩ => ⟨S2048, .f32⟩
  | .hbm, ⟨91, _⟩ => ⟨S1x2048, .f32⟩
  | .hbm, ⟨92, _⟩ => ⟨S8192x2048, .f32⟩
  | .hbm, ⟨93, _⟩ => ⟨S8192x2048, .f32⟩
  | .hbm, ⟨94, _⟩ => ⟨S_, .f32⟩
  | .hbm, ⟨95, _⟩ => ⟨S2048, .f32⟩
  | .hbm, ⟨96, _⟩ => ⟨S8192x2048, .f32⟩
  | .hbm, ⟨97, _⟩ => ⟨S_, .f32⟩
  | .hbm, ⟨98, _⟩ => ⟨S8192, .f32⟩
  | .hbm, ⟨99, _⟩ => ⟨S8192x1, .f32⟩
  | .hbm, ⟨100, _⟩ => ⟨S8192x2048, .f32⟩
  | .hbm, ⟨101, _⟩ => ⟨S8192x2048, .f32⟩
  | .hbm, ⟨102, _⟩ => ⟨S8192x1, .f32⟩
  | .hbm, ⟨103, _⟩ => ⟨S_, .f32⟩
  | .hbm, ⟨104, _⟩ => ⟨S8192x1, .f32⟩
  | .hbm, ⟨105, _⟩ => ⟨S8192x1, .f32⟩
  | .hbm, ⟨106, _⟩ => ⟨S_, .f32⟩
  | .hbm, ⟨107, _⟩ => ⟨S8192, .f32⟩
  | .hbm, ⟨108, _⟩ => ⟨S8192x2048, .f32⟩
  | .hbm, ⟨109, _⟩ => ⟨S8192x2048, .f32⟩
  | .hbm, ⟨110, _⟩ => ⟨S8192x2048, .f32⟩
  | .hbm, ⟨111, _⟩ => ⟨S8192x2048, .f32⟩
  | .hbm, ⟨112, _⟩ => ⟨S8192x2048, .f32⟩
  | .hbm, ⟨113, _⟩ => ⟨S8192x2048, .f32⟩
  | .hbm, ⟨114, _⟩ => ⟨S8192x2048, .bf16⟩
  | .hbm, ⟨115, _⟩ => ⟨S8192x2048, .bf16⟩
  | .hbm, ⟨116, _⟩ => ⟨S8192x2048, .bf16⟩
  | .hbm, ⟨117, _⟩ => ⟨S256x4x512, .f32⟩
  | .hbm, ⟨118, _⟩ => ⟨S4x256x512, .f32⟩
  | .hbm, ⟨119, _⟩ => ⟨S8x2048, .f32⟩
  | .hbm, ⟨120, _⟩ => ⟨S8x128, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_cst_12 : Ref sig .tc := ⟨.hbm, 72, rfl⟩
abbrev main_cst_13 : Ref sig .tc := ⟨.hbm, 73, rfl⟩
abbrev main_v51 : Ref sig .tc := ⟨.hbm, 74, rfl⟩
abbrev main_v52 : Ref sig .tc := ⟨.hbm, 75, rfl⟩
abbrev main_cst_14 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_15 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_16 : Ref sig .tc := ⟨.hbm, 94, rfl⟩
abbrev main_v69 : Ref sig .tc := ⟨.hbm, 95, rfl⟩
abbrev main_v70 : Ref sig .tc := ⟨.hbm, 96, rfl⟩
abbrev main_cst_17 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_18 : Ref sig .tc := ⟨.hbm, 103, rfl⟩
abbrev main_v76 : Ref sig .tc := ⟨.hbm, 104, rfl⟩
abbrev main_v77 : Ref sig .tc := ⟨.hbm, 105, rfl⟩
abbrev main_cst_19 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩

abbrev nD : Nat := 1
abbrev τ : Topo := Topo.v7x

variable {F : FTy → Type} [FloatOps F]
-- ==== Kernel4.lean ====
abbrev S1x8192x2048 : Shape := ⟨3, ![1, 8192, 2048]⟩
abbrev S1x2048 : Shape := ⟨2, ![1, 2048]⟩
abbrev S1x2048x1280 : Shape := ⟨3, ![1, 2048, 1280]⟩
abbrev S8192x2048 : Shape := ⟨2, ![8192, 2048]⟩
abbrev S2048x1280 : Shape := ⟨2, ![2048, 1280]⟩
abbrev S_ : Shape := ⟨0, ![]⟩
abbrev S8x128 : Shape := ⟨2, ![8, 128]⟩
abbrev S8192x1280 : Shape := ⟨2, ![8192, 1280]⟩
abbrev S2048x8192 : Shape := ⟨2, ![2048, 8192]⟩
abbrev S256x2048 : Shape := ⟨2, ![256, 2048]⟩
abbrev S256x1280 : Shape := ⟨2, ![256, 1280]⟩
abbrev S2048x256 : Shape := ⟨2, ![2048, 256]⟩
abbrev S256 : Shape := ⟨1, ![256]⟩
abbrev S256x1 : Shape := ⟨2, ![256, 1]⟩

abbrev nBuf : Space → Nat
  | .hbm => 10
  | .vmem => 12
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S1x2048x1280, .f32⟩
  | .hbm, ⟨3, _⟩ => ⟨S8192x2048, .f32⟩
  | .hbm, ⟨4, _⟩ => ⟨S2048x1280, .f32⟩
  | .hbm, ⟨5, _⟩ => ⟨S_, .f32⟩
  | .hbm, ⟨6, _⟩ => ⟨S8x128, .f32⟩
  | .hbm, ⟨7, _⟩ => ⟨S8192x2048, .bf16⟩
  | .hbm, ⟨8, _⟩ => ⟨S8192x1280, .bf16⟩
  | .hbm, ⟨9, _⟩ => ⟨S2048x8192, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x1280, .f32⟩
  | .local _ .vmem, ⟨4, _⟩ => ⟨S8x128, .f32⟩
  | .local _ .vmem, ⟨5, _⟩ => ⟨S256x2048, .bf16⟩
  | .local _ .vmem, ⟨6, _⟩ => ⟨S256x2048, .bf16⟩
  | .local _ .vmem, ⟨7, _⟩ => ⟨S256x1280, .bf16⟩
  | .local _ .vmem, ⟨8, _⟩ => ⟨S256x1280, .bf16⟩
  | .local _ .vmem, ⟨9, _⟩ => ⟨S2048x256, .bf16⟩
  | .local _ .vmem, ⟨10, _⟩ => ⟨S2048x256, .bf16⟩
  | .local _ .vmem, ⟨11, _⟩ => ⟨S2048x1280, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S1x8192x2048 : Shape := ⟨3, ![1, 8192, 2048]⟩
abbrev S1x2048 : Shape := ⟨2, ![1, 2048]⟩
abbrev S1x2048x1280 : Shape := ⟨3, ![1, 2048, 1280]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x1280 : Shape := ⟨2, ![2048, 1280]⟩
abbrev S8192x1280 : Shape := ⟨2, ![8192, 1280]⟩
abbrev S2048x8192 : Shape := ⟨2, ![2048, 8192]⟩

abbrev nBuf : Space → Nat
  | .hbm => 27
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S1x2048x1280, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x2048, .bf16⟩
  | .hbm, ⟨22, _⟩ => ⟨S2048x1280, .f32⟩
  | .hbm, ⟨23, _⟩ => ⟨S8192x1280, .f32⟩
  | .hbm, ⟨24, _⟩ => ⟨S8192x1280, .bf16⟩
  | .hbm, ⟨25, _⟩ => ⟨S2048x8192, .f32⟩
  | .hbm, ⟨26, _⟩ => ⟨S2048x8192, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel5.lean ====
abbrev S1x8192x2048 : Shape := ⟨3, ![1, 8192, 2048]⟩
abbrev S1x2048 : Shape := ⟨2, ![1, 2048]⟩
abbrev S8192x5120 : Shape := ⟨2, ![8192, 5120]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x8192 : Shape := ⟨2, ![2048, 8192]⟩
abbrev S8x128 : Shape := ⟨2, ![8, 128]⟩
abbrev S4x2x1024x1280 : Shape := ⟨4, ![4, 2, 1024, 1280]⟩
abbrev S1024x2048 : Shape := ⟨2, ![1024, 2048]⟩
abbrev S2048x1280 : Shape := ⟨2, ![2048, 1280]⟩
abbrev S1x1x1024x1280 : Shape := ⟨4, ![1, 1, 1024, 1280]⟩
abbrev S1024x1280 : Shape := ⟨2, ![1024, 1280]⟩

abbrev nBuf : Space → Nat
  | .hbm => 26
  | .vmem => 7
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S8192x5120, .bf16⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S2048x8192, .f32⟩
  | .hbm, ⟨22, _⟩ => ⟨S2048x8192, .bf16⟩
  | .hbm, ⟨23, _⟩ => ⟨S_, .f32⟩
  | .hbm, ⟨24, _⟩ => ⟨S8x128, .f32⟩
  | .hbm, ⟨25, _⟩ => ⟨S4x2x1024x1280, .f32⟩
  | .local _ .vmem, ⟨0, _⟩ => ⟨S1024x2048, .bf16⟩
  | .local _ .vmem, ⟨1, _⟩ => ⟨S1024x2048, .bf16⟩
  | .local _ .vmem, ⟨2, _⟩ => ⟨S2048x1280, .bf16⟩
  | .local _ .vmem, ⟨3, _⟩ => ⟨S2048x1280, .bf16⟩
  | .local _ .vmem, ⟨4, _⟩ => ⟨S8x128, .f32⟩
  | .local _ .vmem, ⟨5, _⟩ => ⟨S1x1x1024x1280, .f32⟩
  | .local _ .vmem, ⟨6, _⟩ => ⟨S1x1x1024x1280, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1x1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S1x8192x2048 : Shape := ⟨3, ![1, 8192, 2048]⟩
abbrev S1x2048 : Shape := ⟨2, ![1, 2048]⟩
abbrev S8192x5120 : Shape := ⟨2, ![8192, 5120]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x5120 : Shape := ⟨2, ![2048, 5120]⟩
abbrev S5120x2048 : Shape := ⟨2, ![5120, 2048]⟩
abbrev S2x1024x4x1280 : Shape := ⟨4, ![2, 1024, 4, 1280]⟩
abbrev S4x2x1024x1280 : Shape := ⟨4, ![4, 2, 1024, 1280]⟩

abbrev nBuf : Space → Nat
  | .hbm => 29
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S8192x5120, .bf16⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S2048x5120, .f32⟩
  | .hbm, ⟨23, _⟩ => ⟨S8192x5120, .f32⟩
  | .hbm, ⟨24, _⟩ => ⟨S8192x5120, .f32⟩
  | .hbm, ⟨25, _⟩ => ⟨S5120x2048, .f32⟩
  | .hbm, ⟨26, _⟩ => ⟨S2048x5120, .f32⟩
  | .hbm, ⟨27, _⟩ => ⟨S2x1024x4x1280, .f32⟩
  | .hbm, ⟨28, _⟩ => ⟨S4x2x1024x1280, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel6.lean ====
abbrev S1x2048x1280 : Shape := ⟨3, ![1, 2048, 1280]⟩
abbrev S2048x1280 : Shape := ⟨2, ![2048, 1280]⟩
abbrev S_ : Shape := ⟨0, ![]⟩
abbrev S8x128 : Shape := ⟨2, ![8, 128]⟩
abbrev S512x1280 : Shape := ⟨2, ![512, 1280]⟩

abbrev nBuf : Space → Nat
  | .hbm => 13
  | .vmem => 17
  | .smem => 0
  | _ => 0

abbrev bufTy : (tb : Table) → Fin (tcTables nBuf tb) → BufTy
  | .hbm, ⟨0, _⟩ => ⟨S1x2048x1280, .f32⟩
  | .hbm, ⟨1, _⟩ => ⟨S2048x1280, .f32⟩
  | .hbm, ⟨2, _⟩ => ⟨S1x2048x1280, .f32⟩
  | .hbm, ⟨3, _⟩ => ⟨S1x2048x1280, .f32⟩
  | .hbm, ⟨4, _⟩ => ⟨S2048x1280, .f32⟩
  | .hbm, ⟨5, _⟩ => ⟨S2048x1280, .f32⟩
  | .hbm, ⟨6, _⟩ => ⟨S2048x1280, .f32⟩
  | .hbm, ⟨7, _⟩ => ⟨S_, .f32⟩
  | .hbm, ⟨8, _⟩ => ⟨S8x128, .f32⟩
  | .hbm, ⟨9, _⟩ => ⟨S2048x1280, .f32⟩
  | .hbm, ⟨10, _⟩ => ⟨S2048x1280, .f32⟩
  | .hbm, ⟨11, _⟩ => ⟨S2048x1280, .f32⟩
  | .hbm, ⟨12, _⟩ => ⟨S2048x1280, .f32⟩
  | .local _ .vmem, ⟨0, _⟩ => ⟨S512x1280, .f32⟩
  | .local _ .vmem, ⟨1, _⟩ => ⟨S512x1280, .f32⟩
  | .local _ .vmem, ⟨2, _⟩ => ⟨S512x1280, .f32⟩
  | .local _ .vmem, ⟨3, _⟩ => ⟨S512x1280, .f32⟩
  | .local _ .vmem, ⟨4, _⟩ => ⟨S512x1280, .f32⟩
  | .local _ .vmem, ⟨5, _⟩ => ⟨S512x1280, .f32⟩
  | .local _ .vmem, ⟨6, _⟩ => ⟨S512x1280, .f32⟩
  | .local _ .vmem, ⟨7, _⟩ => ⟨S512x1280, .f32⟩
  | .local _ .vmem, ⟨8, _⟩ => ⟨S8x128, .f32⟩
  | .local _ .vmem, ⟨9, _⟩ => ⟨S512x1280, .f32⟩
  | .local _ .vmem, ⟨10, _⟩ => ⟨S512x1280, .f32⟩
  | .local _ .vmem, ⟨11, _⟩ => ⟨S512x1280, .f32⟩
  | .local _ .vmem, ⟨12, _⟩ => ⟨S512x1280, .f32⟩
  | .local _ .vmem, ⟨13, _⟩ => ⟨S512x1280, .f32⟩
  | .local _ .vmem, ⟨14, _⟩ => ⟨S512x1280, .f32⟩
  | .local _ .vmem, ⟨15, _⟩ => ⟨S512x1280, .f32⟩
  | .local _ .vmem, ⟨16, _⟩ => ⟨S512x1280, .f32⟩
  | _, _ => ⟨S1x2048x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1280 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S1x2048x1280 : Shape := ⟨3, ![1, 2048, 1280]⟩
abbrev S2048x1280 : Shape := ⟨2, ![2048, 1280]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x2048x1280, .f32⟩
  | .hbm, ⟨1, _⟩ => ⟨S2048x1280, .f32⟩
  | .hbm, ⟨2, _⟩ => ⟨S1x2048x1280, .f32⟩
  | .hbm, ⟨3, _⟩ => ⟨S1x2048x1280, .f32⟩
  | .hbm, ⟨4, _⟩ => ⟨S2048x1280, .f32⟩
  | .hbm, ⟨5, _⟩ => ⟨S_, .f32⟩
  | .hbm, ⟨6, _⟩ => ⟨S2048x1280, .f32⟩
  | .hbm, ⟨7, _⟩ => ⟨S2048x1280, .f32⟩
  | .hbm, ⟨8, _⟩ => ⟨S_, .f32⟩
  | .hbm, ⟨9, _⟩ => ⟨S2048x1280, .f32⟩
  | .hbm, ⟨10, _⟩ => ⟨S2048x1280, .f32⟩
  | .hbm, ⟨11, _⟩ => ⟨S2048x1280, .f32⟩
  | .hbm, ⟨12, _⟩ => ⟨S2048x1280, .f32⟩
  | .hbm, ⟨13, _⟩ => ⟨S_, .f32⟩
  | .hbm, ⟨14, _⟩ => ⟨S2048x1280, .f32⟩
  | .hbm, ⟨15, _⟩ => ⟨S2048x1280, .f32⟩
  | .hbm, ⟨16, _⟩ => ⟨S2048x1280, .f32⟩
  | .hbm, ⟨17, _⟩ => ⟨S_, .f32⟩
  | .hbm, ⟨18, _⟩ => ⟨S2048x1280, .f32⟩
  | .hbm, ⟨19, _⟩ => ⟨S2048x1280, .f32⟩
  | .hbm, ⟨20, _⟩ => ⟨S2048x1280, .f32⟩
  | .hbm, ⟨21, _⟩ => ⟨S_, .f32⟩
  | .hbm, ⟨22, _⟩ => ⟨S2048x1280, .f32⟩
  | .hbm, ⟨23, _⟩ => ⟨S2048x1280, .f32⟩
  | .hbm, ⟨24, _⟩ => ⟨S_, .f32⟩
  | .hbm, ⟨25, _⟩ => ⟨S2048x1280, .f32⟩
  | .hbm, ⟨26, _⟩ => ⟨S2048x1280, .f32⟩
  | .hbm, ⟨27, _⟩ => ⟨S2048x1280, .f32⟩
  | .hbm, ⟨28, _⟩ => ⟨S_, .f32⟩
  | .hbm, ⟨29, _⟩ => ⟨S2048x1280, .f32⟩
  | .hbm, ⟨30, _⟩ => ⟨S2048x1280, .f32⟩
  | .hbm, ⟨31, _⟩ => ⟨S2048x1280, .f32⟩
  | .hbm, ⟨32, _⟩ => ⟨S2048x1280, .f32⟩
  | .hbm, ⟨33, _⟩ => ⟨S_, .f32⟩
  | .hbm, ⟨34, _⟩ => ⟨S2048x1280, .f32⟩
  | .hbm, ⟨35, _⟩ => ⟨S2048x1280, .f32⟩
  | .hbm, ⟨36, _⟩ => ⟨S2048x1280, .f32⟩
  | .hbm, ⟨37, _⟩ => ⟨S_, .f32⟩
  | .hbm, ⟨38, _⟩ => ⟨S2048x1280, .f32⟩
  | .hbm, ⟨39, _⟩ => ⟨S2048x1280, .f32⟩
  | _, _ => ⟨S1x2048x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel7.lean ====
abbrev S1024x1280 : Shape := ⟨2, ![1024, 1280]⟩
abbrev S3x1024x1280 : Shape := ⟨3, ![3, 1024, 1280]⟩
abbrev S_ : Shape := ⟨0, ![]⟩
abbrev S1 : Shape := ⟨1, ![1]⟩
abbrev S2x1024x1280 : Shape := ⟨3, ![2, 1024, 1280]⟩
abbrev S512x1280 : Shape := ⟨2, ![512, 1280]⟩
abbrev S3x512x1280 : Shape := ⟨3, ![3, 512, 1280]⟩
abbrev S1x512x1280 : Shape := ⟨3, ![1, 512, 1280]⟩
abbrev S1x1024x1280 : Shape := ⟨3, ![1, 1024, 1280]⟩

abbrev nBuf : Space → Nat
  | .hbm => 6
  | .vmem => 6
  | .smem => 1
  | _ => 0

abbrev bufTy : (tb : Table) → Fin (tcTables nBuf tb) → BufTy
  | .hbm, ⟨0, _⟩ => ⟨S1024x1280, .f32⟩
  | .hbm, ⟨1, _⟩ => ⟨S3x1024x1280, .bf16⟩
  | .hbm, ⟨2, _⟩ => ⟨S_, .i32⟩
  | .hbm, ⟨3, _⟩ => ⟨S2x1024x1280, .f32⟩
  | .hbm, ⟨4, _⟩ => ⟨S1x1024x1280, .f32⟩
  | .hbm, ⟨5, _⟩ => ⟨S1024x1280, .f32⟩
  | .local _ .vmem, ⟨0, _⟩ => ⟨S512x1280, .f32⟩
  | .local _ .vmem, ⟨1, _⟩ => ⟨S512x1280, .f32⟩
  | .local _ .vmem, ⟨2, _⟩ => ⟨S3x512x1280, .bf16⟩
  | .local _ .vmem, ⟨3, _⟩ => ⟨S3x512x1280, .bf16⟩
  | .local _ .vmem, ⟨4, _⟩ => ⟨S1x512x1280, .f32⟩
  | .local _ .vmem, ⟨5, _⟩ => ⟨S1x512x1280, .f32⟩
  | .local _ .smem, ⟨0, _⟩ => ⟨S1, .i32⟩
  | _, _ => ⟨S1024x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

abbrev stage0_0 : Fin 2 → Memref sig .tc .vmem S512x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S1024x1280 : Shape := ⟨2, ![1024, 1280]⟩
abbrev S3x1024x1280 : Shape := ⟨3, ![3, 1024, 1280]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1280, .f32⟩
  | .hbm, ⟨1, _⟩ => ⟨S3x1024x1280, .bf16⟩
  | .hbm, ⟨2, _⟩ => ⟨S3x1024x1280, .f32⟩
  | .hbm, ⟨3, _⟩ => ⟨S_, .f32⟩
  | .hbm, ⟨4, _⟩ => ⟨S1024x1280, .f32⟩
  | .hbm, ⟨5, _⟩ => ⟨S1024x1280, .f32⟩
  | _, _ => ⟨S1024x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S8x2048 : Shape := ⟨2, ![8, 2048]⟩
abbrev S8x128 : Shape := ⟨2, ![8, 128]⟩
abbrev S_ : Shape := ⟨0, ![]⟩
abbrev S2 : Shape := ⟨1, ![2]⟩
abbrev S4x2x24x128 : Shape := ⟨4, ![4, 2, 24, 128]⟩
abbrev S1x1x24x128 : Shape := ⟨4, ![1, 1, 24, 128]⟩
abbrev S1 : Shape := ⟨1, ![1]⟩
abbrev S1x128 : Shape := ⟨2, ![1, 128]⟩
abbrev S1x1x1x128 : Shape := ⟨4, ![1, 1, 1, 128]⟩
abbrev S1x1x8x128 : Shape := ⟨4, ![1, 1, 8, 128]⟩
abbrev S24x128 : Shape := ⟨2, ![24, 128]⟩

abbrev nBuf : Space → Nat
  | .hbm => 6
  | .vmem => 3
  | .smem => 1
  | _ => 0

abbrev bufTy : (tb : Table) → Fin (tcTables nBuf tb) → BufTy
  | .hbm, ⟨0, _⟩ => ⟨S8x2048, .f32⟩
  | .hbm, ⟨1, _⟩ => ⟨S8x128, .f32⟩
  | .hbm, ⟨2, _⟩ => ⟨S_, .i32⟩
  | .hbm, ⟨3, _⟩ => ⟨S4x2x24x128, .f32⟩
  | .hbm, ⟨4, _⟩ => ⟨S1x1x24x128, .f32⟩
  | .hbm, ⟨5, _⟩ => ⟨S24x128, .f32⟩
  | .local _ .vmem, ⟨0, _⟩ => ⟨S8x2048, .f32⟩
  | .local _ .vmem, ⟨1, _⟩ => ⟨S8x128, .f32⟩
  | .local _ .vmem, ⟨2, _⟩ => ⟨S1x1x24x128, .f32⟩
  | .local _ .smem, ⟨0, _⟩ => ⟨S2, .i32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 4 → Nat :=
  let arg0 : BitVec 32 := BitVec.ofNat 32 (i 0).val
  let c0 : Index := 0#32
  let v0 : BitVec 32 := pf.at 0 (Rect.unit (s := S2) ![0] S1.size inb_S2_S1_0) numel1_S1
  let c1 : Index := 1#32
  let v1 : BitVec 32 := pf.at 0 (Rect.unit (s := S2) ![1] S1.size inb_S2_S1_1) numel1_S1
  let c0_i32 : BitVec 32 := 0#32
  let c0_i32_0 : BitVec 32 := 0#32
  let c0_i32_1 : BitVec 32 := 0#32
  ![v0.toNat, v1.toNat, c0_i32.toNat, c0_i32_0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x24x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference8Ideal.lean ====
abbrev S8x2048 : Shape := ⟨2, ![8, 2048]⟩
abbrev S8x128 : Shape := ⟨2, ![8, 128]⟩
abbrev S1x2048 : Shape := ⟨2, ![1, 2048]⟩
abbrev S2048 : Shape := ⟨1, ![2048]⟩
abbrev S16x128 : Shape := ⟨2, ![16, 128]⟩
abbrev S24x128 : Shape := ⟨2, ![24, 128]⟩

abbrev nBuf : Space → Nat
  | .hbm => 6
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x128, .f32⟩
  | .hbm, ⟨2, _⟩ => ⟨S1x2048, .f32⟩
  | .hbm, ⟨3, _⟩ => ⟨S2048, .f32⟩
  | .hbm, ⟨4, _⟩ => ⟨S16x128, .f32⟩
  | .hbm, ⟨5, _⟩ => ⟨S24x128, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.In.Rows.lean ====
module

public import proofs.«01_k».proof.Proof.Gen.KernelIdeal.Frame
public import Idealize.ShloMosaic.Lib.Pipeline.ValueKit
public import Idealize.ShloMosaic.Lib.Pipeline.ReadBack

/-! The two calls of the input projection's backward pass at one grid point: what each leaves in the gradient of the
rows and in the eight partial sums of the gradient of the norm's gain, as functions of the rows. -/

@[expose] public section

set_option maxRecDepth 16384

noncomputable section

namespace Cert.KernelIdeal.InVal

open Idealize.ShloMosaic Idealize.ShloMosaic.TcCoe Idealize.SL.Sem
open Idealize.ShloMosaic.Pipeline (Dat)
open Cert.KernelIdeal Cert.KernelIdeal.Gen

/-- The reciprocal root mean square of a row. -/
def rs (x : Fin 2048 → EReal) : EReal :=
  Ideal.rsqrt (Ideal.div (∑ k, x k * x k) (Ideal.ofBits FTy.f32 1157627904#32) + Ideal.ofBits FTy.f32 897988541#32)

/-- A row of the gradient of the input: `x` the row, `d` the gradient of the normalised row, `g` the gain, `h` the
residual's gradient. -/
def gxR (x d g h : Fin 2048 → EReal) (n : Fin 2048) : EReal :=
  h n + rs x * (d n * g n - x n * rs x * Ideal.div (∑ k, d k * g k * (x k * rs x)) (Ideal.ofBits FTy.f32 1157627904#32))

/-- A row's term of the gain's gradient. -/
def gpR (x d : Fin 2048 → EReal) (n : Fin 2048) : EReal := d n * (x n * rs x)

/-- A row of the gradient of the normalised row: the product with the four blocks of the weight. -/
def dhR (z : Fin 5120 → EReal) (W : S4x2048x1280.Idx → EReal) (n : Fin 2048) : EReal :=
  (((∑ k : Fin 1280, z ⟨k.val, by omega⟩ * W (ix3 0 n k)) + ∑ k : Fin 1280, z ⟨1280 + k.val, by omega⟩ * W (ix3 1 n k))
    + ∑ k : Fin 1280, z ⟨2560 + k.val, by omega⟩ * W (ix3 2 n k)) + ∑ k : Fin 1280, z ⟨3840 + k.val, by omega⟩ * W (ix3 3 n k)

/-- A load after a store of the whole array reads the stored vector. -/
theorem readCov_whole_ld {Val : EltTy → Type} [∀ e, Nonempty (Val e)] {sig : RefSig} {κ : Kind} {sp : Space} {e : EltTy} {m n : Nat}
    (v : View sig κ sp (⟨2, ![m, n]⟩ : Shape) e) (inb) (P : (⟨2, ![m, n]⟩ : Shape).Idx → Val e) (L : List (View.Piece Val (⟨2, ![m, n]⟩ : Shape) e))
    (r : Rect (⟨2, ![m, n]⟩ : Shape)) :
    v.readCov ((⟨Rect.unit (s := (⟨2, ![m, n]⟩ : Shape)) ![0, 0] ![m, n] inb, P⟩ : View.Piece Val (⟨2, ![m, n]⟩ : Shape) e) :: L) r.toLoadRect
      = View.ld P r := by
  rw [View.readCov_eq_canon', View.canon_cons_unit_zero (S := (⟨2, ![m, n]⟩ : Shape)) (off := ![0, 0]) (by funext a; fin_cases a <;> rfl) inb P L]

variable (V : (c : Dev nD) → (b : Ref sig .tc) → Buf (Elt Ideal) ((c : Thread nD τ).loc b))

/-! ## Region 0 -/

/-- The product kept in scratch, at one row and column. -/
theorem prod0 (c : Dev nD) (t : Fin cfg0.N) (r : Fin 256) (n : Fin 2048) :
    k0_pay6 (F := Ideal) (View.ld (iblk0 V c 0 t) (Rect.unit ![0, 0] ![256, 1280] inb_S256x5120_S256x1280_0_0))
      (View.ld (iblk0 V c 1 t) (Rect.unit ![0, 0, 0] ![1, 2048, 1280] inb_S4x2048x1280_S1x2048x1280_0_0_0))
      (View.ld (iblk0 V c 0 t) (Rect.unit ![0, 1280] ![256, 1280] inb_S256x5120_S256x1280_0_1280))
      (View.ld (iblk0 V c 1 t) (Rect.unit ![1, 0, 0] ![1, 2048, 1280] inb_S4x2048x1280_S1x2048x1280_1_0_0))
      (View.ld (iblk0 V c 0 t) (Rect.unit ![0, 2560] ![256, 1280] inb_S256x5120_S256x1280_0_2560))
      (View.ld (iblk0 V c 1 t) (Rect.unit ![2, 0, 0] ![1, 2048, 1280] inb_S4x2048x1280_S1x2048x1280_2_0_0))
      (View.ld (iblk0 V c 0 t) (Rect.unit ![0, 3840] ![256, 1280] inb_S256x5120_S256x1280_0_3840))
      (View.ld (iblk0 V c 1 t) (Rect.unit ![3, 0, 0] ![1, 2048, 1280] inb_S4x2048x1280_S1x2048x1280_3_0_0)) (ix2 r n)
      = dhR (fun k => iblk0 V c 0 t (ix2 r k)) (iblk0 V c 1 t) n := by
  generalize iblk0 V c 0 t = x0
  generalize iblk0 V c 1 t = x1
  pointwise [k0_pay6, dhR]

/-- A row of the gradient of the input at a point, from the blocks the point reads. -/
def gxB0 (c : Dev nD) (t : Fin cfg0.N) (r : Fin 256) (n : Fin 2048) : EReal :=
  gxR (fun k => iblk0 V c 2 t (ix2 r k)) (dhR (fun k => iblk0 V c 0 t (ix2 r k)) (iblk0 V c 1 t))
    (fun k => iblk0 V c 4 t (ix2 0 k)) (fun k => iblk0 V c 3 t (ix2 r k)) n

/-- A row's term of the gain's gradient at a point. -/
def gpB0 (c : Dev nD) (t : Fin cfg0.N) (r : Fin 256) (n : Fin 2048) : EReal :=
  gpR (fun k => iblk0 V c 2 t (ix2 r k)) (dhR (fun k => iblk0 V c 0 t (ix2 r k)) (iblk0 V c 1 t)) n

/-- What a point adds to the eight partial sums. -/
def gpS0 (c : Dev nD) (t : Fin cfg0.N) (a : Fin 8) (n : Fin 2048) : EReal :=
  (∑ s : Fin 16, gpB0 V c t ⟨s.val * 8 + a.val, by omega⟩ n) + ∑ s : Fin 16, gpB0 V c t ⟨128 + (s.val * 8 + a.val), by omega⟩ n

theorem gx0_A (c : Dev nD) (t : Fin cfg0.N) (hA : t.val % 10 = 0) (y : S256x2048.Idx) :
    (outsAt0 V c t.val t.isLt).1 y = gxB0 V c t (y 0) (y 1) := by
  rw [outsAt0_A V c t hA]
  frame_out
  simp only [readCov_whole_ld]
  unfold gxB0
  have hP := prod0 V c t
  revert hP
  generalize k0_pay6 (F := Ideal) _ _ _ _ _ _ _ _ = D
  intro hP
  canon_tiles x h
  · idx_vars x
    idx_vars y
    pointwise [k0_pay1, k0_pay2, k0_pay3, k0_pay4, k0_pay5, k0_pay7, k0_pay8, k0_pay9, k0_pay10, k0_pay11, k0_pay12, k0_pay13, gxR, rs, hP]
    obtain ⟨v, hv⟩ := y0
    obtain ⟨w, hw⟩ := y1
    change v = _ at h0
    change w = _ at h1
    subst h0 h1
    rfl
  · idx_vars x
    idx_vars y
    pointwise [k0_pay1, k0_pay2, k0_pay3, k0_pay4, k0_pay5, k0_pay7, k0_pay8, k0_pay9, k0_pay10, k0_pay11, k0_pay12, k0_pay13, gxR, rs, hP]
    obtain ⟨v, hv⟩ := y0
    obtain ⟨w, hw⟩ := y1
    change v = _ at h0
    change w = _ at h1
    subst h0 h1
    rfl

theorem gp0_A (c : Dev nD) (t : Fin cfg0.N) (hA : t.val % 10 = 0) (a : Fin 8) (n : Fin 2048) :
    (outsAt0 V c t.val t.isLt).2 (ix2 a n) = gpS0 V c t a n := by
  rw [outsAt0_A V c t hA]
  frame_out
  simp only [readCov_whole_ld]
  unfold gpS0 gpB0
  have hP := prod0 V c t
  revert hP
  generalize k0_pay6 (F := Ideal) _ _ _ _ _ _ _ _ = D
  intro hP
  pointwise [k0_pay1, k0_pay2, k0_pay3, k0_pay4, k0_pay5, k0_pay7, k0_pay8, k0_pay9, k0_pay10, k0_pay11, k0_pay12, k0_pay13, gpR, rs, hP]
  try simp only [add_assoc]

theorem gx0_B (c : Dev nD) (t : Fin cfg0.N) (hA : ¬t.val % 10 = 0) (y : S256x2048.Idx) :
    (outsAt0 V c t.val t.isLt).1 y = gxB0 V c t (y 0) (y 1) := by
  rw [outsAt0_B V c t hA]
  frame_out
  simp only [readCov_whole_ld]
  unfold gxB0
  have hP := prod0 V c t
  revert hP
  generalize k0_pay6 (F := Ideal) _ _ _ _ _ _ _ _ = D
  intro hP
  canon_tiles x h
  · idx_vars x
    idx_vars y
    pointwise [k0_pay1, k0_pay2, k0_pay3, k0_pay4, k0_pay5, k0_pay7, k0_pay8, k0_pay9, k0_pay10, k0_pay11, k0_pay12, k0_pay13, gxR, rs, hP]
    obtain ⟨v, hv⟩ := y0
    obtain ⟨w, hw⟩ := y1
    change v = _ at h0
    change w = _ at h1
    subst h0 h1
    rfl
  · idx_vars x
    idx_vars y
    pointwise [k0_pay1, k0_pay2, k0_pay3, k0_pay4, k0_pay5, k0_pay7, k0_pay8, k0_pay9, k0_pay10, k0_pay11, k0_pay12, k0_pay13, gxR, rs, hP]
    obtain ⟨v, hv⟩ := y0
    obtain ⟨w, hw⟩ := y1
    change v = _ at h0
    change w = _ at h1
    subst h0 h1
    rfl

theorem gp0_B (c : Dev nD) (t : Fin cfg0.N) (hA : ¬t.val % 10 = 0) (a : Fin 8) (n : Fin 2048) :
    (outsAt0 V c t.val t.isLt).2 (ix2 a n) = (outsAt0 V c (t.val - 1) (Nat.lt_of_le_of_lt (Nat.sub_le _ _) t.isLt)).2 (ix2 a n) + gpS0 V c t a n := by
  rw [outsAt0_B V c t hA]
  frame_out
  simp only [readCov_whole_ld]
  unfold gpS0 gpB0
  have hP := prod0 V c t
  revert hP
  generalize k0_pay6 (F := Ideal) _ _ _ _ _ _ _ _ = D
  intro hP
  pointwise [k0_pay1, k0_pay2, k0_pay3, k0_pay4, k0_pay5, k0_pay7, k0_pay8, k0_pay9, k0_pay10, k0_pay11, k0_pay12, k0_pay13, gpR, rs, hP]
  try simp only [add_assoc]

/-! ## Region 1 -/

/-- The product kept in scratch, at one row and column. -/
theorem prod1 (c : Dev nD) (t : Fin cfg1.N) (r : Fin 256) (n : Fin 2048) :
    k1_pay2 (F := Ideal) (View.ld (iblk1 V c 0 t) (Rect.unit ![0, 0] ![256, 1280] inb_S256x5120_S256x1280_0_0))
      (View.ld (iblk1 V c 1 t) (Rect.unit ![0, 0, 0] ![1, 2048, 1280] inb_S4x2048x1280_S1x2048x1280_0_0_0))
      (View.ld (iblk1 V c 0 t) (Rect.unit ![0, 1280] ![256, 1280] inb_S256x5120_S256x1280_0_1280))
      (View.ld (iblk1 V c 1 t) (Rect.unit ![1, 0, 0] ![1, 2048, 1280] inb_S4x2048x1280_S1x2048x1280_1_0_0))
      (View.ld (iblk1 V c 0 t) (Rect.unit ![0, 2560] ![256, 1280] inb_S256x5120_S256x1280_0_2560))
      (View.ld (iblk1 V c 1 t) (Rect.unit ![2, 0, 0] ![1, 2048, 1280] inb_S4x2048x1280_S1x2048x1280_2_0_0))
      (View.ld (iblk1 V c 0 t) (Rect.unit ![0, 3840] ![256, 1280] inb_S256x5120_S256x1280_0_3840))
      (View.ld (iblk1 V c 1 t) (Rect.unit ![3, 0, 0] ![1, 2048, 1280] inb_S4x2048x1280_S1x2048x1280_3_0_0)) (ix2 r n)
      = dhR (fun k => iblk1 V c 0 t (ix2 r k)) (iblk1 V c 1 t) n := by
  generalize iblk1 V c 0 t = x0
  generalize iblk1 V c 1 t = x1
  pointwise [k1_pay2, dhR]

/-- A row of the gradient of the input at a point, from the blocks the point reads. -/
def gxB1 (c : Dev nD) (t : Fin cfg1.N) (r : Fin 256) (n : Fin 2048) : EReal :=
  gxR (fun k => iblk1 V c 2 t (ix2 r k)) (dhR (fun k => iblk1 V c 0 t (ix2 r k)) (iblk1 V c 1 t))
    (fun k => iblk1 V c 4 t (ix2 0 k)) (fun k => iblk1 V c 3 t (ix2 r k)) n

/-- A row's term of the gain's gradient at a point. -/
def gpB1 (c : Dev nD) (t : Fin cfg1.N) (r : Fin 256) (n : Fin 2048) : EReal :=
  gpR (fun k => iblk1 V c 2 t (ix2 r k)) (dhR (fun k => iblk1 V c 0 t (ix2 r k)) (iblk1 V c 1 t)) n

/-- What a point adds to the eight partial sums. -/
def gpS1 (c : Dev nD) (t : Fin cfg1.N) (a : Fin 8) (n : Fin 2048) : EReal :=
  (∑ s : Fin 16, gpB1 V c t ⟨s.val * 8 + a.val, by omega⟩ n) + ∑ s : Fin 16, gpB1 V c t ⟨128 + (s.val * 8 + a.val), by omega⟩ n

/-- What the call before left in the eight partial sums. -/
def prv1 (c : Dev nD) (t : Fin cfg1.N) (a : Fin 8) (n : Fin 2048) : EReal := iblk1 V c 6 t (ix2 a n)

theorem gx1_A (c : Dev nD) (t : Fin cfg1.N) (hA : t.val % 22 = 0) (hB : ¬t.val % 22 = 21) (y : S256x2048.Idx) :
    (outsAt1 V c t.val t.isLt).1 y = gxB1 V c t (y 0) (y 1) := by
  rw [outsAt1_A V c t hA hB]
  frame_out
  simp only [readCov_whole_ld]
  unfold gxB1
  have hP := prod1 V c t
  revert hP
  generalize k1_pay2 (F := Ideal) _ _ _ _ _ _ _ _ = D
  intro hP
  canon_tiles x h
  · idx_vars x
    idx_vars y
    pointwise [k1_pay1, k1_pay3, k1_pay4, k1_pay5, k1_pay6, k1_pay7, k1_pay8, k1_pay9, k1_pay10, k1_pay11, k1_pay12, k1_pay13, k1_pay14, gxR, rs, hP]
    obtain ⟨v, hv⟩ := y0
    obtain ⟨w, hw⟩ := y1
    change v = _ at h0
    change w = _ at h1
    subst h0 h1
    rfl
  · idx_vars x
    idx_vars y
    pointwise [k1_pay1, k1_pay3, k1_pay4, k1_pay5, k1_pay6, k1_pay7, k1_pay8, k1_pay9, k1_pay10, k1_pay11, k1_pay12, k1_pay13, k1_pay14, gxR, rs, hP]
    obtain ⟨v, hv⟩ := y0
    obtain ⟨w, hw⟩ := y1
    change v = _ at h0
    change w = _ at h1
    subst h0 h1
    rfl

theorem gp1_A (c : Dev nD) (t : Fin cfg1.N) (hA : t.val % 22 = 0) (hB : ¬t.val % 22 = 21) (a : Fin 8) (n : Fin 2048) :
    (outsAt1 V c t.val t.isLt).2 (ix2 a n) = prv1 V c t a n + gpS1 V c t a n := by
  rw [outsAt1_A V c t hA hB]
  frame_out
  simp only [readCov_whole_ld]
  unfold gpS1 gpB1 prv1
  have hP := prod1 V c t
  revert hP
  generalize k1_pay2 (F := Ideal) _ _ _ _ _ _ _ _ = D
  intro hP
  pointwise [k1_pay1, k1_pay3, k1_pay4, k1_pay5, k1_pay6, k1_pay7, k1_pay8, k1_pay9, k1_pay10, k1_pay11, k1_pay12, k1_pay13, k1_pay14, gpR, rs, hP]
  try simp only [add_assoc]

theorem gx1_B (c : Dev nD) (t : Fin cfg1.N) (hA : ¬t.val % 22 = 0) (hB : ¬t.val % 22 = 21) (y : S256x2048.Idx) :
    (outsAt1 V c t.val t.isLt).1 y = gxB1 V c t (y 0) (y 1) := by
  rw [outsAt1_B V c t hA hB]
  frame_out
  simp only [readCov_whole_ld]
  unfold gxB1
  have hP := prod1 V c t
  revert hP
  generalize k1_pay2 (F := Ideal) _ _ _ _ _ _ _ _ = D
  intro hP
  canon_tiles x h
  · idx_vars x
    idx_vars y
    pointwise [k1_pay1, k1_pay3, k1_pay4, k1_pay5, k1_pay6, k1_pay7, k1_pay8, k1_pay9, k1_pay10, k1_pay11, k1_pay12, k1_pay13, k1_pay14, gxR, rs, hP]
    obtain ⟨v, hv⟩ := y0
    obtain ⟨w, hw⟩ := y1
    change v = _ at h0
    change w = _ at h1
    subst h0 h1
    rfl
  · idx_vars x
    idx_vars y
    pointwise [k1_pay1, k1_pay3, k1_pay4, k1_pay5, k1_pay6, k1_pay7, k1_pay8, k1_pay9, k1_pay10, k1_pay11, k1_pay12, k1_pay13, k1_pay14, gxR, rs, hP]
    obtain ⟨v, hv⟩ := y0
    obtain ⟨w, hw⟩ := y1
    change v = _ at h0
    change w = _ at h1
    subst h0 h1
    rfl

theorem gp1_B (c : Dev nD) (t : Fin cfg1.N) (hA : ¬t.val % 22 = 0) (hB : ¬t.val % 22 = 21) (a : Fin 8) (n : Fin 2048) :
    (outsAt1 V c t.val t.isLt).2 (ix2 a n) = (outsAt1 V c (t.val - 1) (Nat.lt_of_le_of_lt (Nat.sub_le _ _) t.isLt)).2 (ix2 a n) + gpS1 V c t a n := by
  rw [outsAt1_B V c t hA hB]
  frame_out
  simp only [readCov_whole_ld]
  unfold gpS1 gpB1
  have hP := prod1 V c t
  revert hP
  generalize k1_pay2 (F := Ideal) _ _ _ _ _ _ _ _ = D
  intro hP
  pointwise [k1_pay1, k1_pay3, k1_pay4, k1_pay5, k1_pay6, k1_pay7, k1_pay8, k1_pay9, k1_pay10, k1_pay11, k1_pay12, k1_pay13, k1_pay14, gpR, rs, hP]
  try simp only [add_assoc]

theorem gx1_C (c : Dev nD) (t : Fin cfg1.N) (hA : ¬t.val % 22 = 0) (hB : t.val % 22 = 21) (y : S256x2048.Idx) :
    (outsAt1 V c t.val t.isLt).1 y = gxB1 V c t (y 0) (y 1) := by
  rw [outsAt1_C V c t hA hB]
  frame_out
  simp only [readCov_whole_ld]
  unfold gxB1
  have hP := prod1 V c t
  revert hP
  generalize k1_pay2 (F := Ideal) _ _ _ _ _ _ _ _ = D
  intro hP
  canon_tiles x h
  · idx_vars x
    idx_vars y
    pointwise [k1_pay1, k1_pay3, k1_pay4, k1_pay5, k1_pay6, k1_pay7, k1_pay8, k1_pay9, k1_pay10, k1_pay11, k1_pay12, k1_pay13, k1_pay14, gxR, rs, hP]
    obtain ⟨v, hv⟩ := y0
    obtain ⟨w, hw⟩ := y1
    change v = _ at h0
    change w = _ at h1
    subst h0 h1
    rfl
  · idx_vars x
    idx_vars y
    pointwise [k1_pay1, k1_pay3, k1_pay4, k1_pay5, k1_pay6, k1_pay7, k1_pay8, k1_pay9, k1_pay10, k1_pay11, k1_pay12, k1_pay13, k1_pay14, gxR, rs, hP]
    obtain ⟨v, hv⟩ := y0
    obtain ⟨w, hw⟩ := y1
    change v = _ at h0
    change w = _ at h1
    subst h0 h1
    rfl

theorem gp1_C (c : Dev nD) (t : Fin cfg1.N) (hA : ¬t.val % 22 = 0) (hB : t.val % 22 = 21) (a : Fin 8) (n : Fin 2048) :
    (outsAt1 V c t.val t.isLt).2 (ix2 a n) = ∑ b : Fin 8, ((outsAt1 V c (t.val - 1) (Nat.lt_of_le_of_lt (Nat.sub_le _ _) t.isLt)).2 (ix2 b n) + gpS1 V c t b n) := by
  rw [outsAt1_C V c t hA hB]
  frame_out
  simp only [readCov_whole_ld]
  unfold gpS1 gpB1
  have hP := prod1 V c t
  revert hP
  generalize k1_pay2 (F := Ideal) _ _ _ _ _ _ _ _ = D
  intro hP
  pointwise [k1_pay1, k1_pay3, k1_pay4, k1_pay5, k1_pay6, k1_pay7, k1_pay8, k1_pay9, k1_pay10, k1_pay11, k1_pay12, k1_pay13, k1_pay14, gpR, rs, hP]
  try simp only [add_assoc]

end Cert.KernelIdeal.InVal
end
-- ==== Proof.In.Final.lean ====
module

public import proofs.«01_k».proof.Proof.In.Rows

/-! The arrays the two calls of the input projection's backward pass leave. -/

@[expose] public section

set_option maxRecDepth 16384

noncomputable section

namespace Cert.KernelIdeal.InVal

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The blocks a point reads -/

theorem idx0 : ∀ t : Fin cfg0.N, win0_0.index t = ![t.val, 0] ∧ win0_1.index t = ![0, 0, 0] ∧ win0_2.index t = ![t.val, 0]
    ∧ win0_3.index t = ![t.val, 0] ∧ win0_4.index t = ![0, 0] ∧ win0_6.index t = ![t.val, 0] :=
  (by decide +kernel : ∀ t : Fin grid0.N, _)

theorem idx1 : ∀ t : Fin cfg1.N, win1_0.index t = ![10 + t.val, 0] ∧ win1_1.index t = ![0, 0, 0] ∧ win1_2.index t = ![10 + t.val, 0]
    ∧ win1_3.index t = ![10 + t.val, 0] ∧ win1_4.index t = ![0, 0] ∧ win1_6.index t = ![0, 0] ∧ win1_7.index t = ![10 + t.val, 0] :=
  (by decide +kernel : ∀ t : Fin grid1.N, _)

theorem lt0 (t : Fin cfg0.N) : t.val < 10 := lt_of_lt_of_eq t.isLt N_0
theorem lt1 (t : Fin cfg1.N) : t.val < 22 := lt_of_lt_of_eq t.isLt N_1

/-- The arrays by rows: the input, the gradient of the projection's result, the residual's gradient, the gain. -/
def rowX (c : Dev nD) (R : Fin 8192) (k : Fin 2048) : EReal := V c main_v0 (ix2 R k)
def rowZ (c : Dev nD) (R : Fin 8192) (k : Fin 5120) : EReal := V c main_arg3 (ix2 R k)
def rowH (c : Dev nD) (R : Fin 8192) (k : Fin 2048) : EReal := V c main_arg4 (ix2 R k)
def gain (c : Dev nD) (k : Fin 2048) : EReal := V c main_arg1 (ix2 0 k)

/-- The row of the arrays that row `r` of a point's block is. -/
def at0 (t : Fin cfg0.N) (r : Fin 256) : Fin 8192 := ⟨256 * t.val + r.val, by have := lt0 t; omega⟩
def at1 (t : Fin cfg1.N) (r : Fin 256) : Fin 8192 := ⟨2560 + (256 * t.val + r.val), by have := lt1 t; omega⟩

theorem rd0_0 (c : Dev nD) (t : Fin cfg0.N) (r : Fin 256) (k : Fin 5120) :
    iblk0 V c 0 t (ix2 r k) = rowZ V c (at0 t r) k := by
  unfold rowZ at0
  blk_point [iblk0, idx0 t]
theorem rd0_2 (c : Dev nD) (t : Fin cfg0.N) (r : Fin 256) (k : Fin 2048) :
    iblk0 V c 2 t (ix2 r k) = rowX V c (at0 t r) k := by
  unfold rowX at0
  blk_point [iblk0, idx0 t]
theorem rd0_3 (c : Dev nD) (t : Fin cfg0.N) (r : Fin 256) (k : Fin 2048) :
    iblk0 V c 3 t (ix2 r k) = rowH V c (at0 t r) k := by
  unfold rowH at0
  blk_point [iblk0, idx0 t]
theorem rd0_1 (c : Dev nD) (t : Fin cfg0.N) : iblk0 V c 1 t = V c main_v4 := by
  funext y
  blk_point [iblk0, idx0 t]
theorem rd0_4 (c : Dev nD) (t : Fin cfg0.N) (k : Fin 2048) : iblk0 V c 4 t (ix2 0 k) = gain V c k := by
  unfold gain
  blk_point [iblk0, idx0 t]
theorem rd1_0 (c : Dev nD) (t : Fin cfg1.N) (r : Fin 256) (k : Fin 5120) :
    iblk1 V c 0 t (ix2 r k) = rowZ V c (at1 t r) k := by
  unfold rowZ at1
  blk_point [iblk1, idx1 t]
theorem rd1_2 (c : Dev nD) (t : Fin cfg1.N) (r : Fin 256) (k : Fin 2048) :
    iblk1 V c 2 t (ix2 r k) = rowX V c (at1 t r) k := by
  unfold rowX at1
  blk_point [iblk1, idx1 t]
theorem rd1_3 (c : Dev nD) (t : Fin cfg1.N) (r : Fin 256) (k : Fin 2048) :
    iblk1 V c 3 t (ix2 r k) = rowH V c (at1 t r) k := by
  unfold rowH at1
  blk_point [iblk1, idx1 t]
theorem rd1_1 (c : Dev nD) (t : Fin cfg1.N) : iblk1 V c 1 t = V c main_v4 := by
  funext y
  blk_point [iblk1, idx1 t]
theorem rd1_4 (c : Dev nD) (t : Fin cfg1.N) (k : Fin 2048) : iblk1 V c 4 t (ix2 0 k) = gain V c k := by
  unfold gain
  blk_point [iblk1, idx1 t]
/-- The eight partial sums the first call leaves. -/
def part (c : Dev nD) (b : Fin 8) (k : Fin 2048) : EReal := V c main_v6_1 (ix2 b k)

theorem rd1_6 (c : Dev nD) (t : Fin cfg1.N) (r : Fin 8) (k : Fin 2048) :
    prv1 V c t r k = part V c r k := by
  unfold prv1 part
  blk_point [iblk1, idx1 t]

/-- A row of the gradient of the input, and a row's term of the gain's gradient, from the arrays. -/
def gxA (c : Dev nD) (R : Fin 8192) (n : Fin 2048) : EReal :=
  gxR (rowX V c R) (dhR (rowZ V c R) (V c main_v4)) (gain V c) (rowH V c R) n
def gpA (c : Dev nD) (R : Fin 8192) (n : Fin 2048) : EReal := gpR (rowX V c R) (dhR (rowZ V c R) (V c main_v4)) n

theorem gxB0_eq (c : Dev nD) (t : Fin cfg0.N) (r : Fin 256) (n : Fin 2048) : gxB0 V c t r n = gxA V c (at0 t r) n := by
  unfold gxB0 gxA
  simp only [rd0_0, rd0_1, rd0_2, rd0_3, rd0_4]
theorem gpB0_eq (c : Dev nD) (t : Fin cfg0.N) (r : Fin 256) (n : Fin 2048) : gpB0 V c t r n = gpA V c (at0 t r) n := by
  unfold gpB0 gpA
  simp only [rd0_0, rd0_1, rd0_2]
theorem gxB1_eq (c : Dev nD) (t : Fin cfg1.N) (r : Fin 256) (n : Fin 2048) : gxB1 V c t r n = gxA V c (at1 t r) n := by
  unfold gxB1 gxA
  simp only [rd1_0, rd1_1, rd1_2, rd1_3, rd1_4]
theorem gpB1_eq (c : Dev nD) (t : Fin cfg1.N) (r : Fin 256) (n : Fin 2048) : gpB1 V c t r n = gpA V c (at1 t r) n := by
  unfold gpB1 gpA
  simp only [rd1_0, rd1_1, rd1_2]

theorem gx0 (c : Dev nD) (t : Fin cfg0.N) (y : S256x2048.Idx) : (outsAt0 V c t.val t.isLt).1 y = gxB0 V c t (y 0) (y 1) := by
  by_cases hA : t.val % 10 = 0
  · exact gx0_A V c t hA y
  · exact gx0_B V c t hA y
theorem gx1 (c : Dev nD) (t : Fin cfg1.N) (y : S256x2048.Idx) : (outsAt1 V c t.val t.isLt).1 y = gxB1 V c t (y 0) (y 1) := by
  by_cases hA : t.val % 22 = 0
  · exact gx1_A V c t hA (by omega) y
  · by_cases hB : t.val % 22 = 21
    · exact gx1_C V c t hA hB y
    · exact gx1_B V c t hA hB y

/-! ## The rows' gradient -/

theorem final0_gx (c : Dev nD) : (dat0 V c).arrAt 6 cfg0.N
    = fun i => if (i 0 : ℕ) < 2560 then gxA V c (i 0) (i 1) else V c main_v6_0 i := by
  refine (dat0 V c).arrAt_eq_of_coversWhere 6 (fun i => gxA V c (i 0) (i 1)) (P := fun i => (i 0 : ℕ) < 2560) (fun β => β 0 < 10) (by decide +kernel) (fun t hf y => ?_)
    (fun j => by blk_simp [Pipeline.Window.cell_apply]; omega)
  blk_simp
  rw [after0_6]
  refine (gx0 V c t y).trans ((gxB0_eq V c t _ _).trans ?_)
  exact congrArg₂ (gxA V c) (Fin.ext (by blk_simp [idx0 t, at0]; show 256 * t.val + (y 0).val = t.val * 256 + (y 0).val; omega)) (Fin.ext (by blk_simp [idx0 t]))

theorem final1_gx (c : Dev nD) : (dat1 V c).arrAt 7 cfg1.N
    = fun i => if 2560 ≤ (i 0 : ℕ) then gxA V c (i 0) (i 1) else V c main_v7_0 i := by
  refine (dat1 V c).arrAt_eq_of_coversWhere 7 (fun i => gxA V c (i 0) (i 1)) (P := fun i => 2560 ≤ (i 0 : ℕ)) (fun β => 10 ≤ β 0) (by decide +kernel) (fun t hf y => ?_)
    (fun j => by blk_simp [Pipeline.Window.cell_apply]; omega)
  blk_simp
  rw [after1_7]
  refine (gx1 V c t y).trans ((gxB1_eq V c t _ _).trans ?_)
  exact congrArg₂ (gxA V c) (Fin.ext (by blk_simp [idx1 t, at1]; show 2560 + (256 * t.val + (y 0).val) = (10 + t.val) * 256 + (y 0).val; omega)) (Fin.ext (by blk_simp [idx1 t]))

/-! ## The gain's gradient -/

theorem acc0 (c : Dev nD) (a : Fin 8) (k : Fin 2048) : ∀ (n : ℕ) (h : n < cfg0.N),
    (outsAt0 V c n h).2 (ix2 a k) = ∑ t : Fin (n + 1), gpS0 V c ⟨t.val, by omega⟩ a k
  | 0, h => by rw [gp0_A V c ⟨0, h⟩ rfl]; rw [Fin.sum_univ_one]; rfl
  | n + 1, h => by
    have : n + 1 < 10 := lt0 ⟨n + 1, h⟩
    rw [gp0_B V c ⟨n + 1, h⟩ (by show ¬(n + 1) % 10 = 0; omega), Fin.sum_univ_castSucc]
    exact congrArg (· + gpS0 V c ⟨n + 1, h⟩ a k) (acc0 c a k n (by omega))

theorem acc1 (c : Dev nD) (a : Fin 8) (k : Fin 2048) : ∀ (n : ℕ) (h : n < cfg1.N), n < 21 →
    (outsAt1 V c n h).2 (ix2 a k) = part V c a k + ∑ t : Fin (n + 1), gpS1 V c ⟨t.val, by omega⟩ a k
  | 0, h, _ => by
    rw [gp1_A V c ⟨0, h⟩ rfl (by show ¬0 % 22 = 21; omega)]; rw [Fin.sum_univ_one, rd1_6]; rfl
  | n + 1, h, hn => by
    have : n + 1 < 22 := lt1 ⟨n + 1, h⟩
    rw [gp1_B V c ⟨n + 1, h⟩ (by show ¬(n + 1) % 22 = 0; omega) (by show ¬(n + 1) % 22 = 21; omega), Fin.sum_univ_castSucc, ← add_assoc]
    exact congrArg (· + gpS1 V c ⟨n + 1, h⟩ a k) (acc1 c a k n (by omega) (by omega))

theorem final0_gp (c : Dev nD) : (dat0 V c).arrAt 7 cfg0.N = fun j => ∑ t : Fin cfg0.N, gpS0 V c t (j 0) (j 1) := by
  refine (dat0 V c).arrAt_eq_of_after_last 7 t0_9 (by decide +kernel) _ fun j => ?_
  idx_vars j
  blk_simp
  rw [after0_7]
  refine (acc0 V c j0 j1 9 t0_9.isLt).trans ?_
  rfl

/-- The last point of the second call. -/
def t1_21 : Fin cfg1.N := ⟨21, by rw [show cfg1.N = 22 from N_1]; decide⟩

theorem final1_gp (c : Dev nD) : (dat1 V c).arrAt 8 cfg1.N
    = fun j => ∑ b : Fin 8, (part V c b (j 1) + ∑ t : Fin cfg1.N, gpS1 V c t b (j 1)) := by
  refine (dat1 V c).arrAt_eq_of_after_last 8 t1_21 (by decide +kernel) _ fun j => ?_
  idx_vars j
  blk_simp
  rw [after1_8]
  refine (gp1_C V c t1_21 (by decide +kernel) (by decide +kernel) j0 j1).trans ?_
  refine Finset.sum_congr rfl fun b _ => ?_
  refine (congrArg (· + gpS1 V c t1_21 b j1) (acc1 V c b j1 20 _ (by omega))).trans ?_
  rw [add_assoc]
  refine congrArg (_ + ·) ?_
  exact (Fin.sum_univ_castSucc (n := 21) fun t : Fin 22 => gpS1 V c ⟨t.val, lt_of_lt_of_eq t.isLt N_1.symm⟩ b j1).symm

/-- The sums over tiles, halves and groups of eight rows, put together over all the rows. -/
theorem sum_rows (f : Fin 8192 → EReal) :
    ∑ b : Fin 8, ((∑ t : Fin 10, ((∑ s : Fin 16, f ⟨256 * t.val + (s.val * 8 + b.val), by omega⟩)
        + ∑ s : Fin 16, f ⟨256 * t.val + (128 + (s.val * 8 + b.val)), by omega⟩))
      + ∑ t : Fin 22, ((∑ s : Fin 16, f ⟨2560 + (256 * t.val + (s.val * 8 + b.val)), by omega⟩)
        + ∑ s : Fin 16, f ⟨2560 + (256 * t.val + (128 + (s.val * 8 + b.val))), by omega⟩)) = ∑ R, f R := by
  have h8 : ∀ (g : Fin 128 → EReal), ∑ q, g q = ∑ b : Fin 8, ∑ s : Fin 16, g ⟨s.val * 8 + b.val, by omega⟩ := fun g => by
    rw [Fin.sum_univ_tiles 16 8 rfl g, Finset.sum_comm]
  have h256 : ∀ (g : Fin 256 → EReal), ∑ q, g q = ∑ b : Fin 8, ((∑ s : Fin 16, g ⟨s.val * 8 + b.val, by omega⟩)
      + ∑ s : Fin 16, g ⟨128 + (s.val * 8 + b.val), by omega⟩) := fun g => by
    rw [Finset.sum_add_distrib, ← h8 fun q => g ⟨q.val, by omega⟩, ← h8 fun q => g ⟨128 + q.val, by omega⟩]
    exact Fin.sum_univ_add (a := 128) (b := 128) g
  rw [Finset.sum_add_distrib, Finset.sum_comm, Finset.sum_comm (s := Finset.univ (α := Fin 8)) (t := Finset.univ (α := Fin 22))]
  have e0 : ∀ t : Fin 10, _ := fun t => (h256 fun q => f ⟨256 * t.val + q.val, by omega⟩).symm
  have e1 : ∀ t : Fin 22, _ := fun t => (h256 fun q => f ⟨2560 + (256 * t.val + q.val), by omega⟩).symm
  rw [Finset.sum_congr rfl fun t _ => e0 t, Finset.sum_congr rfl fun t _ => e1 t]
  have e2 := Fin.sum_univ_tiles 10 256 rfl fun q : Fin 2560 => f ⟨q.val, by omega⟩
  have e3 := Fin.sum_univ_tiles 22 256 rfl fun q : Fin 5632 => f ⟨2560 + q.val, by omega⟩
  simp only [Nat.mul_comm _ 256] at e2 e3
  rw [← e2, ← e3]
  exact (Fin.sum_univ_add (a := 2560) (b := 5632) f).symm

end Cert.KernelIdeal.InVal
end
-- ==== Proof.In.Run.lean ====
module

public import proofs.«01_k».proof.Proof.In.Final

/-! The kernel's run: its two results from the arguments. -/

@[expose] public section

set_option maxRecDepth 16384

noncomputable section

namespace Cert.KernelIdeal.InVal

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)
open Cert.KernelIdeal Cert.KernelIdeal.Gen

variable (m : (ℓ : Loc nD τ sig) → Buf (Elt Ideal) ℓ) (ρ : Dev nD → PrngReg)

/-! ## The arrays as the first call finds them -/

theorem W1_v0 (c : Dev nD) (R : Fin 8192) (k : Fin 2048) :
    W1 m ρ c (Proc.devRef .tc main_v0) (ix2 R k) = m ((c : Thread nD τ).loc main_arg0) (ix3 0 R k) := by
  show StableHlo.after hostOps0 (W0 m ρ c) (Proc.devRef .tc main_v0) (ix2 R k) = _
  after_results
  pointwise []
  try rfl

theorem W1_v4 (c : Dev nD) (j : Fin 4) (n : Fin 2048) (k : Fin 1280) :
    W1 m ρ c (Proc.devRef .tc main_v4) (ix3 j n k) = m ((c : Thread nD τ).loc main_arg2) (ix3 0 n ⟨j.val * 1280 + k.val, by omega⟩) := by
  show StableHlo.after hostOps0 (W0 m ρ c) (Proc.devRef .tc main_v4) (ix3 j n k) = _
  after_results
  pointwise []
  try rfl

/-! ## The second call's view of the same arrays -/

/-- The rows' functions read five arrays only. -/
theorem gxA_congr {V V' : (c : Dev nD) → (b : Ref sig .tc) → Buf (Elt Ideal) ((c : Thread nD τ).loc b)} (c : Dev nD)
    (h0 : V c main_v0 = V' c main_v0) (h3 : V c main_arg3 = V' c main_arg3) (h4 : V c main_arg4 = V' c main_arg4)
    (h1 : V c main_arg1 = V' c main_arg1) (hw : V c main_v4 = V' c main_v4) : gxA V c = gxA V' c := by
  funext R n
  unfold gxA rowX rowZ rowH gain
  rw [h0, h3, h4, h1, hw]
theorem gpA_congr {V V' : (c : Dev nD) → (b : Ref sig .tc) → Buf (Elt Ideal) ((c : Thread nD τ).loc b)} (c : Dev nD)
    (h0 : V c main_v0 = V' c main_v0) (h3 : V c main_arg3 = V' c main_arg3) (hw : V c main_v4 = V' c main_v4) : gpA V c = gpA V' c := by
  funext R n
  unfold gpA rowX rowZ
  rw [h0, h3, hw]

theorem keep (c : Dev nD) (r : Ref sig .tc) (h : r ∉ hostOps1_W) (h' : ∀ w : Fin cfg0.W, Pipeline.arrRef spec0 w = r → (cfg0.win w).isOut = false) :
    V3 m ρ c r = V1 m ρ c r := (W3_of m ρ c r h).trans (W2_of m ρ c r h')

theorem gxA_13 (c : Dev nD) : gxA (V3 m ρ) c = gxA (V1 m ρ) c :=
  gxA_congr c (keep m ρ c main_v0 (by decide) (by decide)) (keep m ρ c main_arg3 (by decide) (by decide)) (keep m ρ c main_arg4 (by decide) (by decide))
    (keep m ρ c main_arg1 (by decide) (by decide)) (keep m ρ c main_v4 (by decide) (by decide))
theorem gpA_13 (c : Dev nD) : gpA (V3 m ρ) c = gpA (V1 m ρ) c :=
  gpA_congr c (keep m ρ c main_v0 (by decide) (by decide)) (keep m ρ c main_arg3 (by decide) (by decide)) (keep m ρ c main_v4 (by decide) (by decide))

/-- The second call starts from a copy of the first call's rows. -/
theorem V3_v7_0 (c : Dev nD) : V3 m ρ c main_v7_0 = (dat0 (V1 m ρ) c).arrAt 6 cfg0.N := by
  refine Eq.trans ?_ (W2_arr m ρ c 6)
  show StableHlo.after hostOps1 (W2 m ρ c) (Proc.devRef .tc main_v7_0) = _
  after_results
  rfl
theorem V3_v6_1 (c : Dev nD) : V3 m ρ c main_v6_1 = (dat0 (V1 m ρ) c).arrAt 7 cfg0.N :=
  (W3_of m ρ c main_v6_1 (by decide)).trans (W2_arr m ρ c 7)

/-! ## The results -/

theorem W4_v7_0 (c : Dev nD) : W4 m ρ c (Proc.devRef .tc main_v7_0) = fun i => gxA (V1 m ρ) c (i 0) (i 1) := by
  refine (W4_arr m ρ c 7).trans ?_
  rw [final1_gx, gxA_13]
  funext i
  show (if 2560 ≤ (i 0 : ℕ) then gxA (V1 m ρ) c (i 0) (i 1) else V3 m ρ c main_v7_0 i) = _
  split
  · rfl
  · rename_i h
    rw [V3_v7_0, final0_gx]
    exact if_pos (by omega)

theorem gp_sum (c : Dev nD) (n : Fin 2048) :
    ∑ b : Fin 8, (part (V3 m ρ) c b n + ∑ t : Fin cfg1.N, gpS1 (V3 m ρ) c t b n) = ∑ R, gpA (V1 m ρ) c R n := by
  refine Eq.trans ?_ (sum_rows fun R => gpA (V1 m ρ) c R n)
  refine Finset.sum_congr rfl fun b _ => congrArg₂ (· + ·) ?_ ?_
  · refine (congrFun ((V3_v6_1 m ρ c).trans (final0_gp _ c)) (ix2 b n)).trans ?_
    show ∑ t : Fin cfg0.N, gpS0 (V1 m ρ) c t b n = _
    refine (Fin.sum_congr' _ N_0.symm).symm.trans ?_
    refine Finset.sum_congr rfl fun t _ => ?_
    unfold gpS0
    simp only [gpB0_eq]
    rfl
  · refine (Fin.sum_congr' _ N_1.symm).symm.trans ?_
    refine Finset.sum_congr rfl fun t _ => ?_
    unfold gpS1
    simp only [gpB1_eq, gpA_13]
    rfl

theorem W4_v7_1 (c : Dev nD) : W4 m ρ c (Proc.devRef .tc main_v7_1) = fun j => ∑ R, gpA (V1 m ρ) c R (j 1) := by
  refine (W4_arr m ρ c 8).trans ?_
  rw [final1_gp]
  funext j
  exact gp_sum m ρ c (j 1)

/-- THE RUN: the two results, the arguments kept. -/
theorem run : θ_run defs (onTc (τ := τ) (main (F := Ideal))) ⟨m, fun _ => 0, ρ⟩ (fun r => ∀ c : Dev nD,
      (r.2.mem ((c.tc : Thread nD τ).loc main_v7_0) = (fun i => gxA (V1 m ρ) c (i 0) (i 1))
      ∧ r.2.mem ((c.tc : Thread nD τ).loc main_v7_1) = (fun j => ∑ R, gpA (V1 m ρ) c R (j 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨⟨(h c _ (mem_uc main_v7_0 (by decide))).trans (W4_v7_0 m ρ c), (h c _ (mem_uc main_v7_1 (by decide))).trans (W4_v7_1 m ρ c)⟩,
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.InVal
end
-- ==== Proof.Reals.lean ====
module

public import Idealize.ShloMosaic.Lib.Pointwise
public import Idealize.ShloMosaic.Lib.IdealHost

/-! Finite extended reals as real numbers: the constants the programs carry, and the operations on coerced reals. -/

@[expose] public section

namespace Cert.Reals

open Idealize.ShloMosaic

theorem c2048 : Ideal.ofBits .f32 0x45000000#32 = ((2048 : ℝ) : EReal) := by
  simp [Ideal.ofBits, Ideal.ieee, -EReal.coe_mul]
  norm_num

/-- The norm's epsilon: the rational its float word denotes. -/
noncomputable def eps : ℝ := 8796093 / 2 ^ 43
theorem cEps : Ideal.ofBits .f32 0x358637BD#32 = ((eps : ℝ) : EReal) := by
  unfold eps
  simp [Ideal.ofBits, Ideal.ieee, -EReal.coe_mul]
  norm_num
theorem eps_pos : 0 < eps := by unfold eps; norm_num

theorem cNegHalf : Ideal.ofBits .f32 0xBF000000#32 = ((-(1 / 2) : ℝ) : EReal) := by
  simp [Ideal.ofBits, Ideal.ieee, -EReal.coe_mul, -EReal.coe_neg]
  norm_num

theorem cInf : Ideal.ofBits .f32 0x7F800000#32 = (⊤ : EReal) := by
  simp [Ideal.ofBits, Ideal.ieee]
theorem cInfB : Ideal.ofBits .bf16 0x7F80#16 = (⊤ : EReal) := by
  simp [Ideal.ofBits, Ideal.ieee]

/-- A value whose magnitude is below infinity is a real number. -/
theorem real_of_abs (x : EReal) (h : max x (-x) < ⊤) : ∃ r : ℝ, x = (r : EReal) := by
  induction x with
  | bot => simp at h
  | top => simp at h
  | coe r => exact ⟨r, rfl⟩

theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem div_real (x y : ℝ) (h : y ≠ 0) : Ideal.div (x : EReal) (y : EReal) = ((x / y : ℝ) : EReal) := by
  rw [Ideal.div_coe h, ← EReal.coe_mul]
  exact congrArg _ (by rw [mul_one_div])

theorem rsqrt_real (x : ℝ) (h : 0 < x) : Ideal.rsqrt (x : EReal) = (((Real.sqrt x)⁻¹ : ℝ) : EReal) := by
  rw [Ideal.rsqrt_coe, if_neg (not_lt.mpr h.le), if_neg h.ne']

/-- An entry whose absolute value compares below infinity is real. -/
theorem real_of_cmp (x : EReal) (h : (FloatOps.cmpf (F := Ideal) (φ := .f32) .olt (max x (-x) : EReal) (Ideal.ofBits FTy.f32 0x7F800000#32) : BitVec 1) = 1#1) : ∃ r : ℝ, x = r := by
  rw [cInf] at h
  by_cases hx : max x (-x) < ⊤
  · exact real_of_abs x hx
  · exact absurd h (by simp [FloatOps.cmpf, FloatOps.scalar, Ideal.cmp, hx])

/-- The same at the shorter format. -/
theorem real_of_cmpB (x : EReal) (h : (FloatOps.cmpf (F := Ideal) (φ := .bf16) .olt (max x (-x) : EReal) (Ideal.ofBits FTy.bf16 0x7F80#16) : BitVec 1) = 1#1) : ∃ r : ℝ, x = r := by
  rw [cInfB] at h
  by_cases hx : max x (-x) < ⊤
  · exact real_of_abs x hx
  · exact absurd h (by simp [FloatOps.cmpf, FloatOps.scalar, Ideal.cmp, hx])

end Cert.Reals
end
-- ==== Proof.In.Ref.lean ====
module

public import proofs.«01_k».proof.Proof.Gen.ReferenceIdeal.Read
public import proofs.«01_k».proof.Proof.Reals

/-! The reference's two results at an index, and the row identity that makes the kernel's rows equal to them. -/

@[expose] public section

set_option maxRecDepth 16384

noncomputable section

namespace Cert.ReferenceIdeal.InRef

open Idealize.ShloMosaic Idealize.ShloMosaic.TcCoe Idealize.SL.Sem
open Cert.ReferenceIdeal Cert.ReferenceIdeal.Value Cert.ReferenceIdeal.Read Cert.Reals

variable (x0 : S1x8192x2048.Idx → EReal) (x1 : S1x2048.Idx → EReal) (x2 : S1x2048x5120.Idx → EReal) (x3 : S8192x5120.Idx → EReal) (x4 : S8192x2048.Idx → EReal)

/-- A row of the gradient of the input as the reference writes it. -/
def gxRef (x d g h : Fin 2048 → EReal) (n : Fin 2048) : EReal :=
  let v := Ideal.div (∑ k, x k * x k) (Ideal.ofBits FTy.f32 1157627904#32) + Ideal.ofBits FTy.f32 897988541#32
  let s := Ideal.div ((∑ k, x k * (d k * g k)) * (Ideal.ofBits FTy.f32 3204448256#32 * Ideal.div (Ideal.rsqrt v) v)) (Ideal.ofBits FTy.f32 1157627904#32)
  h n + d n * g n * Ideal.rsqrt v + x n * s + s * x n

/-- A row's term of the gain's gradient as the reference writes it. -/
def gpRef (x d : Fin 2048 → EReal) (n : Fin 2048) : EReal :=
  x n * Ideal.rsqrt (Ideal.div (∑ k, x k * x k) (Ideal.ofBits FTy.f32 1157627904#32) + Ideal.ofBits FTy.f32 897988541#32) * d n

theorem ref_gx (R : Fin 8192) (n : Fin 2048) : val_main_v45 (F := Ideal) x0 x1 x2 x3 x4 (ix2 R n)
    = gxRef (fun k => x0 (ix3 0 R k)) (fun n => ∑ k, x3 (ix2 R k) * x2 (ix3 0 n k)) (fun n => x1 (ix2 0 n)) (fun n => x4 (ix2 R n)) n := by
  pointwise [val_main_v45, val_main_v44, val_main_v42, val_main_v41, val_main_v40, val_main_v39, val_main_v38, val_main_v37, val_main_v36, val_main_v35, val_main_v34, val_main_v33, val_main_v32, val_main_v31, val_main_v30, val_main_v29, val_main_v28, val_main_v26, val_main_v25, val_main_v21, val_main_v20, val_main_v18, val_main_v15, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_5, val_main_cst_6, val_main_cst_7]
  simp only [Fin.sum_univ_one]
  rfl

theorem ref_gp (a : Fin 8) (n : Fin 2048) : val_main_v46 (F := Ideal) x0 x2 x3 (ix2 a n)
    = ∑ R : Fin 8192, gpRef (fun k => x0 (ix3 0 R k)) (fun n => ∑ k, x3 (ix2 R k) * x2 (ix3 0 n k)) n := by
  pointwise [val_main_v46, val_main_v43, val_main_v27, val_main_v24, val_main_v23, val_main_v22, val_main_v21, val_main_v20, val_main_v18, val_main_v14, val_main_v13, val_main_v9, val_main_v8, val_main_v7, val_main_v6, val_main_v5, val_main_v4, val_main_v3, val_main_v2, val_main_v0, val_main_cst, val_main_cst_0, val_main_cst_1, val_main_cst_3, val_main_cst_4]
  simp only [Fin.sum_univ_one]
  rfl

end Cert.ReferenceIdeal.InRef
end
-- ==== Proof.In.Value.lean ====
module

public import proofs.«01_k».proof.Proof.In.Run
public import proofs.«01_k».proof.Proof.In.Ref
public import proofs.«01_k».proof.Defs
public import proofs.«01_k».proof.Proof.Gen.Pre_finite

/-! The kernel's rows against the reference's, for finite arrays. -/

@[expose] public section

set_option maxRecDepth 16384

noncomputable section

namespace Cert.InValue

open Idealize.ShloMosaic Idealize.ShloMosaic.TcCoe Idealize.SL.Sem
open Cert.KernelIdeal.InVal Cert.ReferenceIdeal.InRef Cert.Reals

/-- The mean square of a real row with the epsilon. -/
def vr (x : Fin 2048 → ℝ) : ℝ := (∑ k, x k * x k) / 2048 + eps
theorem vr_pos (x : Fin 2048 → ℝ) : 0 < vr x :=
  add_pos_of_nonneg_of_pos (div_nonneg (Finset.sum_nonneg fun k _ => mul_self_nonneg _) (by norm_num)) eps_pos

theorem v_eq (x : Fin 2048 → ℝ) :
    Ideal.div (∑ k, (x k : EReal) * (x k : EReal)) (Ideal.ofBits FTy.f32 1157627904#32) + Ideal.ofBits FTy.f32 897988541#32 = ((vr x : ℝ) : EReal) := by
  simp only [← EReal.coe_mul, coe_sum]
  rw [c2048, div_real _ _ (by norm_num), cEps, ← EReal.coe_add]
  rfl

/-- The two spellings of a row of the gradient agree on real rows. -/
theorem row_eq (x d g : Fin 2048 → ℝ) (h : Fin 2048 → EReal) (n : Fin 2048) :
    gxR (fun k => (x k : EReal)) (fun k => (d k : EReal)) (fun k => (g k : EReal)) h n
      = gxRef (fun k => (x k : EReal)) (fun k => (d k : EReal)) (fun k => (g k : EReal)) h n := by
  have hv := vr_pos x
  have hs : Real.sqrt (vr x) ≠ 0 := (Real.sqrt_pos.mpr hv).ne'
  have hq : Real.sqrt (vr x) * Real.sqrt (vr x) = vr x := Real.mul_self_sqrt hv.le
  unfold gxR gxRef rs
  simp only [v_eq]
  simp only [rsqrt_real _ hv, c2048, cNegHalf, div_real _ _ hv.ne', ← EReal.coe_mul, coe_sum, div_real _ _ (show (2048 : ℝ) ≠ 0 by norm_num),
    ← EReal.coe_sub, add_assoc, ← EReal.coe_add]
  congr 2
  generalize hS : Real.sqrt (vr x) = q at hs hq
  rw [← hq]
  have e1 : ∑ k, d k * g k * (x k * q⁻¹) = q⁻¹ * ∑ k, x k * (d k * g k) := by
    rw [Finset.mul_sum]
    exact Finset.sum_congr rfl fun k _ => by ring
  rw [e1]
  field_simp
  ring

theorem gp_eq (x d : Fin 2048 → EReal) (n : Fin 2048) : gpR x d n = gpRef x d n := by
  unfold gpR gpRef rs
  exact mul_comm _ _

/-- The four blocks' products are the whole product. -/
theorem dhR_eq (z : Fin 5120 → EReal) (W : Cert.KernelIdeal.S4x2048x1280.Idx → EReal) (w : Fin 2048 → Fin 5120 → EReal)
    (hW : ∀ (j : Fin 4) (n : Fin 2048) (k : Fin 1280), W (ix3 j n k) = w n ⟨j.val * 1280 + k.val, by omega⟩) (n : Fin 2048) :
    dhR z W n = ∑ k, z k * w n k := by
  unfold dhR
  rw [Fin.sum_univ_tiles 4 1280 rfl fun k => z k * w n k, Fin.sum_univ_four]
  simp only [hW]
  refine congrArg₂ (· + ·) (congrArg₂ (· + ·) (congrArg₂ (· + ·) ?_ ?_) ?_) ?_ <;>
    refine Finset.sum_congr rfl fun k _ => congrArg₂ (· * ·) (congrArg z (Fin.ext ?_)) rfl
  · show k.val = 0 * 1280 + k.val; omega
  · rfl
  · rfl
  · rfl

section

open Cert.KernelIdeal Cert.KernelIdeal.Gen

variable (m : (ℓ : Loc nD τ sig) → Buf (Elt Ideal) ℓ) (ρ : Dev nD → PrngReg) (c : Dev nD)

/-- The argument arrays as the launch finds them. -/
abbrev a0 : S1x8192x2048.Idx → EReal := m ((c : Thread nD τ).loc main_arg0)
abbrev a1 : S1x2048.Idx → EReal := m ((c : Thread nD τ).loc main_arg1)
abbrev a2 : S1x2048x5120.Idx → EReal := m ((c : Thread nD τ).loc main_arg2)
abbrev a3 : S8192x5120.Idx → EReal := m ((c : Thread nD τ).loc main_arg3)
abbrev a4 : S8192x2048.Idx → EReal := m ((c : Thread nD τ).loc main_arg4)

/-- The product's row as the reference forms it. -/
abbrev dRow (R : Fin 8192) (n : Fin 2048) : EReal := ∑ k : Fin 5120, a3 m c (ix2 R k) * a2 m c (ix3 0 n k)

theorem rowX_eq (R : Fin 8192) : rowX (V1 m ρ) c R = fun k => a0 m c (ix3 0 R k) := funext fun k => W1_v0 m ρ c R k
theorem gain_eq : gain (V1 m ρ) c = fun k => a1 m c (ix2 0 k) :=
  funext fun k => congrFun (W1_args m ρ c main_arg1 (by decide)) (ix2 0 k)
theorem rowH_eq (R : Fin 8192) : rowH (V1 m ρ) c R = fun k => a4 m c (ix2 R k) :=
  funext fun k => congrFun (W1_args m ρ c main_arg4 (by decide)) (ix2 R k)
theorem rowZ_eq (R : Fin 8192) : rowZ (V1 m ρ) c R = fun k => a3 m c (ix2 R k) :=
  funext fun k => congrFun (W1_args m ρ c main_arg3 (by decide)) (ix2 R k)
theorem dh_eq (R : Fin 8192) : dhR (rowZ (V1 m ρ) c R) (V1 m ρ c main_v4) = dRow m c R := by
  funext n
  rw [rowZ_eq]
  exact dhR_eq _ _ (fun n k => a2 m c (ix3 0 n k)) (fun j n k => W1_v4 m ρ c j n k) n

/-- The precondition's arrays are real. -/
theorem reals (h : Cert.Pre_KernelIdeal_finite m) : (∀ i, ∃ r : ℝ, a0 m c i = r) ∧ (∀ i, ∃ r : ℝ, a1 m c i = r) ∧ (∀ i, ∃ r : ℝ, a2 m c i = r) ∧ (∀ i, ∃ r : ℝ, a3 m c i = r) := by
  obtain ⟨h0, h1, h2, h3⟩ := h c
  exact ⟨fun i => real_of_cmp _ (congrFun h0 i), fun i => real_of_cmp _ (congrFun h1 i), fun i => real_of_cmp _ (congrFun h2 i), fun i => real_of_cmpB _ (congrFun h3 i)⟩

theorem gx_value (h : Cert.Pre_KernelIdeal_finite m) (R : Fin 8192) (n : Fin 2048) :
    gxA (V1 m ρ) c R n = Cert.ReferenceIdeal.Read.val_main_v45 (F := Ideal) (a0 m c) (a1 m c) (a2 m c) (a3 m c) (a4 m c) (ix2 R n) := by
  obtain ⟨h0, h1, h2, h3⟩ := reals m c h
  choose r0 h0 using h0
  choose r1 h1 using h1
  choose r2 h2 using h2
  choose r3 h3 using h3
  rw [ref_gx]
  unfold gxA
  rw [rowX_eq, gain_eq, rowH_eq, dh_eq]
  have hd : dRow m c R = fun n => ((∑ k : Fin 5120, r3 (ix2 R k) * r2 (ix3 0 n k) : ℝ) : EReal) := by
    funext n
    show ∑ k : Fin 5120, a3 m c (ix2 R k) * a2 m c (ix3 0 n k) = _
    simp only [h2, h3, ← EReal.coe_mul, coe_sum]
  show gxR _ _ _ _ _ = gxRef _ (dRow m c R) _ _ _
  rw [hd]
  simp only [h0, h1]
  exact row_eq (fun k => r0 (ix3 0 R k)) _ (fun k => r1 (ix2 0 k)) _ n

theorem gp_value (a : Fin 8) (n : Fin 2048) :
    ∑ R, gpA (V1 m ρ) c R n = Cert.ReferenceIdeal.Read.val_main_v46 (F := Ideal) (a0 m c) (a2 m c) (a3 m c) (ix2 a n) := by
  rw [ref_gp]
  refine Finset.sum_congr rfl fun R _ => ?_
  unfold gpA
  rw [rowX_eq, dh_eq]
  exact gp_eq _ _ _

end

end Cert.InValue
end
-- ==== Proof.Sm.Value.lean ====
module

public import proofs.«01_k».proof.Proof.Gen.Kernel7.Frame
public import proofs.«01_k».proof.Proof.Gen.Kernel7Ideal.Frame
public import proofs.«01_k».proof.Proof.Gen.Reference7Ideal.Read
public import proofs.«01_k».proof.Proof.Gen.Reference7Ideal.Run
public import proofs.«01_k».proof.Defs
public import Idealize.ShloMosaic.Lib.Pipeline.ValueKit
public import Idealize.ShloMosaic.Lib.Pipeline.ReadBack

/-! The sum of a gradient's parts over the chips: the block that the kernel writes is the sum of the four parts. -/

@[expose] public section

set_option maxRecDepth 16384

noncomputable section

namespace Cert.Kernel7.SmTab

open Idealize.ShloMosaic Idealize.ShloMosaic.TcCoe Idealize.SL Idealize.SL.Sem
open Cert.Kernel7 Cert.Kernel7.Gen

/-- The table's one word is zero. -/
def zT {F : FTy → Type} [FloatOps F] : pre0.Contents (Elt F) := fun | ⟨0, _⟩ => fun _ => (0#32 : BitVec 32) | ⟨_ + 1, h⟩ => absurd h (by simp)

theorem tbl_eq {F : FTy → Type} [FloatOps F] (m : (ℓ : Loc nD τ sig) → Buf (Elt F) ℓ) : tbl m = zT := by
  funext j x
  match j with
  | ⟨0, _⟩ =>
    show StableHlo.after hostOps0 _ (Proc.devRef .tc main_v0) x = _
    after_results
    rfl

theorem ok (m : (ℓ : Loc nD τ sig) → Buf (Elt Bits) ℓ) : Ok m := by
  unfold Ok; rw [tbl_eq m]; decide

end Cert.Kernel7.SmTab

namespace Cert.Kernel7Ideal.SmVal

open Idealize.ShloMosaic Idealize.ShloMosaic.TcCoe Idealize.SL Idealize.SL.Sem
open Idealize.ShloMosaic.Pipeline (Dat)
open Cert.Kernel7Ideal Cert.Kernel7Ideal.Gen

/-- The table's one word is zero. -/
def zT {F : FTy → Type} [FloatOps F] : pre0.Contents (Elt F) := fun | ⟨0, _⟩ => fun _ => (0#32 : BitVec 32) | ⟨_ + 1, h⟩ => absurd h (by simp)

theorem tbl_eq {F : FTy → Type} [FloatOps F] (m : (ℓ : Loc nD τ sig) → Buf (Elt F) ℓ) : tbl m = zT := by
  funext j x
  match j with
  | ⟨0, _⟩ =>
    show StableHlo.after hostOps0 _ (Proc.devRef .tc main_v0) x = _
    after_results
    rfl

theorem okB (m : (ℓ : Loc nD τ sig) → Buf (Elt Bits) ℓ) : Ok m := by
  unfold Ok; rw [tbl_eq m]; decide
theorem okz : ok0 (F := Ideal) zT := by decide
theorem ok (m : (ℓ : Loc nD τ sig) → Buf (Elt Ideal) ℓ) : Ok m := by
  unfold Ok; rw [tbl_eq m]; exact okz

/-- The result's blocks lie in the array's first half, one under the other. -/
theorem covers : ∀ a : (pcfg0 (F := Ideal)).Adm, a.1 = zT → ((cfg0 a).win 2).CoversWhere (fun β => β (0 : Fin 3) = 0)
  | ⟨_, h⟩, rfl => (by decide +kernel : ((cfg0 ⟨zT, okz⟩).win 2).CoversWhere (fun β => β (0 : Fin 3) = 0))
theorem idx2 : ∀ a : (pcfg0 (F := Ideal)).Adm, a.1 = zT → ∀ t : Fin (cfg0 a).N, ((cfg0 a).win 2).index t = ![0, t.val, 0]
  | ⟨_, h⟩, rfl => (by decide +kernel : ∀ t : Fin grid0.N, ((cfg0 ⟨zT, okz⟩).win 2).index t = ![0, t.val, 0])
theorem idx0 (a : (pcfg0 (F := Ideal)).Adm) : ∀ t : Fin (cfg0 a).N, ((cfg0 a).win 0).index t = ![t.val, 0] ∧ ((cfg0 a).win 1).index t = ![0, t.val, 0] :=
  (by decide +kernel : ∀ t : Fin grid0.N, cc0_transform_0 (grid0.coords t) = ![t.val, 0] ∧ cc0_transform_1 (grid0.coords t) = ![0, t.val, 0])

variable (m : (ℓ : Loc nD τ sig) → Buf (Elt Ideal) ℓ) (c : Dev nD)

/-- The device's own part, and the three received. -/
def oA (R : Fin 1024) (k : Fin 1280) : EReal := (m ((c : Thread nD τ).loc main_arg0) : S1024x1280.Idx → EReal) (ix2 R k)
def rA (j : Fin 3) (R : Fin 1024) (k : Fin 1280) : EReal := (m ((c : Thread nD τ).loc main_arg1) : S3x1024x1280.Idx → EReal) (ix3 j R k)
/-- Their sum. -/
def sA (R : Fin 1024) (k : Fin 1280) : EReal := oA m c R k + rA m c 0 R k + rA m c 1 R k + rA m c 2 R k

theorem pay_at (O : S512x1280.Idx → EReal) (A B C : S1x512x1280.Idx → EReal) (r : Fin 512) (k : Fin 1280) :
    k0_pay1 (F := Ideal) O A B C (ix3 0 r k) = O (ix2 r k) + A (ix3 0 r k) + B (ix3 0 r k) + C (ix3 0 r k) := by
  pointwise [k0_pay1]

theorem lt0 (t : Fin (cfgM m (ok m)).N) : t.val < 2 := lt_of_lt_of_eq t.isLt (by decide : grid0.N = 2)
/-- The row of the arrays that row `r` of a point's block is. -/
def at0 (t : Fin (cfgM m (ok m)).N) (r : Fin 512) : Fin 1024 := ⟨512 * t.val + r.val, by have := lt0 m t; omega⟩

theorem b0 (t : Fin (cfgM m (ok m)).N) (r : Fin 512) (k : Fin 1280) : (iblk m (ok m) c 0 t : S512x1280.Idx → EReal) (ix2 r k) = oA m c (at0 m t r) k := by
  refine Eq.trans ?_ (congrFun (V_main_arg0 m c) (ix2 (at0 m t r) k))
  unfold at0
  blk_point [iblk, idx0 _ t]
theorem b1 (t : Fin (cfgM m (ok m)).N) (j : Fin 3) (r : Fin 512) (k : Fin 1280) : (iblk m (ok m) c 1 t : S3x512x1280.Idx → EReal) (ix3 j r k) = rA m c j (at0 m t r) k := by
  refine Eq.trans ?_ (congrFun (V_main_arg1 m c) (ix3 j (at0 m t r) k))
  unfold at0
  blk_point [iblk, idx0 _ t]

theorem out_at (i : grid0.Coords) (p2 : Memref sig .tc .vmem S512x1280 .f32) (h2 : p2.IsWhole) (p3 : Memref sig .tc .vmem S3x512x1280 .bf16) (h3 : p3.IsWhole)
    (p4 : Memref sig .tc .vmem S1x512x1280 .f32) (h4 : p4.IsWhole) (O : S512x1280.Idx → EReal) (A : S3x512x1280.Idx → EReal) (T : TbBuf0 (F := Ideal) c tbM0_0) (r : Fin 512) (k : Fin 1280) :
    out0_A_2 (F := Ideal) c i p2 h2 p3 h3 p4 h4 O A T (ix3 0 r k) = O (ix2 r k) + A (ix3 0 r k) + A (ix3 1 r k) + A (ix3 2 r k) := by
  unfold out0_A_2
  frame_out
  refine (pay_at _ _ _ _ r k).trans ?_
  refine congrArg₂ (· + ·) (congrArg₂ (· + ·) (congrArg₂ (· + ·) rfl ?_) ?_) ?_
  all_goals
    refine congrArg A (funext fun a => Fin.ext ?_)
    match a with
    | ⟨0, _⟩ => rfl
    | ⟨1, _⟩ => exact (congrArg (0 + ·) (Nat.one_mul r.val)).trans (Nat.zero_add _)
    | ⟨2, _⟩ => exact (congrArg (0 + ·) (Nat.one_mul k.val)).trans (Nat.zero_add _)

theorem o2 (t : Fin (cfgM m (ok m)).N) (y : S1x512x1280.Idx) : outsAt0 m (ok m) c t y = sA m c (at0 m t (y 1)) (y 2) := by
  refine (congrArg (outsAt0 m (ok m) c t) ((eq_ix3 y).trans (congrArg (fun q => ix3 q (y 1) (y 2)) (Subsingleton.elim (α := Fin 1) (y 0) 0)))).trans ?_
  unfold outsAt0
  refine (out_at c _ _ _ _ _ _ _ _ _ _ (y 1) (y 2)).trans ?_
  unfold sA
  exact congrArg₂ (· + ·) (congrArg₂ (· + ·) (congrArg₂ (· + ·) (b0 m c t _ _) (b1 m c t 0 _ _)) (b1 m c t 1 _ _)) (b1 m c t 2 _ _)

theorem fin2 (R : Fin 1024) (k : Fin 1280) : (dats m (ok m) 0 c).arrAt 2 (cfgM m (ok m)).N (ix3 (0 : Fin 2) R k) = sA m c R k := by
  refine ((dats m (ok m) 0 c).arrAt_apply_of_coversWhere 2 (fun i : S2x1024x1280.Idx => sA m c (i 1) (i 2)) (P := fun i : S2x1024x1280.Idx => (i 0).val = 0) _ (covers _ (tbl_eq m)) (fun t hf y => ?_) (fun j => ?_) (ix3 (0 : Fin 2) R k)).trans (if_pos rfl)
  · blk_simp
    rw [after0_2]
    have e := idx2 _ (tbl_eq m) t
    refine (o2 m c t y).trans ?_
    exact congrArg₂ (sA m c) (Fin.ext (by blk_simp [e, at0]; show 512 * t.val + _ = t.val * 512 + _; omega)) (Fin.ext (by blk_simp [e]))
  · have q : ∀ j : S2x1024x1280.Idx, (j 0).val = 0 ↔ (j 0).val / 1 = 0 := fun j => by rw [Nat.div_one]
    exact q j

theorem tail_v3 (W : Valuation τ sig (Elt Ideal)) (R : Fin 1024) (k : Fin 1280) :
    (StableHlo.after hostOps1 W (Proc.devRef .tc main_v3) : S1024x1280.Idx → EReal) (ix2 R k) = (W (Proc.devRef .tc main_v1) : S2x1024x1280.Idx → EReal) (ix3 0 R k) := by
  after_results
  pointwise []
  try rfl

end Cert.Kernel7Ideal.SmVal

namespace Cert.Reference7Ideal.SmRef

open Idealize.ShloMosaic Idealize.ShloMosaic.TcCoe
open Cert.Reference7Ideal Cert.Reference7Ideal.Gen Cert.Reference7Ideal.Read

theorem zeroW : Ideal.ofBits .f32 0x00000000#32 = 0 := by
  simp [Ideal.ofBits, Ideal.ieee]

theorem sum_at (o : S1024x1280.Idx → EReal) (r : S3x1024x1280.Idx → EReal) (R : Fin 1024) (k : Fin 1280) :
    val_main_v2 (F := Ideal) o r (ix2 R k) = o (ix2 R k) + r (ix3 0 R k) + r (ix3 1 R k) + r (ix3 2 R k) := by
  rw [val_main_v2_apply, val_main_v1_apply]
  rw [Fin.sum_univ_three, show val_main_cst (F := Ideal) (Shape.Idx.first h_S_) = 0 from zeroW]
  show o (ix2 R k) + (0 + (r (idx_main_v1 (ix2 R k) 0) + r (idx_main_v1 (ix2 R k) 1) + r (idx_main_v1 (ix2 R k) 2))) = _
  rw [zero_add, ← add_assoc, ← add_assoc, eq_ix3 (idx_main_v1 (ix2 R k) 0), eq_ix3 (idx_main_v1 (ix2 R k) 1), eq_ix3 (idx_main_v1 (ix2 R k) 2)]
  rfl

end Cert.Reference7Ideal.SmRef

namespace Cert.Kernel7Ideal.SmVal

open Idealize.ShloMosaic Idealize.ShloMosaic.TcCoe Idealize.SL Idealize.SL.Sem
open Cert.Kernel7Ideal Cert.Kernel7Ideal.Gen

theorem rest_v3 : main_v3 ∈ Pipeline.restRefs sig spec0 := by decide
theorem arr_inj : Function.Injective (Pipeline.arrRef spec0) := by decide

/-- Every entry of the sum is the reference's. -/
theorem summed : Cert.algebraic_Kernel7Ideal_Reference7Ideal := by
  intro m g m' g' hpre heq
  refine ⟨fun c i => sA m c (i 0) (i 1),
    (θ_run _ _ _).mono (fun r h c => ?_) (θ_run_and (run_main m g (ok m)) (unchanged m g (ok m))), (θ_run _ _ _).mono (fun r h c => ?_) (Cert.Reference7Ideal.Value.run m' g')⟩
  · refine ⟨?_, h.2 c⟩
    refine ((h.1 c).2 main_v3 rest_v3).trans (funext fun i => ?_)
    rw [eq_ix2 i]
    unfold Pipeline.afterTail
    refine (tail_v3 _ (i 0) (i 1)).trans ?_
    refine (congrFun (Pipeline.withArrays_arr spec0 arr_inj c (V0 m c) (fun w => (dats m (ok m) 0 c).arrAt w (cfgM m (ok m)).N) 2) (ix3 (0 : Fin 2) (i 0) (i 1))).trans ?_
    exact fin2 m c (i 0) (i 1)
  · obtain ⟨r0, rest⟩ := h c
    obtain ⟨e0, e1⟩ := heq c
    refine ⟨r0.trans ((Cert.Reference7Ideal.Read.val_main_v2_eq _ _).trans (funext fun i => ?_)), rest⟩
    rw [e0, e1, eq_ix2 i]
    exact Cert.Reference7Ideal.SmRef.sum_at _ _ (i 0) (i 1)

end Cert.Kernel7Ideal.SmVal
end
-- ==== Proof.Pk.Value.lean ====
module

public import proofs.«01_k».proof.Proof.Gen.Kernel8.Frame
public import proofs.«01_k».proof.Proof.Gen.Kernel8Ideal.Frame
public import proofs.«01_k».proof.Proof.Gen.Reference8Ideal.Read
public import proofs.«01_k».proof.Proof.Gen.Reference8Ideal.Run
public import proofs.«01_k».proof.Defs
public import Idealize.ShloMosaic.Lib.Pipeline.ValueKit
public import Idealize.ShloMosaic.Lib.Pipeline.ReadBack

/-! The packing of the pre-norm's gradient: the block that the kernel writes is the gradient's first row, laid out in rows of 128, above the tail. -/

@[expose] public section

set_option maxRecDepth 16384

noncomputable section

namespace Cert.Kernel8.PkTab

open Idealize.ShloMosaic Idealize.ShloMosaic.TcCoe Idealize.SL Idealize.SL.Sem
open Cert.Kernel8 Cert.Kernel8.Gen

/-- The table's words are zero. -/
def zT {F : FTy → Type} [FloatOps F] : pre0.Contents (Elt F) := fun | ⟨0, _⟩ => fun _ => (0#32 : BitVec 32) | ⟨_ + 1, h⟩ => absurd h (by simp)

theorem tbl_eq {F : FTy → Type} [FloatOps F] (m : (ℓ : Loc nD τ sig) → Buf (Elt F) ℓ) : tbl m = zT := by
  funext j x
  match j with
  | ⟨0, _⟩ =>
    show StableHlo.after hostOps0 _ (Proc.devRef .tc main_v0) x = _
    after_results
    rfl

theorem ok (m : (ℓ : Loc nD τ sig) → Buf (Elt Bits) ℓ) : Ok m := by
  unfold Ok; rw [tbl_eq m]; decide

end Cert.Kernel8.PkTab

namespace Cert.Kernel8Ideal.PkVal

open Idealize.ShloMosaic Idealize.ShloMosaic.TcCoe Idealize.SL Idealize.SL.Sem
open Idealize.ShloMosaic.Pipeline (Dat)
open Cert.Kernel8Ideal Cert.Kernel8Ideal.Gen

/-- The table's words are zero. -/
def zT {F : FTy → Type} [FloatOps F] : pre0.Contents (Elt F) := fun | ⟨0, _⟩ => fun _ => (0#32 : BitVec 32) | ⟨_ + 1, h⟩ => absurd h (by simp)

theorem tbl_eq {F : FTy → Type} [FloatOps F] (m : (ℓ : Loc nD τ sig) → Buf (Elt F) ℓ) : tbl m = zT := by
  funext j x
  match j with
  | ⟨0, _⟩ =>
    show StableHlo.after hostOps0 _ (Proc.devRef .tc main_v0) x = _
    after_results
    rfl

theorem okB (m : (ℓ : Loc nD τ sig) → Buf (Elt Bits) ℓ) : Ok m := by
  unfold Ok; rw [tbl_eq m]; decide
theorem okz : ok0 (F := Ideal) zT := by decide
theorem ok (m : (ℓ : Loc nD τ sig) → Buf (Elt Ideal) ℓ) : Ok m := by
  unfold Ok; rw [tbl_eq m]; exact okz

/-- The result is the array's first block. -/
theorem covers : ∀ a : (pcfg0 (F := Ideal)).Adm, a.1 = zT → ((cfg0 a).win 2).CoversWhere (fun β => β (0 : Fin 4) = 0 ∧ β (1 : Fin 4) = 0)
  | ⟨_, h⟩, rfl => (by decide +kernel : ((cfg0 ⟨zT, okz⟩).win 2).CoversWhere (fun β => β (0 : Fin 4) = 0 ∧ β (1 : Fin 4) = 0))
theorem idx2 : ∀ a : (pcfg0 (F := Ideal)).Adm, a.1 = zT → ∀ t : Fin (cfg0 a).N, ((cfg0 a).win 2).index t = ![0, 0, 0, 0]
  | ⟨_, h⟩, rfl => (by decide +kernel : ∀ t : Fin grid0.N, ((cfg0 ⟨zT, okz⟩).win 2).index t = ![0, 0, 0, 0])
theorem idx0 (a : (pcfg0 (F := Ideal)).Adm) : ∀ t : Fin (cfg0 a).N, ((cfg0 a).win 0).index t = ![0, 0] ∧ ((cfg0 a).win 1).index t = ![0, 0] :=
  (by decide +kernel : ∀ t : Fin grid0.N, cc0_transform_0 (grid0.coords t) = ![0, 0] ∧ cc0_transform_1 (grid0.coords t) = ![0, 0])

/-- What the rows are: sixteen of the first row's 2048 entries, eight of the tail. -/
def pk (V : S8x2048.Idx → EReal) (T : S8x128.Idx → EReal) (R : Fin 24) (k : Fin 128) : EReal :=
  if h : R.val < 16 then V (ix2 0 ⟨128 * R.val + k.val, by omega⟩) else T (ix2 ⟨R.val - 16, by omega⟩ k)

section Agree
variable {sig : RefSig} {κ : Kind} {sp : Space} {s : Shape} {e : EltTy} {Val : EltTy → Type}
/-- Writes that all agree with one function leave that function wherever one of them reaches. -/
theorem read_of_agree (v : View sig κ sp s e) (f : v.ty.Contents Val) (G : s.Idx → Val e) (y : s.Idx) :
    ∀ L : List (View.Piece Val s e), (∀ p ∈ L, ∀ x, p.2 x = G (p.1.emb x)) → (∃ p ∈ L, y ∈ p.1.set) → v.read Val (v.writes Val f L) y = G y
  | [], _, h => by obtain ⟨_, hm, _⟩ := h; exact absurd hm List.not_mem_nil
  | p :: L, hp, h => by
    by_cases hy : y ∈ p.1.set
    · obtain ⟨x, rfl⟩ := p.1.exists_idx_of_mem hy
      exact (View.read_writes_cons_emb v f p.1 p.2 L x).trans (hp p List.mem_cons_self x)
    · rw [View.writes_cons, View.read_slice_write_of_not_mem p.1 _ _ _ (by rwa [Rect.map_emb_univ])]
      refine read_of_agree v f G y L (fun q hq => hp q (List.mem_cons_of_mem _ hq)) ?_
      obtain ⟨q, hq, hm⟩ := h
      rcases List.mem_cons.mp hq with rfl | h'
      · exact absurd hm hy
      · exact ⟨q, h', hm⟩
end Agree

variable (m : (ℓ : Loc nD τ sig) → Buf (Elt Ideal) ℓ) (c : Dev nD)

/-- A row stored is 128 entries of the first argument's first row. -/
theorem row_at (p2 : Memref sig .tc .vmem S8x2048 .f32) (h2 : p2.IsWhole) (V : S8x2048.Idx → EReal) (A : S8x128.Idx → EReal)
    (n o : ℕ) (hn : n < 16) (ho : o = 128 * n) (inb : ∀ a : Fin 2, ![0, o] a + ![1, 128] a ≤ S8x2048.size a)
    (inb' : ∀ a : Fin 4, ![0, 0, n, 0] a + ![1, 1, 1, 128] a ≤ S1x1x24x128.size a) (x : S1x1x1x128.Idx) :
    shapeCast S1x1x1x128 (View.readAt (Elt Ideal) p2.view (Rect.unit (s := S8x2048) ![0, o] ![1, 128] inb).toLoadRect (h2.unread V) : S1x128.Idx → EReal) shapeCasts_S1x128_S1x1x1x128 x
      = (fun y : S1x1x24x128.Idx => pk V A (y 2) (y 3)) ((Rect.unit (s := S1x1x24x128) ![0, 0, n, 0] ![1, 1, 1, 128] inb').emb x) := by
  have x0 : (x 0).val < 1 := (x 0).isLt
  have x1 : (x 1).val < 1 := (x 1).isLt
  have x2 : (x 2).val < 1 := (x 2).isLt
  have x3 : (x 3).val < 128 := (x 3).isLt
  refine (shapeCast_apply _ shapeCasts_S1x128_S1x1x1x128 x (ix2 (0 : Fin 1) (⟨(x 3).val, x3⟩ : Fin 128)) ?_).trans ?_
  · rw [Shape.rowMajor_val_two, Shape.rowMajor_val_four]
    show 0 * 128 + (x 3).val = (((x 0).val * 1 + (x 1).val) * 1 + (x 2).val) * 128 + (x 3).val
    omega
  · rw [View.readAt_eq_ld, h2.read_unread]
    have e2 : (((Rect.unit (s := S1x1x24x128) ![0, 0, n, 0] ![1, 1, 1, 128] inb').emb x) 2).val = n := by
      show n + 1 * (x 2).val = n
      omega
    have e3 : (((Rect.unit (s := S1x1x24x128) ![0, 0, n, 0] ![1, 1, 1, 128] inb').emb x) 3).val = (x 3).val := by
      show 0 + 1 * (x 3).val = (x 3).val
      omega
    show _ = pk V A _ _
    unfold pk
    rw [dif_pos (by rw [e2]; exact hn)]
    refine congrArg V (funext fun a => Fin.ext ?_)
    match a with
    | ⟨0, _⟩ => rfl
    | ⟨1, _⟩ =>
      show o + 1 * (x 3).val = 128 * _ + _
      rw [e2, e3]; omega

/-- The last store is the second argument. -/
theorem tail_at (p3 : Memref sig .tc .vmem S8x128 .f32) (h3 : p3.IsWhole) (V : S8x2048.Idx → EReal) (A : S8x128.Idx → EReal)
    (inb : ∀ a : Fin 2, ![0, 0] a + ![8, 128] a ≤ S8x128.size a)
    (inb' : ∀ a : Fin 4, ![0, 0, 16, 0] a + ![1, 1, 8, 128] a ≤ S1x1x24x128.size a) (x : S1x1x8x128.Idx) :
    shapeCast S1x1x8x128 (View.readAt (Elt Ideal) p3.view (Rect.unit (s := S8x128) ![0, 0] ![8, 128] inb).toLoadRect (h3.unread A) : S8x128.Idx → EReal) shapeCasts_S8x128_S1x1x8x128 x
      = (fun y : S1x1x24x128.Idx => pk V A (y 2) (y 3)) ((Rect.unit (s := S1x1x24x128) ![0, 0, 16, 0] ![1, 1, 8, 128] inb').emb x) := by
  have x0 : (x 0).val < 1 := (x 0).isLt
  have x1 : (x 1).val < 1 := (x 1).isLt
  have x2 : (x 2).val < 8 := (x 2).isLt
  have x3 : (x 3).val < 128 := (x 3).isLt
  refine (shapeCast_apply _ shapeCasts_S8x128_S1x1x8x128 x (ix2 (⟨(x 2).val, x2⟩ : Fin 8) (⟨(x 3).val, x3⟩ : Fin 128)) ?_).trans ?_
  · rw [Shape.rowMajor_val_two, Shape.rowMajor_val_four]
    show (x 2).val * 128 + (x 3).val = (((x 0).val * 1 + (x 1).val) * 8 + (x 2).val) * 128 + (x 3).val
    omega
  · rw [View.readAt_eq_ld, h3.read_unread]
    have e2 : (((Rect.unit (s := S1x1x24x128) ![0, 0, 16, 0] ![1, 1, 8, 128] inb').emb x) 2).val = 16 + (x 2).val := by
      show 16 + 1 * (x 2).val = _
      omega
    have e3 : (((Rect.unit (s := S1x1x24x128) ![0, 0, 16, 0] ![1, 1, 8, 128] inb').emb x) 3).val = (x 3).val := by
      show 0 + 1 * (x 3).val = (x 3).val
      omega
    show _ = pk V A _ _
    unfold pk
    rw [dif_neg (by rw [e2]; omega)]
    refine congrArg A (funext fun a => Fin.ext ?_)
    match a with
    | ⟨0, _⟩ =>
      show 0 + 1 * (x 2).val = _ - 16
      rw [e2]; omega
    | ⟨1, _⟩ => rfl

theorem pieces_at (i : grid0.Coords) (p2 : Memref sig .tc .vmem S8x2048 .f32) (h2 : p2.IsWhole) (p3 : Memref sig .tc .vmem S8x128 .f32) (h3 : p3.IsWhole)
    (p4 : Memref sig .tc .vmem S1x1x24x128 .f32) (h4 : p4.IsWhole) (V : S8x2048.Idx → EReal) (A : S8x128.Idx → EReal) (T : TbBuf0 (F := Ideal) c tbM0_0) :
    ∀ p ∈ (kernelRun0_A (F := Ideal) c i p2 h2 p3 h3 p4 h4 V A T).1, ∀ x, p.2 x = (fun y : S1x1x24x128.Idx => pk V A (y 2) (y 3)) (p.1.emb x) := by
  unfold kernelRun0_A
  dsimp only
  refine List.forall_mem_cons.2 ⟨fun x => tail_at p3 h3 V A (by decide) (by decide) x, ?_⟩
  iterate 16 refine List.forall_mem_cons.2 ⟨fun x => row_at p2 h2 V A _ _ (by decide) (by rfl) (by decide) (by decide) x, ?_⟩
  exact fun p hp => absurd hp List.not_mem_nil

theorem out_at (i : grid0.Coords) (p2 : Memref sig .tc .vmem S8x2048 .f32) (h2 : p2.IsWhole) (p3 : Memref sig .tc .vmem S8x128 .f32) (h3 : p3.IsWhole)
    (p4 : Memref sig .tc .vmem S1x1x24x128 .f32) (h4 : p4.IsWhole) (V : S8x2048.Idx → EReal) (A : S8x128.Idx → EReal) (T : TbBuf0 (F := Ideal) c tbM0_0) (y : S1x1x24x128.Idx) :
    out0_A_2 (F := Ideal) c i p2 h2 p3 h3 p4 h4 V A T y = pk V A (y 2) (y 3) := by
  unfold out0_A_2
  have hc := cover0_A_2 (F := Ideal) c i p2 h2 p3 h3 p4 h4 V A T y
  have hp := pieces_at c i p2 h2 p3 h3 p4 h4 V A T
  generalize (kernelRun0_A (F := Ideal) c i p2 h2 p3 h3 p4 h4 V A T).1 = L at hc hp ⊢
  exact read_of_agree VO0_2 _ (fun y : S1x1x24x128.Idx => pk V A (y 2) (y 3)) y L hp hc

/-- The two arguments. -/
def vA : S8x2048.Idx → EReal := m ((c : Thread nD τ).loc main_arg0)
def tA : S8x128.Idx → EReal := m ((c : Thread nD τ).loc main_arg1)

theorem b0 (t : Fin (cfgM m (ok m)).N) : (iblk m (ok m) c 0 t : S8x2048.Idx → EReal) = vA m c := by
  have q : ∀ (r : Fin 8) (k : Fin 2048), (iblk m (ok m) c 0 t : S8x2048.Idx → EReal) (ix2 r k) = vA m c (ix2 r k) := fun r k => by
    refine Eq.trans ?_ (congrFun (V_main_arg0 m c) (ix2 r k))
    blk_point [iblk, idx0 _ t]
  exact funext fun y : S8x2048.Idx => (congrArg (iblk m (ok m) c 0 t : S8x2048.Idx → EReal) (eq_ix2 y)).trans ((q (y 0) (y 1)).trans (congrArg (vA m c) (eq_ix2 y).symm))
theorem b1 (t : Fin (cfgM m (ok m)).N) : (iblk m (ok m) c 1 t : S8x128.Idx → EReal) = tA m c := by
  have q : ∀ (r : Fin 8) (k : Fin 128), (iblk m (ok m) c 1 t : S8x128.Idx → EReal) (ix2 r k) = tA m c (ix2 r k) := fun r k => by
    refine Eq.trans ?_ (congrFun (V_main_arg1 m c) (ix2 r k))
    blk_point [iblk, idx0 _ t]
  exact funext fun y : S8x128.Idx => (congrArg (iblk m (ok m) c 1 t : S8x128.Idx → EReal) (eq_ix2 y)).trans ((q (y 0) (y 1)).trans (congrArg (tA m c) (eq_ix2 y).symm))

theorem o2 (t : Fin (cfgM m (ok m)).N) (y : S1x1x24x128.Idx) : outsAt0 m (ok m) c t y = pk (vA m c) (tA m c) (y 2) (y 3) := by
  unfold outsAt0
  refine (out_at c _ _ _ _ _ _ _ _ _ _ y).trans ?_
  exact congrFun (congrFun (congrArg₂ pk (b0 m c t) (b1 m c t)) (y 2)) (y 3)

theorem fin2 (R : Fin 24) (k : Fin 128) : (dats m (ok m) 0 c).arrAt 2 (cfgM m (ok m)).N (ix4 (0 : Fin 4) (0 : Fin 2) R k) = pk (vA m c) (tA m c) R k := by
  refine ((dats m (ok m) 0 c).arrAt_apply_of_coversWhere 2 (fun i : S4x2x24x128.Idx => pk (vA m c) (tA m c) (i 2) (i 3)) (P := fun i : S4x2x24x128.Idx => (i 0).val = 0 ∧ (i 1).val = 0) _ (covers _ (tbl_eq m)) (fun t hf y => ?_) (fun j => ?_) (ix4 (0 : Fin 4) (0 : Fin 2) R k)).trans (if_pos ⟨rfl, rfl⟩)
  · blk_simp
    rw [after0_2]
    have e := idx2 _ (tbl_eq m) t
    refine (o2 m c t y).trans ?_
    exact congrArg₂ (pk (vA m c) (tA m c)) (Fin.ext (by blk_simp [e])) (Fin.ext (by blk_simp [e]))
  · have q : ∀ j : S4x2x24x128.Idx, ((j 0).val = 0 ∧ (j 1).val = 0) ↔ ((j 0).val / 1 = 0 ∧ (j 1).val / 1 = 0) := fun j => by rw [Nat.div_one, Nat.div_one]
    exact q j

theorem tail_v3 (W : Valuation τ sig (Elt Ideal)) (R : Fin 24) (k : Fin 128) :
    (StableHlo.after hostOps1 W (Proc.devRef .tc main_v3) : S24x128.Idx → EReal) (ix2 R k) = (W (Proc.devRef .tc main_v1) : S4x2x24x128.Idx → EReal) (ix4 0 0 R k) := by
  after_results
  pointwise []
  try rfl

end Cert.Kernel8Ideal.PkVal

namespace Cert.Reference8Ideal.PkRef

open Idealize.ShloMosaic Idealize.ShloMosaic.TcCoe
open Cert.Reference8Ideal Cert.Reference8Ideal.Gen Cert.Reference8Ideal.Read

theorem packed_at (V : S8x2048.Idx → EReal) (T : S8x128.Idx → EReal) (R : Fin 24) (k : Fin 128) :
    val_main_v3 (F := Ideal) V T (ix2 R k) = Cert.Kernel8Ideal.PkVal.pk V T R k := by
  unfold val_main_v3 Cert.Kernel8Ideal.PkVal.pk
  have hR := R.isLt
  have hk := k.isLt
  by_cases h : R.val < 16
  · rw [dif_pos h]
    refine (concatenate_pair_apply_left 0 _ _ concatenates_S16x128_S8x128_S24x128_d0 (ix2 R k) rfl (ix2 (⟨R.val, h⟩ : Fin 16) k) (fun b => match b with | ⟨0, _⟩ => rfl | ⟨1, _⟩ => rfl)).trans ?_
    rw [val_main_v2_apply, val_main_v1_apply, val_main_v0_apply]
    refine congrArg V (funext fun a => Fin.ext ?_)
    match a with
    | ⟨0, _⟩ => rfl
    | ⟨1, _⟩ =>
      show (R.val * 128 + k.val) % 2048 = 128 * R.val + k.val
      omega
  · rw [dif_neg h]
    exact concatenate_pair_apply_right 0 _ _ concatenates_S16x128_S8x128_S24x128_d0 (ix2 R k) rfl rfl (ix2 (⟨R.val - 16, by omega⟩ : Fin 8) k) (fun b => match b with | ⟨0, _⟩ => fun q => absurd rfl q | ⟨1, _⟩ => fun _ => rfl) (by show R.val - 16 + 16 = R.val; omega)

end Cert.Reference8Ideal.PkRef

namespace Cert.Kernel8Ideal.PkVal

open Idealize.ShloMosaic Idealize.ShloMosaic.TcCoe Idealize.SL Idealize.SL.Sem
open Cert.Kernel8Ideal Cert.Kernel8Ideal.Gen

theorem rest_v3 : main_v3 ∈ Pipeline.restRefs sig spec0 := by decide
theorem arr_inj : Function.Injective (Pipeline.arrRef spec0) := by decide

/-- Every entry of the packed block is the reference's. -/
theorem packed : Cert.algebraic_Kernel8Ideal_Reference8Ideal := by
  intro m g m' g' hpre heq
  refine ⟨fun c i => pk (vA m c) (tA m c) (i 0) (i 1),
    (θ_run _ _ _).mono (fun r h c => ?_) (θ_run_and (run_main m g (ok m)) (unchanged m g (ok m))), (θ_run _ _ _).mono (fun r h c => ?_) (Cert.Reference8Ideal.Value.run m' g')⟩
  · refine ⟨?_, h.2 c⟩
    refine ((h.1 c).2 main_v3 rest_v3).trans (funext fun i => ?_)
    rw [eq_ix2 i]
    unfold Pipeline.afterTail
    refine (tail_v3 _ (i 0) (i 1)).trans ?_
    refine (congrFun (Pipeline.withArrays_arr spec0 arr_inj c (V0 m c) (fun w => (dats m (ok m) 0 c).arrAt w (cfgM m (ok m)).N) 2) (ix4 (0 : Fin 4) (0 : Fin 2) (i 0) (i 1))).trans ?_
    exact fin2 m c (i 0) (i 1)
  · obtain ⟨r0, rest⟩ := h c
    obtain ⟨e0, e1⟩ := heq c
    refine ⟨r0.trans ((Cert.Reference8Ideal.Read.val_main_v3_eq _ _).trans (funext fun i => ?_)), rest⟩
    rw [e0, e1, eq_ix2 i]
    exact Cert.Reference8Ideal.PkRef.packed_at _ _ (i 0) (i 1)

end Cert.Kernel8Ideal.PkVal
end
-- ==== Proof.Br.Base.lean ====
module

public import proofs.«01_k».proof.Proof.Gen.Kernel2Ideal.Loops
public import proofs.«01_k».proof.Proof.Gen.Kernel2Ideal.Points
public import proofs.«01_k».proof.Proof.Gen.Kernel2Ideal.Launch
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Br

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F] [Named F]

local notation "𝕄" => MT nD τ sig Unit (Elt F) ℕ (UR sig nD τ) ℕ

/-- The first point's condition of the body, and the last point's. -/
abbrev cond0_0 (i : grid0.Coords) : Prop := (Scalar.cmpi .ne (Scalar.extui (Scalar.cmpi .eq (BitVec.ofNat 32 (i 0).val) 0#32)) 0#32) = 1#1
abbrev cond0_1 (i : grid0.Coords) : Prop := (Scalar.cmpi .ne (Scalar.extui (Scalar.cmpi .eq (BitVec.ofNat 32 (i 0).val) 31#32)) 0#32) = 1#1

theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

theorem hcond0_1 : ∀ t : Fin cfg0.N, cond0_1 (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [cond0_1, e0]
    word_cmp
   : ∀ t : Fin grid0.N, cond0_1 (grid0.coords t) ↔ t.val % 32 = 31)

variable {s : Shape} {e : EltTy} (c : Dev nD) (m : Memref sig .tc .vmem s e)

/-- A whole buffer at the contents that read as `x` is owned at `x` (`owns` written out). -/
theorem own_at (h : m.IsWhole) (x : Vec F s e) :
    (m.view.loc (c : Thread nD τ) ↦[m.view.set]{fullShare} h.unread x : sProp 𝕄)
      ⊢ iprop(∃ f, ⌜m.view.read (Elt F) f = x⌝ ∗ m.view.loc (c : Thread nD τ) ↦[m.view.set]{fullShare} f) := by
  iintro H; iexists _; isplitr; swap; · iexact H
  ipureintro; exact h.read_unread _

/-- A buffer held at some contents is owned at some contents (`owns` written out). -/
theorem own_some (f : m.view.ty.Contents (Elt F)) :
    (m.view.loc (c : Thread nD τ) ↦[m.view.set]{fullShare} f : sProp 𝕄) ⊢ iprop(∃ d, ∃ f, ⌜m.view.read (Elt F) f = d⌝ ∗ m.view.loc (c : Thread nD τ) ↦[m.view.set]{fullShare} f) := by
  iintro H; iexists _, _; isplitr; swap; · iexact H
  ipureintro; rfl

/-- A buffer filled by pieces that cover it is owned at what the pieces say. -/
theorem own_canon (L : List (View.Piece (Elt F) s e)) (h : ∀ y, ∃ p ∈ L, y ∈ p.1.set) :
    (iprop(∃ f, m.view.loc (c : Thread nD τ) ↦[m.view.set]{fullShare} m.view.writes (Elt F) f L) : sProp 𝕄)
      ⊢ owns (c : Thread nD τ) m fullShare (View.canon L) := by
  unfold owns; iintro ⟨%f, H⟩; iexists _; isplitr; swap; · iexact H
  ipureintro; exact View.read_writes_eq_canon _ _ _ h

end Cert.Kernel2Ideal.Br
end
-- ==== Proof.Br.TA.lean ====
module

public import proofs.«01_k».proof.Proof.Br.Base

@[expose] public section

set_option maxRecDepth 16384

noncomputable section

namespace Cert.Kernel2Ideal.Br

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F] [Named F]

local notation "𝕄" => MT nD τ sig Unit (Elt F) ℕ (UR sig nD τ) ℕ

variable (arg1 : Memref sig .tc .vmem S4x256x1280 .bf16) (harg1 : arg1.IsWhole)
variable (arg2 : Memref sig .tc .vmem S4x16x1280 .bf16) (harg2 : arg2.IsWhole)
variable (arg3 : Memref sig .tc .vmem S256x1024 .f32) (harg3 : arg3.IsWhole)
variable (arg4 : Memref sig .tc .vmem S8x1024 .f32) (harg4 : arg4.IsWhole)
variable (arg5 : Memref sig .tc .vmem S256x2048 .f32) (harg5 : arg5.IsWhole)
variable (arg6 : Memref sig .tc .vmem S1x1024 .f32) (harg6 : arg6.IsWhole)
variable (arg7 : Memref sig .tc .vmem S1x1024 .f32) (harg7 : arg7.IsWhole)
variable (arg8 : Memref sig .tc .vmem S8x128x128 .bf16) (harg8 : arg8.IsWhole)
variable (arg9 : Memref sig .tc .vmem S8x128x128 .bf16) (harg9 : arg9.IsWhole)
variable (arg10 : Memref sig .tc .vmem S128x1024 .f32) (harg10 : arg10.IsWhole)
variable (arg11 : Memref sig .tc .vmem S4x1024 .f32) (harg11 : arg11.IsWhole)
variable (arg12 : Memref sig .tc .vmem S1x1024 .f32) (harg12 : arg12.IsWhole)
variable (arg13 : Memref sig .tc .vmem S8x128x128 .bf16) (harg13 : arg13.IsWhole)
variable (arg14 : Memref sig .tc .vmem S8x128x128 .bf16) (harg14 : arg14.IsWhole)
variable (arg15 : Memref sig .tc .vmem S1x1024 .f32) (harg15 : arg15.IsWhole)
variable (arg16 : Memref sig .tc .vmem S1x1024 .f32) (harg16 : arg16.IsWhole)
variable (arg17 : Memref sig .tc .vmem S1x1024 .f32) (harg17 : arg17.IsWhole)
variable (arg18 : Memref sig .tc .vmem S1x1024 .f32) (harg18 : arg18.IsWhole)
variable (arg19 : Memref sig .tc .vmem S1x1024 .f32) (harg19 : arg19.IsWhole)
variable (arg20 : Memref sig .tc .vmem S8x128 .f32) (harg20 : arg20.IsWhole)
variable (arg21 : Memref sig .tc .vmem S256x5120 .bf16) (harg21 : arg21.IsWhole)
variable (arg22 : Memref sig .tc .vmem S8x1024 .f32) (harg22 : arg22.IsWhole)
variable (arg23 : Memref sig .tc .vmem S8x1024 .f32) (harg23 : arg23.IsWhole)
variable (arg24 : Memref sig .tc .vmem S8x1024 .f32) (harg24 : arg24.IsWhole)
variable (arg25 : Memref sig .tc .vmem S8x1024 .f32) (harg25 : arg25.IsWhole)
variable (arg26 : Memref sig .tc .vmem S128x1024 .f32) (harg26 : arg26.IsWhole)
variable (arg27 : Memref sig .tc .vmem S8x128x128 .f32) (harg27 : arg27.IsWhole)
variable (arg28 : Memref sig .tc .vmem S32x1024 .f32) (harg28 : arg28.IsWhole)
variable (arg29 : Memref sig .tc .vmem S8x1024 .f32) (harg29 : arg29.IsWhole)
variable (arg30 : Memref sig .tc .vmem S8x128x128 .f32) (harg30 : arg30.IsWhole)
variable (arg31 : Memref sig .tc .vmem S8x1024 .f32) (harg31 : arg31.IsWhole)
variable (arg32 : Memref sig .tc .vmem S8x128x128 .f32) (harg32 : arg32.IsWhole)
variable (arg33 : Memref sig .tc .vmem S8x1024 .f32) (harg33 : arg33.IsWhole)
variable (arg34 : Memref sig .tc .vmem S8x1024 .f32) (harg34 : arg34.IsWhole)
variable (arg35 : Memref sig .tc .vmem S256x1024 .bf16) (harg35 : arg35.IsWhole)
variable (arg36 : Memref sig .tc .vmem S256x1024 .f32) (harg36 : arg36.IsWhole)
variable (arg37 : Memref sig .tc .vmem S256x1024 .bf16) (harg37 : arg37.IsWhole)
variable (arg38 : Memref sig .tc .vmem S256x1024 .f32) (harg38 : arg38.IsWhole)
variable (arg39 : Memref sig .tc .vmem S256x1024 .bf16) (harg39 : arg39.IsWhole)
variable (arg40 : Memref sig .tc .vmem S256x1024 .f32) (harg40 : arg40.IsWhole)
variable (arg41 : Memref sig .tc .vmem S256x1024 .f32) (harg41 : arg41.IsWhole)
variable (arg42 : Memref sig .tc .vmem S256x1024 .f32) (harg42 : arg42.IsWhole)
variable (arg43 : Memref sig .tc .vmem S256x1024 .f32) (harg43 : arg43.IsWhole)
variable (arg44 : Memref sig .tc .vmem S256x1024 .f32) (harg44 : arg44.IsWhole)
variable (arg45 : Memref sig .tc .vmem S256x1024 .bf16) (harg45 : arg45.IsWhole)
variable (arg46 : Memref sig .tc .vmem S256x1024 .bf16) (harg46 : arg46.IsWhole)
variable (arg47 : Memref sig .tc .vmem S256x1024 .f32) (harg47 : arg47.IsWhole)
variable (arg48 : Memref sig .tc .vmem S8x1024 .f32) (harg48 : arg48.IsWhole)
variable (arg49 : Memref sig .tc .vmem S8x1024 .f32) (harg49 : arg49.IsWhole)
variable (arg50 : Memref sig .tc .vmem S8x1024 .f32) (harg50 : arg50.IsWhole)
variable (x1 : Vec F S4x256x1280 .bf16) (x2 : Vec F S4x16x1280 .bf16) (x3 : Vec F S256x1024 .f32) (x4 : Vec F S8x1024 .f32) (x5 : Vec F S256x2048 .f32) (x6 : Vec F S1x1024 .f32) (x7 : Vec F S1x1024 .f32) (x8 : Vec F S8x128x128 .bf16) (x9 : Vec F S8x128x128 .bf16) (x10 : Vec F S128x1024 .f32) (x11 : Vec F S4x1024 .f32) (x12 : Vec F S1x1024 .f32) (x13 : Vec F S8x128x128 .bf16) (x14 : Vec F S8x128x128 .bf16) (x15 : Vec F S1x1024 .f32) (x16 : Vec F S1x1024 .f32) (x17 : Vec F S1x1024 .f32) (x18 : Vec F S1x1024 .f32) (x19 : Vec F S1x1024 .f32) (x20 : Vec F S8x128 .f32)

set_option maxHeartbeats 4000000 in
/-- One run of the body at the first point: what its stores leave in the gMLP half's results, as pieces, with the
    proof that the body runs from the inputs' blocks to these; the other half's results and the scratch
    buffers end at some contents. -/
noncomputable def run_A (c : Dev nD) (i : grid0.Coords) (hc0 : cond0_0 i) (hc1 : ¬ cond0_1 i) :
   Σ' (L21 : List (View.Piece (Elt F) S256x5120 .bf16)), Σ' (L22 : List (View.Piece (Elt F) S8x1024 .f32)), Σ' (L24 : List (View.Piece (Elt F) S8x1024 .f32)), Σ' (L25 : List (View.Piece (Elt F) S8x1024 .f32)), Σ' (L26 : List (View.Piece (Elt F) S128x1024 .f32)), { L27 : List (View.Piece (Elt F) S8x128x128 .f32) // ∀ (E : Set ℕ) (K : PUnit → sProp 𝕄),
   iprop((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d)) ∗ ((∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d)) ∗ (iprop((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ (∃ f w₁ w₂, arg21.view.loc (c : Thread nD τ) ↦[arg21.view.set]{fullShare} arg21.view.writes (Elt F) f (⟨Rect.unit (s := S256x5120) ![0, 3072] S256x1024.size inb_S256x5120_S256x1024_0_3072, w₁⟩ :: ⟨Rect.unit (s := S256x5120) ![0, 4096] S256x1024.size inb_S256x5120_S256x1024_0_4096, w₂⟩ :: L21)) ∗ (∃ f, arg22.view.loc (c : Thread nD τ) ↦[arg22.view.set]{fullShare} arg22.view.writes (Elt F) f L22) ∗ (∃ d, owns (c : Thread nD τ) arg23 fullShare d) ∗ (∃ f, arg24.view.loc (c : Thread nD τ) ↦[arg24.view.set]{fullShare} arg24.view.writes (Elt F) f L24) ∗ (∃ f, arg25.view.loc (c : Thread nD τ) ↦[arg25.view.set]{fullShare} arg25.view.writes (Elt F) f L25) ∗ (∃ f, arg26.view.loc (c : Thread nD τ) ↦[arg26.view.set]{fullShare} arg26.view.writes (Elt F) f L26) ∗ (∃ f, arg27.view.loc (c : Thread nD τ) ↦[arg27.view.set]{fullShare} arg27.view.writes (Elt F) f L27) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d)) ∗ ((∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d))) -∗ K ⟨⟩)) ⊢ wp frame (wpE (defs₀ (F := F)) Variants.none c none) E (cc0_branches_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50) K } := by
  refine ⟨?_, ?_, ?_, ?_, ?_, ?_, fun E K => ?run⟩
  case run =>
    simp only [cc0_branches_bwd_eq_skeleton]; unfold cc0_branches_bwd_skel
    simp only [k0_part51_eq_skeleton]; unfold k0_part51_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    unfold owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩⟩, ⟨⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, ⟨%d48, %f48, -, H48⟩, ⟨%d49, %f49, -, H49⟩, ⟨%d50, %f50, -, H50⟩⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
    sl_exec (disch := first | sl_exact hc0 | sl_exact hc1)
    sl_step
    iapply Hk
    isplitl [H1 H2 H3 H4 H5 H6 H7 H8 H9 H10 H11 H12 H13 H14 H15 H16 H17 H18 H19 H20 H21 H22 H23 H24 H25 H26 H27 H28 H29 H30 H31 H32 H33 H34]
    · isplitl [H1]; · iapply own_at c arg1 harg1; iexact H1
      isplitl [H2]; · iapply own_at c arg2 harg2; iexact H2
      isplitl [H3]; · iapply own_at c arg3 harg3; iexact H3
      isplitl [H4]; · iapply own_at c arg4 harg4; iexact H4
      isplitl [H5]; · iapply own_at c arg5 harg5; iexact H5
      isplitl [H6]; · iapply own_at c arg6 harg6; iexact H6
      isplitl [H7]; · iapply own_at c arg7 harg7; iexact H7
      isplitl [H8]; · iapply own_at c arg8 harg8; iexact H8
      isplitl [H9]; · iapply own_at c arg9 harg9; iexact H9
      isplitl [H10]; · iapply own_at c arg10 harg10; iexact H10
      isplitl [H11]; · iapply own_at c arg11 harg11; iexact H11
      isplitl [H12]; · iapply own_at c arg12 harg12; iexact H12
      isplitl [H13]; · iapply own_at c arg13 harg13; iexact H13
      isplitl [H14]; · iapply own_at c arg14 harg14; iexact H14
      isplitl [H15]; · iapply own_at c arg15 harg15; iexact H15
      isplitl [H16]; · iapply own_at c arg16 harg16; iexact H16
      isplitl [H17]; · iapply own_at c arg17 harg17; iexact H17
      isplitl [H18]; · iapply own_at c arg18 harg18; iexact H18
      isplitl [H19]; · iapply own_at c arg19 harg19; iexact H19
      isplitl [H20]; · iapply own_at c arg20 harg20; iexact H20
      isplitl [H21]; · iexists _, _, _; iexact H21
      isplitl [H22]; · iexists _; iexact H22
      isplitl [H23]; · iapply own_some c arg23; iexact H23
      isplitl [H24]; · iexists _; iexact H24
      isplitl [H25]; · iexists _; iexact H25
      isplitl [H26]; · iexists _; iexact H26
      isplitl [H27]; · iexists _; iexact H27
      isplitl [H28]; · iapply own_some c arg28; iexact H28
      isplitl [H29]; · iapply own_some c arg29; iexact H29
      isplitl [H30]; · iapply own_some c arg30; iexact H30
      isplitl [H31]; · iapply own_some c arg31; iexact H31
      isplitl [H32]; · iapply own_some c arg32; iexact H32
      isplitl [H33]; · iapply own_some c arg33; iexact H33
      iapply own_some c arg34; iexact H34
    isplitl [H35]; · iapply own_some c arg35; iexact H35
    isplitl [H36]; · iapply own_some c arg36; iexact H36
    isplitl [H37]; · iapply own_some c arg37; iexact H37
    isplitl [H38]; · iapply own_some c arg38; iexact H38
    isplitl [H39]; · iapply own_some c arg39; iexact H39
    isplitl [H40]; · iapply own_some c arg40; iexact H40
    isplitl [H41]; · iapply own_some c arg41; iexact H41
    isplitl [H42]; · iapply own_some c arg42; iexact H42
    isplitl [H43]; · iapply own_some c arg43; iexact H43
    isplitl [H44]; · iapply own_some c arg44; iexact H44
    isplitl [H45]; · iapply own_some c arg45; iexact H45
    isplitl [H46]; · iapply own_some c arg46; iexact H46
    isplitl [H47]; · iapply own_some c arg47; iexact H47
    isplitl [H48]; · iapply own_some c arg48; iexact H48
    isplitl [H49]; · iapply own_some c arg49; iexact H49
    iapply own_some c arg50; iexact H50
end Cert.Kernel2Ideal.Br
end
-- ==== Proof.Br.TB.lean ====
module

public import proofs.«01_k».proof.Proof.Br.Base

@[expose] public section

set_option maxRecDepth 16384

noncomputable section

namespace Cert.Kernel2Ideal.Br

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F] [Named F]

local notation "𝕄" => MT nD τ sig Unit (Elt F) ℕ (UR sig nD τ) ℕ

variable (arg1 : Memref sig .tc .vmem S4x256x1280 .bf16) (harg1 : arg1.IsWhole)
variable (arg2 : Memref sig .tc .vmem S4x16x1280 .bf16) (harg2 : arg2.IsWhole)
variable (arg3 : Memref sig .tc .vmem S256x1024 .f32) (harg3 : arg3.IsWhole)
variable (arg4 : Memref sig .tc .vmem S8x1024 .f32) (harg4 : arg4.IsWhole)
variable (arg5 : Memref sig .tc .vmem S256x2048 .f32) (harg5 : arg5.IsWhole)
variable (arg6 : Memref sig .tc .vmem S1x1024 .f32) (harg6 : arg6.IsWhole)
variable (arg7 : Memref sig .tc .vmem S1x1024 .f32) (harg7 : arg7.IsWhole)
variable (arg8 : Memref sig .tc .vmem S8x128x128 .bf16) (harg8 : arg8.IsWhole)
variable (arg9 : Memref sig .tc .vmem S8x128x128 .bf16) (harg9 : arg9.IsWhole)
variable (arg10 : Memref sig .tc .vmem S128x1024 .f32) (harg10 : arg10.IsWhole)
variable (arg11 : Memref sig .tc .vmem S4x1024 .f32) (harg11 : arg11.IsWhole)
variable (arg12 : Memref sig .tc .vmem S1x1024 .f32) (harg12 : arg12.IsWhole)
variable (arg13 : Memref sig .tc .vmem S8x128x128 .bf16) (harg13 : arg13.IsWhole)
variable (arg14 : Memref sig .tc .vmem S8x128x128 .bf16) (harg14 : arg14.IsWhole)
variable (arg15 : Memref sig .tc .vmem S1x1024 .f32) (harg15 : arg15.IsWhole)
variable (arg16 : Memref sig .tc .vmem S1x1024 .f32) (harg16 : arg16.IsWhole)
variable (arg17 : Memref sig .tc .vmem S1x1024 .f32) (harg17 : arg17.IsWhole)
variable (arg18 : Memref sig .tc .vmem S1x1024 .f32) (harg18 : arg18.IsWhole)
variable (arg19 : Memref sig .tc .vmem S1x1024 .f32) (harg19 : arg19.IsWhole)
variable (arg20 : Memref sig .tc .vmem S8x128 .f32) (harg20 : arg20.IsWhole)
variable (arg21 : Memref sig .tc .vmem S256x5120 .bf16) (harg21 : arg21.IsWhole)
variable (arg22 : Memref sig .tc .vmem S8x1024 .f32) (harg22 : arg22.IsWhole)
variable (arg23 : Memref sig .tc .vmem S8x1024 .f32) (harg23 : arg23.IsWhole)
variable (arg24 : Memref sig .tc .vmem S8x1024 .f32) (harg24 : arg24.IsWhole)
variable (arg25 : Memref sig .tc .vmem S8x1024 .f32) (harg25 : arg25.IsWhole)
variable (arg26 : Memref sig .tc .vmem S128x1024 .f32) (harg26 : arg26.IsWhole)
variable (arg27 : Memref sig .tc .vmem S8x128x128 .f32) (harg27 : arg27.IsWhole)
variable (arg28 : Memref sig .tc .vmem S32x1024 .f32) (harg28 : arg28.IsWhole)
variable (arg29 : Memref sig .tc .vmem S8x1024 .f32) (harg29 : arg29.IsWhole)
variable (arg30 : Memref sig .tc .vmem S8x128x128 .f32) (harg30 : arg30.IsWhole)
variable (arg31 : Memref sig .tc .vmem S8x1024 .f32) (harg31 : arg31.IsWhole)
variable (arg32 : Memref sig .tc .vmem S8x128x128 .f32) (harg32 : arg32.IsWhole)
variable (arg33 : Memref sig .tc .vmem S8x1024 .f32) (harg33 : arg33.IsWhole)
variable (arg34 : Memref sig .tc .vmem S8x1024 .f32) (harg34 : arg34.IsWhole)
variable (arg35 : Memref sig .tc .vmem S256x1024 .bf16) (harg35 : arg35.IsWhole)
variable (arg36 : Memref sig .tc .vmem S256x1024 .f32) (harg36 : arg36.IsWhole)
variable (arg37 : Memref sig .tc .vmem S256x1024 .bf16) (harg37 : arg37.IsWhole)
variable (arg38 : Memref sig .tc .vmem S256x1024 .f32) (harg38 : arg38.IsWhole)
variable (arg39 : Memref sig .tc .vmem S256x1024 .bf16) (harg39 : arg39.IsWhole)
variable (arg40 : Memref sig .tc .vmem S256x1024 .f32) (harg40 : arg40.IsWhole)
variable (arg41 : Memref sig .tc .vmem S256x1024 .f32) (harg41 : arg41.IsWhole)
variable (arg42 : Memref sig .tc .vmem S256x1024 .f32) (harg42 : arg42.IsWhole)
variable (arg43 : Memref sig .tc .vmem S256x1024 .f32) (harg43 : arg43.IsWhole)
variable (arg44 : Memref sig .tc .vmem S256x1024 .f32) (harg44 : arg44.IsWhole)
variable (arg45 : Memref sig .tc .vmem S256x1024 .bf16) (harg45 : arg45.IsWhole)
variable (arg46 : Memref sig .tc .vmem S256x1024 .bf16) (harg46 : arg46.IsWhole)
variable (arg47 : Memref sig .tc .vmem S256x1024 .f32) (harg47 : arg47.IsWhole)
variable (arg48 : Memref sig .tc .vmem S8x1024 .f32) (harg48 : arg48.IsWhole)
variable (arg49 : Memref sig .tc .vmem S8x1024 .f32) (harg49 : arg49.IsWhole)
variable (arg50 : Memref sig .tc .vmem S8x1024 .f32) (harg50 : arg50.IsWhole)
variable (x1 : Vec F S4x256x1280 .bf16) (x2 : Vec F S4x16x1280 .bf16) (x3 : Vec F S256x1024 .f32) (x4 : Vec F S8x1024 .f32) (x5 : Vec F S256x2048 .f32) (x6 : Vec F S1x1024 .f32) (x7 : Vec F S1x1024 .f32) (x8 : Vec F S8x128x128 .bf16) (x9 : Vec F S8x128x128 .bf16) (x10 : Vec F S128x1024 .f32) (x11 : Vec F S4x1024 .f32) (x12 : Vec F S1x1024 .f32) (x13 : Vec F S8x128x128 .bf16) (x14 : Vec F S8x128x128 .bf16) (x15 : Vec F S1x1024 .f32) (x16 : Vec F S1x1024 .f32) (x17 : Vec F S1x1024 .f32) (x18 : Vec F S1x1024 .f32) (x19 : Vec F S1x1024 .f32) (x20 : Vec F S8x128 .f32)
variable (y22 : Vec F S8x1024 .f32) (y24 : Vec F S8x1024 .f32) (y25 : Vec F S8x1024 .f32) (y26 : Vec F S128x1024 .f32) (y27 : Vec F S8x128x128 .f32)

set_option maxHeartbeats 4000000 in
/-- One run of the body at a point between the first and the last: what its stores leave in the gMLP half's results, as pieces, with the
    proof that the body runs from the inputs' blocks to these; the other half's results and the scratch
    buffers end at some contents. -/
noncomputable def run_B (c : Dev nD) (i : grid0.Coords) (hc0 : ¬ cond0_0 i) (hc1 : ¬ cond0_1 i) :
   Σ' (L21 : List (View.Piece (Elt F) S256x5120 .bf16)), Σ' (L22 : List (View.Piece (Elt F) S8x1024 .f32)), Σ' (L24 : List (View.Piece (Elt F) S8x1024 .f32)), Σ' (L25 : List (View.Piece (Elt F) S8x1024 .f32)), Σ' (L26 : List (View.Piece (Elt F) S128x1024 .f32)), { L27 : List (View.Piece (Elt F) S8x128x128 .f32) // ∀ (E : Set ℕ) (K : PUnit → sProp 𝕄),
   iprop((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ (∃ d, owns (c : Thread nD τ) arg21 fullShare d) ∗ owns (c : Thread nD τ) arg22 fullShare y22 ∗ (∃ d, owns (c : Thread nD τ) arg23 fullShare d) ∗ owns (c : Thread nD τ) arg24 fullShare y24 ∗ owns (c : Thread nD τ) arg25 fullShare y25 ∗ owns (c : Thread nD τ) arg26 fullShare y26 ∗ owns (c : Thread nD τ) arg27 fullShare y27 ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d)) ∗ ((∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d)) ∗ (iprop((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ (∃ f w₁ w₂, arg21.view.loc (c : Thread nD τ) ↦[arg21.view.set]{fullShare} arg21.view.writes (Elt F) f (⟨Rect.unit (s := S256x5120) ![0, 3072] S256x1024.size inb_S256x5120_S256x1024_0_3072, w₁⟩ :: ⟨Rect.unit (s := S256x5120) ![0, 4096] S256x1024.size inb_S256x5120_S256x1024_0_4096, w₂⟩ :: L21)) ∗ (∃ f, arg22.view.loc (c : Thread nD τ) ↦[arg22.view.set]{fullShare} arg22.view.writes (Elt F) f L22) ∗ (∃ d, owns (c : Thread nD τ) arg23 fullShare d) ∗ (∃ f, arg24.view.loc (c : Thread nD τ) ↦[arg24.view.set]{fullShare} arg24.view.writes (Elt F) f L24) ∗ (∃ f, arg25.view.loc (c : Thread nD τ) ↦[arg25.view.set]{fullShare} arg25.view.writes (Elt F) f L25) ∗ (∃ f, arg26.view.loc (c : Thread nD τ) ↦[arg26.view.set]{fullShare} arg26.view.writes (Elt F) f L26) ∗ (∃ f, arg27.view.loc (c : Thread nD τ) ↦[arg27.view.set]{fullShare} arg27.view.writes (Elt F) f L27) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d)) ∗ ((∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d))) -∗ K ⟨⟩)) ⊢ wp frame (wpE (defs₀ (F := F)) Variants.none c none) E (cc0_branches_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50) K } := by
  refine ⟨?_, ?_, ?_, ?_, ?_, ?_, fun E K => ?run⟩
  case run =>
    simp only [cc0_branches_bwd_eq_skeleton]; unfold cc0_branches_bwd_skel
    simp only [k0_part51_eq_skeleton]; unfold k0_part51_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    unfold owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%f22, %hf22, H22⟩, ⟨%d23, %f23, -, H23⟩, ⟨%f24, %hf24, H24⟩, ⟨%f25, %hf25, H25⟩, ⟨%f26, %hf26, H26⟩, ⟨%f27, %hf27, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩⟩, ⟨⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, ⟨%d48, %f48, -, H48⟩, ⟨%d49, %f49, -, H49⟩, ⟨%d50, %f50, -, H50⟩⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg22.eq_unread hf22; obtain rfl := harg24.eq_unread hf24; obtain rfl := harg25.eq_unread hf25; obtain rfl := harg26.eq_unread hf26; obtain rfl := harg27.eq_unread hf27
    sl_exec (disch := first | sl_exact hc0 | sl_exact hc1)
    sl_step
    iapply Hk
    isplitl [H1 H2 H3 H4 H5 H6 H7 H8 H9 H10 H11 H12 H13 H14 H15 H16 H17 H18 H19 H20 H21 H22 H23 H24 H25 H26 H27 H28 H29 H30 H31 H32 H33 H34]
    · isplitl [H1]; · iapply own_at c arg1 harg1; iexact H1
      isplitl [H2]; · iapply own_at c arg2 harg2; iexact H2
      isplitl [H3]; · iapply own_at c arg3 harg3; iexact H3
      isplitl [H4]; · iapply own_at c arg4 harg4; iexact H4
      isplitl [H5]; · iapply own_at c arg5 harg5; iexact H5
      isplitl [H6]; · iapply own_at c arg6 harg6; iexact H6
      isplitl [H7]; · iapply own_at c arg7 harg7; iexact H7
      isplitl [H8]; · iapply own_at c arg8 harg8; iexact H8
      isplitl [H9]; · iapply own_at c arg9 harg9; iexact H9
      isplitl [H10]; · iapply own_at c arg10 harg10; iexact H10
      isplitl [H11]; · iapply own_at c arg11 harg11; iexact H11
      isplitl [H12]; · iapply own_at c arg12 harg12; iexact H12
      isplitl [H13]; · iapply own_at c arg13 harg13; iexact H13
      isplitl [H14]; · iapply own_at c arg14 harg14; iexact H14
      isplitl [H15]; · iapply own_at c arg15 harg15; iexact H15
      isplitl [H16]; · iapply own_at c arg16 harg16; iexact H16
      isplitl [H17]; · iapply own_at c arg17 harg17; iexact H17
      isplitl [H18]; · iapply own_at c arg18 harg18; iexact H18
      isplitl [H19]; · iapply own_at c arg19 harg19; iexact H19
      isplitl [H20]; · iapply own_at c arg20 harg20; iexact H20
      isplitl [H21]; · iexists _, _, _; iexact H21
      isplitl [H22]; · iexists _; iexact H22
      isplitl [H23]; · iapply own_some c arg23; iexact H23
      isplitl [H24]; · iexists _; iexact H24
      isplitl [H25]; · iexists _; iexact H25
      isplitl [H26]; · iexists _; iexact H26
      isplitl [H27]; · iexists _; iexact H27
      isplitl [H28]; · iapply own_some c arg28; iexact H28
      isplitl [H29]; · iapply own_some c arg29; iexact H29
      isplitl [H30]; · iapply own_some c arg30; iexact H30
      isplitl [H31]; · iapply own_some c arg31; iexact H31
      isplitl [H32]; · iapply own_some c arg32; iexact H32
      isplitl [H33]; · iapply own_some c arg33; iexact H33
      iapply own_some c arg34; iexact H34
    isplitl [H35]; · iapply own_some c arg35; iexact H35
    isplitl [H36]; · iapply own_some c arg36; iexact H36
    isplitl [H37]; · iapply own_some c arg37; iexact H37
    isplitl [H38]; · iapply own_some c arg38; iexact H38
    isplitl [H39]; · iapply own_some c arg39; iexact H39
    isplitl [H40]; · iapply own_some c arg40; iexact H40
    isplitl [H41]; · iapply own_some c arg41; iexact H41
    isplitl [H42]; · iapply own_some c arg42; iexact H42
    isplitl [H43]; · iapply own_some c arg43; iexact H43
    isplitl [H44]; · iapply own_some c arg44; iexact H44
    isplitl [H45]; · iapply own_some c arg45; iexact H45
    isplitl [H46]; · iapply own_some c arg46; iexact H46
    isplitl [H47]; · iapply own_some c arg47; iexact H47
    isplitl [H48]; · iapply own_some c arg48; iexact H48
    isplitl [H49]; · iapply own_some c arg49; iexact H49
    iapply own_some c arg50; iexact H50
end Cert.Kernel2Ideal.Br
end
-- ==== Proof.Br.TC.lean ====
module

public import proofs.«01_k».proof.Proof.Br.Base

@[expose] public section

set_option maxRecDepth 16384

noncomputable section

namespace Cert.Kernel2Ideal.Br

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F] [Named F]

local notation "𝕄" => MT nD τ sig Unit (Elt F) ℕ (UR sig nD τ) ℕ

variable (arg1 : Memref sig .tc .vmem S4x256x1280 .bf16) (harg1 : arg1.IsWhole)
variable (arg2 : Memref sig .tc .vmem S4x16x1280 .bf16) (harg2 : arg2.IsWhole)
variable (arg3 : Memref sig .tc .vmem S256x1024 .f32) (harg3 : arg3.IsWhole)
variable (arg4 : Memref sig .tc .vmem S8x1024 .f32) (harg4 : arg4.IsWhole)
variable (arg5 : Memref sig .tc .vmem S256x2048 .f32) (harg5 : arg5.IsWhole)
variable (arg6 : Memref sig .tc .vmem S1x1024 .f32) (harg6 : arg6.IsWhole)
variable (arg7 : Memref sig .tc .vmem S1x1024 .f32) (harg7 : arg7.IsWhole)
variable (arg8 : Memref sig .tc .vmem S8x128x128 .bf16) (harg8 : arg8.IsWhole)
variable (arg9 : Memref sig .tc .vmem S8x128x128 .bf16) (harg9 : arg9.IsWhole)
variable (arg10 : Memref sig .tc .vmem S128x1024 .f32) (harg10 : arg10.IsWhole)
variable (arg11 : Memref sig .tc .vmem S4x1024 .f32) (harg11 : arg11.IsWhole)
variable (arg12 : Memref sig .tc .vmem S1x1024 .f32) (harg12 : arg12.IsWhole)
variable (arg13 : Memref sig .tc .vmem S8x128x128 .bf16) (harg13 : arg13.IsWhole)
variable (arg14 : Memref sig .tc .vmem S8x128x128 .bf16) (harg14 : arg14.IsWhole)
variable (arg15 : Memref sig .tc .vmem S1x1024 .f32) (harg15 : arg15.IsWhole)
variable (arg16 : Memref sig .tc .vmem S1x1024 .f32) (harg16 : arg16.IsWhole)
variable (arg17 : Memref sig .tc .vmem S1x1024 .f32) (harg17 : arg17.IsWhole)
variable (arg18 : Memref sig .tc .vmem S1x1024 .f32) (harg18 : arg18.IsWhole)
variable (arg19 : Memref sig .tc .vmem S1x1024 .f32) (harg19 : arg19.IsWhole)
variable (arg20 : Memref sig .tc .vmem S8x128 .f32) (harg20 : arg20.IsWhole)
variable (arg21 : Memref sig .tc .vmem S256x5120 .bf16) (harg21 : arg21.IsWhole)
variable (arg22 : Memref sig .tc .vmem S8x1024 .f32) (harg22 : arg22.IsWhole)
variable (arg23 : Memref sig .tc .vmem S8x1024 .f32) (harg23 : arg23.IsWhole)
variable (arg24 : Memref sig .tc .vmem S8x1024 .f32) (harg24 : arg24.IsWhole)
variable (arg25 : Memref sig .tc .vmem S8x1024 .f32) (harg25 : arg25.IsWhole)
variable (arg26 : Memref sig .tc .vmem S128x1024 .f32) (harg26 : arg26.IsWhole)
variable (arg27 : Memref sig .tc .vmem S8x128x128 .f32) (harg27 : arg27.IsWhole)
variable (arg28 : Memref sig .tc .vmem S32x1024 .f32) (harg28 : arg28.IsWhole)
variable (arg29 : Memref sig .tc .vmem S8x1024 .f32) (harg29 : arg29.IsWhole)
variable (arg30 : Memref sig .tc .vmem S8x128x128 .f32) (harg30 : arg30.IsWhole)
variable (arg31 : Memref sig .tc .vmem S8x1024 .f32) (harg31 : arg31.IsWhole)
variable (arg32 : Memref sig .tc .vmem S8x128x128 .f32) (harg32 : arg32.IsWhole)
variable (arg33 : Memref sig .tc .vmem S8x1024 .f32) (harg33 : arg33.IsWhole)
variable (arg34 : Memref sig .tc .vmem S8x1024 .f32) (harg34 : arg34.IsWhole)
variable (arg35 : Memref sig .tc .vmem S256x1024 .bf16) (harg35 : arg35.IsWhole)
variable (arg36 : Memref sig .tc .vmem S256x1024 .f32) (harg36 : arg36.IsWhole)
variable (arg37 : Memref sig .tc .vmem S256x1024 .bf16) (harg37 : arg37.IsWhole)
variable (arg38 : Memref sig .tc .vmem S256x1024 .f32) (harg38 : arg38.IsWhole)
variable (arg39 : Memref sig .tc .vmem S256x1024 .bf16) (harg39 : arg39.IsWhole)
variable (arg40 : Memref sig .tc .vmem S256x1024 .f32) (harg40 : arg40.IsWhole)
variable (arg41 : Memref sig .tc .vmem S256x1024 .f32) (harg41 : arg41.IsWhole)
variable (arg42 : Memref sig .tc .vmem S256x1024 .f32) (harg42 : arg42.IsWhole)
variable (arg43 : Memref sig .tc .vmem S256x1024 .f32) (harg43 : arg43.IsWhole)
variable (arg44 : Memref sig .tc .vmem S256x1024 .f32) (harg44 : arg44.IsWhole)
variable (arg45 : Memref sig .tc .vmem S256x1024 .bf16) (harg45 : arg45.IsWhole)
variable (arg46 : Memref sig .tc .vmem S256x1024 .bf16) (harg46 : arg46.IsWhole)
variable (arg47 : Memref sig .tc .vmem S256x1024 .f32) (harg47 : arg47.IsWhole)
variable (arg48 : Memref sig .tc .vmem S8x1024 .f32) (harg48 : arg48.IsWhole)
variable (arg49 : Memref sig .tc .vmem S8x1024 .f32) (harg49 : arg49.IsWhole)
variable (arg50 : Memref sig .tc .vmem S8x1024 .f32) (harg50 : arg50.IsWhole)
variable (x1 : Vec F S4x256x1280 .bf16) (x2 : Vec F S4x16x1280 .bf16) (x3 : Vec F S256x1024 .f32) (x4 : Vec F S8x1024 .f32) (x5 : Vec F S256x2048 .f32) (x6 : Vec F S1x1024 .f32) (x7 : Vec F S1x1024 .f32) (x8 : Vec F S8x128x128 .bf16) (x9 : Vec F S8x128x128 .bf16) (x10 : Vec F S128x1024 .f32) (x11 : Vec F S4x1024 .f32) (x12 : Vec F S1x1024 .f32) (x13 : Vec F S8x128x128 .bf16) (x14 : Vec F S8x128x128 .bf16) (x15 : Vec F S1x1024 .f32) (x16 : Vec F S1x1024 .f32) (x17 : Vec F S1x1024 .f32) (x18 : Vec F S1x1024 .f32) (x19 : Vec F S1x1024 .f32) (x20 : Vec F S8x128 .f32)
variable (y22 : Vec F S8x1024 .f32) (y24 : Vec F S8x1024 .f32) (y25 : Vec F S8x1024 .f32) (y26 : Vec F S128x1024 .f32) (y27 : Vec F S8x128x128 .f32)

set_option maxHeartbeats 4000000 in
/-- One run of the body at the last point: what its stores leave in the gMLP half's results, as pieces, with the
    proof that the body runs from the inputs' blocks to these; the other half's results and the scratch
    buffers end at some contents. -/
noncomputable def run_C (c : Dev nD) (i : grid0.Coords) (hc0 : ¬ cond0_0 i) (hc1 : cond0_1 i) :
   Σ' (L21 : List (View.Piece (Elt F) S256x5120 .bf16)), Σ' (L22 : List (View.Piece (Elt F) S8x1024 .f32)), Σ' (L24 : List (View.Piece (Elt F) S8x1024 .f32)), Σ' (L25 : List (View.Piece (Elt F) S8x1024 .f32)), Σ' (L26 : List (View.Piece (Elt F) S128x1024 .f32)), { L27 : List (View.Piece (Elt F) S8x128x128 .f32) // ∀ (E : Set ℕ) (K : PUnit → sProp 𝕄),
   iprop((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ (∃ d, owns (c : Thread nD τ) arg21 fullShare d) ∗ owns (c : Thread nD τ) arg22 fullShare y22 ∗ (∃ d, owns (c : Thread nD τ) arg23 fullShare d) ∗ owns (c : Thread nD τ) arg24 fullShare y24 ∗ owns (c : Thread nD τ) arg25 fullShare y25 ∗ owns (c : Thread nD τ) arg26 fullShare y26 ∗ owns (c : Thread nD τ) arg27 fullShare y27 ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d)) ∗ ((∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d)) ∗ (iprop((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ (∃ f w₁ w₂, arg21.view.loc (c : Thread nD τ) ↦[arg21.view.set]{fullShare} arg21.view.writes (Elt F) f (⟨Rect.unit (s := S256x5120) ![0, 3072] S256x1024.size inb_S256x5120_S256x1024_0_3072, w₁⟩ :: ⟨Rect.unit (s := S256x5120) ![0, 4096] S256x1024.size inb_S256x5120_S256x1024_0_4096, w₂⟩ :: L21)) ∗ (∃ f, arg22.view.loc (c : Thread nD τ) ↦[arg22.view.set]{fullShare} arg22.view.writes (Elt F) f L22) ∗ (∃ d, owns (c : Thread nD τ) arg23 fullShare d) ∗ (∃ f, arg24.view.loc (c : Thread nD τ) ↦[arg24.view.set]{fullShare} arg24.view.writes (Elt F) f L24) ∗ (∃ f, arg25.view.loc (c : Thread nD τ) ↦[arg25.view.set]{fullShare} arg25.view.writes (Elt F) f L25) ∗ (∃ f, arg26.view.loc (c : Thread nD τ) ↦[arg26.view.set]{fullShare} arg26.view.writes (Elt F) f L26) ∗ (∃ f, arg27.view.loc (c : Thread nD τ) ↦[arg27.view.set]{fullShare} arg27.view.writes (Elt F) f L27) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d)) ∗ ((∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d))) -∗ K ⟨⟩)) ⊢ wp frame (wpE (defs₀ (F := F)) Variants.none c none) E (cc0_branches_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50) K } := by
  refine ⟨?_, ?_, ?_, ?_, ?_, ?_, fun E K => ?run⟩
  case run =>
    simp only [cc0_branches_bwd_eq_skeleton]; unfold cc0_branches_bwd_skel
    simp only [k0_part51_eq_skeleton]; unfold k0_part51_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    unfold owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%f22, %hf22, H22⟩, ⟨%d23, %f23, -, H23⟩, ⟨%f24, %hf24, H24⟩, ⟨%f25, %hf25, H25⟩, ⟨%f26, %hf26, H26⟩, ⟨%f27, %hf27, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩⟩, ⟨⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, ⟨%d48, %f48, -, H48⟩, ⟨%d49, %f49, -, H49⟩, ⟨%d50, %f50, -, H50⟩⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg22.eq_unread hf22; obtain rfl := harg24.eq_unread hf24; obtain rfl := harg25.eq_unread hf25; obtain rfl := harg26.eq_unread hf26; obtain rfl := harg27.eq_unread hf27
    sl_exec (disch := first | sl_exact hc0 | sl_exact hc1)
    sl_step
    iapply Hk
    isplitl [H1 H2 H3 H4 H5 H6 H7 H8 H9 H10 H11 H12 H13 H14 H15 H16 H17 H18 H19 H20 H21 H22 H23 H24 H25 H26 H27 H28 H29 H30 H31 H32 H33 H34]
    · isplitl [H1]; · iapply own_at c arg1 harg1; iexact H1
      isplitl [H2]; · iapply own_at c arg2 harg2; iexact H2
      isplitl [H3]; · iapply own_at c arg3 harg3; iexact H3
      isplitl [H4]; · iapply own_at c arg4 harg4; iexact H4
      isplitl [H5]; · iapply own_at c arg5 harg5; iexact H5
      isplitl [H6]; · iapply own_at c arg6 harg6; iexact H6
      isplitl [H7]; · iapply own_at c arg7 harg7; iexact H7
      isplitl [H8]; · iapply own_at c arg8 harg8; iexact H8
      isplitl [H9]; · iapply own_at c arg9 harg9; iexact H9
      isplitl [H10]; · iapply own_at c arg10 harg10; iexact H10
      isplitl [H11]; · iapply own_at c arg11 harg11; iexact H11
      isplitl [H12]; · iapply own_at c arg12 harg12; iexact H12
      isplitl [H13]; · iapply own_at c arg13 harg13; iexact H13
      isplitl [H14]; · iapply own_at c arg14 harg14; iexact H14
      isplitl [H15]; · iapply own_at c arg15 harg15; iexact H15
      isplitl [H16]; · iapply own_at c arg16 harg16; iexact H16
      isplitl [H17]; · iapply own_at c arg17 harg17; iexact H17
      isplitl [H18]; · iapply own_at c arg18 harg18; iexact H18
      isplitl [H19]; · iapply own_at c arg19 harg19; iexact H19
      isplitl [H20]; · iapply own_at c arg20 harg20; iexact H20
      isplitl [H21]; · iexists _, _, _; iexact H21
      isplitl [H22]; · iexists _; iexact H22
      isplitl [H23]; · iapply own_some c arg23; iexact H23
      isplitl [H24]; · iexists _; iexact H24
      isplitl [H25]; · iexists _; iexact H25
      isplitl [H26]; · iexists _; iexact H26
      isplitl [H27]; · iexists _; iexact H27
      isplitl [H28]; · iapply own_some c arg28; iexact H28
      isplitl [H29]; · iapply own_some c arg29; iexact H29
      isplitl [H30]; · iapply own_some c arg30; iexact H30
      isplitl [H31]; · iapply own_some c arg31; iexact H31
      isplitl [H32]; · iapply own_some c arg32; iexact H32
      isplitl [H33]; · iapply own_some c arg33; iexact H33
      iapply own_some c arg34; iexact H34
    isplitl [H35]; · iapply own_some c arg35; iexact H35
    isplitl [H36]; · iapply own_some c arg36; iexact H36
    isplitl [H37]; · iapply own_some c arg37; iexact H37
    isplitl [H38]; · iapply own_some c arg38; iexact H38
    isplitl [H39]; · iapply own_some c arg39; iexact H39
    isplitl [H40]; · iapply own_some c arg40; iexact H40
    isplitl [H41]; · iapply own_some c arg41; iexact H41
    isplitl [H42]; · iapply own_some c arg42; iexact H42
    isplitl [H43]; · iapply own_some c arg43; iexact H43
    isplitl [H44]; · iapply own_some c arg44; iexact H44
    isplitl [H45]; · iapply own_some c arg45; iexact H45
    isplitl [H46]; · iapply own_some c arg46; iexact H46
    isplitl [H47]; · iapply own_some c arg47; iexact H47
    isplitl [H48]; · iapply own_some c arg48; iexact H48
    isplitl [H49]; · iapply own_some c arg49; iexact H49
    iapply own_some c arg50; iexact H50
end Cert.Kernel2Ideal.Br
end
-- ==== Proof.Br.Pt.lean ====
module

public import proofs.«01_k».proof.Proof.Br.TA
public import proofs.«01_k».proof.Proof.Br.TB
public import proofs.«01_k».proof.Proof.Br.TC
public import Idealize.ShloMosaic.Lib.Pipeline.DatRel

@[expose] public section

set_option maxRecDepth 16384

noncomputable section

namespace Cert.Kernel2Ideal.Br

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)
open Cert.Kernel2Ideal Cert.Kernel2Ideal.Gen

variable {F : FTy → Type} [FloatOps F] [Named F]

local notation "𝕄" => MT nD τ sig Unit (Elt F) ℕ (UR sig nD τ) ℕ

/-- The two stores into the other half's columns, at any contents. -/
def withRest (L : List (View.Piece (Elt F) S256x5120 .bf16)) : List (View.Piece (Elt F) S256x5120 .bf16) :=
  ⟨Rect.unit (s := S256x5120) ![0, 3072] S256x1024.size inb_S256x5120_S256x1024_0_3072, fun _ => FloatOps.ofBits .bf16 0#16⟩
    :: ⟨Rect.unit (s := S256x5120) ![0, 4096] S256x1024.size inb_S256x5120_S256x1024_0_4096, fun _ => FloatOps.ofBits .bf16 0#16⟩ :: L

/-- They touch no column of the gMLP half. -/
theorem not_mem_right {o : ℕ} (inb : ∀ a, (![0, o] : Fin 2 → ℕ) a + S256x1024.size a ≤ S256x5120.size a) (ho : 3072 ≤ o)
    (y : S256x5120.Idx) (hy : (y 1).val < 3072) : y ∉ (Rect.unit (s := S256x5120) ![0, o] S256x1024.size inb).set := by
  rw [Rect.mem_set_unit]
  intro h
  have := (h 1).1
  change o ≤ (y 1).val at this
  omega

theorem cover_left {L : List (View.Piece (Elt F) S256x5120 .bf16)} (h : ∀ y, ∃ p ∈ withRest L, y ∈ p.1.set)
    (y : S256x5120.Idx) (hy : (y 1).val < 3072) : ∃ p ∈ L, y ∈ p.1.set := by
  obtain ⟨p, hp, hyp⟩ := h y
  rcases List.mem_cons.mp hp with rfl | hp
  · exact absurd hyp (not_mem_right inb_S256x5120_S256x1024_0_3072 (Nat.le_refl _) y hy)
  rcases List.mem_cons.mp hp with rfl | hp
  · exact absurd hyp (not_mem_right inb_S256x5120_S256x1024_0_4096 (by decide) y hy)
  exact ⟨p, hp, hyp⟩

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The gMLP half's accumulators: the gradients of the output gain, of the norm's gain and offset, of the
    spatial offsets and of the spatial weights. -/
abbrev Acc (F : FTy → Type) : Type :=
  Vec F S8x1024 .f32 × Vec F S8x1024 .f32 × Vec F S8x1024 .f32 × Vec F S128x1024 .f32 × Vec F S8x128x128 .f32

/-- The body's run at the first point, on the point's buffers and blocks; -/
def rA (c : Dev nD) (t : Fin cfg0.N) (h0 : t.val % 32 = 0) :=
  run_A (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (win0_28.stage (cfg0.slots t 28)) (hstage0_28 ((cfg0.slots t 28).cast nbuf0_28)) (win0_29.stage (cfg0.slots t 29)) (hstage0_29 ((cfg0.slots t 29).cast nbuf0_29)) (win0_30.stage (cfg0.slots t 30)) (hstage0_30 ((cfg0.slots t 30).cast nbuf0_30)) (win0_31.stage (cfg0.slots t 31)) (hstage0_31 ((cfg0.slots t 31).cast nbuf0_31)) (win0_32.stage (cfg0.slots t 32)) (hstage0_32 ((cfg0.slots t 32).cast nbuf0_32)) (win0_33.stage (cfg0.slots t 33)) (hstage0_33 ((cfg0.slots t 33).cast nbuf0_33)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) c (grid0.coords t) ((hcond0_0 t).mpr h0) (fun h => by have := (hcond0_1 t).mp h; omega)

/-- at a point between, over the accumulators `y`; -/
def rB (c : Dev nD) (t : Fin cfg0.N) (y : Acc F) (h0 : ¬t.val % 32 = 0) (h1 : ¬t.val % 32 = 31) :=
  run_B (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (win0_28.stage (cfg0.slots t 28)) (hstage0_28 ((cfg0.slots t 28).cast nbuf0_28)) (win0_29.stage (cfg0.slots t 29)) (hstage0_29 ((cfg0.slots t 29).cast nbuf0_29)) (win0_30.stage (cfg0.slots t 30)) (hstage0_30 ((cfg0.slots t 30).cast nbuf0_30)) (win0_31.stage (cfg0.slots t 31)) (hstage0_31 ((cfg0.slots t 31).cast nbuf0_31)) (win0_32.stage (cfg0.slots t 32)) (hstage0_32 ((cfg0.slots t 32).cast nbuf0_32)) (win0_33.stage (cfg0.slots t 33)) (hstage0_33 ((cfg0.slots t 33).cast nbuf0_33)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) y.1 y.2.1 y.2.2.1 y.2.2.2.1 y.2.2.2.2 c (grid0.coords t) (fun h => h0 ((hcond0_0 t).mp h)) (fun h => h1 ((hcond0_1 t).mp h))

/-- and at the last point. -/
def rC (c : Dev nD) (t : Fin cfg0.N) (y : Acc F) (h1 : t.val % 32 = 31) :=
  run_C (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (win0_28.stage (cfg0.slots t 28)) (hstage0_28 ((cfg0.slots t 28).cast nbuf0_28)) (win0_29.stage (cfg0.slots t 29)) (hstage0_29 ((cfg0.slots t 29).cast nbuf0_29)) (win0_30.stage (cfg0.slots t 30)) (hstage0_30 ((cfg0.slots t 30).cast nbuf0_30)) (win0_31.stage (cfg0.slots t 31)) (hstage0_31 ((cfg0.slots t 31).cast nbuf0_31)) (win0_32.stage (cfg0.slots t 32)) (hstage0_32 ((cfg0.slots t 32).cast nbuf0_32)) (win0_33.stage (cfg0.slots t 33)) (hstage0_33 ((cfg0.slots t 33).cast nbuf0_33)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) y.1 y.2.1 y.2.2.1 y.2.2.2.1 y.2.2.2.2 c (grid0.coords t) (fun h => by have := (hcond0_0 t).mp h; omega) ((hcond0_1 t).mpr h1)

theorem covA_0 (c : Dev nD) (t : Fin cfg0.N) (h0 : t.val % 32 = 0) : ∀ y', ∃ p ∈ (rA V c t h0).2.1, y' ∈ p.1.set :=
  View.cover_of_tiledL (rA V c t h0).2.1 S8x1024.size (by sl_kernel_rfl)
theorem covA_1 (c : Dev nD) (t : Fin cfg0.N) (h0 : t.val % 32 = 0) : ∀ y', ∃ p ∈ (rA V c t h0).2.2.1, y' ∈ p.1.set :=
  View.cover_of_tiledL (rA V c t h0).2.2.1 S8x1024.size (by sl_kernel_rfl)
theorem covA_2 (c : Dev nD) (t : Fin cfg0.N) (h0 : t.val % 32 = 0) : ∀ y', ∃ p ∈ (rA V c t h0).2.2.2.1, y' ∈ p.1.set :=
  View.cover_of_tiledL (rA V c t h0).2.2.2.1 S8x1024.size (by sl_kernel_rfl)
theorem covA_3 (c : Dev nD) (t : Fin cfg0.N) (h0 : t.val % 32 = 0) : ∀ y', ∃ p ∈ (rA V c t h0).2.2.2.2.1, y' ∈ p.1.set :=
  View.cover_of_tiledL (rA V c t h0).2.2.2.2.1 S128x1024.size (by sl_kernel_rfl)
theorem covA_4 (c : Dev nD) (t : Fin cfg0.N) (h0 : t.val % 32 = 0) : ∀ y', ∃ p ∈ (rA V c t h0).2.2.2.2.2.1, y' ∈ p.1.set :=
  View.cover_of_tiledL (rA V c t h0).2.2.2.2.2.1 S8x128x128.size (by sl_kernel_rfl)
theorem covA_z (c : Dev nD) (t : Fin cfg0.N) (h0 : t.val % 32 = 0) (y' : S256x5120.Idx) (hy : (y' 1).val < 3072) :
    ∃ p ∈ (rA V c t h0).1, y' ∈ p.1.set :=
  cover_left (View.cover_of_tiledL (withRest (rA V c t h0).1) S256x1024.size (by sl_kernel_rfl)) y' hy
/-- What that run leaves in the accumulators. -/
def accA (c : Dev nD) (t : Fin cfg0.N) (h0 : t.val % 32 = 0) : Acc F :=
  (View.canon (rA V c t h0).2.1, View.canon (rA V c t h0).2.2.1, View.canon (rA V c t h0).2.2.2.1, View.canon (rA V c t h0).2.2.2.2.1, View.canon (rA V c t h0).2.2.2.2.2.1)

theorem covB_0 (c : Dev nD) (t : Fin cfg0.N) (y : Acc F) (h0 : ¬t.val % 32 = 0) (h1 : ¬t.val % 32 = 31) : ∀ y', ∃ p ∈ (rB V c t y h0 h1).2.1, y' ∈ p.1.set :=
  View.cover_of_tiledL (rB V c t y h0 h1).2.1 S8x1024.size (by sl_kernel_rfl)
theorem covB_1 (c : Dev nD) (t : Fin cfg0.N) (y : Acc F) (h0 : ¬t.val % 32 = 0) (h1 : ¬t.val % 32 = 31) : ∀ y', ∃ p ∈ (rB V c t y h0 h1).2.2.1, y' ∈ p.1.set :=
  View.cover_of_tiledL (rB V c t y h0 h1).2.2.1 S8x1024.size (by sl_kernel_rfl)
theorem covB_2 (c : Dev nD) (t : Fin cfg0.N) (y : Acc F) (h0 : ¬t.val % 32 = 0) (h1 : ¬t.val % 32 = 31) : ∀ y', ∃ p ∈ (rB V c t y h0 h1).2.2.2.1, y' ∈ p.1.set :=
  View.cover_of_tiledL (rB V c t y h0 h1).2.2.2.1 S8x1024.size (by sl_kernel_rfl)
theorem covB_3 (c : Dev nD) (t : Fin cfg0.N) (y : Acc F) (h0 : ¬t.val % 32 = 0) (h1 : ¬t.val % 32 = 31) : ∀ y', ∃ p ∈ (rB V c t y h0 h1).2.2.2.2.1, y' ∈ p.1.set :=
  View.cover_of_tiledL (rB V c t y h0 h1).2.2.2.2.1 S128x1024.size (by sl_kernel_rfl)
theorem covB_4 (c : Dev nD) (t : Fin cfg0.N) (y : Acc F) (h0 : ¬t.val % 32 = 0) (h1 : ¬t.val % 32 = 31) : ∀ y', ∃ p ∈ (rB V c t y h0 h1).2.2.2.2.2.1, y' ∈ p.1.set :=
  View.cover_of_tiledL (rB V c t y h0 h1).2.2.2.2.2.1 S1x128x128.size (by sl_kernel_rfl)
theorem covB_z (c : Dev nD) (t : Fin cfg0.N) (y : Acc F) (h0 : ¬t.val % 32 = 0) (h1 : ¬t.val % 32 = 31) (y' : S256x5120.Idx) (hy : (y' 1).val < 3072) :
    ∃ p ∈ (rB V c t y h0 h1).1, y' ∈ p.1.set :=
  cover_left (View.cover_of_tiledL (withRest (rB V c t y h0 h1).1) S256x1024.size (by sl_kernel_rfl)) y' hy
/-- What that run leaves in the accumulators. -/
def accB (c : Dev nD) (t : Fin cfg0.N) (y : Acc F) (h0 : ¬t.val % 32 = 0) (h1 : ¬t.val % 32 = 31) : Acc F :=
  (View.canon (rB V c t y h0 h1).2.1, View.canon (rB V c t y h0 h1).2.2.1, View.canon (rB V c t y h0 h1).2.2.2.1, View.canon (rB V c t y h0 h1).2.2.2.2.1, View.canon (rB V c t y h0 h1).2.2.2.2.2.1)

theorem covC_0 (c : Dev nD) (t : Fin cfg0.N) (y : Acc F) (h1 : t.val % 32 = 31) : ∀ y', ∃ p ∈ (rC V c t y h1).2.1, y' ∈ p.1.set :=
  View.cover_of_tiledL (rC V c t y h1).2.1 S8x1024.size (by sl_kernel_rfl)
theorem covC_1 (c : Dev nD) (t : Fin cfg0.N) (y : Acc F) (h1 : t.val % 32 = 31) : ∀ y', ∃ p ∈ (rC V c t y h1).2.2.1, y' ∈ p.1.set :=
  View.cover_of_tiledL (rC V c t y h1).2.2.1 S8x1024.size (by sl_kernel_rfl)
theorem covC_2 (c : Dev nD) (t : Fin cfg0.N) (y : Acc F) (h1 : t.val % 32 = 31) : ∀ y', ∃ p ∈ (rC V c t y h1).2.2.2.1, y' ∈ p.1.set :=
  View.cover_of_tiledL (rC V c t y h1).2.2.2.1 S8x1024.size (by sl_kernel_rfl)
theorem covC_3 (c : Dev nD) (t : Fin cfg0.N) (y : Acc F) (h1 : t.val % 32 = 31) : ∀ y', ∃ p ∈ (rC V c t y h1).2.2.2.2.1, y' ∈ p.1.set :=
  View.cover_of_tiledL (rC V c t y h1).2.2.2.2.1 S128x1024.size (by sl_kernel_rfl)
theorem covC_4 (c : Dev nD) (t : Fin cfg0.N) (y : Acc F) (h1 : t.val % 32 = 31) : ∀ y', ∃ p ∈ (rC V c t y h1).2.2.2.2.2.1, y' ∈ p.1.set :=
  View.cover_of_tiledL (rC V c t y h1).2.2.2.2.2.1 S1x128x128.size (by sl_kernel_rfl)
theorem covC_z (c : Dev nD) (t : Fin cfg0.N) (y : Acc F) (h1 : t.val % 32 = 31) (y' : S256x5120.Idx) (hy : (y' 1).val < 3072) :
    ∃ p ∈ (rC V c t y h1).1, y' ∈ p.1.set :=
  cover_left (View.cover_of_tiledL (withRest (rC V c t y h1).1) S256x1024.size (by sl_kernel_rfl)) y' hy
/-- What that run leaves in the accumulators. -/
def accC (c : Dev nD) (t : Fin cfg0.N) (y : Acc F) (h1 : t.val % 32 = 31) : Acc F :=
  (View.canon (rC V c t y h1).2.1, View.canon (rC V c t y h1).2.2.1, View.canon (rC V c t y h1).2.2.2.1, View.canon (rC V c t y h1).2.2.2.2.1, View.canon (rC V c t y h1).2.2.2.2.2.1)

/-- The accumulators after the body at point `n`. -/
def accs (c : Dev nD) : (n : ℕ) → n < cfg0.N → Acc F
  | 0, hn => accA V c ⟨0, hn⟩ (Nat.zero_mod _)
  | n + 1, hn =>
    if h0 : (n + 1) % 32 = 0 then accA V c ⟨n + 1, hn⟩ h0
    else if h1 : (n + 1) % 32 = 31 then accC V c ⟨n + 1, hn⟩ (accs c n (Nat.lt_of_succ_lt hn)) h1
    else accB V c ⟨n + 1, hn⟩ (accs c n (Nat.lt_of_succ_lt hn)) h0 h1

/-- The accumulators the body finds at point `t` after the first. -/
def prev (c : Dev nD) (t : Fin cfg0.N) : Acc F := accs V c (t.val - 1) (Nat.lt_of_le_of_lt (Nat.sub_le _ _) t.isLt)

theorem accs_A (c : Dev nD) (t : Fin cfg0.N) (h0 : t.val % 32 = 0) : accs V c t.val t.isLt = accA V c t h0 := by
  obtain ⟨n, hn⟩ := t
  cases n with
  | zero => rfl
  | succ n => exact (dif_pos h0).trans rfl

theorem accs_B (c : Dev nD) (t : Fin cfg0.N) (h0 : ¬t.val % 32 = 0) (h1 : ¬t.val % 32 = 31) :
    accs V c t.val t.isLt = accB V c t (prev V c t) h0 h1 := by
  obtain ⟨n, hn⟩ := t
  cases n with
  | zero => exact absurd (Nat.zero_mod _) h0
  | succ n => exact (dif_neg h0).trans ((dif_neg h1).trans rfl)

theorem accs_C (c : Dev nD) (t : Fin cfg0.N) (h1 : t.val % 32 = 31) :
    accs V c t.val t.isLt = accC V c t (prev V c t) h1 := by
  obtain ⟨n, hn⟩ := t
  cases n with
  | zero => exact absurd ((Nat.zero_mod 32).symm.trans h1) (by decide)
  | succ n => exact (dif_neg (by dsimp only at h1; omega)).trans ((dif_pos h1).trans rfl)

/-- What the body leaves in the gMLP half's columns of the gradient tile. -/
def dzv (c : Dev nD) (t : Fin cfg0.N) : Vec F S256x5120 .bf16 :=
  if h0 : t.val % 32 = 0 then View.canon (rA V c t h0).1
  else if h1 : t.val % 32 = 31 then View.canon (rC V c t (prev V c t) h1).1
  else View.canon (rB V c t (prev V c t) h0 h1).1

/-- The windows that are not held to exact contents. -/
def fgt : Fin cfg0.W → Bool := fun w => w.val == 20 || w.val == 22 || Nat.ble 27 w.val

/-- Of the gradient tile the gMLP half's columns are known; of the other half's results nothing is said. -/
def Rl (c : Dev nD) (w : Fin cfg0.W) (t : Fin cfg0.N) : ((cfg0.win w).block.Idx → Elt F (cfg0.win w).elt) → Prop :=
  match w with
  | ⟨20, _⟩ => fun X => ∀ y : S256x5120.Idx, (y 1).val < 3072 → X y = dzv V c t y
  | _ => fun _ => True

/-- The proof data of the region. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => iblk0 V c 17 t
    | ⟨18, _⟩ => iblk0 V c 18 t
    | ⟨19, _⟩ => iblk0 V c 19 t
    | ⟨20, _⟩ => dzv V c t
    | ⟨21, _⟩ => (accs V c t.val t.isLt).1
    | ⟨22, _⟩ => fun _ => FloatOps.ofBits .f32 0#32
    | ⟨23, _⟩ => (accs V c t.val t.isLt).2.1
    | ⟨24, _⟩ => (accs V c t.val t.isLt).2.2.1
    | ⟨25, _⟩ => (accs V c t.val t.isLt).2.2.2.1
    | ⟨26, _⟩ => (accs V c t.val t.isLt).2.2.2.2
    | ⟨27, _⟩ => fun _ => FloatOps.ofBits .f32 0#32
    | ⟨28, _⟩ => fun _ => FloatOps.ofBits .f32 0#32
    | ⟨29, _⟩ => fun _ => FloatOps.ofBits .f32 0#32
    | ⟨30, _⟩ => fun _ => FloatOps.ofBits .f32 0#32
    | ⟨31, _⟩ => fun _ => FloatOps.ofBits .f32 0#32
    | ⟨32, _⟩ => fun _ => FloatOps.ofBits .f32 0#32
    | ⟨33, _⟩ => fun _ => FloatOps.ofBits .f32 0#32
    | ⟨n + 34, h⟩ => absurd h (Nat.not_lt.mpr (Nat.le_add_left 34 n))
  Φ _ := Pipeline.ΦA spec0 c
  q := Pipeline.shareOf spec0
  owed _ := 0

theorem A_eq0 (c : Dev nD) (w : Fin cfg0.W) : (dat0 V c).A w = V c (Pipeline.arrRef spec0 w) := by
  dsimp only [dat0]

end Cert.Kernel2Ideal.Br
end
-- ==== Proof.Br.Sp.lean ====
module

public import proofs.«01_k».proof.Proof.Br.Pt
public import Idealize.ShloMosaic.Lib.Pipeline.DatRel

@[expose] public section

set_option maxRecDepth 16384

noncomputable section

namespace Cert.Kernel2Ideal.Br

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)
open Cert.Kernel2Ideal Cert.Kernel2Ideal.Gen

variable {F : FTy → Type} [FloatOps F] [Named F]

local notation "𝕄" => MT nD τ sig Unit (Elt F) ℕ (UR sig nD τ) ℕ

variable {c : Dev nD} (D : Dat τ (Elt F) Unit ℕ (UR sig nD τ) ℕ cfg0 c) {G : Fin cfg0.W → Bool}
  {R : (w : Fin cfg0.W) → Fin cfg0.N → ((cfg0.win w).block.Idx → Elt F (cfg0.win w).elt) → Prop}

/-- What the body finds in window `w`'s buffer at point `t`, -/
def Pre (G : Fin cfg0.W → Bool) (R : (w : Fin cfg0.W) → Fin cfg0.N → ((cfg0.win w).block.Idx → Elt F (cfg0.win w).elt) → Prop) (t : Fin cfg0.N) (w : Fin cfg0.W) : sProp 𝕄 :=
  match G w with
  | true => iprop(∃ Y, ⌜(D.toRRel G R).Finds w t Y⌝ ∗ owns (c : Thread nD τ) ((cfg0.win w).stage (cfg0.slots t w)) fullShare Y)
  | false => iprop(∃ d, owns (c : Thread nD τ) ((cfg0.win w).stage (cfg0.slots t w)) fullShare (D.before w t d))

/-- and what it leaves there. -/
def Post (G : Fin cfg0.W → Bool) (R : (w : Fin cfg0.W) → Fin cfg0.N → ((cfg0.win w).block.Idx → Elt F (cfg0.win w).elt) → Prop) (t : Fin cfg0.N) (w : Fin cfg0.W) : sProp 𝕄 :=
  match G w with
  | true => iprop(∃ X, ⌜R w t X⌝ ∗ owns (c : Thread nD τ) ((cfg0.win w).stage (cfg0.slots t w)) fullShare X)
  | false => owns (c : Thread nD τ) ((cfg0.win w).stage (cfg0.slots t w)) fullShare (D.after w t)

theorem Pre_exact {t : Fin cfg0.N} {w : Fin cfg0.W} (hf : G w = false) :
    Pre D G R t w = iprop(∃ d, owns (c : Thread nD τ) ((cfg0.win w).stage (cfg0.slots t w)) fullShare (D.before w t d)) := by
  unfold Pre; rw [hf]

theorem Post_exact {t : Fin cfg0.N} {w : Fin cfg0.W} (hf : G w = false) :
    Post D G R t w = owns (c : Thread nD τ) ((cfg0.win w).stage (cfg0.slots t w)) fullShare (D.after w t) := by
  unfold Post; rw [hf]

theorem Post_loose {t : Fin cfg0.N} {w : Fin cfg0.W} (hf : G w = true) :
    Post D G R t w = iprop(∃ X, ⌜R w t X⌝ ∗ owns (c : Thread nD τ) ((cfg0.win w).stage (cfg0.slots t w)) fullShare X) := by
  unfold Post; rw [hf]

/-- An input's buffer holds its block at every point. -/
theorem pre_in (t : Fin cfg0.N) (w : Fin cfg0.W) (hf : G w = false) (hw : (cfg0.win w).isOut = false)
    (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) (D.after w t) = D.blockOf w t)
    {X} (hX : ∀ d, D.fetched w t d = X) :
    Pre D G R t w ⊢ owns (c : Thread nD τ) ((cfg0.win w).stage (cfg0.slots t w)) fullShare X := by
  rw [Pre_exact D hf]
  refine exists_elim fun d => ?_
  rw [D.before_in_eq_fetched w hw hlive hclip hkeep t d, hX]

/-- An accumulator's buffer holds, after the first point, what the point before left. -/
theorem pre_acc (t : Fin cfg0.N) (ht : ¬t.val % 32 = 0) (w : Fin cfg0.W) (hf : G w = false) (hw : (cfg0.win w).isOut = true)
    (hflush : ∀ t : Fin cfg0.N, (cfg0.win w).flush t = true ↔ t.val % 32 = 31)
    (hlive : ∀ i, cfg0.idle w i = false) (hclip : ∀ (i : cfg0.grid.Coords) a, (cfg0.win w).clip i a = none)
    {X} (hX : D.after w ⟨t.val - 1, Nat.lt_of_le_of_lt (Nat.sub_le _ _) t.isLt⟩ = X) :
    Pre D G R t w ⊢ owns (c : Thread nD τ) ((cfg0.win w).stage (cfg0.slots t w)) fullShare X := by
  have hN : t.val < 32 := Nat.lt_of_lt_of_eq t.isLt N_0
  rw [Pre_exact D hf, ← hX]
  refine exists_elim fun d => ?_
  rw [D.before_out_kept w hw t (by omega) (Bool.eq_false_iff.mpr fun h => by
    have := (hflush _).mp h; dsimp only at this; omega) hlive hclip d]

/-- Any buffer is owned at some contents. -/
theorem pre_some (t : Fin cfg0.N) (w : Fin cfg0.W) :
    Pre D G R t w ⊢ iprop(∃ d, owns (c : Thread nD τ) ((cfg0.win w).stage (cfg0.slots t w)) fullShare d) := by
  unfold Pre
  split
  · exact exists_elim fun Y => sep_elim_right.trans (exists_intro Y)
  · exact exists_elim fun d => exists_intro (D.before w t d)

theorem post_keep (t : Fin cfg0.N) (w : Fin cfg0.W) (hf : G w = false) {X} (hX : X = D.after w t) :
    owns (c : Thread nD τ) ((cfg0.win w).stage (cfg0.slots t w)) fullShare X ⊢ Post D G R t w := by
  rw [Post_exact D hf, hX]

theorem post_some (t : Fin cfg0.N) (w : Fin cfg0.W) (hf : G w = true) (hR : ∀ X, R w t X) :
    iprop(∃ d, owns (c : Thread nD τ) ((cfg0.win w).stage (cfg0.slots t w)) fullShare d) ⊢ Post D G R t w := by
  rw [Post_loose D hf]
  iintro ⟨%d, H⟩; iexists d; isplitr; · ipureintro; exact hR d
  iexact H

/-- Two pieces that do not touch `y` written over a list that does. -/
theorem read_past {sg : RefSig} {κ : Kind} {sp : Space} {s : Shape} {e : EltTy} (v : View sg κ sp s e) (f : v.ty.Contents (Elt F)) (p q : View.Piece (Elt F) s e)
    (L : List (View.Piece (Elt F) s e)) (y : s.Idx) (hp : y ∉ p.1.set) (hq : y ∉ q.1.set) (hc : ∃ r ∈ L, y ∈ r.1.set) :
    v.read (Elt F) (v.writes (Elt F) f (p :: q :: L)) y = View.canon L y := by
  obtain ⟨r, hr, hyr⟩ := hc
  rw [View.read_writes_apply_eq_canon v f y _ ⟨r, List.mem_cons_of_mem _ (List.mem_cons_of_mem _ hr), hyr⟩,
    View.canon_cons_of_not_mem _ _ hp, View.canon_cons_of_not_mem _ _ hq]

/-- Two stores that miss the points of `P`, over a list that covers them, leave `Z` there. -/
theorem past_out {s : Shape} {e : EltTy} (c : Dev nD) (m : Memref sig .tc .vmem s e) (Z : Vec F s e) (Q : s.Idx → Prop)
    (L : List (View.Piece (Elt F) s e)) {r q : Rect s} (hr : ∀ y, Q y → y ∉ r.set) (hq : ∀ y, Q y → y ∉ q.set)
    (hc : ∀ y, Q y → ∃ p ∈ L, y ∈ p.1.set) (hL : View.canon L = Z) :
    (iprop(∃ f w₁ w₂, m.view.loc (c : Thread nD τ) ↦[m.view.set]{fullShare} m.view.writes (Elt F) f (⟨r, w₁⟩ :: ⟨q, w₂⟩ :: L)) : sProp 𝕄)
      ⊢ iprop(∃ X, ⌜∀ y, Q y → X y = Z y⌝ ∗ owns (c : Thread nD τ) m fullShare X) := by
  unfold owns
  iintro ⟨%f, %w₁, %w₂, H⟩
  iexists m.view.read (Elt F) (m.view.writes (Elt F) f (⟨r, w₁⟩ :: ⟨q, w₂⟩ :: L))
  isplitr; swap
  · iexists _; isplitr; swap; · iexact H
    ipureintro; rfl
  ipureintro
  intro y hy
  exact (read_past m.view f _ _ L y (hr y hy) (hq y hy) (hc y hy)).trans (congrFun hL y)

end Cert.Kernel2Ideal.Br
end
-- ==== Proof.Br.Ob.lean ====
module

public import proofs.«01_k».proof.Proof.Br.Pt
public import proofs.«01_k».proof.Proof.Br.Sp
public import Idealize.ShloMosaic.Lib.Pipeline.DatRel

@[expose] public section

set_option maxRecDepth 16384

noncomputable section

namespace Cert.Kernel2Ideal.Br

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)
open Cert.Kernel2Ideal Cert.Kernel2Ideal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- What the body finds in window `w`, and what it leaves. -/
abbrev PreV (c : Dev nD) (t : Fin cfg0.N) (w : Fin cfg0.W) : sProp 𝕄 := Pre (dat0 V c) fgt (Rl V c) t w
abbrev PostV (c : Dev nD) (t : Fin cfg0.N) (w : Fin cfg0.W) : sProp 𝕄 := Post (dat0 V c) fgt (Rl V c) t w

theorem dz_post (c : Dev nD) (t : Fin cfg0.N)
    {L : List (View.Piece (Elt F) S256x5120 .bf16)} (hc : ∀ y : S256x5120.Idx, (y 1).val < 3072 → ∃ p ∈ L, y ∈ p.1.set)
    (hL : View.canon L = dzv V c t) :
    (iprop(∃ f w₁ w₂, (win0_20.stage (cfg0.slots t 20)).view.loc (c : Thread nD τ) ↦[(win0_20.stage (cfg0.slots t 20)).view.set]{fullShare} (win0_20.stage (cfg0.slots t 20)).view.writes (Elt F) f (⟨Rect.unit (s := S256x5120) ![0, 3072] S256x1024.size inb_S256x5120_S256x1024_0_3072, w₁⟩ :: ⟨Rect.unit (s := S256x5120) ![0, 4096] S256x1024.size inb_S256x5120_S256x1024_0_4096, w₂⟩ :: L)) : sProp 𝕄)
      ⊢ PostV V c t 20 := by
  refine (past_out c (win0_20.stage (cfg0.slots t 20)) (dzv V c t) (fun y : S256x5120.Idx => (y 1).val < 3072) L
    (not_mem_right inb_S256x5120_S256x1024_0_3072 (Nat.le_refl _)) (not_mem_right inb_S256x5120_S256x1024_0_4096 (by decide)) hc hL).trans ?_
  rw [PostV, Post_loose (dat0 V c) (w := 20) rfl]
  exact .rfl

/-- The inputs' buffers, before the body and after it. -/
theorem pre_ins (c : Dev nD) (t : Fin cfg0.N) {R R' : sProp 𝕄} (h : R ⊢ R') :
    iprop(PreV V c t 0 ∗ PreV V c t 1 ∗ PreV V c t 2 ∗ PreV V c t 3 ∗ PreV V c t 4 ∗ PreV V c t 5 ∗ PreV V c t 6 ∗ PreV V c t 7 ∗ PreV V c t 8 ∗ PreV V c t 9 ∗ PreV V c t 10 ∗ PreV V c t 11 ∗ PreV V c t 12 ∗ PreV V c t 13 ∗ PreV V c t 14 ∗ PreV V c t 15 ∗ PreV V c t 16 ∗ PreV V c t 17 ∗ PreV V c t 18 ∗ PreV V c t 19 ∗ R) ⊢ iprop(owns (c : Thread nD τ) (win0_0.stage (cfg0.slots t 0)) fullShare (iblk0 V c 0 t) ∗ owns (c : Thread nD τ) (win0_1.stage (cfg0.slots t 1)) fullShare (iblk0 V c 1 t) ∗ owns (c : Thread nD τ) (win0_2.stage (cfg0.slots t 2)) fullShare (iblk0 V c 2 t) ∗ owns (c : Thread nD τ) (win0_3.stage (cfg0.slots t 3)) fullShare (iblk0 V c 3 t) ∗ owns (c : Thread nD τ) (win0_4.stage (cfg0.slots t 4)) fullShare (iblk0 V c 4 t) ∗ owns (c : Thread nD τ) (win0_5.stage (cfg0.slots t 5)) fullShare (iblk0 V c 5 t) ∗ owns (c : Thread nD τ) (win0_6.stage (cfg0.slots t 6)) fullShare (iblk0 V c 6 t) ∗ owns (c : Thread nD τ) (win0_7.stage (cfg0.slots t 7)) fullShare (iblk0 V c 7 t) ∗ owns (c : Thread nD τ) (win0_8.stage (cfg0.slots t 8)) fullShare (iblk0 V c 8 t) ∗ owns (c : Thread nD τ) (win0_9.stage (cfg0.slots t 9)) fullShare (iblk0 V c 9 t) ∗ owns (c : Thread nD τ) (win0_10.stage (cfg0.slots t 10)) fullShare (iblk0 V c 10 t) ∗ owns (c : Thread nD τ) (win0_11.stage (cfg0.slots t 11)) fullShare (iblk0 V c 11 t) ∗ owns (c : Thread nD τ) (win0_12.stage (cfg0.slots t 12)) fullShare (iblk0 V c 12 t) ∗ owns (c : Thread nD τ) (win0_13.stage (cfg0.slots t 13)) fullShare (iblk0 V c 13 t) ∗ owns (c : Thread nD τ) (win0_14.stage (cfg0.slots t 14)) fullShare (iblk0 V c 14 t) ∗ owns (c : Thread nD τ) (win0_15.stage (cfg0.slots t 15)) fullShare (iblk0 V c 15 t) ∗ owns (c : Thread nD τ) (win0_16.stage (cfg0.slots t 16)) fullShare (iblk0 V c 16 t) ∗ owns (c : Thread nD τ) (win0_17.stage (cfg0.slots t 17)) fullShare (iblk0 V c 17 t) ∗ owns (c : Thread nD τ) (win0_18.stage (cfg0.slots t 18)) fullShare (iblk0 V c 18 t) ∗ owns (c : Thread nD τ) (win0_19.stage (cfg0.slots t 19)) fullShare (iblk0 V c 19 t) ∗ R') :=
  BIClass.sep_mono (pre_in (dat0 V c) t 0 rfl rfl (fun _ => rfl) (fun _ _ _ => rfl) (fun _ => rfl) fun _ => rfl) <| BIClass.sep_mono (pre_in (dat0 V c) t 1 rfl rfl (fun _ => rfl) (fun _ _ _ => rfl) (fun _ => rfl) fun _ => rfl) <| BIClass.sep_mono (pre_in (dat0 V c) t 2 rfl rfl (fun _ => rfl) (fun _ _ _ => rfl) (fun _ => rfl) fun _ => rfl) <| BIClass.sep_mono (pre_in (dat0 V c) t 3 rfl rfl (fun _ => rfl) (fun _ _ _ => rfl) (fun _ => rfl) fun _ => rfl) <| BIClass.sep_mono (pre_in (dat0 V c) t 4 rfl rfl (fun _ => rfl) (fun _ _ _ => rfl) (fun _ => rfl) fun _ => rfl) <| BIClass.sep_mono (pre_in (dat0 V c) t 5 rfl rfl (fun _ => rfl) (fun _ _ _ => rfl) (fun _ => rfl) fun _ => rfl) <| BIClass.sep_mono (pre_in (dat0 V c) t 6 rfl rfl (fun _ => rfl) (fun _ _ _ => rfl) (fun _ => rfl) fun _ => rfl) <| BIClass.sep_mono (pre_in (dat0 V c) t 7 rfl rfl (fun _ => rfl) (fun _ _ _ => rfl) (fun _ => rfl) fun _ => rfl) <| BIClass.sep_mono (pre_in (dat0 V c) t 8 rfl rfl (fun _ => rfl) (fun _ _ _ => rfl) (fun _ => rfl) fun _ => rfl) <| BIClass.sep_mono (pre_in (dat0 V c) t 9 rfl rfl (fun _ => rfl) (fun _ _ _ => rfl) (fun _ => rfl) fun _ => rfl) <| BIClass.sep_mono (pre_in (dat0 V c) t 10 rfl rfl (fun _ => rfl) (fun _ _ _ => rfl) (fun _ => rfl) fun _ => rfl) <| BIClass.sep_mono (pre_in (dat0 V c) t 11 rfl rfl (fun _ => rfl) (fun _ _ _ => rfl) (fun _ => rfl) fun _ => rfl) <| BIClass.sep_mono (pre_in (dat0 V c) t 12 rfl rfl (fun _ => rfl) (fun _ _ _ => rfl) (fun _ => rfl) fun _ => rfl) <| BIClass.sep_mono (pre_in (dat0 V c) t 13 rfl rfl (fun _ => rfl) (fun _ _ _ => rfl) (fun _ => rfl) fun _ => rfl) <| BIClass.sep_mono (pre_in (dat0 V c) t 14 rfl rfl (fun _ => rfl) (fun _ _ _ => rfl) (fun _ => rfl) fun _ => rfl) <| BIClass.sep_mono (pre_in (dat0 V c) t 15 rfl rfl (fun _ => rfl) (fun _ _ _ => rfl) (fun _ => rfl) fun _ => rfl) <| BIClass.sep_mono (pre_in (dat0 V c) t 16 rfl rfl (fun _ => rfl) (fun _ _ _ => rfl) (fun _ => rfl) fun _ => rfl) <| BIClass.sep_mono (pre_in (dat0 V c) t 17 rfl rfl (fun _ => rfl) (fun _ _ _ => rfl) (fun _ => rfl) fun _ => rfl) <| BIClass.sep_mono (pre_in (dat0 V c) t 18 rfl rfl (fun _ => rfl) (fun _ _ _ => rfl) (fun _ => rfl) fun _ => rfl) <| BIClass.sep_mono (pre_in (dat0 V c) t 19 rfl rfl (fun _ => rfl) (fun _ _ _ => rfl) (fun _ => rfl) fun _ => rfl) <| h

theorem post_ins (c : Dev nD) (t : Fin cfg0.N) {R R' : sProp 𝕄} (h : R ⊢ R') :
    iprop(owns (c : Thread nD τ) (win0_0.stage (cfg0.slots t 0)) fullShare (iblk0 V c 0 t) ∗ owns (c : Thread nD τ) (win0_1.stage (cfg0.slots t 1)) fullShare (iblk0 V c 1 t) ∗ owns (c : Thread nD τ) (win0_2.stage (cfg0.slots t 2)) fullShare (iblk0 V c 2 t) ∗ owns (c : Thread nD τ) (win0_3.stage (cfg0.slots t 3)) fullShare (iblk0 V c 3 t) ∗ owns (c : Thread nD τ) (win0_4.stage (cfg0.slots t 4)) fullShare (iblk0 V c 4 t) ∗ owns (c : Thread nD τ) (win0_5.stage (cfg0.slots t 5)) fullShare (iblk0 V c 5 t) ∗ owns (c : Thread nD τ) (win0_6.stage (cfg0.slots t 6)) fullShare (iblk0 V c 6 t) ∗ owns (c : Thread nD τ) (win0_7.stage (cfg0.slots t 7)) fullShare (iblk0 V c 7 t) ∗ owns (c : Thread nD τ) (win0_8.stage (cfg0.slots t 8)) fullShare (iblk0 V c 8 t) ∗ owns (c : Thread nD τ) (win0_9.stage (cfg0.slots t 9)) fullShare (iblk0 V c 9 t) ∗ owns (c : Thread nD τ) (win0_10.stage (cfg0.slots t 10)) fullShare (iblk0 V c 10 t) ∗ owns (c : Thread nD τ) (win0_11.stage (cfg0.slots t 11)) fullShare (iblk0 V c 11 t) ∗ owns (c : Thread nD τ) (win0_12.stage (cfg0.slots t 12)) fullShare (iblk0 V c 12 t) ∗ owns (c : Thread nD τ) (win0_13.stage (cfg0.slots t 13)) fullShare (iblk0 V c 13 t) ∗ owns (c : Thread nD τ) (win0_14.stage (cfg0.slots t 14)) fullShare (iblk0 V c 14 t) ∗ owns (c : Thread nD τ) (win0_15.stage (cfg0.slots t 15)) fullShare (iblk0 V c 15 t) ∗ owns (c : Thread nD τ) (win0_16.stage (cfg0.slots t 16)) fullShare (iblk0 V c 16 t) ∗ owns (c : Thread nD τ) (win0_17.stage (cfg0.slots t 17)) fullShare (iblk0 V c 17 t) ∗ owns (c : Thread nD τ) (win0_18.stage (cfg0.slots t 18)) fullShare (iblk0 V c 18 t) ∗ owns (c : Thread nD τ) (win0_19.stage (cfg0.slots t 19)) fullShare (iblk0 V c 19 t) ∗ R) ⊢ iprop(PostV V c t 0 ∗ PostV V c t 1 ∗ PostV V c t 2 ∗ PostV V c t 3 ∗ PostV V c t 4 ∗ PostV V c t 5 ∗ PostV V c t 6 ∗ PostV V c t 7 ∗ PostV V c t 8 ∗ PostV V c t 9 ∗ PostV V c t 10 ∗ PostV V c t 11 ∗ PostV V c t 12 ∗ PostV V c t 13 ∗ PostV V c t 14 ∗ PostV V c t 15 ∗ PostV V c t 16 ∗ PostV V c t 17 ∗ PostV V c t 18 ∗ PostV V c t 19 ∗ R') :=
  BIClass.sep_mono (post_keep (dat0 V c) t 0 rfl rfl) <| BIClass.sep_mono (post_keep (dat0 V c) t 1 rfl rfl) <| BIClass.sep_mono (post_keep (dat0 V c) t 2 rfl rfl) <| BIClass.sep_mono (post_keep (dat0 V c) t 3 rfl rfl) <| BIClass.sep_mono (post_keep (dat0 V c) t 4 rfl rfl) <| BIClass.sep_mono (post_keep (dat0 V c) t 5 rfl rfl) <| BIClass.sep_mono (post_keep (dat0 V c) t 6 rfl rfl) <| BIClass.sep_mono (post_keep (dat0 V c) t 7 rfl rfl) <| BIClass.sep_mono (post_keep (dat0 V c) t 8 rfl rfl) <| BIClass.sep_mono (post_keep (dat0 V c) t 9 rfl rfl) <| BIClass.sep_mono (post_keep (dat0 V c) t 10 rfl rfl) <| BIClass.sep_mono (post_keep (dat0 V c) t 11 rfl rfl) <| BIClass.sep_mono (post_keep (dat0 V c) t 12 rfl rfl) <| BIClass.sep_mono (post_keep (dat0 V c) t 13 rfl rfl) <| BIClass.sep_mono (post_keep (dat0 V c) t 14 rfl rfl) <| BIClass.sep_mono (post_keep (dat0 V c) t 15 rfl rfl) <| BIClass.sep_mono (post_keep (dat0 V c) t 16 rfl rfl) <| BIClass.sep_mono (post_keep (dat0 V c) t 17 rfl rfl) <| BIClass.sep_mono (post_keep (dat0 V c) t 18 rfl rfl) <| BIClass.sep_mono (post_keep (dat0 V c) t 19 rfl rfl) <| h

/-- The invariant with the scratch buffers owned at some contents. -/
theorem PhiA0_eq (c : Dev nD) :
    (Pipeline.ΦA spec0 c : sProp 𝕄) = iprop(iprop((∃ d, owns (c : Thread nD τ) (Memref.whole cc0_scratch0 : Memref sig .tc .vmem _ _) fullShare d) ∗ (∃ d, owns (c : Thread nD τ) (Memref.whole cc0_scratch1 : Memref sig .tc .vmem _ _) fullShare d) ∗ (∃ d, owns (c : Thread nD τ) (Memref.whole cc0_scratch2 : Memref sig .tc .vmem _ _) fullShare d) ∗ (∃ d, owns (c : Thread nD τ) (Memref.whole cc0_scratch3 : Memref sig .tc .vmem _ _) fullShare d) ∗ (∃ d, owns (c : Thread nD τ) (Memref.whole cc0_scratch4 : Memref sig .tc .vmem _ _) fullShare d) ∗ (∃ d, owns (c : Thread nD τ) (Memref.whole cc0_scratch5 : Memref sig .tc .vmem _ _) fullShare d) ∗ (∃ d, owns (c : Thread nD τ) (Memref.whole cc0_scratch6 : Memref sig .tc .vmem _ _) fullShare d) ∗ (∃ d, owns (c : Thread nD τ) (Memref.whole cc0_scratch7 : Memref sig .tc .vmem _ _) fullShare d) ∗ (∃ d, owns (c : Thread nD τ) (Memref.whole cc0_scratch8 : Memref sig .tc .vmem _ _) fullShare d) ∗ (∃ d, owns (c : Thread nD τ) (Memref.whole cc0_scratch9 : Memref sig .tc .vmem _ _) fullShare d) ∗ (∃ d, owns (c : Thread nD τ) (Memref.whole cc0_scratch10 : Memref sig .tc .vmem _ _) fullShare d) ∗ (∃ d, owns (c : Thread nD τ) (Memref.whole cc0_scratch11 : Memref sig .tc .vmem _ _) fullShare d) ∗ (∃ d, owns (c : Thread nD τ) (Memref.whole cc0_scratch12 : Memref sig .tc .vmem _ _) fullShare d) ∗ (∃ d, owns (c : Thread nD τ) (Memref.whole cc0_scratch13 : Memref sig .tc .vmem _ _) fullShare d) ∗ (∃ d, owns (c : Thread nD τ) (Memref.whole cc0_scratch14 : Memref sig .tc .vmem _ _) fullShare d) ∗ (∃ d, owns (c : Thread nD τ) (Memref.whole cc0_scratch15 : Memref sig .tc .vmem _ _) fullShare d)) ∗ ∃ r, prngReg c r) := by
  unfold Pipeline.ΦA; rw [scopedRest0_eq]; simp only [owns_whole]; try rfl

/-- The body's run with its frame: the invariant lends the scratch buffers. -/
theorem assemble {Φ O Wi Wo W W' S G : sProp 𝕄} {wpK : (PUnit → sProp 𝕄) → sProp 𝕄}
    (hrun : ∀ K : PUnit → sProp 𝕄, iprop(W ∗ S ∗ (iprop(W' ∗ S) -∗ K ⟨⟩)) ⊢ wpK K)
    (hΦ : Φ = iprop(S ∗ G)) (hW : Wi ⊢ W) (hW' : W' ⊢ Wo) :
    iprop(Φ ∗ O ∗ Wi) ⊢ wpK (fun _ => iprop(Φ ∗ O ∗ Wo)) := by
  subst hΦ
  refine .trans ?_ (hrun _)
  iintro ⟨⟨HS, HG⟩, HO, HW⟩
  isplitl [HW]; · iapply hW; iexact HW
  isplitl [HS]; · iexact HS
  iintro ⟨HW, HS⟩
  isplitl [HS HG]
  · isplitl [HS]; · iexact HS
    iexact HG
  isplitl [HO]; · iexact HO
  iapply hW'; iexact HW

theorem defs₀_row0 (t : Fin cfg0.N) :
    defs₀ (F := F) .tc cfg0.body (cfg0.bodyArgs t (cfg0.slots t)) = bodyAt0 t := by
  unfold defs₀; rw [Defs.onTc_tc]

/-- The parts of an accumulator tuple. -/
theorem acc_parts {a b d : Vec F S8x1024 .f32} {e : Vec F S128x1024 .f32} {g : Vec F S8x128x128 .f32} {y : Acc F}
    (h : (a, b, d, e, g) = y) : a = y.1 ∧ b = y.2.1 ∧ d = y.2.2.1 ∧ e = y.2.2.2.1 ∧ g = y.2.2.2.2 := by
  subst h; exact ⟨rfl, rfl, rfl, rfl, rfl⟩

set_option maxHeartbeats 2000000 in
theorem body_A (c : Dev nD) (t : Fin cfg0.N) (h0 : t.val % 32 = 0) {Φ O : sProp 𝕄} (hΦ : Φ = Pipeline.ΦA spec0 c) :
    iprop(Φ ∗ O ∗ PreV V c t 0 ∗ PreV V c t 1 ∗ PreV V c t 2 ∗ PreV V c t 3 ∗ PreV V c t 4 ∗ PreV V c t 5 ∗ PreV V c t 6 ∗ PreV V c t 7 ∗ PreV V c t 8 ∗ PreV V c t 9 ∗ PreV V c t 10 ∗ PreV V c t 11 ∗ PreV V c t 12 ∗ PreV V c t 13 ∗ PreV V c t 14 ∗ PreV V c t 15 ∗ PreV V c t 16 ∗ PreV V c t 17 ∗ PreV V c t 18 ∗ PreV V c t 19 ∗ PreV V c t 20 ∗ PreV V c t 21 ∗ PreV V c t 22 ∗ PreV V c t 23 ∗ PreV V c t 24 ∗ PreV V c t 25 ∗ PreV V c t 26 ∗ PreV V c t 27 ∗ PreV V c t 28 ∗ PreV V c t 29 ∗ PreV V c t 30 ∗ PreV V c t 31 ∗ PreV V c t 32 ∗ PreV V c t 33)
      ⊢ wp frame (wpE (defs₀ (F := F)) Variants.none c none) Set.univ (bodyAt0 t) fun _ => iprop(Φ ∗ O ∗ PostV V c t 0 ∗ PostV V c t 1 ∗ PostV V c t 2 ∗ PostV V c t 3 ∗ PostV V c t 4 ∗ PostV V c t 5 ∗ PostV V c t 6 ∗ PostV V c t 7 ∗ PostV V c t 8 ∗ PostV V c t 9 ∗ PostV V c t 10 ∗ PostV V c t 11 ∗ PostV V c t 12 ∗ PostV V c t 13 ∗ PostV V c t 14 ∗ PostV V c t 15 ∗ PostV V c t 16 ∗ PostV V c t 17 ∗ PostV V c t 18 ∗ PostV V c t 19 ∗ PostV V c t 20 ∗ PostV V c t 21 ∗ PostV V c t 22 ∗ PostV V c t 23 ∗ PostV V c t 24 ∗ PostV V c t 25 ∗ PostV V c t 26 ∗ PostV V c t 27 ∗ PostV V c t 28 ∗ PostV V c t 29 ∗ PostV V c t 30 ∗ PostV V c t 31 ∗ PostV V c t 32 ∗ PostV V c t 33) := by
  have hacc : accA V c t h0 = accs V c t.val t.isLt := (accs_A V c t h0).symm
  obtain ⟨e0, e1, e2, e3, e4⟩ := acc_parts hacc
  have hdz : View.canon (rA V c t h0).1 = dzv V c t := by
    unfold dzv; rw [dif_pos h0]
  exact assemble (fun K => (rA V c t h0).2.2.2.2.2.2 Set.univ K) (hΦ.trans (PhiA0_eq c))
    (pre_ins V c t <| BIClass.sep_mono (pre_some (dat0 V c) t 20) <| BIClass.sep_mono (pre_some (dat0 V c) t 21) <| BIClass.sep_mono (pre_some (dat0 V c) t 22) <| BIClass.sep_mono (pre_some (dat0 V c) t 23) <| BIClass.sep_mono (pre_some (dat0 V c) t 24) <| BIClass.sep_mono (pre_some (dat0 V c) t 25) <| BIClass.sep_mono (pre_some (dat0 V c) t 26) <| BIClass.sep_mono (pre_some (dat0 V c) t 27) <| BIClass.sep_mono (pre_some (dat0 V c) t 28) <| BIClass.sep_mono (pre_some (dat0 V c) t 29) <| BIClass.sep_mono (pre_some (dat0 V c) t 30) <| BIClass.sep_mono (pre_some (dat0 V c) t 31) <| BIClass.sep_mono (pre_some (dat0 V c) t 32) <| (pre_some (dat0 V c) t 33))
    (post_ins V c t <| BIClass.sep_mono (dz_post V c t (covA_z V c t h0) hdz) <| BIClass.sep_mono ((own_canon c (win0_21.stage (cfg0.slots t 21)) _ (covA_0 V c t h0)).trans <| post_keep (dat0 V c) t 21 rfl e0) <| BIClass.sep_mono (post_some (dat0 V c) t 22 rfl fun _ => trivial) <| BIClass.sep_mono ((own_canon c (win0_23.stage (cfg0.slots t 23)) _ (covA_1 V c t h0)).trans <| post_keep (dat0 V c) t 23 rfl e1) <| BIClass.sep_mono ((own_canon c (win0_24.stage (cfg0.slots t 24)) _ (covA_2 V c t h0)).trans <| post_keep (dat0 V c) t 24 rfl e2) <| BIClass.sep_mono ((own_canon c (win0_25.stage (cfg0.slots t 25)) _ (covA_3 V c t h0)).trans <| post_keep (dat0 V c) t 25 rfl e3) <| BIClass.sep_mono ((own_canon c (win0_26.stage (cfg0.slots t 26)) _ (covA_4 V c t h0)).trans <| post_keep (dat0 V c) t 26 rfl e4) <| BIClass.sep_mono (post_some (dat0 V c) t 27 rfl fun _ => trivial) <| BIClass.sep_mono (post_some (dat0 V c) t 28 rfl fun _ => trivial) <| BIClass.sep_mono (post_some (dat0 V c) t 29 rfl fun _ => trivial) <| BIClass.sep_mono (post_some (dat0 V c) t 30 rfl fun _ => trivial) <| BIClass.sep_mono (post_some (dat0 V c) t 31 rfl fun _ => trivial) <| BIClass.sep_mono (post_some (dat0 V c) t 32 rfl fun _ => trivial) <| (post_some (dat0 V c) t 33 rfl fun _ => trivial))

set_option maxHeartbeats 2000000 in
theorem body_B (c : Dev nD) (t : Fin cfg0.N) (h0 : ¬t.val % 32 = 0) (h1 : ¬t.val % 32 = 31) {Φ O : sProp 𝕄} (hΦ : Φ = Pipeline.ΦA spec0 c) :
    iprop(Φ ∗ O ∗ PreV V c t 0 ∗ PreV V c t 1 ∗ PreV V c t 2 ∗ PreV V c t 3 ∗ PreV V c t 4 ∗ PreV V c t 5 ∗ PreV V c t 6 ∗ PreV V c t 7 ∗ PreV V c t 8 ∗ PreV V c t 9 ∗ PreV V c t 10 ∗ PreV V c t 11 ∗ PreV V c t 12 ∗ PreV V c t 13 ∗ PreV V c t 14 ∗ PreV V c t 15 ∗ PreV V c t 16 ∗ PreV V c t 17 ∗ PreV V c t 18 ∗ PreV V c t 19 ∗ PreV V c t 20 ∗ PreV V c t 21 ∗ PreV V c t 22 ∗ PreV V c t 23 ∗ PreV V c t 24 ∗ PreV V c t 25 ∗ PreV V c t 26 ∗ PreV V c t 27 ∗ PreV V c t 28 ∗ PreV V c t 29 ∗ PreV V c t 30 ∗ PreV V c t 31 ∗ PreV V c t 32 ∗ PreV V c t 33)
      ⊢ wp frame (wpE (defs₀ (F := F)) Variants.none c none) Set.univ (bodyAt0 t) fun _ => iprop(Φ ∗ O ∗ PostV V c t 0 ∗ PostV V c t 1 ∗ PostV V c t 2 ∗ PostV V c t 3 ∗ PostV V c t 4 ∗ PostV V c t 5 ∗ PostV V c t 6 ∗ PostV V c t 7 ∗ PostV V c t 8 ∗ PostV V c t 9 ∗ PostV V c t 10 ∗ PostV V c t 11 ∗ PostV V c t 12 ∗ PostV V c t 13 ∗ PostV V c t 14 ∗ PostV V c t 15 ∗ PostV V c t 16 ∗ PostV V c t 17 ∗ PostV V c t 18 ∗ PostV V c t 19 ∗ PostV V c t 20 ∗ PostV V c t 21 ∗ PostV V c t 22 ∗ PostV V c t 23 ∗ PostV V c t 24 ∗ PostV V c t 25 ∗ PostV V c t 26 ∗ PostV V c t 27 ∗ PostV V c t 28 ∗ PostV V c t 29 ∗ PostV V c t 30 ∗ PostV V c t 31 ∗ PostV V c t 32 ∗ PostV V c t 33) := by
  have hacc : accB V c t (prev V c t) h0 h1 = accs V c t.val t.isLt := (accs_B V c t h0 h1).symm
  obtain ⟨e0, e1, e2, e3, e4⟩ := acc_parts hacc
  have hdz : View.canon (rB V c t (prev V c t) h0 h1).1 = dzv V c t := by
    unfold dzv; rw [dif_neg h0, dif_neg h1]
  exact assemble (fun K => (rB V c t (prev V c t) h0 h1).2.2.2.2.2.2 Set.univ K) (hΦ.trans (PhiA0_eq c))
    (pre_ins V c t <| BIClass.sep_mono (pre_some (dat0 V c) t 20) <| BIClass.sep_mono (pre_acc (dat0 V c) t h0 21 rfl rfl flush0_21 (fun _ => rfl) (fun _ _ => rfl) rfl) <| BIClass.sep_mono (pre_some (dat0 V c) t 22) <| BIClass.sep_mono (pre_acc (dat0 V c) t h0 23 rfl rfl flush0_23 (fun _ => rfl) (fun _ _ => rfl) rfl) <| BIClass.sep_mono (pre_acc (dat0 V c) t h0 24 rfl rfl flush0_24 (fun _ => rfl) (fun _ _ => rfl) rfl) <| BIClass.sep_mono (pre_acc (dat0 V c) t h0 25 rfl rfl flush0_25 (fun _ => rfl) (fun _ _ => rfl) rfl) <| BIClass.sep_mono (pre_acc (dat0 V c) t h0 26 rfl rfl flush0_26 (fun _ => rfl) (fun _ _ => rfl) rfl) <| BIClass.sep_mono (pre_some (dat0 V c) t 27) <| BIClass.sep_mono (pre_some (dat0 V c) t 28) <| BIClass.sep_mono (pre_some (dat0 V c) t 29) <| BIClass.sep_mono (pre_some (dat0 V c) t 30) <| BIClass.sep_mono (pre_some (dat0 V c) t 31) <| BIClass.sep_mono (pre_some (dat0 V c) t 32) <| (pre_some (dat0 V c) t 33))
    (post_ins V c t <| BIClass.sep_mono (dz_post V c t (covB_z V c t (prev V c t) h0 h1) hdz) <| BIClass.sep_mono ((own_canon c (win0_21.stage (cfg0.slots t 21)) _ (covB_0 V c t (prev V c t) h0 h1)).trans <| post_keep (dat0 V c) t 21 rfl e0) <| BIClass.sep_mono (post_some (dat0 V c) t 22 rfl fun _ => trivial) <| BIClass.sep_mono ((own_canon c (win0_23.stage (cfg0.slots t 23)) _ (covB_1 V c t (prev V c t) h0 h1)).trans <| post_keep (dat0 V c) t 23 rfl e1) <| BIClass.sep_mono ((own_canon c (win0_24.stage (cfg0.slots t 24)) _ (covB_2 V c t (prev V c t) h0 h1)).trans <| post_keep (dat0 V c) t 24 rfl e2) <| BIClass.sep_mono ((own_canon c (win0_25.stage (cfg0.slots t 25)) _ (covB_3 V c t (prev V c t) h0 h1)).trans <| post_keep (dat0 V c) t 25 rfl e3) <| BIClass.sep_mono ((own_canon c (win0_26.stage (cfg0.slots t 26)) _ (covB_4 V c t (prev V c t) h0 h1)).trans <| post_keep (dat0 V c) t 26 rfl e4) <| BIClass.sep_mono (post_some (dat0 V c) t 27 rfl fun _ => trivial) <| BIClass.sep_mono (post_some (dat0 V c) t 28 rfl fun _ => trivial) <| BIClass.sep_mono (post_some (dat0 V c) t 29 rfl fun _ => trivial) <| BIClass.sep_mono (post_some (dat0 V c) t 30 rfl fun _ => trivial) <| BIClass.sep_mono (post_some (dat0 V c) t 31 rfl fun _ => trivial) <| BIClass.sep_mono (post_some (dat0 V c) t 32 rfl fun _ => trivial) <| (post_some (dat0 V c) t 33 rfl fun _ => trivial))

set_option maxHeartbeats 2000000 in
theorem body_C (c : Dev nD) (t : Fin cfg0.N) (h1 : t.val % 32 = 31) {Φ O : sProp 𝕄} (hΦ : Φ = Pipeline.ΦA spec0 c) :
    iprop(Φ ∗ O ∗ PreV V c t 0 ∗ PreV V c t 1 ∗ PreV V c t 2 ∗ PreV V c t 3 ∗ PreV V c t 4 ∗ PreV V c t 5 ∗ PreV V c t 6 ∗ PreV V c t 7 ∗ PreV V c t 8 ∗ PreV V c t 9 ∗ PreV V c t 10 ∗ PreV V c t 11 ∗ PreV V c t 12 ∗ PreV V c t 13 ∗ PreV V c t 14 ∗ PreV V c t 15 ∗ PreV V c t 16 ∗ PreV V c t 17 ∗ PreV V c t 18 ∗ PreV V c t 19 ∗ PreV V c t 20 ∗ PreV V c t 21 ∗ PreV V c t 22 ∗ PreV V c t 23 ∗ PreV V c t 24 ∗ PreV V c t 25 ∗ PreV V c t 26 ∗ PreV V c t 27 ∗ PreV V c t 28 ∗ PreV V c t 29 ∗ PreV V c t 30 ∗ PreV V c t 31 ∗ PreV V c t 32 ∗ PreV V c t 33)
      ⊢ wp frame (wpE (defs₀ (F := F)) Variants.none c none) Set.univ (bodyAt0 t) fun _ => iprop(Φ ∗ O ∗ PostV V c t 0 ∗ PostV V c t 1 ∗ PostV V c t 2 ∗ PostV V c t 3 ∗ PostV V c t 4 ∗ PostV V c t 5 ∗ PostV V c t 6 ∗ PostV V c t 7 ∗ PostV V c t 8 ∗ PostV V c t 9 ∗ PostV V c t 10 ∗ PostV V c t 11 ∗ PostV V c t 12 ∗ PostV V c t 13 ∗ PostV V c t 14 ∗ PostV V c t 15 ∗ PostV V c t 16 ∗ PostV V c t 17 ∗ PostV V c t 18 ∗ PostV V c t 19 ∗ PostV V c t 20 ∗ PostV V c t 21 ∗ PostV V c t 22 ∗ PostV V c t 23 ∗ PostV V c t 24 ∗ PostV V c t 25 ∗ PostV V c t 26 ∗ PostV V c t 27 ∗ PostV V c t 28 ∗ PostV V c t 29 ∗ PostV V c t 30 ∗ PostV V c t 31 ∗ PostV V c t 32 ∗ PostV V c t 33) := by
  have hacc : accC V c t (prev V c t) h1 = accs V c t.val t.isLt := (accs_C V c t h1).symm
  obtain ⟨e0, e1, e2, e3, e4⟩ := acc_parts hacc
  have hdz : View.canon (rC V c t (prev V c t) h1).1 = dzv V c t := by
    unfold dzv; rw [dif_neg (by omega), dif_pos h1]
  have h0 : ¬t.val % 32 = 0 := by omega
  exact assemble (fun K => (rC V c t (prev V c t) h1).2.2.2.2.2.2 Set.univ K) (hΦ.trans (PhiA0_eq c))
    (pre_ins V c t <| BIClass.sep_mono (pre_some (dat0 V c) t 20) <| BIClass.sep_mono (pre_acc (dat0 V c) t h0 21 rfl rfl flush0_21 (fun _ => rfl) (fun _ _ => rfl) rfl) <| BIClass.sep_mono (pre_some (dat0 V c) t 22) <| BIClass.sep_mono (pre_acc (dat0 V c) t h0 23 rfl rfl flush0_23 (fun _ => rfl) (fun _ _ => rfl) rfl) <| BIClass.sep_mono (pre_acc (dat0 V c) t h0 24 rfl rfl flush0_24 (fun _ => rfl) (fun _ _ => rfl) rfl) <| BIClass.sep_mono (pre_acc (dat0 V c) t h0 25 rfl rfl flush0_25 (fun _ => rfl) (fun _ _ => rfl) rfl) <| BIClass.sep_mono (pre_acc (dat0 V c) t h0 26 rfl rfl flush0_26 (fun _ => rfl) (fun _ _ => rfl) rfl) <| BIClass.sep_mono (pre_some (dat0 V c) t 27) <| BIClass.sep_mono (pre_some (dat0 V c) t 28) <| BIClass.sep_mono (pre_some (dat0 V c) t 29) <| BIClass.sep_mono (pre_some (dat0 V c) t 30) <| BIClass.sep_mono (pre_some (dat0 V c) t 31) <| BIClass.sep_mono (pre_some (dat0 V c) t 32) <| (pre_some (dat0 V c) t 33))
    (post_ins V c t <| BIClass.sep_mono (dz_post V c t (covC_z V c t (prev V c t) h1) hdz) <| BIClass.sep_mono ((own_canon c (win0_21.stage (cfg0.slots t 21)) _ (covC_0 V c t (prev V c t) h1)).trans <| post_keep (dat0 V c) t 21 rfl e0) <| BIClass.sep_mono (post_some (dat0 V c) t 22 rfl fun _ => trivial) <| BIClass.sep_mono ((own_canon c (win0_23.stage (cfg0.slots t 23)) _ (covC_1 V c t (prev V c t) h1)).trans <| post_keep (dat0 V c) t 23 rfl e1) <| BIClass.sep_mono ((own_canon c (win0_24.stage (cfg0.slots t 24)) _ (covC_2 V c t (prev V c t) h1)).trans <| post_keep (dat0 V c) t 24 rfl e2) <| BIClass.sep_mono ((own_canon c (win0_25.stage (cfg0.slots t 25)) _ (covC_3 V c t (prev V c t) h1)).trans <| post_keep (dat0 V c) t 25 rfl e3) <| BIClass.sep_mono ((own_canon c (win0_26.stage (cfg0.slots t 26)) _ (covC_4 V c t (prev V c t) h1)).trans <| post_keep (dat0 V c) t 26 rfl e4) <| BIClass.sep_mono (post_some (dat0 V c) t 27 rfl fun _ => trivial) <| BIClass.sep_mono (post_some (dat0 V c) t 28 rfl fun _ => trivial) <| BIClass.sep_mono (post_some (dat0 V c) t 29 rfl fun _ => trivial) <| BIClass.sep_mono (post_some (dat0 V c) t 30 rfl fun _ => trivial) <| BIClass.sep_mono (post_some (dat0 V c) t 31 rfl fun _ => trivial) <| BIClass.sep_mono (post_some (dat0 V c) t 32 rfl fun _ => trivial) <| (post_some (dat0 V c) t 33 rfl fun _ => trivial))

/-- The body obligation at every point. -/
theorem body_obligation0 (c : Dev nD) :
    BodyObligationRel (dat0 V c) (defs₀ (F := F)) Variants.none () Set.univ fgt (Rl V c) := fun t => by
  show iprop(_ ∗ _ ∗ bigSep Finset.univ (PreV V c t)) ⊢ wp _ _ _ _ fun _ => iprop(_ ∗ _ ∗ bigSep Finset.univ (PostV V c t))
  rw [bigSep_W0, bigSep_W0, defs₀_row0]
  by_cases h0 : t.val % 32 = 0
  · exact body_A V c t h0 rfl
  by_cases h1 : t.val % 32 = 31
  · exact body_C V c t h1 rfl
  exact body_B V c t h0 h1 rfl

end Cert.Kernel2Ideal.Br
end
-- ==== Proof.Br.Host.lean ====
module

public import proofs.«01_k».proof.Proof.Gen.Kernel2Ideal.Launch
public import proofs.«01_k».proof.Proof.Gen.Kernel2Ideal.Points
public import Idealize.ShloMosaic.Lib.Tactic
public import Idealize.ShloMosaic.Lib.Pipeline.RegionsLoop
public import Idealize.ShloMosaic.Lib.Pipeline.RegionsOwned
public import Idealize.ShloMosaic.Lib.StableHlo.RunLoop
public import Idealize.ShloMosaic.Lib.Scf.ExitTest
public import Idealize.ShloMosaic.Lib.Scf.Counter

/-! The host lines that make the forward state, a counted loop among them: what they write, and the loop's condition. -/

@[expose] public section

set_option maxRecDepth 16384

noncomputable section

namespace Cert.Kernel2Ideal.Br

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel2Ideal Cert.Kernel2Ideal.Gen

variable {F : FTy → Type} [FloatOps F] [Named F]

local notation "𝕄" => MT nD τ sig Unit (Elt F) ℕ (UR sig nD τ) ℕ

/-! ## The host lines and the references they write -/

/-- The loop's condition: the bound, and the counter compared with it. -/
abbrev condOps : List (HloOp τ sig (Elt F)) :=
  [ StableHlo.nullary main_while0c_c_18 (constantI S_ 32 8192#32),
    StableHlo.binary main_v113_2 main_while0c_c_18 main_while0c_v118 (cmpi .slt) ]
abbrev preI : List (List (HloOp τ sig (Elt F))) := [hostOps0, hostOps0_1, hostOps0_2, hostOps0_3, hostOps0_4, hostOps0_5, hostOps0_6, hostOps0_7, hostOps0_8]
abbrev bodyI : List (List (HloOp τ sig (Elt F))) := [while0Ops0, while0Ops0_1, while0Ops0_2, while0Ops0_3, while0Ops0_4]
theorem hbodyI : StableHlo.Plain (bodyI (F := F)) := .cons while0Ops0_sub ( .cons while0Ops0_1_sub ( .cons while0Ops0_2_sub ( .cons while0Ops0_3_sub ( .cons while0Ops0_4_sub ( .nil)))))

/-- Per list: the references its operations write. -/
abbrev hostOps0_W : List (Ref sig .tc) := [main_cst, main_v0, main_c, main_v1]
theorem hostOps0_writes : (hostOps0 : List (HloOp τ sig (Elt F))).Forall fun op => op.writes ⊆ (hostOps0_W.map (Proc.devRef (τ := τ) .tc)).toFinset :=
  StableHlo.forall_writes_sub_of_map rfl
abbrev hostOps0_1_W : List (Ref sig .tc) := [main_call0_v0, main_call0_c, main_call0_v1, main_call0_v2, main_call0_v3, main_call0_v4, main_call0_c_0, main_call0_v5, main_v2]
theorem hostOps0_1_writes : (hostOps0_1 : List (HloOp τ sig (Elt F))).Forall fun op => op.writes ⊆ (hostOps0_1_W.map (Proc.devRef (τ := τ) .tc)).toFinset :=
  StableHlo.forall_writes_sub_of_map rfl
abbrev hostOps0_2_W : List (Ref sig .tc) := [main_v3, main_v4, main_cst_0]
theorem hostOps0_2_writes : (hostOps0_2 : List (HloOp τ sig (Elt F))).Forall fun op => op.writes ⊆ (hostOps0_2_W.map (Proc.devRef (τ := τ) .tc)).toFinset :=
  StableHlo.forall_writes_sub_of_map rfl
abbrev hostOps0_3_W : List (Ref sig .tc) := [main_call1_v0, main_call1_v1, main_call1_v2, main_v5]
theorem hostOps0_3_writes : (hostOps0_3 : List (HloOp τ sig (Elt F))).Forall fun op => op.writes ⊆ (hostOps0_3_W.map (Proc.devRef (τ := τ) .tc)).toFinset :=
  StableHlo.forall_writes_sub_of_map rfl
abbrev hostOps0_4_W : List (Ref sig .tc) := [main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_cst_1, main_v31, main_v32, main_v33, main_v34, main_v35, main_v36, main_v37, main_v38, main_cst_2, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_cst_3, main_v73, main_v74, main_cst_4, main_v75, main_v76, main_v77, main_v78, main_v79, main_v80, main_v81, main_v82, main_v83, main_v84, main_cst_5, main_v85, main_v86, main_cst_6, main_v87, main_v88, main_v89, main_cst_7, main_v90, main_v91, main_v92]
theorem hostOps0_4_writes : (hostOps0_4 : List (HloOp τ sig (Elt F))).Forall fun op => op.writes ⊆ (hostOps0_4_W.map (Proc.devRef (τ := τ) .tc)).toFinset :=
  StableHlo.forall_writes_sub_of_map rfl
abbrev hostOps0_5_W : List (Ref sig .tc) := [main_call2_cst, main_call2_v0, main_call2_v1, main_call2_v2, main_call2_v3, main_call2_v4, main_call2_v5, main_call2_v6, main_call2_v7, main_call2_v8, main_call2_v9, main_call2_v10, main_call2_v11, main_v93]
theorem hostOps0_5_writes : (hostOps0_5 : List (HloOp τ sig (Elt F))).Forall fun op => op.writes ⊆ (hostOps0_5_W.map (Proc.devRef (τ := τ) .tc)).toFinset :=
  StableHlo.forall_writes_sub_of_map rfl
abbrev hostOps0_6_W : List (Ref sig .tc) := [main_v94, main_v95, main_v96, main_v97, main_cst_8, main_v98, main_v99, main_v100, main_v101, main_v102, main_v103, main_c_9, main_v104, main_v105, main_v106, main_cst_10, main_v107]
theorem hostOps0_6_writes : (hostOps0_6 : List (HloOp τ sig (Elt F))).Forall fun op => op.writes ⊆ (hostOps0_6_W.map (Proc.devRef (τ := τ) .tc)).toFinset :=
  StableHlo.forall_writes_sub_of_map rfl
abbrev hostOps0_7_W : List (Ref sig .tc) := [main_call3_v0, main_v108]
theorem hostOps0_7_writes : (hostOps0_7 : List (HloOp τ sig (Elt F))).Forall fun op => op.writes ⊆ (hostOps0_7_W.map (Proc.devRef (τ := τ) .tc)).toFinset :=
  StableHlo.forall_writes_sub_of_map rfl
abbrev hostOps0_8_W : List (Ref sig .tc) := [main_v109, main_v110, main_cst_11, main_v111, main_cst_12, main_v112, main_c_13, main_v113_0, main_v113_1, main_v113_2, main_v113_3, main_v113_4]
theorem hostOps0_8_writes : (hostOps0_8 : List (HloOp τ sig (Elt F))).Forall fun op => op.writes ⊆ (hostOps0_8_W.map (Proc.devRef (τ := τ) .tc)).toFinset :=
  StableHlo.forall_writes_sub_of_map rfl
abbrev hostOps0_9_W : List (Ref sig .tc) := [main_v114, main_v115]
theorem hostOps0_9_writes : (hostOps0_9 : List (HloOp τ sig (Elt F))).Forall fun op => op.writes ⊆ (hostOps0_9_W.map (Proc.devRef (τ := τ) .tc)).toFinset :=
  StableHlo.forall_writes_sub_of_map rfl
abbrev hostOps1_W : List (Ref sig .tc) := [main_v117]
theorem hostOps1_writes : (hostOps1 : List (HloOp τ sig (Elt F))).Forall fun op => op.writes ⊆ (hostOps1_W.map (Proc.devRef (τ := τ) .tc)).toFinset :=
  StableHlo.forall_writes_sub_of_map rfl
abbrev while0Ops0_W : List (Ref sig .tc) := [main_while0b_call4_c, main_while0b_call4_v0, main_while0b_v118]
theorem while0Ops0_writes : (while0Ops0 : List (HloOp τ sig (Elt F))).Forall fun op => op.writes ⊆ (while0Ops0_W.map (Proc.devRef (τ := τ) .tc)).toFinset :=
  StableHlo.forall_writes_sub_of_map rfl
abbrev while0Ops0_1_W : List (Ref sig .tc) := [main_while0b_call5_c, main_while0b_call5_v0, main_while0b_v119]
theorem while0Ops0_1_writes : (while0Ops0_1 : List (HloOp τ sig (Elt F))).Forall fun op => op.writes ⊆ (while0Ops0_1_W.map (Proc.devRef (τ := τ) .tc)).toFinset :=
  StableHlo.forall_writes_sub_of_map rfl
abbrev while0Ops0_2_W : List (Ref sig .tc) := [main_while0b_v120, main_while0b_v121]
theorem while0Ops0_2_writes : (while0Ops0_2 : List (HloOp τ sig (Elt F))).Forall fun op => op.writes ⊆ (while0Ops0_2_W.map (Proc.devRef (τ := τ) .tc)).toFinset :=
  StableHlo.forall_writes_sub_of_map rfl
abbrev while0Ops0_3_W : List (Ref sig .tc) := [main_while0b_call6_v0, main_while0b_call6_c, main_while0b_v122]
theorem while0Ops0_3_writes : (while0Ops0_3 : List (HloOp τ sig (Elt F))).Forall fun op => op.writes ⊆ (while0Ops0_3_W.map (Proc.devRef (τ := τ) .tc)).toFinset :=
  StableHlo.forall_writes_sub_of_map rfl
abbrev while0Ops0_4_W : List (Ref sig .tc) := [main_while0b_c_18, main_while0b_v123, main_v113_2, main_v113_3, main_v113_4]
theorem while0Ops0_4_writes : (while0Ops0_4 : List (HloOp τ sig (Elt F))).Forall fun op => op.writes ⊆ (while0Ops0_4_W.map (Proc.devRef (τ := τ) .tc)).toFinset :=
  StableHlo.forall_writes_sub_of_map rfl
abbrev condOps_W : List (Ref sig .tc) := [main_while0c_c_18, main_while0c_v118]
theorem condOps_writes : (condOps : List (HloOp τ sig (Elt F))).Forall fun op => op.writes ⊆ (condOps_W.map (Proc.devRef (τ := τ) .tc)).toFinset :=
  StableHlo.forall_writes_sub_of_map rfl
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- What the lines before the loop write, and what the loop writes. -/
abbrev preW : List (Ref sig .tc) := hostOps0_W ++ hostOps0_1_W ++ hostOps0_2_W ++ hostOps0_3_W ++ hostOps0_4_W ++ hostOps0_5_W ++ hostOps0_6_W ++ hostOps0_7_W ++ hostOps0_8_W
abbrev loopW : List (Ref sig .tc) := condOps_W ++ while0Ops0_W ++ while0Ops0_1_W ++ while0Ops0_2_W ++ while0Ops0_3_W ++ while0Ops0_4_W

variable (m : (ℓ : Loc nD τ sig) → Buf (Elt F) ℓ)

/-! ## The contents at each boundary -/

abbrev W0 : Dev nD → Valuation τ sig (Elt F) := fun c b => m ((c : Dev nD), b)
/-- After the first `n` stretches. -/
abbrev Wpre (n : ℕ) : Dev nD → Valuation τ sig (Elt F) := fun c => StableHlo.afterL (preI.take n) (W0 m c)
abbrev nT : ℕ := 8192
abbrev Went : Dev nD → Valuation τ sig (Elt F) := fun c => StableHlo.afterL preI (W0 m c)
abbrev Wk (k : ℕ) (c : Dev nD) : Valuation τ sig (Elt F) := StableHlo.atTrip condOps bodyI (Went m) k c
abbrev Wexit : Dev nD → Valuation τ sig (Elt F) := fun c => StableHlo.after condOps (StableHlo.atTrip condOps bodyI (Went m) nT c)
abbrev Wreg : Dev nD → Valuation τ sig (Elt F) := fun c => StableHlo.after hostOps0_9 (Wexit m c)
/-- What the kernel finds. -/
abbrev Vk (c : Dev nD) (b : Ref sig .tc) : Buf (Elt F) ((c : Thread nD τ).loc b) := Wreg m c (Proc.devRef .tc b)

theorem Went_of (c : Dev nD) (a : Ref sig .tc) (h : a ∉ preW) : Went m c (Proc.devRef .tc a) = m ((c : Thread nD τ).loc a) := by
  simp only [preW, List.mem_append, not_or] at h
  obtain ⟨⟨⟨⟨⟨⟨⟨⟨h0, h1⟩, h2⟩, h3⟩, h4⟩, h5⟩, h6⟩, h7⟩, h8⟩ := h
  show StableHlo.afterL preI (W0 m c) (Proc.devRef .tc a) = _
  simp only [StableHlo.afterL_cons, StableHlo.afterL_nil]
  rw [StableHlo.after_of_writes_sub hostOps0_8 _ hostOps0_8_writes h8, StableHlo.after_of_writes_sub hostOps0_7 _ hostOps0_7_writes h7, StableHlo.after_of_writes_sub hostOps0_6 _ hostOps0_6_writes h6, StableHlo.after_of_writes_sub hostOps0_5 _ hostOps0_5_writes h5, StableHlo.after_of_writes_sub hostOps0_4 _ hostOps0_4_writes h4, StableHlo.after_of_writes_sub hostOps0_3 _ hostOps0_3_writes h3, StableHlo.after_of_writes_sub hostOps0_2 _ hostOps0_2_writes h2, StableHlo.after_of_writes_sub hostOps0_1 _ hostOps0_1_writes h1, StableHlo.after_of_writes_sub hostOps0 _ hostOps0_writes h0]

theorem Wk_of (c : Dev nD) (a : Ref sig .tc) (h : a ∉ loopW) : ∀ k, Wk m k c (Proc.devRef .tc a) = Went m c (Proc.devRef .tc a)
  | 0 => rfl
  | k + 1 => by
    have ih := Wk_of c a h k
    simp only [loopW, List.mem_append, not_or] at h
    obtain ⟨⟨⟨⟨⟨hc, h0⟩, h1⟩, h2⟩, h3⟩, h4⟩ := h
    rw [show Wk m (k + 1) c = StableHlo.afterL bodyI (StableHlo.after condOps (Wk m k c)) from rfl]
    simp only [StableHlo.afterL_cons, StableHlo.afterL_nil]
    rw [StableHlo.after_of_writes_sub while0Ops0_4 _ while0Ops0_4_writes h4, StableHlo.after_of_writes_sub while0Ops0_3 _ while0Ops0_3_writes h3, StableHlo.after_of_writes_sub while0Ops0_2 _ while0Ops0_2_writes h2, StableHlo.after_of_writes_sub while0Ops0_1 _ while0Ops0_1_writes h1, StableHlo.after_of_writes_sub while0Ops0 _ while0Ops0_writes h0, StableHlo.after_of_writes_sub condOps _ condOps_writes hc]
    exact ih

theorem Wexit_of (c : Dev nD) (a : Ref sig .tc) (h : a ∉ loopW) : Wexit m c (Proc.devRef .tc a) = Went m c (Proc.devRef .tc a) :=
  (StableHlo.after_of_writes_sub condOps _ condOps_writes (fun h' => h (by simp only [loopW, List.mem_append]; simp only [h', true_or]))).trans (Wk_of m c a h nT)

theorem Wreg_of (c : Dev nD) (a : Ref sig .tc) (h : a ∉ loopW) (h' : a ∉ hostOps0_9_W) : Wreg m c (Proc.devRef .tc a) = Went m c (Proc.devRef .tc a) :=
  (StableHlo.after_of_writes_sub hostOps0_9 _ hostOps0_9_writes h').trans (Wexit_of m c a h)

/-! ## The counter and the condition -/
section
open Idealize.ShloMosaic.StableHlo
open Idealize.ShloMosaic.Pipeline (ucRefs sub_ucRefs)

theorem ctr_cond (V : Valuation τ sig (Elt F)) : after condOps V (Proc.devRef .tc main_v113_2) = V (Proc.devRef .tc main_v113_2) :=
  after_of_writes_sub condOps V condOps_writes (by decide)
theorem ctr_step (X : Valuation τ sig (Elt F)) :
    afterL bodyI X (Proc.devRef .tc main_v113_2) = addi (X (Proc.devRef .tc main_v113_2)) (constantI S_ 32 1#32) := by
  simp only [afterL_cons, afterL_nil]
  have h : ∀ Y : Valuation τ sig (Elt F), after while0Ops0_4 Y (Proc.devRef .tc main_v113_2) = addi (Y (Proc.devRef .tc main_v113_2)) (constantI S_ 32 1#32) := fun Y => by
    after_results
    rfl
  rw [h, after_of_writes_sub while0Ops0_3 _ while0Ops0_3_writes (by decide), after_of_writes_sub while0Ops0_2 _ while0Ops0_2_writes (by decide),
    after_of_writes_sub while0Ops0_1 _ while0Ops0_1_writes (by decide), after_of_writes_sub while0Ops0 _ while0Ops0_writes (by decide)]
theorem ctr_entry (c : Dev nD) : Went m c (Proc.devRef .tc main_v113_2) = fun _ => (0#32 : BitVec 32) := by
  simp only [Went, afterL_cons, afterL_nil]
  generalize after hostOps0_7 _ = X
  after_results
  rfl
theorem atK_ctr (c : Dev nD) : ∀ k, Wk m k c (Proc.devRef .tc main_v113_2) = fun _ => Scf.iv 0#32 1#32 k
  | 0 => by rw [show Wk m 0 c = Went m c from rfl, ctr_entry, Scf.iv_zero]
  | k + 1 => by
    rw [show Wk m (k + 1) c = afterL bodyI (after condOps (Wk m k c)) from rfl]
    rw [ctr_step, ctr_cond, atK_ctr c k, Scf.iv_succ]
    rfl

abbrev L : GSem nD τ sig → Finset Unit := fun _ => ∅
abbrev lv : GSem nD τ sig → Unit → ℕ := fun _ _ => 0
abbrev adm : (p : Fin 1) → (pcfgs (F := F) p).Adm := fun p => (cfgs p).toPCfg_adm

-- a rule stated for any thread is used at the TensorCore's
set_option backward.isDefEq.respectTransparency.types false in
/-- The condition holds exactly below the trip count. -/
theorem cond_spec (Rc : Dev nD → sProp 𝕄) : LoopCond (pcfgs (F := F)) defs₀ Variants.none loops Rc (main_while0_cond (F := F)) condOps bodyI (Went m) nT := by
  intro k hk c bd
  have hctr := atK_ctr m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (Wk m k c) main_v113_2 HostLoop.idx0)
        (HloOp.result _ (Wk m k c) main_while0c_c_18 HostLoop.idx0) = 1#1) (k < nT)
    rw [nullary_result_ne _ _ _ _ (by decide), nullary_result, hctr]
    exact Scf.cmpi_slt_iv_ub_iff (lb := 0#32) (ub := 8192#32) (st := 1#32) (by decide) (show k ≤ Scf.trips 0#32 8192#32 1#32 from hk)
  isplitl [Hb]; · iexact Hb
  isplitl [Hh]; · rw [after_cons, after_cons, after_nil]; iexact Hh
  iexact HR
end

end Cert.Kernel2Ideal.Br
end
-- ==== Proof.Br.Run.lean ====
module

public import proofs.«01_k».proof.Proof.Br.Ob
public import proofs.«01_k».proof.Proof.Br.Host
public import Idealize.ShloMosaic.Lib.Pipeline.RegionsLoop
public import Idealize.ShloMosaic.Lib.Pipeline.RegionsOwned
public import Idealize.ShloMosaic.Lib.Pipeline.RegionsForget
public import Idealize.ShloMosaic.Lib.Pipeline.RegionsForgetR
public import Idealize.ShloMosaic.Lib.Pipeline.RegionsForgetLinks
public import Idealize.ShloMosaic.Lib.Pipeline.FrameSuffix
public import Idealize.ShloMosaic.Lib.Pipeline.ArrRel
public import Idealize.ShloMosaic.Lib.StableHlo.RunLoop
public import Idealize.ShloMosaic.Lib.Scf.ExitTest
public import Idealize.ShloMosaic.Lib.Scf.Counter

/-! The run of the whole program: the host lines that make the forward state, a counted host loop among them, the
    kernel, and the slice of its first result. -/

@[expose] public section

set_option maxRecDepth 16384

noncomputable section

namespace Cert.Kernel2Ideal.Br

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel2Ideal Cert.Kernel2Ideal.Gen

variable {F : FTy → Type} [FloatOps F] [Named F]

local notation "𝕄" => MT nD τ sig Unit (Elt F) ℕ (UR sig nD τ) ℕ

variable (m : (ℓ : Loc nD τ sig) → Buf (Elt F) ℓ)

/-! ## The kernel's region -/

/-- The kernel's data at what it finds. -/
def pdats : (p : Fin 1) → (c : Dev nD) → Dat τ (Elt F) Unit ℕ (UR sig nD τ) ℕ (Pipeline.pin (pcfgs (F := F)) adm p) c
  | ⟨0, _⟩ => fun c => dat0 (Vk m) c
/-- The same, the windows whose contents are not all named held to a relation. -/
def rdats : (p : Fin 1) → (c : Dev nD) → RDat τ (Elt F) Unit ℕ (UR sig nD τ) ℕ (Pipeline.pin (pcfgs (F := F)) adm p) c
  | ⟨0, _⟩ => fun c => (dat0 (Vk m) c).toRRel fgt (Rl (Vk m) c)

/-- What rides beside the buffers. -/
abbrev R (c : Dev nD) : sProp 𝕄 := iprop((∃ r, prngReg c r) ∗ ∃ W, owes (c : Thread nD τ) (0 : CellTallies nD τ sig Unit) W)

/-- The arrays' contents at the kernel's end, on every device. -/
abbrev Arrs : Type := (c : Dev nD) → (w : Fin cfg0.W) → Buf (Elt F) ((spec0 w).arr.view.loc (c.tc : Thread nD τ))
/-- They are contents that the run may leave. -/
def Left (A : Arrs (F := F)) (c : Dev nD) : Prop := ∀ w, ((dat0 (Vk m) c).toRRel fgt (Rl (Vk m) c)).ArrAt w cfg0.N (A c w)
/-- Every buffer after the kernel. -/
abbrev Wpost (A : Arrs (F := F)) : Dev nD → Valuation τ sig (Elt F) := fun c => Pipeline.withArrays spec0 c (Wreg m c) (A c)
abbrev Wend (A : Arrs (F := F)) : Dev nD → Valuation τ sig (Elt F) := fun c => StableHlo.after hostOps1 (Wpost m A c)

/-- An input's array is left as found. -/
theorem Left.input {A : Arrs (F := F)} {c : Dev nD} (h : Left m A c) (w : Fin cfg0.W) (hw : (cfg0.win w).isOut = false) :
    A c w = Wreg m c (Proc.devRef .tc (Pipeline.arrRef spec0 w)) := by
  have h' := h w
  rw [RDat.ArrAt_in _ w hw] at h'
  exact h'.trans (A_eq0 (Vk m) c w)
theorem Left.post {A : Arrs (F := F)} {c : Dev nD} (h : Left m A c) (w : Fin cfg0.W) :
    Wpost m A c (Proc.devRef .tc (Pipeline.arrRef spec0 w)) = A c w :=
  Pipeline.withArrays_arr_shared spec0 c (Wreg m c) (A c) (fun w w' hne he => h.input m w (sharedIn0 w w' hne he)) w

theorem arraysAt_open (c : Dev nD) :
    ((rdats m 0 c).arraysAt cfg0.N : sProp 𝕄)
      ⊢ iprop(∃ A, ⌜∀ w, (rdats m 0 c).ArrAt w cfg0.N (A w)⌝ ∗ (rdats m 0 c).arrays A) := by
  unfold RDat.arraysAt RDat.arrays
  refine (BI.bigSep_exists_pi Finset.univ _).trans (exists_mono fun A => ?_)
  refine (BI.bigSep_pure_sep Finset.univ _ _).trans ?_
  iintro ⟨%hA, H⟩
  isplitr; · ipureintro; exact fun w => hA w (Finset.mem_univ w)
  iexact H

/-- The arrays as the exact data state them before the first point. -/
theorem arrays_exact (c : Dev nD) :
    ((pdats m 0 c).arrays (fun w => (pdats m 0 c).arrAt w 0) : sProp 𝕄) ⊢ (rdats m 0 c).arrays (rdats m 0 c).A := .rfl

theorem arrays_back (c : Dev nD) (A : (w : Fin cfg0.W) → Buf (Elt F) ((spec0 w).arr.view.loc (c.tc : Thread nD τ))) :
    ((rdats m 0 c).arrays A : sProp 𝕄) ⊢ (pdats m 0 c).arrays A := .rfl

theorem owes_enter (c : Dev nD) : (iprop(∃ W, owes (c : Thread nD τ) (0 : CellTallies nD τ sig Unit) W) : sProp 𝕄) ⊢ (rdats m 0 c).owesAt () 0 := by
  show _ ⊢ (dat0 (Vk m) c).owesAt () 0
  unfold Pipeline.Dat.owesAt Pipeline.owesWithin
  iintro ⟨%W, HO⟩; iexists W; isplitr; · ipureintro; exact fun _ _ => Or.inl trivial
  iexact HO

/-- One device's arrays among every device's. -/
def arrsAt (c : Dev nD) (A : (w : Fin cfg0.W) → Buf (Elt F) ((spec0 w).arr.view.loc (c.tc : Thread nD τ))) : Arrs (F := F) :=
  fun c' => if h : c' = c then h ▸ A else fun w => (dat0 (Vk m) c').A w
theorem arrsAt_self (c : Dev nD) (A : (w : Fin cfg0.W) → Buf (Elt F) ((spec0 w).arr.view.loc (c.tc : Thread nD τ))) : arrsAt m c A c = A := by
  unfold arrsAt; rw [dif_pos rfl]

-- a library lemma over a pinned configuration is used at the printed one
set_option backward.isDefEq.respectTransparency.types false in
/-- The kernel from every buffer at `Wreg` to every buffer at `Wpost A`, for some arrays `A` the run may leave. -/
def reg0 : RDat.RegionSeg (pcfgs (F := F)) adm (rdats m) () defs₀ Variants.none L lv 0 where
  win := winFacts₀0
  block_pos := block_pos0
  stage_whole := stage_whole0
  K := PEmpty
  osem k := k.elim
  ho := Pipeline.OwnSemFacts.none _
  hbody c := (body_obligation0 (Vk m) c).toRRel
  hwaits := RDat.hwaits_of_owed_zero _ _ _ _ L lv 0 fun _ _ => rfl
  pre c := iprop(StableHlo.held (c : Thread nD τ) (Pipeline.ucRefs τ sig) (Wreg m c) ∗ R c)
  post c := iprop(∃ A : Arrs (F := F), ⌜Left m A c⌝ ∗ (StableHlo.held (c : Thread nD τ) (Pipeline.ucRefs τ sig) (Wpost m A c) ∗ R c))
  X c := iprop(∃ r, prngReg c r)
  Y c := iprop(∃ r, prngReg c r)
  Z c := Pipeline.unscopedRest (Ix := Unit) (Name := ℕ) (U := UR sig nD τ) (Lvl := ℕ) spec0 c (Vk m c)
  hentry c := by
    rw [Pipeline.ownSems0_none]
    have hsplit := Pipeline.arrays_of_unscopedBufs_shared (p := 0) (pcfgs (F := F)) adm (pdats m) winFacts₀0 sharedIn0 arr_whole0 c
      (fun _ _ => rfl) (Vk m c) (A_eq0 (Vk m) c)
    rw [Pipeline.unscopedBufs_held] at hsplit
    iintro ⟨⟨Hub, Hp, HO⟩, -, -⟩
    ihave H := hsplit $$ Hub
    icases H with ⟨Ha, Hrest⟩
    imodintro
    isplitl [Ha]
    · iapply (arrays_exact m c); iexact Ha
    isplitr; · unfold Pipeline.prefHeld; rw [show (Finset.univ : Finset (Fin 0)) = ∅ from rfl, BI.bigSep_empty]; iempintro
    isplitl [HO]
    · iapply (owes_enter m c); iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    ihave H := (arraysAt_open m c) $$ Ha
    icases H with ⟨%A, %hA, Ha⟩
    have hL : Left m (arrsAt m c A) c := by
      intro w; rw [arrsAt_self]; exact hA w
    have hjoin := Pipeline.unscopedBufs_of_arrays_shared (p := 0) (pcfgs (F := F)) adm (Ix := Unit) (Name := ℕ) (U := UR sig nD τ) (Lvl := ℕ)
      winFacts₀0 sharedIn0 arr_whole0 c (pdats m) (fun _ _ => rfl)
      (Vk m c) (fun b => Wpost m (arrsAt m c A) c (Proc.devRef .tc b)) A (fun w => ((hL.post m w).trans (congrFun (arrsAt_self m c A) w)).symm)
      (fun b hb => Pipeline.withArrays_of_ne spec0 c _ _ _ fun w hw => hb (Finset.mem_image.mpr ⟨w, Finset.mem_univ w, hw⟩))
    rw [Pipeline.unscopedBufs_held] at hjoin
    imodintro
    iexists (arrsAt m c A)
    isplitr; · ipureintro; exact hL
    isplitl [Ha Hrest]
    · iapply hjoin; isplitl [Ha]
      · iapply (arrays_back m c A); iexact Ha
      iexact Hrest
    isplitl [HY]; · iexact HY
    iapply (show ((dat0 (Vk m) c).owesAt () (Fin.last _) : sProp 𝕄) ⊢ iprop(∃ W, owes (c : Thread nD τ) (0 : CellTallies nD τ sig Unit) W) from by
      unfold Pipeline.Dat.owesAt Pipeline.owesWithin
      iintro ⟨%W, -, HO⟩; iexists W; iexact HO)
    iexact HO

/-! ## The segments -/

abbrev tk : Fin 1 → Pipeline.Ticket (Ix := Unit) (Name := ℕ) (U := UR sig nD τ) (Lvl := ℕ) (nD := nD) (τ := τ) (pcfgs (F := F)) adm := fun _ => { p := 0, pdats := pdats m, EP := emb₁ }

abbrev KitSeg : Type 1 := Pipeline.CSeg (pcfgs (F := F)) adm defs₀ Variants.none L lv loops (tk m)

/-- A stretch of host lines from `W`. -/
abbrev host (ops : List (HloOp τ sig (Elt F))) (hs : ops.Forall fun op => op.bufs ⊆ StableHlo.tcRefs τ sig)
    (hf : ops.Forall fun op => op.fresh = ∅) (W : Dev nD → Valuation τ sig (Elt F)) : KitSeg m :=
  Pipeline.CSeg.ofOps _ _ _ _ _ _ _ _ (Pipeline.ucRefs τ sig) ops
    (fun op h => Pipeline.sub_ucRefs op ((List.forall_iff_forall_mem.mp hs) op h))
    (fun op h => (List.forall_iff_forall_mem.mp hf) op h) W R

abbrev loop0 : KitSeg m :=
  StableHlo.loopSeg _ _ _ _ _ _ _ _ 0 (main_while0_cond (F := F)) (main_while0_body (F := F)) rfl condOps bodyI hbodyI
    (by rw [while0_body_chain]; rfl) nT (Went m) R (cond_spec m R)
abbrev kernel0 : KitSeg m := Pipeline.CSeg.regionAtR (pcfgs (F := F)) adm () cellOf_inj defs₀ Variants.none L lv loops (tk m) 0 (rdats m) (reg0 m)
abbrev last0 : KitSeg m :=
  Pipeline.CSeg.exSel (Left m) (fun A => host m hostOps1 hostOps1_sub hostOps1_fresh (Wpost m A)) (StableHlo.seq hostOps1) (fun _ => rfl) 0 (fun _ => le_rfl) ∅ (fun _ => rfl)

abbrev segs : List (KitSeg m) :=
  [host m hostOps0 hostOps0_sub hostOps0_fresh (Wpre m 0), host m hostOps0_1 hostOps0_1_sub hostOps0_1_fresh (Wpre m 1), host m hostOps0_2 hostOps0_2_sub hostOps0_2_fresh (Wpre m 2), host m hostOps0_3 hostOps0_3_sub hostOps0_3_fresh (Wpre m 3), host m hostOps0_4 hostOps0_4_sub hostOps0_4_fresh (Wpre m 4), host m hostOps0_5 hostOps0_5_sub hostOps0_5_fresh (Wpre m 5), host m hostOps0_6 hostOps0_6_sub hostOps0_6_fresh (Wpre m 6), host m hostOps0_7 hostOps0_7_sub hostOps0_7_fresh (Wpre m 7), host m hostOps0_8 hostOps0_8_sub hostOps0_8_fresh (Wpre m 8),
   loop0 m, host m hostOps0_9 hostOps0_9_sub hostOps0_9_fresh (Wexit m), kernel0 m, last0 m]

theorem host_T (ops : List (HloOp τ sig (Elt F))) (hs : ops.Forall fun op => op.bufs ⊆ StableHlo.tcRefs τ sig)
    (hf : ops.Forall fun op => op.fresh = ∅) (W : Dev nD → Valuation τ sig (Elt F)) : (host m ops hs hf W).T = ∅ := rfl
theorem loop_T : (loop0 m).T = ∅ := StableHlo.loopSeg_T _ _ _ _ _ _ _ _ (cond_spec m R)
theorem apart (s s' : KitSeg m) (h : s.T = ∅) : Disjoint s.T s'.T := h ▸ Finset.disjoint_empty_left _

theorem main_run (c : Dev nD) : main (F := F) c = Pipeline.CSeg.runL (segs m) := (main_chain c).trans (by chain_rfl)

abbrev Tₙ (c : Dev nD) : sProp 𝕄 := iprop(∃ A : Arrs (F := F), ⌜Left m A c⌝ ∗ StableHlo.held (c : Thread nD τ) (Pipeline.ucRefs τ sig) (Wend m A c))

theorem link_end (c : Dev nD) : (last0 m).post c ⊢ iprop(Tₙ m c ∗ ∃ W, owes (c.tc : Thread nD τ) (0 : CellTallies nD τ sig Unit) W) := by
  show iprop(∃ A : Arrs (F := F), ⌜Left m A c⌝ ∗ (StableHlo.held (c : Thread nD τ) (Pipeline.ucRefs τ sig) (Wend m A c) ∗ R c)) ⊢ _
  iintro ⟨%A, %hA, Hh, Hp, HO⟩
  isplitr [HO]; swap; · iexact HO
  iexists A; isplitr; · ipureintro; exact hA
  iexact Hh

/-- The TensorCore has no semaphore of its own outside the kernel's scope. -/
theorem no_unscoped : ∀ sm : SemLoc sig, sm.isScoped .tc = true := by decide

set_option backward.isDefEq.respectTransparency.types false in
/-- The run: it ends with every buffer at `Wend A`, for some arrays `A` that the kernel may leave, and every semaphore at zero. -/
theorem run_main (g : Dev nD → PrngReg) : θ_run defs (onTc (τ := τ) (main (F := F))) ⟨m, fun _ => 0, g⟩
    (fun r => (∀ c : Dev nD, ∃ A : Arrs (F := F), Left m A c ∧ ∀ b ∈ Pipeline.ucRefs τ sig, r.2.mem (((c : Thread nD τ)).1, b) = Wend m A c b) ∧ r.2.sem = fun _ => 0) :=
  Pipeline.θ_run_regions_loop_kit_sems (pcfgs (F := F)) adm cellOf_inj defs₀ Variants.none L lv loops (tk m) m g main (segs m)
    (fun c Q => by rw [main_run m c]) (by
      iterate 4 refine List.Pairwise.cons (fun s _ => apart m _ s (host_T m _ _ _ _)) ?_
      iterate 5 refine List.Pairwise.cons (fun s _ => apart m _ s (host_T m _ _ _ _)) ?_
      refine List.Pairwise.cons (fun s _ => apart m _ s (loop_T m)) ?_
      iterate 1 refine List.Pairwise.cons (fun s _ => apart m _ s (host_T m _ _ _ _)) ?_
      refine List.Pairwise.cons (fun s hs => ?_) (List.pairwise_singleton _ _)
      rw [List.mem_singleton.mp hs]; exact Finset.disjoint_empty_right _)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · rw [show (Finset.univ : Finset (Fin 1)) = {0} from rfl, BI.bigSep_singleton]
        iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, link_end m⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∃ A : Arrs (F := F), Left m A c ∧ ∀ b ∈ Pipeline.ucRefs τ sig, s.mem (((c : Thread nD τ)).1, b) = Wend m A c b)
    (hfin := fun c s' => by
      iintro ⟨⟨%A, %hA, Hh⟩, HSI⟩
      unfold StableHlo.held
      ihave Hp := (pointsTo_read_all (Pipeline.ucRefs τ sig) (fun b => (((c : Thread nD τ)).1, b)) (Wend m A c) s') $$ [Hh HSI]
      · isplitl [Hh] <;> iassumption
      icases Hp with ⟨%hb, HSI⟩
      imodintro
      isplitr; · ipureintro; exact ⟨A, hA, hb⟩
      iexact HSI)
    (hQ := fun s h hz => ⟨h, funext fun g => hz g (.inr (no_unscoped g.2))⟩)

theorem mem_uc (a : Ref sig .tc) (h : Proc.devRef (τ := τ) .tc a ∈ Pipeline.ucRefs τ sig := by decide) : Proc.devRef (τ := τ) .tc a ∈ Pipeline.ucRefs τ sig := h

/-- A buffer that nothing writes ends as it began. -/
theorem Wend_arg {A : Arrs (F := F)} {c : Dev nD} (h : Left m A c) (a : Ref sig .tc) (h1 : a ∉ hostOps1_W) (hl : a ∉ loopW) (h9 : a ∉ hostOps0_9_W) (hp : a ∉ preW)
    (hw : ∀ w : Fin cfg0.W, Pipeline.arrRef spec0 w = a → (cfg0.win w).isOut = false) :
    Wend m A c (Proc.devRef .tc a) = m ((c : Thread nD τ).loc a) := by
  refine (StableHlo.after_of_writes_sub hostOps1 _ hostOps1_writes h1).trans ?_
  refine Eq.trans ?_ ((Wreg_of m c a hl h9).trans (Went_of m c a hp))
  by_cases h' : ∃ w, Pipeline.arrRef spec0 w = a
  · obtain ⟨w, rfl⟩ := h'
    exact (h.post m w).trans (h.input m w (hw w rfl))
  · exact Pipeline.withArrays_of_ne spec0 c _ _ _ fun w e => h' ⟨w, e⟩

abbrev argRefs : List (Ref sig .tc) := [main_arg0, main_arg1, main_arg2, main_arg3, main_arg4, main_arg5, main_arg6, main_arg7, main_arg8, main_arg9, main_arg10, main_arg11, main_arg12, main_arg13, main_arg14]
theorem args_free : ∀ a ∈ argRefs, Proc.devRef (τ := τ) .tc a ∈ Pipeline.ucRefs τ sig ∧ a ∉ hostOps1_W ∧ a ∉ loopW ∧ a ∉ hostOps0_9_W ∧ a ∉ preW
    ∧ ∀ w : Fin cfg0.W, Pipeline.arrRef spec0 w = a → (cfg0.win w).isOut = false := by decide

theorem arg_kept {r : PUnit × MemSt nD τ sig (Elt F)} {c : Dev nD} (h : ∃ A : Arrs (F := F), Left m A c ∧ ∀ b ∈ Pipeline.ucRefs τ sig, r.2.mem (((c : Thread nD τ)).1, b) = Wend m A c b)
    (a : Ref sig .tc) (ha : a ∈ argRefs) : r.2.mem ((c.tc : Thread nD τ).loc a) = m ((c.tc : Thread nD τ).loc a) := by
  obtain ⟨A, hA, hb⟩ := h
  obtain ⟨h0, h1, h2, h3, h4, h5⟩ := args_free a ha
  exact (hb _ h0).trans (Wend_arg m hA a h1 h2 h3 h4 h5)

/-- The frame. -/
theorem frame (g : Dev nD → PrngReg) : θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun _ h => ⟨fun c =>
    ⟨arg_kept m (h.1 c) main_arg0 (by decide), arg_kept m (h.1 c) main_arg1 (by decide), arg_kept m (h.1 c) main_arg2 (by decide), arg_kept m (h.1 c) main_arg3 (by decide), arg_kept m (h.1 c) main_arg4 (by decide), arg_kept m (h.1 c) main_arg5 (by decide), arg_kept m (h.1 c) main_arg6 (by decide), arg_kept m (h.1 c) main_arg7 (by decide), arg_kept m (h.1 c) main_arg8 (by decide), arg_kept m (h.1 c) main_arg9 (by decide), arg_kept m (h.1 c) main_arg10 (by decide), arg_kept m (h.1 c) main_arg11 (by decide), arg_kept m (h.1 c) main_arg12 (by decide), arg_kept m (h.1 c) main_arg13 (by decide), arg_kept m (h.1 c) main_arg14 (by decide)⟩, h.2⟩) (run_main m g)

end Cert.Kernel2Ideal.Br
end
-- ==== Proof.Br.Frames.lean ====
module

public import proofs.«01_k».proof.Defs
public import proofs.«01_k».proof.Proof.Br.Run
public import proofs.«01_k».proof.Proof.Gen.Kernel2
public import proofs.«01_k».proof.Proof.Gen.Reference2Ideal.Run

/-! The frames of the branches pair: the kernel as bits, the kernel read over the extended reals, the reference. -/

@[expose] public section

set_option maxRecDepth 16384

noncomputable section

namespace Cert.Kernel2Ideal.Br

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel2Ideal Cert.Kernel2Ideal.Gen

theorem frameI : Cert.quiescent_Kernel2Ideal := fun m g _ => frame m g

/-- A named constant read as the bits it was printed with. -/
abbrev bitsNamed : Named Bits where
  named _ _ {φ} b := FloatOps.ofBits φ b

/-- The kernel as printed is the same text at bits, its named constants read as their bits. -/
theorem frameK : Cert.quiescent_Kernel2 := by
  have h := fun m g (_ : True) => @frame Bits _ bitsNamed m g
  exact Eq.mp (by sl_kernel_rfl) h

theorem frameR : Cert.quiescent_Reference2Ideal := fun m ρ _ =>
  (θ_run _ _ _).mono (fun r h => ⟨fun c => (h c).2.2.2.2.2.2, sem_eq_zero_of_no_sems (by decide) r.2⟩) (Cert.Reference2Ideal.Value.run m ρ)

theorem keeps : Cert.preserves_Kernel2_Kernel2Ideal :=
  ⟨IdealRules.named_const.statement Cert.Kernel2Ideal.κ "gelu" .f32 0x3D372713#32 _ rfl,
   IdealRules.named_const.statement Cert.Kernel2Ideal.κ "gelu3" .f32 0x3E095D4F#32 _ rfl⟩

end Cert.Kernel2Ideal.Br
end
-- ==== Proof.Br.Model.lean ====
module

public import proofs.«01_k».proof.Proof.Reals

/-! The gMLP half of the branches' backward pass over the real numbers, row by row. -/

@[expose] public section

noncomputable section

namespace Cert.BrModel

open Idealize.ShloMosaic Cert.Reals

/-- The constant inside the activation's hyperbolic tangent: the rational its float word denotes. -/
def c0 : ℝ := 13386282 / 2 ^ 24
theorem cC0 : Ideal.ofBits .f32 0x3F4C422A#32 = ((c0 : ℝ) : EReal) := by
  unfold c0
  simp [Ideal.ofBits, Ideal.ieee, -EReal.coe_mul]
  norm_num
theorem cHalf : Ideal.ofBits .f32 0x3F000000#32 = ((1 / 2 : ℝ) : EReal) := by
  simp [Ideal.ofBits, Ideal.ieee, -EReal.coe_mul]
  norm_num
theorem cOne : Ideal.ofBits .f32 0x3F800000#32 = ((1 : ℝ) : EReal) := by
  simp [Ideal.ofBits, Ideal.ieee, -EReal.coe_mul]
  norm_num
theorem c1024 : Ideal.ofBits .f32 0x44800000#32 = ((1024 : ℝ) : EReal) := by
  simp [Ideal.ofBits, Ideal.ieee, -EReal.coe_mul]
  norm_num
theorem cZero : Ideal.ofBits .f32 0x00000000#32 = ((0 : ℝ) : EReal) := by
  simp [Ideal.ofBits, Ideal.ieee]
theorem div1024 (x : ℝ) : Ideal.div (x : EReal) ((1024 : ℝ) : EReal) = ((x / 1024 : ℝ) : EReal) := div_real _ _ (by norm_num)

/-! ## The activation -/

def th (x : ℝ) : ℝ := Real.tanh (c0 * (x + 8943 / 200000 * (x * x * x)))
def gel (x : ℝ) : ℝ := 1 / 2 * x * (1 + th x)
/-- Its derivative. -/
def gelD (x : ℝ) : ℝ := 1 / 2 * (1 + th x) + 1 / 2 * x * (1 - th x * th x) * (c0 * (1 + 26829 / 200000 * x * x))
def sg (x : ℝ) : ℝ := (1 + Real.exp (-x))⁻¹

/-! ## A row's norms -/

/-- A mean square with the epsilon. -/
def ms (r : Fin 1024 → ℝ) : ℝ := (∑ k, r k * r k) / 1024 + eps
theorem ms_pos (r : Fin 1024 → ℝ) : 0 < ms r :=
  add_pos_of_nonneg_of_pos (div_nonneg (Finset.sum_nonneg fun k _ => mul_self_nonneg _) (by norm_num)) eps_pos
/-- The reciprocal root of a row's mean square. -/
def rs (r : Fin 1024 → ℝ) : ℝ := (Real.sqrt (ms r))⁻¹
theorem rs_eq (r : Fin 1024 → ℝ) : Ideal.rsqrt (((∑ k, r k * r k) / 1024 + eps : ℝ) : EReal) = ((rs r : ℝ) : EReal) := rsqrt_real _ (ms_pos r)
/-- A row's activations about their mean. -/
def cen (r : Fin 1024 → ℝ) (j : Fin 1024) : ℝ := gel (r j) - (∑ k, gel (r k)) / 1024
/-- The same at unit variance. -/
def vh (r : Fin 1024 → ℝ) (j : Fin 1024) : ℝ := cen r j * rs (cen r)

/-- The head a column belongs to, and a row's place in its chunk. -/
def hd (j : Fin 1024) : Fin 8 := ⟨j.val / 128, by omega⟩
def pl (R : ℕ) : Fin 128 := ⟨R % 128, Nat.mod_lt _ (by decide)⟩

/-- The rows and parameters the half is computed from. -/
structure M where
  u : ℕ → Fin 1024 → ℝ
  v : ℕ → Fin 1024 → ℝ
  g : ℕ → Fin 1024 → ℝ
  dy : ℕ → Fin 1024 → ℝ
  lg : Fin 1024 → ℝ
  lb : Fin 1024 → ℝ
  og : Fin 1024 → ℝ
  w : Fin 8 → Fin 128 → Fin 128 → ℝ
  b : Fin 8 → Fin 128 → ℝ

namespace M

variable (m : M) (R : ℕ) (j : Fin 1024)

/-- The normalised row with its gain and offset; the mixture over its chunk; the gated product; its norm. -/
def vn : ℝ := vh (m.v R) j * m.lg j + m.lb j
def mix : ℝ := (∑ s : Fin 128, m.w (hd j) (pl R) s * m.vn (R / 128 * 128 + s.val) j) + m.b (hd j) (pl R)
def um : ℝ := gel (m.u R j) * m.mix R j
def sil : ℝ := m.g R j * sg (m.g R j)
def ya : ℝ := m.um R j * m.sil R j
def ra : ℝ := rs (m.ya R)
def yh : ℝ := m.ya R j * m.ra R
/-- The gradients, from the product's back to the three column groups'. -/
def dn : ℝ := m.dy R j * m.og j
def dya : ℝ := m.ra R * (m.dn R j - m.yh R j * ((∑ k, m.dn R k * m.yh R k) / 1024))
def zg : ℝ := m.dya R j * m.um R j * (sg (m.g R j) * (1 + m.g R j * (1 - sg (m.g R j))))
def du : ℝ := m.dya R j * m.mix R j * m.sil R j
def zu : ℝ := m.du R j * gelD (m.u R j)
def dm : ℝ := m.dya R j * gel (m.u R j) * m.sil R j
def dvn : ℝ := ∑ s : Fin 128, m.w (hd j) s (pl R) * m.dm (R / 128 * 128 + s.val) j
def dvh : ℝ := m.dvn R j * m.lg j
def zv : ℝ := rs (cen (m.v R)) * (m.dvh R j - (∑ k, m.dvh R k) / 1024 - vh (m.v R) j * ((∑ k, m.dvh R k * vh (m.v R) k) / 1024)) * gelD (m.v R j)

end M

end Cert.BrModel
end
-- ==== Proof.Br.KPay.lean ====
module

public import proofs.«01_k».proof.Proof.Gen.Kernel2Ideal.Skeleton
public import proofs.«01_k».proof.Proof.Br.Model
public import Idealize.ShloMosaic.Lib.Pipeline.ValueKit
public import Idealize.ShloMosaic.Lib.Pipeline.ReadBack

/-! The gMLP half's payloads on real blocks. -/

@[expose] public section

set_option maxRecDepth 16384

noncomputable section

namespace Cert.Kernel2Ideal.BrVal

open Idealize.ShloMosaic Idealize.ShloMosaic.TcCoe
open Cert.Kernel2Ideal Cert.Kernel2Ideal.Gen Cert.Reals Cert.BrModel

theorem kG : Named.named (F := Ideal) (φ := .f32) κ "gelu" 0x3D372713#32 = ((8943 / 200000 : ℝ) : EReal) := IdealRules.named_const.ideal_named_scalar _ _ _ _ rfl
theorem kG3 : Named.named (F := Ideal) (φ := .f32) κ "gelu3" 0x3E095D4F#32 = ((26829 / 200000 : ℝ) : EReal) := IdealRules.named_const.ideal_named_scalar _ _ _ _ rfl

variable (m : M) (o : ℕ)

/-- A block of 256 rows holds the real rows from `o` on. -/
def Rows (x : S256x1024.Idx → EReal) (f : ℕ → Fin 1024 → ℝ) : Prop := ∀ (p : Fin 256) (j : Fin 1024), x (ix2 p j) = ((f (o + p.val) j : ℝ) : EReal)
def Rows1 (x : S256x1.Idx → EReal) (f : ℕ → ℝ) : Prop := ∀ (p : Fin 256) (j : Fin 1), x (ix2 p j) = ((f (o + p.val) : ℝ) : EReal)
def Row (x : S1x1024.Idx → EReal) (f : Fin 1024 → ℝ) : Prop := ∀ j : Fin 1024, x (ix2 0 j) = ((f j : ℝ) : EReal)

section
variable {o}

theorem pay52 (x : Vec Ideal S1x256x1024 .bf16) (f) (hx : ∀ (p : Fin 256) (j : Fin 1024), x (ix3 0 p j) = ((f (o + p.val) j : ℝ) : EReal)) : Rows o (k0_pay52 x) f := by
  intro p j
  pointwise [k0_pay52, hx]

theorem pay53 (x) (f) (hx : Rows o (k0_pay52 (F := Ideal) x) f) : Rows o (k0_pay53 x) fun R j => th (f R j) := by
  intro p j
  have h := hx p j
  pointwise [k0_pay53, h, kG, cC0]
  simp only [← EReal.coe_mul, ← EReal.coe_add, Ideal.tanh_coe]
  rfl

theorem pay54 (x) (f) (hx : Rows o (k0_pay52 (F := Ideal) x) f) : Rows o (k0_pay54 x) fun R j => gel (f R j) := by
  intro p j
  have h := hx p j
  have h' := pay53 x f hx p j
  pointwise [k0_pay54, h, h', cHalf, cOne]
  simp only [← EReal.coe_mul, ← EReal.coe_add]
  rfl

theorem pay57 (a t : FVec Ideal S256x1024 .f32) (f : ℕ → Fin 1024 → ℝ) (ha : Rows o a f) (ht : Rows o t fun R j => th (f R j)) :
    Rows o (k0_pay57 a t) fun R => cen (f R) := by
  intro p j
  have ha := ha p
  have ht := ht p
  pointwise [k0_pay57, ha, ht, cHalf, cOne, c1024]
  simp only [← EReal.coe_mul, ← EReal.coe_add, coe_sum, div1024, ← EReal.coe_sub]
  rfl

theorem pay58 (a t : FVec Ideal S256x1024 .f32) (f : ℕ → Fin 1024 → ℝ) (h : Rows o (k0_pay57 a t) fun R => cen (f R)) :
    Rows1 o (k0_pay58 a t) fun R => rs (cen (f R)) := by
  intro p j
  have h := h p
  pointwise [k0_pay58, h, c1024, cEps]
  simp only [← EReal.coe_mul, ← EReal.coe_add, coe_sum, div1024, rs_eq]

theorem pay59 (a t : FVec Ideal S256x1024 .f32) (f : ℕ → Fin 1024 → ℝ) (h : Rows o (k0_pay57 a t) fun R => cen (f R))
    (h' : Rows1 o (k0_pay58 a t) fun R => rs (cen (f R))) : Rows o (k0_pay59 a t) fun R => vh (f R) := by
  intro p j
  have h := h p
  have h' := h' p
  pointwise [k0_pay59, h, h']
  simp only [← EReal.coe_mul]
  rfl

theorem pay60 (a t : FVec Ideal S256x1024 .f32) (g b : Vec Ideal S1x1024 .f32) (h : Rows o (k0_pay59 a t) fun R => vh (m.v R))
    (hg : Row g m.lg) (hb : Row b m.lb) : Rows o (k0_pay60 a t g b) m.vn := by
  intro p j
  have h := h p
  have hg := hg j
  have hb := hb j
  pointwise [k0_pay60, h, hg, hb]
  simp only [← EReal.coe_mul, ← EReal.coe_add]
  rfl

theorem pay55 (x : Vec Ideal S1x256x256 .bf16) (y : Vec Ideal S1x256x768 .bf16) (f : ℕ → Fin 1024 → ℝ)
    (hx : ∀ (p : Fin 256) (j : Fin 256), x (ix3 0 p j) = ((f (o + p.val) ⟨j.val, by omega⟩ : ℝ) : EReal))
    (hy : ∀ (p : Fin 256) (j : Fin 768), y (ix3 0 p j) = ((f (o + p.val) ⟨256 + j.val, by omega⟩ : ℝ) : EReal)) : Rows o (k0_pay55 x y) f := by
  intro p j
  have hx := hx p
  have hy := hy p
  pointwise [k0_pay55, hx, hy]
  split_ifs with h
  · rfl
  · exact congrArg (fun k => ((f (o + p.val) k : ℝ) : EReal)) (Fin.ext (by show 256 + (j.val - 256) = j.val; omega))
  · rename_i e
    exact absurd rfl e

theorem pay56 (x : Vec Ideal S1x256x256 .bf16) (y : Vec Ideal S1x256x768 .bf16) (f) (hx : Rows o (k0_pay55 (F := Ideal) x y) f) : Rows o (k0_pay56 x y) fun R j => th (f R j) := by
  intro p j
  have h := hx p j
  pointwise [k0_pay56, h, kG, cC0]
  simp only [← EReal.coe_mul, ← EReal.coe_add, Ideal.tanh_coe]
  rfl

theorem pay81 (x : Vec Ideal S1x256x512 .bf16) (y : Vec Ideal S1x256x512 .bf16) (f : ℕ → Fin 1024 → ℝ)
    (hx : ∀ (p : Fin 256) (j : Fin 512), x (ix3 0 p j) = ((f (o + p.val) ⟨j.val, by omega⟩ : ℝ) : EReal))
    (hy : ∀ (p : Fin 256) (j : Fin 512), y (ix3 0 p j) = ((f (o + p.val) ⟨512 + j.val, by omega⟩ : ℝ) : EReal)) : Rows o (k0_pay81 x y) f := by
  intro p j
  have hx := hx p
  have hy := hy p
  pointwise [k0_pay81, hx, hy]
  split_ifs with h
  · rfl
  · exact congrArg (fun k => ((f (o + p.val) k : ℝ) : EReal)) (Fin.ext (by show 512 + (j.val - 512) = j.val; omega))
  · rename_i e
    exact absurd rfl e

theorem pay82 (x y : Vec Ideal S1x256x512 .bf16) (h : Rows o (k0_pay81 (F := Ideal) x y) m.g) : Rows o (k0_pay82 x y) fun R j => sg (m.g R j) := by
  intro p j
  have h := h p j
  pointwise [k0_pay82, h]
  simp only [Ideal.logistic_coe]
  rfl

theorem pay83 (x y : Vec Ideal S1x256x512 .bf16) (h : Rows o (k0_pay81 (F := Ideal) x y) m.g) : Rows o (k0_pay83 x y) m.sil := by
  intro p j
  have h' := pay82 m x y h p j
  have h := h p j
  pointwise [k0_pay83, h, h']
  simp only [← EReal.coe_mul]
  rfl

/-! The gated product, its norm, and the gradients of its factors. -/

section
variable (a : FVec Ideal S256x1024 .f32) (x : Vec Ideal S256x1024 .f32) (y z : Vec Ideal S1x256x512 .bf16)
variable {m} (ha : Rows o a fun R j => gel (m.u R j)) (hx : Rows o x m.mix) (hz : Rows o (k0_pay81 (F := Ideal) y z) m.g)
include ha hx

theorem pay84 : Rows o (k0_pay84 a x) m.um := by
  intro p j
  have ha := ha p j
  have hx := hx p j
  pointwise [k0_pay84, ha, hx]
  simp only [← EReal.coe_mul]
  rfl

include hz
theorem pay85 : Rows o (k0_pay85 a x y z) m.ya := by
  intro p j
  have h := pay84 a x ha hx p j
  have h' := pay83 m y z hz p j
  pointwise [k0_pay85, h, h']
  simp only [← EReal.coe_mul]
  rfl

theorem pay86 : Rows1 o (k0_pay86 a x y z) m.ra := by
  intro p j
  have h := pay85 a x y z ha hx hz p
  pointwise [k0_pay86, h, c1024, cEps]
  simp only [← EReal.coe_mul, ← EReal.coe_add, coe_sum, div1024, rs_eq]
  rfl

theorem pay87 : Rows o (k0_pay87 a x y z) m.yh := by
  intro p j
  have h := pay85 a x y z ha hx hz p
  have h' := pay86 a x y z ha hx hz p
  pointwise [k0_pay87, h, h']
  simp only [← EReal.coe_mul]
  rfl

end

section
variable {m} (d : Vec Ideal S256x1024 .f32) (r : FVec Ideal S256x1 .f32) (y : FVec Ideal S256x1024 .f32) (g : Vec Ideal S1x1024 .f32)
variable (hd : Rows o d m.dy) (hr : Rows1 o r m.ra) (hy : Rows o y m.yh) (hg : Row g m.og)
include hd hr hy hg

theorem pay91 : Rows o (k0_pay91 d r y g) m.dya := by
  intro p j
  have hd := hd p
  have hr := hr p
  have hy := hy p
  pointwise [k0_pay91, hd, hr, hy, show ∀ k, g (ix2 0 k) = _ from hg, c1024]
  simp only [← EReal.coe_mul, ← EReal.coe_add, coe_sum, div1024, ← EReal.coe_sub]
  rfl

theorem pay92 (s t a : FVec Ideal S256x1024 .f32) (hs : Rows o s m.g) (ht : Rows o t fun R j => sg (m.g R j)) (ha : Rows o a m.um) :
    Rows o (k0_pay92 d s t a r y g) m.zg := by
  intro p j
  have h := pay91 d r y g hd hr hy hg p j
  have hs := hs p j
  have ht := ht p j
  have ha := ha p j
  pointwise [k0_pay92, h, hs, ht, ha, cOne]
  simp only [← EReal.coe_mul, ← EReal.coe_add, ← EReal.coe_sub]
  rfl

theorem pay93 (x s : FVec Ideal S256x1024 .f32) (hx : Rows o x m.mix) (hs : Rows o s m.sil) : Rows o (k0_pay93 d x s r y g) m.du := by
  intro p j
  have h := pay91 d r y g hd hr hy hg p j
  have hs := hs p j
  have hx := hx p j
  pointwise [k0_pay93, h, hs, hx]
  simp only [← EReal.coe_mul]
  rfl

end

theorem pay98 (d s t : FVec Ideal S256x1024 .f32) (hd : Rows o d m.du) (hs : Rows o s m.u) (ht : Rows o t fun R j => th (m.u R j)) :
    Rows o (k0_pay98 d (k0_pay94 t) (k0_pay95 s t) (k0_pay96 s) (k0_pay97)) m.zu := by
  intro p j
  have hd := hd p j
  have hs := hs p j
  have ht := ht p j
  pointwise [k0_pay98, k0_pay94, k0_pay95, k0_pay96, k0_pay97, hd, hs, ht, cOne, cHalf, kG3, cC0]
  simp only [← EReal.coe_mul, ← EReal.coe_add, ← EReal.coe_sub]
  rfl

theorem pay99 (a s d : FVec Ideal S256x1024 .f32) (ha : Rows o a fun R j => gel (m.u R j)) (hs : Rows o s m.sil) (hd : Rows o d m.dya) :
    Rows o (k0_pay99 a s d) m.dm := by
  intro p j
  have hd := hd p j
  have hs := hs p j
  have ha := ha p j
  pointwise [k0_pay99, hd, hs, ha]
  simp only [← EReal.coe_mul]
  rfl

theorem pay101 (a s d : FVec Ideal S256x1024 .f32) (h : Rows o (k0_pay99 a s d) m.dm) : Rows o (k0_pay101 a s d) m.dm := by
  intro p j
  have h := h p j
  pointwise [k0_pay101, h]

theorem pay144 (a t : FVec Ideal S256x1024 .f32) (r : FVec Ideal S256x1 .f32) (x : FVec Ideal S256x1024 .f32) (d : Vec Ideal S256x1024 .f32) (g : Vec Ideal S1x1024 .f32)
    (ha : Rows o a m.v) (ht : Rows o t fun R j => th (m.v R j)) (hr : Rows1 o r fun R => rs (cen (m.v R))) (hx : Rows o x fun R => vh (m.v R))
    (hd : Rows o d m.dvn) (hg : Row g m.lg) : Rows o (k0_pay144 a t r x d g) m.zv := by
  intro p j
  have ha := ha p
  have ht := ht p
  have hr := hr p
  have hx := hx p
  have hd := hd p
  pointwise [k0_pay144, ha, ht, hr, hx, hd, show ∀ k, g (ix2 0 k) = _ from hg, cOne, cHalf, kG3, cC0, c1024]
  simp only [← EReal.coe_mul, ← EReal.coe_add, coe_sum, div1024, ← EReal.coe_sub]
  rfl

/-! ## What a tile adds to the accumulators -/

/-- Every eighth row's terms of the tile, and the two chunks' terms. -/
def by8 (f : ℕ → Fin 1024 → ℝ) (o : ℕ) (a : Fin 8) (j : Fin 1024) : ℝ := ∑ s : Fin 32, f (o + (s.val * 8 + a.val)) j
def by2 (f : ℕ → Fin 1024 → ℝ) (o : ℕ) (i : Fin 128) (j : Fin 1024) : ℝ := ∑ k : Fin 2, f (o + (k.val * 128 + i.val)) j

theorem pay90 (c : Fin 8 → Fin 1024 → ℝ) (q : Vec Ideal S8x1024 .f32) (d : Vec Ideal S256x1024 .f32) (a : FVec Ideal S256x1024 .f32) (x : Vec Ideal S256x1024 .f32)
    (y z : Vec Ideal S1x256x512 .bf16) (hq : ∀ a j, q (ix2 a j) = ((c a j : ℝ) : EReal)) (hd : Rows o d m.dy) (h : Rows o (k0_pay87 a x y z) m.yh) (i : Fin 8) (j : Fin 1024) :
    k0_pay90 (k0_pay88 q) (k0_pay89 d a x y z) (ix2 i j) = ((c i j + by8 (fun R j => m.dy R j * m.yh R j) o i j : ℝ) : EReal) := by
  have hd := fun p => hd p j
  have h := fun p => h p j
  pointwise [k0_pay90, k0_pay88, k0_pay89, hq, hd, h]
  simp only [← EReal.coe_mul, ← EReal.coe_add, coe_sum]
  rfl

theorem pay140 (c : Fin 8 → Fin 1024 → ℝ) (q : Vec Ideal S8x1024 .f32) (x : FVec Ideal S256x1024 .f32) (d : Vec Ideal S256x1024 .f32)
    (hq : ∀ a j, q (ix2 a j) = ((c a j : ℝ) : EReal)) (hx : Rows o x fun R => vh (m.v R)) (hd : Rows o d m.dvn) (i : Fin 8) (j : Fin 1024) :
    k0_pay140 x d q (ix2 i j) = ((c i j + by8 (fun R j => m.dvn R j * vh (m.v R) j) o i j : ℝ) : EReal) := by
  have hd := fun p => hd p j
  have hx := fun p => hx p j
  pointwise [k0_pay140, hq, hd, hx]
  simp only [← EReal.coe_mul, ← EReal.coe_add, coe_sum]
  rfl

theorem pay143 (c : Fin 8 → Fin 1024 → ℝ) (q : Vec Ideal S8x1024 .f32) (d : Vec Ideal S256x1024 .f32)
    (hq : ∀ a j, q (ix2 a j) = ((c a j : ℝ) : EReal)) (hd : Rows o d m.dvn) (i : Fin 8) (j : Fin 1024) :
    k0_pay143 (k0_pay141 q) (k0_pay142 d) (ix2 i j) = ((c i j + by8 m.dvn o i j : ℝ) : EReal) := by
  have hd := fun p => hd p j
  pointwise [k0_pay143, k0_pay141, k0_pay142, hq, hd]
  simp only [← EReal.coe_add, coe_sum]
  rfl

theorem pay100 (c : Fin 128 → Fin 1024 → ℝ) (q : Vec Ideal S128x1024 .f32) (a s d : FVec Ideal S256x1024 .f32)
    (hq : ∀ a j, q (ix2 a j) = ((c a j : ℝ) : EReal)) (h : Rows o (k0_pay99 a s d) m.dm) (i : Fin 128) (j : Fin 1024) :
    k0_pay100 a s d q (ix2 i j) = ((c i j + by2 m.dm o i j : ℝ) : EReal) := by
  have h := fun p => h p j
  pointwise [k0_pay100, hq, h]
  simp only [← EReal.coe_add, coe_sum, ← Fin.sum_univ_two (fun k : Fin 2 => m.dm (o + (k.val * 128 + i.val)) j)]
  rfl

/-! ## The mixtures over a chunk -/

/-- The column `d` of head `h`. -/
def col (h : Fin 8) (d : Fin 128) : Fin 1024 := ⟨h.val * 128 + d.val, by omega⟩
theorem hd_col (h : Fin 8) (d : Fin 128) : hd (col h d) = h := Fin.ext (by show (h.val * 128 + d.val) / 128 = h.val; omega)

variable (T : ℕ) (k : Fin 2) (h : Fin 8) (i d : Fin 128)

theorem mix_piece (r : Fin 128 → ℕ) (j : Fin 1024) (R : ℕ) (j' : Fin 1024) (hj : j'.val = j.val) (hh : h.val = j.val / 128) (hi : i.val = R % 128)
    (hr : ∀ s, r s = R / 128 * 128 + s.val) :
    (∑ s, m.w h i s * m.vn (256 * T + r s) j) + m.b (hd j) i = m.mix (256 * T + R) j' := by
  obtain rfl : j' = j := Fin.ext hj
  obtain rfl : h = hd j' := Fin.ext hh
  unfold M.mix
  have e1 : pl (256 * T + R) = i := Fin.ext (by show (256 * T + R) % 128 = i.val; omega)
  have e2 : ∀ s : Fin 128, (256 * T + R) / 128 * 128 + s.val = 256 * T + r s := fun s => by have := hr s; omega
  simp only [e1, e2]

theorem dvn_piece (r : Fin 128 → ℕ) (j : Fin 1024) (R : ℕ) (j' : Fin 1024) (hj : j'.val = j.val) (hh : h.val = j.val / 128) (hi : i.val = R % 128)
    (hr : ∀ s, r s = R / 128 * 128 + s.val) :
    (∑ s, m.w h s i * m.dm (256 * T + r s) j) = m.dvn (256 * T + R) j' := by
  obtain rfl : j' = j := Fin.ext hj
  obtain rfl : h = hd j' := Fin.ext hh
  unfold M.dvn
  have e1 : pl (256 * T + R) = i := Fin.ext (by show (256 * T + R) % 128 = i.val; omega)
  have e2 : ∀ s : Fin 128, (256 * T + R) / 128 * 128 + s.val = 256 * T + r s := fun s => by have := hr s; omega
  simp only [e1, e2]

/-- A chunk's term of the spatial weights' gradient. -/
def gwT (o : ℕ) (h : Fin 8) (t s : Fin 128) (k : Fin 2) : ℝ :=
  ∑ d : Fin 128, m.dm (o + (k.val * 128 + t.val)) (col h d) * m.vn (o + (k.val * 128 + s.val)) (col h d)

end

end Cert.Kernel2Ideal.BrVal
end
-- ==== Proof.Br.KRun.lean ====
module

public import proofs.«01_k».proof.Proof.Br.KPay
public import proofs.«01_k».proof.Proof.Br.TB

/-! What the body's run holds at a tile, for real blocks: the gMLP half's values up to the gradients of its columns. -/

@[expose] public section

set_option maxRecDepth 16384

noncomputable section

namespace Cert.Kernel2Ideal.BrVal

open Idealize.ShloMosaic Idealize.ShloMosaic.TcCoe
open Cert.Kernel2Ideal Cert.Kernel2Ideal.Gen Cert.Kernel2Ideal.Br Cert.Reals Cert.BrModel

/-- The buffers and blocks the half reads at a point. -/
structure Q where
  a1 : Memref sig .tc .vmem S4x256x1280 .bf16
  h1 : a1.IsWhole
  a5 : Memref sig .tc .vmem S256x2048 .f32
  h5 : a5.IsWhole
  a6 : Memref sig .tc .vmem S1x1024 .f32
  h6 : a6.IsWhole
  a7 : Memref sig .tc .vmem S1x1024 .f32
  h7 : a7.IsWhole
  a8 : Memref sig .tc .vmem S8x128x128 .bf16
  h8 : a8.IsWhole
  a9 : Memref sig .tc .vmem S8x128x128 .bf16
  h9 : a9.IsWhole
  a10 : Memref sig .tc .vmem S128x1024 .f32
  h10 : a10.IsWhole
  a18 : Memref sig .tc .vmem S1x1024 .f32
  h18 : a18.IsWhole
  a35 : Memref sig .tc .vmem S256x1024 .bf16
  a36 : Memref sig .tc .vmem S256x1024 .f32
  a37 : Memref sig .tc .vmem S256x1024 .bf16
  a38 : Memref sig .tc .vmem S256x1024 .f32
  x1 : Vec Ideal S4x256x1280 .bf16
  x5 : Vec Ideal S256x2048 .f32
  x6 : Vec Ideal S1x1024 .f32
  x7 : Vec Ideal S1x1024 .f32
  x8 : Vec Ideal S8x128x128 .bf16
  x9 : Vec Ideal S8x128x128 .bf16
  x10 : Vec Ideal S128x1024 .f32
  x18 : Vec Ideal S1x1024 .f32
  c : Dev nD

/-- The blocks hold tile `T`'s rows and the parameters. -/
structure Q.Real (q : Q) (m : M) (T : ℕ) : Prop where
  u : ∀ (p : Fin 256) (j : Fin 1024), q.x1 (ix3 0 p ⟨j.val, by omega⟩) = ((m.u (256 * T + p.val) j : ℝ) : EReal)
  v0 : ∀ (p : Fin 256) (j : Fin 256), q.x1 (ix3 0 p ⟨1024 + j.val, by omega⟩) = ((m.v (256 * T + p.val) ⟨j.val, by omega⟩ : ℝ) : EReal)
  v1 : ∀ (p : Fin 256) (j : Fin 768), q.x1 (ix3 1 p ⟨j.val, by omega⟩) = ((m.v (256 * T + p.val) ⟨256 + j.val, by omega⟩ : ℝ) : EReal)
  g1 : ∀ (p : Fin 256) (j : Fin 512), q.x1 (ix3 1 p ⟨768 + j.val, by omega⟩) = ((m.g (256 * T + p.val) ⟨j.val, by omega⟩ : ℝ) : EReal)
  g2 : ∀ (p : Fin 256) (j : Fin 512), q.x1 (ix3 2 p ⟨j.val, by omega⟩) = ((m.g (256 * T + p.val) ⟨512 + j.val, by omega⟩ : ℝ) : EReal)
  dy : ∀ (p : Fin 256) (j : Fin 1024), q.x5 (ix2 p ⟨j.val, by omega⟩) = ((m.dy (256 * T + p.val) j : ℝ) : EReal)
  lg : Row q.x6 m.lg
  lb : Row q.x7 m.lb
  og : Row q.x18 m.og
  w : ∀ h t s, q.x8 (ix3 h t s) = ((m.w h t s : ℝ) : EReal)
  wt : ∀ h t s, q.x9 (ix3 h t s) = ((m.w h s t : ℝ) : EReal)
  b : ∀ i j, q.x10 (ix2 i j) = ((m.b (hd j) i : ℝ) : EReal)

abbrev Q.r (q : Q) : Vec Ideal S256x1024 .f32 := run_B.sl.r (F := Ideal) q.a5 q.h5 q.x5 q.c
abbrev Q.r2 (q : Q) : FVec Ideal S256x1024 .f32 := run_B.sl.r_2 (F := Ideal) q.a1 q.h1 q.x1 q.c
abbrev Q.r3 (q : Q) : FVec Ideal S256x1024 .f32 := run_B.sl.r_3 (F := Ideal) q.a1 q.h1 q.x1 q.c
abbrev Q.r4 (q : Q) : FVec Ideal S256x1024 .f32 := run_B.sl.r_4 (F := Ideal) q.a1 q.h1 q.x1 q.c
abbrev Q.r5 (q : Q) : FVec Ideal S256x1024 .f32 := run_B.sl.r_5 (F := Ideal) q.a1 q.h1 q.x1 q.c
abbrev Q.r6 (q : Q) : FVec Ideal S256x1024 .f32 := run_B.sl.r_6 (F := Ideal) q.a1 q.h1 q.x1 q.c
abbrev Q.r7 (q : Q) : FVec Ideal S256x1 .f32 := run_B.sl.r_7 (F := Ideal) q.a1 q.h1 q.x1 q.c
abbrev Q.r8 (q : Q) : FVec Ideal S256x1024 .f32 := run_B.sl.r_8 (F := Ideal) q.a1 q.h1 q.x1 q.c
abbrev Q.r13 (q : Q) : FVec Ideal S256x1024 .f32 := run_B.sl.r_13 (F := Ideal) q.a1 q.h1 q.x1 q.c
abbrev Q.r14 (q : Q) : FVec Ideal S256x1024 .f32 := run_B.sl.r_14 (F := Ideal) q.a1 q.h1 q.x1 q.c
abbrev Q.r15 (q : Q) : FVec Ideal S256x1024 .f32 := run_B.sl.r_15 (F := Ideal) q.a1 q.h1 q.x1 q.c
abbrev Q.v227 (q : Q) : Vec Ideal S256x1024 .f32 := run_B.sl.v227 (F := Ideal) q.a1 q.h1 q.a6 q.h6 q.a7 q.h7 q.a8 q.h8 q.a10 q.h10 q.a35 q.a36 q.x1 q.x6 q.x7 q.x8 q.x10 q.c
abbrev Q.r16 (q : Q) : FVec Ideal S256x1024 .f32 := run_B.sl.r_16 (F := Ideal) q.a1 q.h1 q.a6 q.h6 q.a7 q.h7 q.a8 q.h8 q.a10 q.h10 q.a35 q.a36 q.x1 q.x6 q.x7 q.x8 q.x10 q.c
abbrev Q.r17 (q : Q) : FVec Ideal S256x1 .f32 := run_B.sl.r_17 (F := Ideal) q.a1 q.h1 q.a6 q.h6 q.a7 q.h7 q.a8 q.h8 q.a10 q.h10 q.a35 q.a36 q.x1 q.x6 q.x7 q.x8 q.x10 q.c
abbrev Q.r18 (q : Q) : FVec Ideal S256x1024 .f32 := run_B.sl.r_18 (F := Ideal) q.a1 q.h1 q.a6 q.h6 q.a7 q.h7 q.a8 q.h8 q.a10 q.h10 q.a35 q.a36 q.x1 q.x6 q.x7 q.x8 q.x10 q.c
abbrev Q.r20 (q : Q) : FVec Ideal S32x8x1024 .f32 := run_B.sl.r_20 (F := Ideal) q.a1 q.h1 q.a5 q.h5 q.a6 q.h6 q.a7 q.h7 q.a8 q.h8 q.a10 q.h10 q.a35 q.a36 q.x1 q.x5 q.x6 q.x7 q.x8 q.x10 q.c
abbrev Q.r21 (q : Q) : FVec Ideal S256x1024 .f32 := run_B.sl.r_21 (F := Ideal) q.a1 q.h1 q.a5 q.h5 q.a6 q.h6 q.a7 q.h7 q.a8 q.h8 q.a10 q.h10 q.a18 q.h18 q.a35 q.a36 q.x1 q.x5 q.x6 q.x7 q.x8 q.x10 q.x18 q.c
abbrev Q.r22 (q : Q) : FVec Ideal S256x1024 .f32 := run_B.sl.r_22 (F := Ideal) q.a1 q.h1 q.a5 q.h5 q.a6 q.h6 q.a7 q.h7 q.a8 q.h8 q.a10 q.h10 q.a18 q.h18 q.a35 q.a36 q.x1 q.x5 q.x6 q.x7 q.x8 q.x10 q.x18 q.c
abbrev Q.v554 (q : Q) : Vec Ideal S256x1024 .f32 := run_B.sl.v554 (F := Ideal) q.a1 q.h1 q.a5 q.h5 q.a6 q.h6 q.a7 q.h7 q.a8 q.h8 q.a9 q.h9 q.a10 q.h10 q.a18 q.h18 q.a35 q.a36 q.a37 q.a38 q.x1 q.x5 q.x6 q.x7 q.x8 q.x9 q.x10 q.x18 q.c
abbrev Q.r34 (q : Q) : FVec Ideal S256x1024 .bf16 := run_B.sl.r_34 (F := Ideal) q.a1 q.h1 q.a5 q.h5 q.a6 q.h6 q.a7 q.h7 q.a8 q.h8 q.a9 q.h9 q.a10 q.h10 q.a18 q.h18 q.a35 q.a36 q.a37 q.a38 q.x1 q.x5 q.x6 q.x7 q.x8 q.x9 q.x10 q.x18 q.c

variable {q : Q} {m : M} {T : ℕ} (H : q.Real m T)
include H

theorem Q.Real.r2_ok : Rows (256 * T) q.r2 m.u := by
  unfold Q.r2 run_B.sl.r_2
  simp only [View.readAt_eq_ld, Memref.IsWhole.read_unread]
  exact pay52 _ _ fun p j => by
    have h := H.u p
    pointwise [h]

theorem Q.Real.r3_ok : Rows (256 * T) q.r3 fun R j => th (m.u R j) := pay53 _ _ H.r2_ok
theorem Q.Real.r4_ok : Rows (256 * T) q.r4 fun R j => gel (m.u R j) := pay54 _ _ H.r2_ok

theorem Q.Real.r5_ok : Rows (256 * T) q.r5 m.v := by
  unfold Q.r5 run_B.sl.r_5
  simp only [View.readAt_eq_ld, Memref.IsWhole.read_unread]
  refine pay55 _ _ _ (fun p j => ?_) fun p j => ?_
  · have h := H.v0 p
    pointwise [h]
  · have h := H.v1 p
    pointwise [h]
theorem Q.Real.r6_ok : Rows (256 * T) q.r6 fun R j => th (m.v R j) := pay56 _ _ _ H.r5_ok
theorem Q.Real.r7_ok : Rows1 (256 * T) q.r7 fun R => rs (cen (m.v R)) := pay58 _ _ _ (pay57 _ _ _ H.r5_ok H.r6_ok)
theorem Q.Real.r8_ok : Rows (256 * T) q.r8 fun R => vh (m.v R) := pay59 _ _ _ (pay57 _ _ _ H.r5_ok H.r6_ok) H.r7_ok

theorem Q.Real.r13_ok : Rows (256 * T) q.r13 m.g := by
  unfold Q.r13 run_B.sl.r_13
  simp only [View.readAt_eq_ld, Memref.IsWhole.read_unread]
  refine pay81 _ _ _ (fun p j => ?_) fun p j => ?_
  · have h := H.g1 p
    pointwise [h]
  · have h := H.g2 p
    pointwise [h]
theorem Q.Real.r14_ok : Rows (256 * T) q.r14 fun R j => sg (m.g R j) := pay82 m _ _ H.r13_ok
theorem Q.Real.r15_ok : Rows (256 * T) q.r15 m.sil := pay83 m _ _ H.r13_ok

theorem Q.Real.r_ok : Rows (256 * T) q.r m.dy := by
  unfold Q.r run_B.sl.r
  simp only [View.readAt_eq_ld, Memref.IsWhole.read_unread]
  intro p j
  have h := H.dy p
  pointwise [h]

omit H in
/-- A load after a store of the whole array reads the stored vector. -/
theorem readCov_whole_ld {Val : EltTy → Type} [∀ e, Nonempty (Val e)] {sig : RefSig} {κ : Kind} {sp : Space} {e : EltTy} {m n : Nat}
    (v : View sig κ sp (⟨2, ![m, n]⟩ : Shape) e) (inb) (P : (⟨2, ![m, n]⟩ : Shape).Idx → Val e) (L : List (View.Piece Val (⟨2, ![m, n]⟩ : Shape) e))
    (r : Rect (⟨2, ![m, n]⟩ : Shape)) :
    v.readCov ((⟨Rect.unit (s := (⟨2, ![m, n]⟩ : Shape)) ![0, 0] ![m, n] inb, P⟩ : View.Piece Val (⟨2, ![m, n]⟩ : Shape) e) :: L) r.toLoadRect
      = View.ld P r := by
  rw [View.readCov_eq_canon', View.canon_cons_unit_zero (S := (⟨2, ![m, n]⟩ : Shape)) (off := ![0, 0]) (by funext a; fin_cases a <;> rfl) inb P L]

omit H in
/-- A load of the whole array reads what its stores leave. -/
theorem readCov_full {Val : EltTy → Type} [∀ e, Nonempty (Val e)] {sig : RefSig} {κ : Kind} {sp : Space} {e : EltTy} {m n : Nat}
    (v : View sig κ sp (⟨2, ![m, n]⟩ : Shape) e) (inb) (L : List (View.Piece Val (⟨2, ![m, n]⟩ : Shape) e)) :
    v.readCov L (Rect.unit (s := (⟨2, ![m, n]⟩ : Shape)) ![0, 0] ![m, n] inb).toLoadRect = View.canon L := by
  rw [View.readCov_eq_canon']
  exact View.ld_unit_zero (S := (⟨2, ![m, n]⟩ : Shape)) (off := ![0, 0]) (by funext a; fin_cases a <;> rfl) inb _

/-- The normalised rows as they are stored. -/
abbrev Q.VN (q : Q) : FVec Ideal S256x1024 .bf16 :=
  k0_pay60 q.r5 q.r6 (View.ld q.x6 (Rect.unit ![0, 0] S1x1024.size inb_S1x1024_S1x1024_0_0)) (View.ld q.x7 (Rect.unit ![0, 0] S1x1024.size inb_S1x1024_S1x1024_0_0))

theorem Q.Real.vn_ok : Rows (256 * T) q.VN m.vn := by
  refine pay60 m _ _ _ _ H.r8_ok (fun j => ?_) fun j => ?_
  · have h := H.lg
    pointwise [show ∀ j, q.x6 (ix2 0 j) = _ from h]
  · have h := H.lb
    pointwise [show ∀ j, q.x7 (ix2 0 j) = _ from h]

omit H in
theorem Q.H35_eq (q : Q) (r : Rect S256x1024) : View.readCov (Val := Elt Ideal) q.a35.view (run_B.sl.H35_1 (F := Ideal) q.a1 q.h1 q.a6 q.h6 q.a7 q.h7 q.x1 q.x6 q.x7 q.c) r.toLoadRect = View.ld q.VN r := by
  unfold run_B.sl.H35_1
  simp only [View.readAt_eq_ld, Memref.IsWhole.read_unread]
  exact readCov_whole_ld (Val := Elt Ideal) _ _ _ _ _

omit H in
theorem cst_ok (y : S128x128.Idx) (x : EReal) : run_B.sl.cst_83 (F := Ideal) y + x = x := by
  unfold run_B.sl.cst_83
  pointwise []
omit H in
theorem ix2_val0 {a b : ℕ} (i : Fin a) (j : Fin b) : ((ix2 i j) 0).val = i.val := rfl
omit H in
theorem ix2_val1 {a b : ℕ} (i : Fin a) (j : Fin b) : ((ix2 i j) 1).val = j.val := rfl

omit H in
/-- The blocks of the mixed rows, at the place of a block. -/
theorem mix_emb (m : M) (T : ℕ) (off : Fin 2 → ℕ) (inb) (h : Fin 8) (r : Fin 128 → ℕ) (j : Fin 1024) (x0 x1 : Fin 128) (h0 : off 0 % 128 = 0)
    (hr : ∀ s, r s = off 0 + s.val) (hj : j.val = off 1 + x1.val) (hh : off 1 = 128 * h.val) :
    (∑ s, m.w h x0 s * m.vn (256 * T + r s) j) + m.b (hd j) x0
      = m.mix (256 * T + ((Rect.unit (s := S256x1024) off ![128, 128] inb).emb (ix2 x0 x1) 0).val) ((Rect.unit (s := S256x1024) off ![128, 128] inb).emb (ix2 x0 x1) 1) := by
  have e0 : ((Rect.unit (s := S256x1024) off ![128, 128] inb).emb (ix2 x0 x1) 0).val = off 0 + x0.val :=
    (ValueKit.rect_emb_unit_val _ _ _ _ _).trans rfl
  have e1 : ((Rect.unit (s := S256x1024) off ![128, 128] inb).emb (ix2 x0 x1) 1).val = off 1 + x1.val :=
    (ValueKit.rect_emb_unit_val _ _ _ _ _).trans rfl
  refine mix_piece m T h x0 r j _ _ (e1.trans hj.symm) (by omega) ?_ fun s => ?_
  · rw [e0]; omega
  · rw [e0, hr]; omega

omit H in
/-- The blocks of the cotangent of the normalised rows, at the place of a block. -/
theorem dvn_emb (m : M) (T : ℕ) (off : Fin 2 → ℕ) (inb) (h : Fin 8) (r : Fin 128 → ℕ) (j : Fin 1024) (x0 x1 : Fin 128) (h0 : off 0 % 128 = 0)
    (hr : ∀ s, r s = off 0 + s.val) (hj : j.val = off 1 + x1.val) (hh : off 1 = 128 * h.val) :
    (∑ s, m.w h s x0 * m.dm (256 * T + r s) j)
      = m.dvn (256 * T + ((Rect.unit (s := S256x1024) off ![128, 128] inb).emb (ix2 x0 x1) 0).val) ((Rect.unit (s := S256x1024) off ![128, 128] inb).emb (ix2 x0 x1) 1) := by
  have e0 : ((Rect.unit (s := S256x1024) off ![128, 128] inb).emb (ix2 x0 x1) 0).val = off 0 + x0.val :=
    (ValueKit.rect_emb_unit_val _ _ _ _ _).trans rfl
  have e1 : ((Rect.unit (s := S256x1024) off ![128, 128] inb).emb (ix2 x0 x1) 1).val = off 1 + x1.val :=
    (ValueKit.rect_emb_unit_val _ _ _ _ _).trans rfl
  refine dvn_piece m T h x0 r j _ _ (e1.trans hj.symm) (by omega) ?_ fun s => ?_
  · rw [e0]; omega
  · rw [e0, hr]; omega

set_option maxHeartbeats 400000 in
theorem Q.Real.v227_ok : Rows (256 * T) q.v227 m.mix := by
  intro p j
  unfold Q.v227 run_B.sl.v227
  rw [readCov_full (Val := Elt Ideal)]
  have hcov : ∀ y, ∃ b ∈ run_B.sl.H36_16 (F := Ideal) q.a1 q.h1 q.a6 q.h6 q.a7 q.h7 q.a8 q.h8 q.a10 q.h10 q.a35 q.x1 q.x6 q.x7 q.x8 q.x10 q.c, y ∈ b.1.set := View.cover_of_tiledL _ S128x128.size (by sl_kernel_rfl)
  show View.canon (Val := Elt Ideal) _ (ix2 p j) = _
  rw [View.canon_apply_of_pieces (Val := Elt Ideal) (fun y : S256x1024.Idx => ((m.mix (256 * T + (y 0).val) (y 1) : ℝ) : EReal)) _ ?_ _ (hcov _)]
  · rfl
  clear hcov
  unfold run_B.sl.H36_16
  unfold   run_B.sl.r_9 run_B.sl.r_10 run_B.sl.r_11 run_B.sl.r_12
  simp only [Q.H35_eq, View.readAt_eq_ld, Memref.IsWhole.read_unread]
  unfold run_B.sl.v69 run_B.sl.v79 run_B.sl.v89 run_B.sl.v99 run_B.sl.v109 run_B.sl.v119 run_B.sl.v129 run_B.sl.v139 run_B.sl.v149 run_B.sl.v159 run_B.sl.v169 run_B.sl.v179 run_B.sl.v189 run_B.sl.v199 run_B.sl.v209 run_B.sl.v219
  have hv := H.vn_ok
  simp only [Q.H35_eq]
  generalize q.VN = V at hv
  have hv' : ∀ p j, V (ix2 p j) = _ := hv
  have h1 := H.w
  have h2 := H.b
  simp only [List.forall_mem_cons]
  refine ⟨?_, ?_, ?_, ?_, ?_, ?_, ?_, ?_, ?_, ?_, ?_, ?_, ?_, ?_, ?_, ?_, fun x hx => absurd hx List.not_mem_nil⟩
  all_goals
    intro x
    idx_vars x
    pointwise [k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    try rw [cst_ok]
    simp only [h1, h2, hv', ← EReal.coe_mul, coe_sum, ← EReal.coe_add]
  · exact congrArg Real.toEReal (mix_emb m T _ _ 7 (fun s => 128 + s.val) ⟨896 + x1.val, by omega⟩ x0 x1 rfl (fun s => rfl) rfl rfl)
  · exact congrArg Real.toEReal (mix_emb m T _ _ 6 (fun s => 128 + s.val) ⟨768 + x1.val, by omega⟩ x0 x1 rfl (fun s => rfl) rfl rfl)
  · exact congrArg Real.toEReal (mix_emb m T _ _ 5 (fun s => 128 + s.val) ⟨640 + x1.val, by omega⟩ x0 x1 rfl (fun s => rfl) rfl rfl)
  · exact congrArg Real.toEReal (mix_emb m T _ _ 4 (fun s => 128 + s.val) ⟨512 + x1.val, by omega⟩ x0 x1 rfl (fun s => rfl) rfl rfl)
  · exact congrArg Real.toEReal (mix_emb m T _ _ 3 (fun s => 128 + s.val) ⟨384 + x1.val, by omega⟩ x0 x1 rfl (fun s => rfl) rfl rfl)
  · exact congrArg Real.toEReal (mix_emb m T _ _ 2 (fun s => 128 + s.val) ⟨256 + x1.val, by omega⟩ x0 x1 rfl (fun s => rfl) rfl rfl)
  · exact congrArg Real.toEReal (mix_emb m T _ _ 1 (fun s => 128 + s.val) ⟨128 + x1.val, by omega⟩ x0 x1 rfl (fun s => rfl) rfl rfl)
  · exact congrArg Real.toEReal (mix_emb m T _ _ 0 (fun s => 128 + s.val) ⟨x1.val, by omega⟩ x0 x1 rfl (fun s => rfl) (Nat.zero_add _).symm rfl)
  · exact congrArg Real.toEReal (mix_emb m T _ _ 7 (fun s => s.val) ⟨896 + x1.val, by omega⟩ x0 x1 rfl (fun s => (Nat.zero_add _).symm) rfl rfl)
  · exact congrArg Real.toEReal (mix_emb m T _ _ 6 (fun s => s.val) ⟨768 + x1.val, by omega⟩ x0 x1 rfl (fun s => (Nat.zero_add _).symm) rfl rfl)
  · exact congrArg Real.toEReal (mix_emb m T _ _ 5 (fun s => s.val) ⟨640 + x1.val, by omega⟩ x0 x1 rfl (fun s => (Nat.zero_add _).symm) rfl rfl)
  · exact congrArg Real.toEReal (mix_emb m T _ _ 4 (fun s => s.val) ⟨512 + x1.val, by omega⟩ x0 x1 rfl (fun s => (Nat.zero_add _).symm) rfl rfl)
  · exact congrArg Real.toEReal (mix_emb m T _ _ 3 (fun s => s.val) ⟨384 + x1.val, by omega⟩ x0 x1 rfl (fun s => (Nat.zero_add _).symm) rfl rfl)
  · exact congrArg Real.toEReal (mix_emb m T _ _ 2 (fun s => s.val) ⟨256 + x1.val, by omega⟩ x0 x1 rfl (fun s => (Nat.zero_add _).symm) rfl rfl)
  · exact congrArg Real.toEReal (mix_emb m T _ _ 1 (fun s => s.val) ⟨128 + x1.val, by omega⟩ x0 x1 rfl (fun s => (Nat.zero_add _).symm) rfl rfl)
  · exact congrArg Real.toEReal (mix_emb m T _ _ 0 (fun s => s.val) ⟨x1.val, by omega⟩ x0 x1 rfl (fun s => (Nat.zero_add _).symm) (Nat.zero_add _).symm rfl)

end Cert.Kernel2Ideal.BrVal
end
-- ==== Proof.Br.KDvn.lean ====
module

public import proofs.«01_k».proof.Proof.Br.KRun

/-! What the body's run holds at a tile, for real blocks: the gradients of the gMLP half's columns. -/

@[expose] public section

set_option maxRecDepth 16384

noncomputable section

namespace Cert.Kernel2Ideal.BrVal

open Idealize.ShloMosaic Idealize.ShloMosaic.TcCoe
open Cert.Kernel2Ideal Cert.Kernel2Ideal.Gen Cert.Kernel2Ideal.Br Cert.Reals Cert.BrModel

variable {q : Q} {m : M} {T : ℕ} (H : q.Real m T)
include H

theorem Q.Real.g_ok : Rows (256 * T) (k0_pay81 (F := Ideal) (View.ld q.x1 (Rect.unit ![1, 0, 768] S1x256x512.size inb_S4x256x1280_S1x256x512_1_0_768))
    (View.ld q.x1 (Rect.unit ![2, 0, 0] S1x256x512.size inb_S4x256x1280_S1x256x512_2_0_0))) m.g := by
  have h := H.r13_ok
  unfold Q.r13 run_B.sl.r_13 at h
  simpa only [View.readAt_eq_ld, Memref.IsWhole.read_unread] using h

theorem Q.Real.r16_ok : Rows (256 * T) q.r16 m.um := by
  unfold Q.r16 run_B.sl.r_16
  exact pay84 _ _ H.r4_ok H.v227_ok
theorem Q.Real.r17_ok : Rows1 (256 * T) q.r17 m.ra := by
  unfold Q.r17 run_B.sl.r_17
  simp only [View.readAt_eq_ld, Memref.IsWhole.read_unread]
  exact pay86 _ _ _ _ H.r4_ok H.v227_ok H.g_ok
theorem Q.Real.r18_ok : Rows (256 * T) q.r18 m.yh := by
  unfold Q.r18 run_B.sl.r_18
  simp only [View.readAt_eq_ld, Memref.IsWhole.read_unread]
  exact pay87 _ _ _ _ H.r4_ok H.v227_ok H.g_ok
theorem Q.Real.og_ok : Row (View.ld q.x18 (Rect.unit ![0, 0] S1x1024.size inb_S1x1024_S1x1024_0_0)) m.og := by
  intro j
  have h := H.og
  pointwise [show ∀ j, q.x18 (ix2 0 j) = _ from h]
theorem Q.Real.r21_ok : Rows (256 * T) q.r21 m.dya := by
  unfold Q.r21 run_B.sl.r_21
  simp only [View.readAt_eq_ld, Memref.IsWhole.read_unread]
  exact pay91 _ _ _ _ H.r_ok H.r17_ok H.r18_ok H.og_ok
theorem Q.Real.r22_ok : Rows (256 * T) q.r22 m.du := by
  unfold Q.r22 run_B.sl.r_22
  simp only [View.readAt_eq_ld, Memref.IsWhole.read_unread]
  exact pay93 _ _ _ _ H.r_ok H.r17_ok H.r18_ok H.og_ok _ _ H.v227_ok H.r15_ok

/-- The cotangent of the mixed rows as it is stored. -/
abbrev Q.DM (q : Q) : FVec Ideal S256x1024 .bf16 := k0_pay101 q.r4 q.r15 q.r21

theorem Q.Real.dm99_ok : Rows (256 * T) (k0_pay99 q.r4 q.r15 q.r21) m.dm := pay99 _ _ _ _ H.r4_ok H.r15_ok H.r21_ok
theorem Q.Real.dm_ok : Rows (256 * T) q.DM m.dm := pay101 _ _ _ _ H.dm99_ok

omit H in
theorem Q.H37_eq (q : Q) (r : Rect S256x1024) : View.readCov (Val := Elt Ideal) q.a37.view (run_B.sl.H37_1 (F := Ideal) q.a1 q.h1 q.a5 q.h5 q.a6 q.h6 q.a7 q.h7 q.a8 q.h8 q.a10 q.h10 q.a18 q.h18 q.a35 q.a36 q.x1 q.x5 q.x6 q.x7 q.x8 q.x10 q.x18 q.c) r.toLoadRect = View.ld q.DM r := by
  unfold run_B.sl.H37_1
  exact readCov_whole_ld (Val := Elt Ideal) _ _ _ _ _

theorem Q.Real.v554_ok : Rows (256 * T) q.v554 m.dvn := by
  intro p j
  unfold Q.v554 run_B.sl.v554
  rw [readCov_full (Val := Elt Ideal)]
  have hcov : ∀ y, ∃ b ∈ run_B.sl.H38_16 (F := Ideal) q.a1 q.h1 q.a5 q.h5 q.a6 q.h6 q.a7 q.h7 q.a8 q.h8 q.a9 q.h9 q.a10 q.h10 q.a18 q.h18 q.a35 q.a36 q.a37 q.x1 q.x5 q.x6 q.x7 q.x8 q.x9 q.x10 q.x18 q.c, y ∈ b.1.set := View.cover_of_tiledL _ S128x128.size (by sl_kernel_rfl)
  show View.canon (Val := Elt Ideal) _ (ix2 p j) = _
  rw [View.canon_apply_of_pieces (Val := Elt Ideal) (fun y : S256x1024.Idx => ((m.dvn (256 * T + (y 0).val) (y 1) : ℝ) : EReal)) _ ?_ _ (hcov _)]
  · rfl
  clear hcov
  unfold run_B.sl.H38_16
  unfold run_B.sl.r_27 run_B.sl.r_30
  unfold run_B.sl.v539 run_B.sl.v524 run_B.sl.v509 run_B.sl.v494 run_B.sl.v479 run_B.sl.v464 run_B.sl.v449 run_B.sl.v434 run_B.sl.v419 run_B.sl.v run_B.sl.v389 run_B.sl.v374 run_B.sl.v359 run_B.sl.v344 run_B.sl.v329 run_B.sl.v314
  simp only [Q.H37_eq, View.readAt_eq_ld, Memref.IsWhole.read_unread]
  have hv := H.dm_ok
  generalize q.DM = V at hv ⊢
  have hv' : ∀ p j, V (ix2 p j) = _ := hv
  have h1 := H.wt
  simp only [List.forall_mem_cons]
  refine ⟨?_, ?_, ?_, ?_, ?_, ?_, ?_, ?_, ?_, ?_, ?_, ?_, ?_, ?_, ?_, ?_, fun x hx => absurd hx List.not_mem_nil⟩
  all_goals
    intro x
    idx_vars x
    pointwise [k0_pay102, k0_pay105, k0_pay107, k0_pay109, k0_pay111, k0_pay112, k0_pay114, k0_pay116, k0_pay118, k0_pay121, k0_pay123, k0_pay126, k0_pay128, k0_pay129, k0_pay131, k0_pay133, k0_pay135, k0_pay138]
    simp only [h1, hv', ← EReal.coe_mul, coe_sum]
  · exact congrArg Real.toEReal (dvn_emb m T _ _ 7 (fun s => 128 + s.val) ⟨896 + x1.val, by omega⟩ x0 x1 rfl (fun s => rfl) rfl rfl)
  · exact congrArg Real.toEReal (dvn_emb m T _ _ 6 (fun s => 128 + s.val) ⟨768 + x1.val, by omega⟩ x0 x1 rfl (fun s => rfl) rfl rfl)
  · exact congrArg Real.toEReal (dvn_emb m T _ _ 5 (fun s => 128 + s.val) ⟨640 + x1.val, by omega⟩ x0 x1 rfl (fun s => rfl) rfl rfl)
  · exact congrArg Real.toEReal (dvn_emb m T _ _ 4 (fun s => 128 + s.val) ⟨512 + x1.val, by omega⟩ x0 x1 rfl (fun s => rfl) rfl rfl)
  · exact congrArg Real.toEReal (dvn_emb m T _ _ 3 (fun s => 128 + s.val) ⟨384 + x1.val, by omega⟩ x0 x1 rfl (fun s => rfl) rfl rfl)
  · exact congrArg Real.toEReal (dvn_emb m T _ _ 2 (fun s => 128 + s.val) ⟨256 + x1.val, by omega⟩ x0 x1 rfl (fun s => rfl) rfl rfl)
  · exact congrArg Real.toEReal (dvn_emb m T _ _ 1 (fun s => 128 + s.val) ⟨128 + x1.val, by omega⟩ x0 x1 rfl (fun s => rfl) rfl rfl)
  · exact congrArg Real.toEReal (dvn_emb m T _ _ 0 (fun s => 128 + s.val) ⟨x1.val, by omega⟩ x0 x1 rfl (fun s => rfl) (Nat.zero_add _).symm rfl)
  · exact congrArg Real.toEReal (dvn_emb m T _ _ 7 (fun s => s.val) ⟨896 + x1.val, by omega⟩ x0 x1 rfl (fun s => (Nat.zero_add _).symm) rfl rfl)
  · exact congrArg Real.toEReal (dvn_emb m T _ _ 6 (fun s => s.val) ⟨768 + x1.val, by omega⟩ x0 x1 rfl (fun s => (Nat.zero_add _).symm) rfl rfl)
  · exact congrArg Real.toEReal (dvn_emb m T _ _ 5 (fun s => s.val) ⟨640 + x1.val, by omega⟩ x0 x1 rfl (fun s => (Nat.zero_add _).symm) rfl rfl)
  · exact congrArg Real.toEReal (dvn_emb m T _ _ 4 (fun s => s.val) ⟨512 + x1.val, by omega⟩ x0 x1 rfl (fun s => (Nat.zero_add _).symm) rfl rfl)
  · exact congrArg Real.toEReal (dvn_emb m T _ _ 3 (fun s => s.val) ⟨384 + x1.val, by omega⟩ x0 x1 rfl (fun s => (Nat.zero_add _).symm) rfl rfl)
  · exact congrArg Real.toEReal (dvn_emb m T _ _ 2 (fun s => s.val) ⟨256 + x1.val, by omega⟩ x0 x1 rfl (fun s => (Nat.zero_add _).symm) rfl rfl)
  · exact congrArg Real.toEReal (dvn_emb m T _ _ 1 (fun s => s.val) ⟨128 + x1.val, by omega⟩ x0 x1 rfl (fun s => (Nat.zero_add _).symm) rfl rfl)
  · exact congrArg Real.toEReal (dvn_emb m T _ _ 0 (fun s => s.val) ⟨x1.val, by omega⟩ x0 x1 rfl (fun s => (Nat.zero_add _).symm) (Nat.zero_add _).symm rfl)

theorem Q.Real.r34_ok : Rows (256 * T) q.r34 m.zv := by
  unfold Q.r34 run_B.sl.r_34
  simp only [View.readAt_eq_ld, Memref.IsWhole.read_unread]
  refine pay144 _ _ _ _ _ _ _ H.r5_ok H.r6_ok H.r7_ok H.r8_ok H.v554_ok ?_
  intro j
  have h := H.lg
  pointwise [show ∀ j, q.x6 (ix2 0 j) = _ from h]

end Cert.Kernel2Ideal.BrVal
end
-- ==== Proof.Br.KAcc.lean ====
module

public import proofs.«01_k».proof.Proof.Br.KDvn
public import proofs.«01_k».proof.Proof.Br.TA

/-! The gMLP half's accumulators after a tile. -/

@[expose] public section

set_option maxRecDepth 16384

noncomputable section

namespace Cert.Kernel2Ideal.BrVal

open Idealize.ShloMosaic Idealize.ShloMosaic.TcCoe
open Cert.Kernel2Ideal Cert.Kernel2Ideal.Gen Cert.Kernel2Ideal.Br Cert.Reals Cert.BrModel

/-- A head's block stored: at the head its payload, at the others what was there. -/
theorem head_hit (o : ℕ) (inb) (P : S1x128x128.Idx → EReal) (L : List (View.Piece (Elt Ideal) S8x128x128 .f32)) (h : Fin 8) (hh : h.val = o) (t s : Fin 128) :
    View.canon ((⟨Rect.unit (s := S8x128x128) ![o, 0, 0] (no_index S1x128x128.size) inb, P⟩ : View.Piece (Elt Ideal) S8x128x128 .f32) :: L) (ix3 h t s) = P (ix3 0 t s) := by
  have e : (ix3 h t s : S8x128x128.Idx) = (Rect.unit (s := S8x128x128) ![o, 0, 0] S1x128x128.size inb).emb (ix3 0 t s : S1x128x128.Idx) := by
    funext a
    apply Fin.ext
    refine Eq.trans ?_ (ValueKit.rect_emb_unit_val _ _ _ _ _).symm
    fin_cases a
    · show h.val = o + 0
      omega
    · exact (Nat.zero_add _).symm
    · exact (Nat.zero_add _).symm
  rw [e]
  exact View.canon_cons_emb (Val := Elt Ideal) (Rect.unit (s := S8x128x128) ![o, 0, 0] S1x128x128.size inb) P L _
theorem head_miss (o : ℕ) (inb) (P : S1x128x128.Idx → EReal) (L : List (View.Piece (Elt Ideal) S8x128x128 .f32)) (h : Fin 8) (hh : h.val ≠ o) (t s : Fin 128) :
    View.canon ((⟨Rect.unit (s := S8x128x128) ![o, 0, 0] (no_index S1x128x128.size) inb, P⟩ : View.Piece (Elt Ideal) S8x128x128 .f32) :: L) (ix3 h t s) = View.canon L (ix3 h t s) := by
  refine View.canon_cons_of_not_mem (Val := Elt Ideal) _ L ?_
  rw [Rect.mem_set_unit]
  intro hm
  have := hm 0
  change o ≤ h.val ∧ h.val < o + 1 at this
  omega

variable {q : Q} {m : M} {T : ℕ} (H : q.Real m T)
include H

omit H in
theorem readCov_ld {Val : EltTy → Type} [∀ e, Nonempty (Val e)] {sig : RefSig} {κ : Kind} {sp : Space} {s : Shape} {e : EltTy} (v : View sig κ sp s e) (L : List (View.Piece Val s e)) (r : Rect s) :
    v.readCov L r.toLoadRect = View.ld (View.canon L) r := View.readCov_eq_canon' _ _ _

omit H in
theorem head_cases (h : Fin 8) : h = 0 ∨ h = 1 ∨ h = 2 ∨ h = 3 ∨ h = 4 ∨ h = 5 ∨ h = 6 ∨ h = 7 := by revert h; decide

omit H in
theorem gw_eq (m : M) (o : ℕ) (h : Fin 8) (t s : Fin 128) (k : Fin 2) (a b : ℕ) (f : Fin 128 → Fin 1024) (ha : a = o + (k.val * 128 + t.val)) (hb : b = o + (k.val * 128 + s.val))
    (hf : ∀ d, (f d).val = h.val * 128 + d.val) : ∑ d, m.dm a (f d) * m.vn b (f d) = gwT m o h t s k := by
  subst ha hb
  exact Finset.sum_congr rfl fun d _ => by rw [show f d = col h d from Fin.ext (hf d)]
omit H in
theorem gw_fin (m : M) (T : ℕ) (h : Fin 8) (t s : Fin 128) (c : ℝ) (f : Fin 128 → Fin 1024) (hf : ∀ d, (f d).val = h.val * 128 + d.val) :
    c + ∑ d, m.dm (256 * T + t.val) (f d) * m.vn (256 * T + s.val) (f d) + ∑ d, m.dm (256 * T + (128 + t.val)) (f d) * m.vn (256 * T + (128 + s.val)) (f d)
      = c + gwT m (256 * T) h t s 0 + gwT m (256 * T) h t s 1 := by
  rw [gw_eq m (256 * T) h t s 0 _ _ f (show _ = _ + (0 * 128 + t.val) by omega) (show _ = _ + (0 * 128 + s.val) by omega) hf,
    gw_eq m (256 * T) h t s 1 _ _ f (show _ = _ + (1 * 128 + t.val) by omega) (show _ = _ + (1 * 128 + s.val) by omega) hf]
omit H in
theorem gw_fin0 (m : M) (T : ℕ) (h : Fin 8) (t s : Fin 128) (f : Fin 128 → Fin 1024) (hf : ∀ d, (f d).val = h.val * 128 + d.val) :
    ∑ d, m.dm (256 * T + t.val) (f d) * m.vn (256 * T + s.val) (f d) + ∑ d, m.dm (256 * T + (128 + t.val)) (f d) * m.vn (256 * T + (128 + s.val)) (f d)
      = gwT m (256 * T) h t s 0 + gwT m (256 * T) h t s 1 := by
  have e := gw_fin m T h t s 0 f hf
  rw [zero_add, zero_add] at e
  exact e
set_option maxHeartbeats 800000 in
theorem Q.Real.gws_B (a27) (h27) (y27 : Vec Ideal S8x128x128 .f32) (c0 : Fin 8 → Fin 128 → Fin 128 → ℝ) (hy : ∀ h t s, y27 (ix3 h t s) = ((c0 h t s : ℝ) : EReal)) (h : Fin 8) (t s : Fin 128) :
    View.canon (run_B.sl.H27_16 (F := Ideal) q.a1 q.h1 q.a5 q.h5 q.a6 q.h6 q.a7 q.h7 q.a8 q.h8 q.a10 q.h10 q.a18 q.h18 a27 h27 q.a35 q.a36 q.a37 q.x1 q.x5 q.x6 q.x7 q.x8 q.x10 q.x18 y27 q.c) (ix3 h t s) = ((c0 h t s + gwT m (256 * T) h t s 0 + gwT m (256 * T) h t s 1 : ℝ) : EReal) := by
  unfold run_B.sl.H27_16 run_B.sl.v539 run_B.sl.v546 run_B.sl.v219 run_B.sl.H27_15 run_B.sl.r_31 run_B.sl.v524 run_B.sl.v531 run_B.sl.H27_14 run_B.sl.v209 run_B.sl.v509 run_B.sl.v516 run_B.sl.v199 run_B.sl.H27_13 run_B.sl.v494 run_B.sl.v501 run_B.sl.v189 run_B.sl.H27_12 run_B.sl.v479 run_B.sl.v486 run_B.sl.v179 run_B.sl.H27_11 run_B.sl.v464 run_B.sl.v471 run_B.sl.v169 run_B.sl.H27_10 run_B.sl.v449 run_B.sl.r_29 run_B.sl.v159 run_B.sl.v456 run_B.sl.H27_9 run_B.sl.v434 run_B.sl.v441 run_B.sl.v149 run_B.sl.H27_8 run_B.sl.r_28 run_B.sl.v run_B.sl.v411 run_B.sl.v129 run_B.sl.v389 run_B.sl.v396 run_B.sl.v119 run_B.sl.v374 run_B.sl.v381 run_B.sl.v109 run_B.sl.v359 run_B.sl.v366 run_B.sl.v99 run_B.sl.v344 run_B.sl.v351 run_B.sl.v89 run_B.sl.v329 run_B.sl.v336 run_B.sl.v79 run_B.sl.r_26 run_B.sl.v419 run_B.sl.v426 run_B.sl.v139 run_B.sl.v314 run_B.sl.v69
  simp only [Q.H35_eq, Q.H37_eq, View.readAt_eq_ld, Memref.IsWhole.read_unread]
  have hv := H.vn_ok
  have hd := H.dm_ok
  generalize q.VN = V at hv ⊢
  generalize q.DM = D at hd ⊢
  have hv' : ∀ p j, V (ix2 p j) = _ := hv
  have hd' : ∀ p j, D (ix2 p j) = _ := hd
  simp only [readCov_ld]
  obtain rfl | rfl | rfl | rfl | rfl | rfl | rfl | rfl := head_cases h
  all_goals
    simp (disch := decide) only [head_hit, head_miss]
    pointwise [k0_pay104, k0_pay103, k0_pay106, k0_pay108, k0_pay110, k0_pay113, k0_pay115, k0_pay117, k0_pay120, k0_pay119, k0_pay122, k0_pay125, k0_pay124, k0_pay127, k0_pay130, k0_pay132, k0_pay134, k0_pay137, k0_pay136, k0_pay139]
    try simp (disch := decide) only [head_hit, head_miss]
    try pointwise [k0_pay104, k0_pay103, k0_pay106, k0_pay108, k0_pay110, k0_pay113, k0_pay115, k0_pay117, k0_pay120, k0_pay119, k0_pay122, k0_pay125, k0_pay124, k0_pay127, k0_pay130, k0_pay132, k0_pay134, k0_pay137, k0_pay136, k0_pay139, hy]
    simp only [hv', hd', ← EReal.coe_mul, coe_sum, ← EReal.coe_add]
  · exact congrArg Real.toEReal (gw_fin m T 0 t s (c0 0 t s) (fun d => ⟨d.val, by omega⟩) fun d => by dsimp only; omega)
  · exact congrArg Real.toEReal (gw_fin m T 1 t s (c0 1 t s) (fun d => ⟨128 + d.val, by omega⟩) fun d => by dsimp only; omega)
  · exact congrArg Real.toEReal (gw_fin m T 2 t s (c0 2 t s) (fun d => ⟨256 + d.val, by omega⟩) fun d => by dsimp only; omega)
  · exact congrArg Real.toEReal (gw_fin m T 3 t s (c0 3 t s) (fun d => ⟨384 + d.val, by omega⟩) fun d => by dsimp only; omega)
  · exact congrArg Real.toEReal (gw_fin m T 4 t s (c0 4 t s) (fun d => ⟨512 + d.val, by omega⟩) fun d => by dsimp only; omega)
  · exact congrArg Real.toEReal (gw_fin m T 5 t s (c0 5 t s) (fun d => ⟨640 + d.val, by omega⟩) fun d => by dsimp only; omega)
  · exact congrArg Real.toEReal (gw_fin m T 6 t s (c0 6 t s) (fun d => ⟨768 + d.val, by omega⟩) fun d => by dsimp only; omega)
  · exact congrArg Real.toEReal (gw_fin m T 7 t s (c0 7 t s) (fun d => ⟨896 + d.val, by omega⟩) fun d => by dsimp only; omega)

set_option maxHeartbeats 800000 in
theorem Q.Real.gws_A (a27) (h : Fin 8) (t s : Fin 128) :
    View.canon (run_A.sl.H27_17 (F := Ideal) q.a1 q.h1 q.a5 q.h5 q.a6 q.h6 q.a7 q.h7 q.a8 q.h8 q.a10 q.h10 q.a18 q.h18 a27 q.a35 q.a36 q.a37 q.x1 q.x5 q.x6 q.x7 q.x8 q.x10 q.x18 q.c) (ix3 h t s) = ((gwT m (256 * T) h t s 0 + gwT m (256 * T) h t s 1 : ℝ) : EReal) := by
  unfold run_A.sl.H27_17 run_A.sl.v539 run_A.sl.v546 run_A.sl.v219 run_A.sl.H27_16 run_A.sl.r_31 run_A.sl.v524 run_A.sl.v531 run_A.sl.H27_15 run_A.sl.v209 run_A.sl.v509 run_A.sl.v516 run_A.sl.v199 run_A.sl.H27_14 run_A.sl.v494 run_A.sl.v501 run_A.sl.v189 run_A.sl.H27_13 run_A.sl.v479 run_A.sl.v486 run_A.sl.v179 run_A.sl.H27_12 run_A.sl.v464 run_A.sl.v471 run_A.sl.v169 run_A.sl.H27_11 run_A.sl.v449 run_A.sl.r_29 run_A.sl.v159 run_A.sl.v456 run_A.sl.H27_10 run_A.sl.v434 run_A.sl.v441 run_A.sl.v149 run_A.sl.H27_9 run_A.sl.r_28 run_A.sl.v419 run_A.sl.v426 run_A.sl.H27_8 run_A.sl.v139 run_A.sl.v run_A.sl.v411 run_A.sl.v129 run_A.sl.H27_7 run_A.sl.v389 run_A.sl.v396 run_A.sl.v119 run_A.sl.H27_6 run_A.sl.v374 run_A.sl.v381 run_A.sl.v109 run_A.sl.H27_5 run_A.sl.v359 run_A.sl.v366 run_A.sl.v99 run_A.sl.H27_4 run_A.sl.v344 run_A.sl.v351 run_A.sl.v89 run_A.sl.H27_3 run_A.sl.v329 run_A.sl.v336 run_A.sl.v79 run_A.sl.H27_2 run_A.sl.r_26 run_A.sl.v314 run_A.sl.v321 run_A.sl.H27_1 run_A.sl.v69 run_A.sl.v1409 run_A.sl.cst_1073
  simp only [show run_A.sl.H35_1 (F := Ideal) q.a1 q.h1 q.a6 q.h6 q.a7 q.h7 q.x1 q.x6 q.x7 q.c = run_B.sl.H35_1 (F := Ideal) q.a1 q.h1 q.a6 q.h6 q.a7 q.h7 q.x1 q.x6 q.x7 q.c from rfl, show run_A.sl.H37_1 (F := Ideal) q.a1 q.h1 q.a5 q.h5 q.a6 q.h6 q.a7 q.h7 q.a8 q.h8 q.a10 q.h10 q.a18 q.h18 q.a35 q.a36 q.x1 q.x5 q.x6 q.x7 q.x8 q.x10 q.x18 q.c = run_B.sl.H37_1 (F := Ideal) q.a1 q.h1 q.a5 q.h5 q.a6 q.h6 q.a7 q.h7 q.a8 q.h8 q.a10 q.h10 q.a18 q.h18 q.a35 q.a36 q.x1 q.x5 q.x6 q.x7 q.x8 q.x10 q.x18 q.c from rfl]
  simp only [Q.H35_eq, Q.H37_eq, View.readAt_eq_ld, Memref.IsWhole.read_unread]
  have hv := H.vn_ok
  have hd := H.dm_ok
  generalize q.VN = V at hv ⊢
  generalize q.DM = D at hd ⊢
  have hv' : ∀ p j, V (ix2 p j) = _ := hv
  have hd' : ∀ p j, D (ix2 p j) = _ := hd
  simp only [readCov_ld]
  obtain rfl | rfl | rfl | rfl | rfl | rfl | rfl | rfl := head_cases h
  all_goals
    simp (disch := decide) only [head_hit, head_miss]
    pointwise [k0_pay104, k0_pay103, k0_pay106, k0_pay108, k0_pay110, k0_pay113, k0_pay115, k0_pay117, k0_pay120, k0_pay119, k0_pay122, k0_pay125, k0_pay124, k0_pay127, k0_pay130, k0_pay132, k0_pay134, k0_pay137, k0_pay136, k0_pay139]
    try simp (disch := decide) only [head_hit, head_miss, View.canon_cons_unit_zero (S := S8x128x128) (off := ![0, 0, 0]) (by funext a; fin_cases a <;> rfl)]
    try pointwise [k0_pay104, k0_pay103, k0_pay106, k0_pay108, k0_pay110, k0_pay113, k0_pay115, k0_pay117, k0_pay120, k0_pay119, k0_pay122, k0_pay125, k0_pay124, k0_pay127, k0_pay130, k0_pay132, k0_pay134, k0_pay137, k0_pay136, k0_pay139]
    try simp (disch := decide) only [head_hit, head_miss, View.canon_cons_unit_zero (S := S8x128x128) (off := ![0, 0, 0]) (by funext a; fin_cases a <;> rfl)]
    try pointwise []
    simp only [hv', hd', ← EReal.coe_mul, coe_sum, ← EReal.coe_add]
  · exact congrArg Real.toEReal (gw_fin0 m T 0 t s  (fun d => ⟨d.val, by omega⟩) fun d => by dsimp only; omega)
  · exact congrArg Real.toEReal (gw_fin0 m T 1 t s  (fun d => ⟨128 + d.val, by omega⟩) fun d => by dsimp only; omega)
  · exact congrArg Real.toEReal (gw_fin0 m T 2 t s  (fun d => ⟨256 + d.val, by omega⟩) fun d => by dsimp only; omega)
  · exact congrArg Real.toEReal (gw_fin0 m T 3 t s  (fun d => ⟨384 + d.val, by omega⟩) fun d => by dsimp only; omega)
  · exact congrArg Real.toEReal (gw_fin0 m T 4 t s  (fun d => ⟨512 + d.val, by omega⟩) fun d => by dsimp only; omega)
  · exact congrArg Real.toEReal (gw_fin0 m T 5 t s  (fun d => ⟨640 + d.val, by omega⟩) fun d => by dsimp only; omega)
  · exact congrArg Real.toEReal (gw_fin0 m T 6 t s  (fun d => ⟨768 + d.val, by omega⟩) fun d => by dsimp only; omega)
  · exact congrArg Real.toEReal (gw_fin0 m T 7 t s  (fun d => ⟨896 + d.val, by omega⟩) fun d => by dsimp only; omega)

end Cert.Kernel2Ideal.BrVal
end
-- ==== Proof.Br.KSum.lean ====
module

public import proofs.«01_k».proof.Proof.Br.KAcc

/-! The gMLP half's column sums and gradient columns after a tile. -/

@[expose] public section

set_option maxRecDepth 16384

noncomputable section

namespace Cert.Kernel2Ideal.BrVal

open Idealize.ShloMosaic Idealize.ShloMosaic.TcCoe
open Cert.Kernel2Ideal Cert.Kernel2Ideal.Gen Cert.Kernel2Ideal.Br Cert.Reals Cert.BrModel

/-- A store of the whole array leaves its payload; -/
theorem whole_store {m n : ℕ} (inb) (P : (⟨2, ![m, n]⟩ : Shape).Idx → EReal) (L : List (View.Piece (Elt Ideal) (⟨2, ![m, n]⟩ : Shape) .f32)) :
    View.canon ((⟨Rect.unit (s := (⟨2, ![m, n]⟩ : Shape)) ![0, 0] ![m, n] inb, P⟩ : View.Piece (Elt Ideal) (⟨2, ![m, n]⟩ : Shape) .f32) :: L) = P :=
  View.canon_cons_unit_zero (S := (⟨2, ![m, n]⟩ : Shape)) (off := ![0, 0]) (by funext a; fin_cases a <;> rfl) inb P L
/-- a load of the whole array reads it. -/
theorem whole_load {m n : ℕ} (inb) (X : Vec Ideal (⟨2, ![m, n]⟩ : Shape) .f32) : View.ld X (Rect.unit (s := (⟨2, ![m, n]⟩ : Shape)) ![0, 0] ![m, n] inb) = X :=
  View.ld_unit_zero (S := (⟨2, ![m, n]⟩ : Shape)) (off := ![0, 0]) (by funext a; fin_cases a <;> rfl) inb X

variable {q : Q} {m : M} {T : ℕ} (H : q.Real m T)

theorem Q.canon22_B (q : Q) (a22) (h22) (y22 : Vec Ideal S8x1024 .f32) : View.canon (run_B.sl.H22_1 (F := Ideal) q.a1 q.h1 q.a5 q.h5 q.a6 q.h6 q.a7 q.h7 q.a8 q.h8 q.a10 q.h10 a22 h22 q.a35 q.a36 q.x1 q.x5 q.x6 q.x7 q.x8 q.x10 y22 q.c) = k0_pay90 (k0_pay88 y22) q.r20 := by
  refine (whole_store (m := 8) (n := 1024) _ _ _).trans ?_
  unfold run_B.sl.r_19
  simp only [View.readAt_eq_ld, Memref.IsWhole.read_unread]
  rw [whole_load]

theorem Q.canon22_A (q : Q) (a22) : View.canon (run_A.sl.H22_2 (F := Ideal) q.a1 q.h1 q.a5 q.h5 q.a6 q.h6 q.a7 q.h7 q.a8 q.h8 q.a10 q.h10 a22 q.a35 q.a36 q.x1 q.x5 q.x6 q.x7 q.x8 q.x10 q.c) = k0_pay90 (k0_pay88 (View.canon (run_A.sl.H22_1 (F := Ideal)))) q.r20 := by
  refine (whole_store (m := 8) (n := 1024) _ _ _).trans ?_
  unfold run_A.sl.r_19 run_A.sl.v248
  rw [readCov_ld, whole_load]
  rfl

theorem Q.canon24_B (q : Q) (a24) (h24) (y24 : Vec Ideal S8x1024 .f32) : View.canon (run_B.sl.H24_1 (F := Ideal) q.a1 q.h1 q.a5 q.h5 q.a6 q.h6 q.a7 q.h7 q.a8 q.h8 q.a9 q.h9 q.a10 q.h10 q.a18 q.h18 a24 h24 q.a35 q.a36 q.a37 q.a38 q.x1 q.x5 q.x6 q.x7 q.x8 q.x9 q.x10 q.x18 y24 q.c) = k0_pay140 q.r8 q.v554 y24 := by
  refine (whole_store (m := 8) (n := 1024) _ _ _).trans ?_
  simp only [View.readAt_eq_ld, Memref.IsWhole.read_unread]
  rw [whole_load]

theorem Q.canon24_A (q : Q) (a24) : View.canon (run_A.sl.H24_2 (F := Ideal) q.a1 q.h1 q.a5 q.h5 q.a6 q.h6 q.a7 q.h7 q.a8 q.h8 q.a9 q.h9 q.a10 q.h10 q.a18 q.h18 a24 q.a35 q.a36 q.a37 q.a38 q.x1 q.x5 q.x6 q.x7 q.x8 q.x9 q.x10 q.x18 q.c) = k0_pay140 q.r8 q.v554 (View.canon (run_A.sl.H22_1 (F := Ideal))) := by
  refine (whole_store (m := 8) (n := 1024) _ _ _).trans ?_
  unfold run_A.sl.v555
  rw [readCov_ld, whole_load]
  rfl

theorem Q.canon25_B (q : Q) (a25) (h25) (y25 : Vec Ideal S8x1024 .f32) : View.canon (run_B.sl.H25_1 (F := Ideal) q.a1 q.h1 q.a5 q.h5 q.a6 q.h6 q.a7 q.h7 q.a8 q.h8 q.a9 q.h9 q.a10 q.h10 q.a18 q.h18 a25 h25 q.a35 q.a36 q.a37 q.a38 q.x1 q.x5 q.x6 q.x7 q.x8 q.x9 q.x10 q.x18 y25 q.c) = k0_pay143 (k0_pay141 y25) (k0_pay142 q.v554) := by
  refine (whole_store (m := 8) (n := 1024) _ _ _).trans ?_
  unfold run_B.sl.r_32
  simp only [View.readAt_eq_ld, Memref.IsWhole.read_unread]
  rw [whole_load]
  rfl

theorem Q.canon25_A (q : Q) (a25) : View.canon (run_A.sl.H25_2 (F := Ideal) q.a1 q.h1 q.a5 q.h5 q.a6 q.h6 q.a7 q.h7 q.a8 q.h8 q.a9 q.h9 q.a10 q.h10 q.a18 q.h18 a25 q.a35 q.a36 q.a37 q.a38 q.x1 q.x5 q.x6 q.x7 q.x8 q.x9 q.x10 q.x18 q.c) = k0_pay143 (k0_pay141 (View.canon (run_A.sl.H22_1 (F := Ideal)))) (k0_pay142 q.v554) := by
  refine (whole_store (m := 8) (n := 1024) _ _ _).trans ?_
  unfold run_A.sl.r_32 run_A.sl.v562
  rw [readCov_ld, whole_load]
  rfl

theorem Q.canon26_B (q : Q) (a26) (h26) (y26 : Vec Ideal S128x1024 .f32) : View.canon (run_B.sl.H26_1 (F := Ideal) q.a1 q.h1 q.a5 q.h5 q.a6 q.h6 q.a7 q.h7 q.a8 q.h8 q.a10 q.h10 q.a18 q.h18 a26 h26 q.a35 q.a36 q.x1 q.x5 q.x6 q.x7 q.x8 q.x10 q.x18 y26 q.c) = k0_pay100 q.r4 q.r15 q.r21 y26 := by
  refine (whole_store (m := 128) (n := 1024) _ _ _).trans ?_
  simp only [View.readAt_eq_ld, Memref.IsWhole.read_unread]
  rw [whole_load]

theorem Q.canon26_A (q : Q) (a26) : View.canon (run_A.sl.H26_2 (F := Ideal) q.a1 q.h1 q.a5 q.h5 q.a6 q.h6 q.a7 q.h7 q.a8 q.h8 q.a10 q.h10 q.a18 q.h18 a26 q.a35 q.a36 q.x1 q.x5 q.x6 q.x7 q.x8 q.x10 q.x18 q.c) = k0_pay100 q.r4 q.r15 q.r21 (View.canon (run_A.sl.H26_1 (F := Ideal))) := by
  refine (whole_store (m := 128) (n := 1024) _ _ _).trans ?_
  unfold run_A.sl.v304
  rw [readCov_ld, whole_load]
  rfl

theorem zero8 (a : Fin 8) (j : Fin 1024) : View.canon (run_A.sl.H22_1 (F := Ideal)) (ix2 a j) = ((0 : ℝ) : EReal) := by
  unfold run_A.sl.H22_1
  rw [whole_store (m := 8) (n := 1024)]
  unfold run_A.sl.v1399 run_A.sl.cst_1073
  pointwise []
  rfl
theorem zero128 (a : Fin 128) (j : Fin 1024) : View.canon (run_A.sl.H26_1 (F := Ideal)) (ix2 a j) = ((0 : ℝ) : EReal) := by
  unfold run_A.sl.H26_1
  rw [whole_store (m := 128) (n := 1024)]
  unfold run_A.sl.v1407 run_A.sl.cst_1073
  pointwise []
  rfl

/-- Columns stored: at the stored columns their payload, at the others what was there. -/
theorem cols_hit (o : ℕ) (inb) (P : S256x1024.Idx → EReal) (L : List (View.Piece (Elt Ideal) S256x5120 .bf16)) (p : Fin 256) (k : Fin 5120) (j : Fin 1024) (hk : k.val = o + j.val) :
    View.canon ((⟨Rect.unit (s := S256x5120) ![0, o] S256x1024.size inb, P⟩ : View.Piece (Elt Ideal) S256x5120 .bf16) :: L) (ix2 p k) = P (ix2 p j) := by
  have e : (ix2 p k : S256x5120.Idx) = (Rect.unit (s := S256x5120) ![0, o] S256x1024.size inb).emb (ix2 p j : S256x1024.Idx) := by
    funext a
    apply Fin.ext
    refine Eq.trans ?_ (ValueKit.rect_emb_unit_val _ _ _ _ _).symm
    fin_cases a
    · exact (Nat.zero_add _).symm
    · exact hk
  rw [e]
  exact View.canon_cons_emb (Val := Elt Ideal) (Rect.unit (s := S256x5120) ![0, o] S256x1024.size inb) P L _
theorem cols_miss (o : ℕ) (inb) (P : S256x1024.Idx → EReal) (L : List (View.Piece (Elt Ideal) S256x5120 .bf16)) (p : Fin 256) (k : Fin 5120) (hk : k.val < o ∨ o + 1024 ≤ k.val) :
    View.canon ((⟨Rect.unit (s := S256x5120) ![0, o] S256x1024.size inb, P⟩ : View.Piece (Elt Ideal) S256x5120 .bf16) :: L) (ix2 p k) = View.canon L (ix2 p k) := by
  refine View.canon_cons_of_not_mem (Val := Elt Ideal) _ L ?_
  rw [Rect.mem_set_unit]
  intro hm
  have := hm 1
  change o ≤ k.val ∧ k.val < o + 1024 at this
  omega

/-- The stores of the gradient tile's first three column blocks. -/
abbrev Q.L21 (q : Q) : List (View.Piece (Elt Ideal) S256x5120 .bf16) :=
  [⟨Rect.unit ![0, 1024] S256x1024.size inb_S256x5120_S256x1024_0_1024, q.r34⟩,
    ⟨Rect.unit ![0, 0] S256x1024.size inb_S256x5120_S256x1024_0_0, k0_pay98 q.r22 (k0_pay94 q.r3) (k0_pay95 q.r2 q.r3) (k0_pay96 q.r2) k0_pay97⟩,
    ⟨Rect.unit ![0, 2048] S256x1024.size inb_S256x5120_S256x1024_0_2048,
      k0_pay92 q.r q.r13 q.r14 q.r16 q.r17 q.r18 (View.ld q.x18 (Rect.unit ![0, 0] S1x1024.size inb_S1x1024_S1x1024_0_0))⟩]

/-- The same stores as the body makes them. -/
abbrev Q.D21 (q : Q) : List (View.Piece (Elt Ideal) S256x5120 .bf16) :=
  [⟨Rect.unit ![0, 1024] S256x1024.size inb_S256x5120_S256x1024_0_1024, q.r34⟩,
    ⟨Rect.unit ![0, 0] S256x1024.size inb_S256x5120_S256x1024_0_0, k0_pay98 q.r22 (k0_pay94 q.r3) (k0_pay95 q.r2 q.r3) (k0_pay96 q.r2) k0_pay97⟩,
    ⟨Rect.unit ![0, 2048] S256x1024.size inb_S256x5120_S256x1024_0_2048,
      k0_pay92 q.r q.r13 q.r14 q.r16 q.r17 q.r18
        (View.readAt (Elt Ideal) (Memref.view q.a18) (Rect.toLoadRect (Rect.unit ![0, 0] S1x1024.size inb_S1x1024_S1x1024_0_0)) (Memref.IsWhole.unread q.h18 q.x18))⟩]
theorem Q.D21_eq (q : Q) : q.D21 = q.L21 := by
  unfold Q.D21
  simp only [View.readAt_eq_ld, Memref.IsWhole.read_unread]

include H
/-- The tile's contribution to each accumulator, over what it held. -/
theorem Q.Real.g22 (c : Fin 8 → Fin 1024 → ℝ) (y : Vec Ideal S8x1024 .f32) (hy : ∀ a j, y (ix2 a j) = ((c a j : ℝ) : EReal)) (i : Fin 8) (j : Fin 1024) :
    k0_pay90 (k0_pay88 y) q.r20 (ix2 i j) = ((c i j + by8 (fun R j => m.dy R j * m.yh R j) (256 * T) i j : ℝ) : EReal) := by
  have h := H.r18_ok
  unfold Q.r18 run_B.sl.r_18 at h
  exact pay90 m c y _ _ _ _ _ hy H.r_ok h i j
theorem Q.Real.g24 (c : Fin 8 → Fin 1024 → ℝ) (y : Vec Ideal S8x1024 .f32) (hy : ∀ a j, y (ix2 a j) = ((c a j : ℝ) : EReal)) (i : Fin 8) (j : Fin 1024) :
    k0_pay140 q.r8 q.v554 y (ix2 i j) = ((c i j + by8 (fun R j => m.dvn R j * vh (m.v R) j) (256 * T) i j : ℝ) : EReal) := pay140 m c y _ _ hy H.r8_ok H.v554_ok i j
theorem Q.Real.g25 (c : Fin 8 → Fin 1024 → ℝ) (y : Vec Ideal S8x1024 .f32) (hy : ∀ a j, y (ix2 a j) = ((c a j : ℝ) : EReal)) (i : Fin 8) (j : Fin 1024) :
    k0_pay143 (k0_pay141 y) (k0_pay142 q.v554) (ix2 i j) = ((c i j + by8 m.dvn (256 * T) i j : ℝ) : EReal) := pay143 m c y _ hy H.v554_ok i j
theorem Q.Real.g26 (c : Fin 128 → Fin 1024 → ℝ) (y : Vec Ideal S128x1024 .f32) (hy : ∀ a j, y (ix2 a j) = ((c a j : ℝ) : EReal)) (i : Fin 128) (j : Fin 1024) :
    k0_pay100 q.r4 q.r15 q.r21 y (ix2 i j) = ((c i j + by2 m.dm (256 * T) i j : ℝ) : EReal) := pay100 m c y _ _ _ hy H.dm99_ok i j

/-- The columns of the gradient tile. -/
theorem Q.Real.dz_ok (p : Fin 256) (j : Fin 1024) :
    View.canon (q.L21) (ix2 p ⟨j.val, by omega⟩) = ((m.zu (256 * T + p.val) j : ℝ) : EReal)
    ∧ View.canon (q.L21) (ix2 p ⟨1024 + j.val, by omega⟩) = ((m.zv (256 * T + p.val) j : ℝ) : EReal)
    ∧ View.canon (q.L21) (ix2 p ⟨2048 + j.val, by omega⟩) = ((m.zg (256 * T + p.val) j : ℝ) : EReal) := by
  have hu := pay98 _ _ _ _ H.r22_ok H.r2_ok H.r3_ok p j
  have hv := H.r34_ok p j
  have hg := pay92 _ _ _ _ H.r_ok H.r17_ok H.r18_ok H.og_ok _ _ _ H.r13_ok H.r14_ok H.r16_ok p j
  unfold Q.L21
  refine ⟨?_, ?_, ?_⟩
  · rw [cols_miss 1024 _ _ _ _ _ (Or.inl (by dsimp only; omega)), cols_hit 0 _ _ _ _ _ j (Nat.zero_add _).symm]
    exact hu
  · rw [cols_hit 1024 _ _ _ _ _ j rfl]
    exact hv
  · rw [cols_miss 1024 _ _ _ _ _ (Or.inr (by dsimp only; omega)), cols_miss 0 _ _ _ _ _ (Or.inr (by dsimp only; omega)), cols_hit 2048 _ _ _ _ _ j rfl]
    exact hg

end Cert.Kernel2Ideal.BrVal
end
-- ==== Proof.Br.KEnd.lean ====
module

public import proofs.«01_k».proof.Proof.Br.KAcc
public import proofs.«01_k».proof.Proof.Br.KSum
public import proofs.«01_k».proof.Proof.Br.TC

/-! The gMLP half's last point: rows summed, heads masked. -/

@[expose] public section

set_option maxRecDepth 16384

noncomputable section

namespace Cert.Kernel2Ideal.BrVal

open Idealize.ShloMosaic Idealize.ShloMosaic.TcCoe
open Cert.Kernel2Ideal Cert.Kernel2Ideal.Gen Cert.Kernel2Ideal.Br Cert.Reals Cert.BrModel

variable {q : Q} {m : M} {T : ℕ}

/-- The sum over the eight rows, in every row; -/
theorem rows8 (x : Vec Ideal S8x1024 .f32) (i : Fin 8) (j : Fin 1024) (f : Fin 8 → Fin 1024 → ℝ) (h : ∀ a j, x (ix2 a j) = ((f a j : ℝ) : EReal)) :
    k0_pay16 x (ix2 i j) = ((∑ a, f a j : ℝ) : EReal) := by
  pointwise [k0_pay16]
  simp only [h, coe_sum]
/-- the sum over a head's columns, in every one of them; -/
theorem cols128 (x : Vec Ideal S128x128 .f32) (i j : Fin 128) (f : Fin 128 → Fin 128 → ℝ) (h : ∀ a j, x (ix2 a j) = ((f a j : ℝ) : EReal)) :
    k0_pay33 x (ix2 i j) = ((∑ d, f i d : ℝ) : EReal) := by
  pointwise [k0_pay33]
  simp only [h, coe_sum]
/-- and what lies on or below the diagonal. -/
theorem lower (x : Vec Ideal S1x128x128 .f32) (t s : Fin 128) : k0_pay34 k0_pay30 x (ix3 0 t s) = if s ≤ t then x (ix3 0 t s) else ((0 : ℝ) : EReal) := by
  pointwise [k0_pay34, k0_pay30]
  have e : ∀ t s : Fin 128, IntOp.cmpi CmpIPredicate.sge (BitVec.ofNat 32 t.val) (BitVec.ofNat 32 s.val) = if s ≤ t then 1#1 else 0#1 := by decide +kernel
  rw [e]
  split_ifs <;> rfl

/-- A head's columns stored. -/
theorem col_hit (o : ℕ) (inb) (P : S128x128.Idx → EReal) (L : List (View.Piece (Elt Ideal) S128x1024 .f32)) (p : Fin 128) (k : Fin 1024) (j : Fin 128) (hk : k.val = o + j.val) :
    View.canon ((⟨Rect.unit (s := S128x1024) ![0, o] (no_index S128x128.size) inb, P⟩ : View.Piece (Elt Ideal) S128x1024 .f32) :: L) (ix2 p k) = P (ix2 p j) := by
  have e : (ix2 p k : S128x1024.Idx) = (Rect.unit (s := S128x1024) ![0, o] S128x128.size inb).emb (ix2 p j : S128x128.Idx) := by
    funext a
    apply Fin.ext
    refine Eq.trans ?_ (ValueKit.rect_emb_unit_val _ _ _ _ _).symm
    fin_cases a
    · exact (Nat.zero_add _).symm
    · exact hk
  rw [e]
  exact View.canon_cons_emb (Val := Elt Ideal) (Rect.unit (s := S128x1024) ![0, o] S128x128.size inb) P L _
theorem col_miss (o : ℕ) (inb) (P : S128x128.Idx → EReal) (L : List (View.Piece (Elt Ideal) S128x1024 .f32)) (p : Fin 128) (k : Fin 1024) (hk : k.val < o ∨ o + 128 ≤ k.val) :
    View.canon ((⟨Rect.unit (s := S128x1024) ![0, o] (no_index S128x128.size) inb, P⟩ : View.Piece (Elt Ideal) S128x1024 .f32) :: L) (ix2 p k) = View.canon L (ix2 p k) := by
  refine View.canon_cons_of_not_mem (Val := Elt Ideal) _ L ?_
  rw [Rect.mem_set_unit]
  intro hm
  have := hm 1
  change o ≤ k.val ∧ k.val < o + 128 at this
  omega

/-- A list of which one head is masked: there the lower triangle, elsewhere as before. -/
def maskAt (o : ℕ) (inb : ∀ a, (![o, 0, 0] : Fin 3 → ℕ) a + S1x128x128.size a ≤ S8x128x128.size a) (L : List (View.Piece (Elt Ideal) S8x128x128 .f32)) : List (View.Piece (Elt Ideal) S8x128x128 .f32) :=
  ⟨Rect.unit (s := S8x128x128) ![o, 0, 0] S1x128x128.size inb, k0_pay34 k0_pay30 (View.ld (View.canon L) (Rect.unit (s := S8x128x128) ![o, 0, 0] S1x128x128.size inb))⟩ :: L
theorem maskAt_hit (o : ℕ) (inb) (L) (h : Fin 8) (hh : h.val = o) (t s : Fin 128) :
    View.canon (maskAt o inb L) (ix3 h t s) = if s ≤ t then View.canon L (ix3 h t s) else ((0 : ℝ) : EReal) := by
  unfold maskAt
  refine (head_hit o inb _ _ h hh t s).trans ((lower _ t s).trans ?_)
  congr 1
  subst hh
  pointwise []
theorem maskAt_miss (o : ℕ) (inb) (L) (h : Fin 8) (hh : h.val ≠ o) (t s : Fin 128) :
    View.canon (maskAt o inb L) (ix3 h t s) = View.canon L (ix3 h t s) := head_miss o inb _ _ h hh t s
/-- A list of which one head's columns are summed: the sum in each of them. -/
def sumAt (o : ℕ) (inb : ∀ a, (![0, o] : Fin 2 → ℕ) a + S128x128.size a ≤ S128x1024.size a) (L : List (View.Piece (Elt Ideal) S128x1024 .f32)) : List (View.Piece (Elt Ideal) S128x1024 .f32) :=
  ⟨Rect.unit (s := S128x1024) ![0, o] S128x128.size inb, k0_pay33 (View.ld (View.canon L) (Rect.unit (s := S128x1024) ![0, o] S128x128.size inb))⟩ :: L
theorem sumAt_hit (o : ℕ) (inb) (L) (f : Fin 128 → Fin 1024 → ℝ) (h : Fin 8) (hh : h.val * 128 = o) (hf : ∀ p d, View.canon L (ix2 p (col h d)) = ((f p (col h d) : ℝ) : EReal)) (p : Fin 128) (j : Fin 128) :
    View.canon (sumAt o inb L) (ix2 p (col h j)) = ((∑ d, f p (col h d) : ℝ) : EReal) := by
  unfold sumAt
  subst hh
  refine (col_hit _ inb _ _ p (col h j) j rfl).trans (cols128 _ p j (fun p d => f p (col h d)) fun a d => ?_)
  refine Eq.trans ?_ (hf a d)
  pointwise []
  try rfl
theorem sumAt_miss (o : ℕ) (inb) (L) (p : Fin 128) (k : Fin 1024) (hk : k.val < o ∨ o + 128 ≤ k.val) :
    View.canon (sumAt o inb L) (ix2 p k) = View.canon L (ix2 p k) := col_miss o inb _ _ p k hk

/-- Every head masked; every head's columns summed. -/
def mask8 (L : List (View.Piece (Elt Ideal) S8x128x128 .f32)) : List (View.Piece (Elt Ideal) S8x128x128 .f32) :=
  (maskAt 7 inb_S8x128x128_S1x128x128_7_0_0 (maskAt 6 inb_S8x128x128_S1x128x128_6_0_0 (maskAt 5 inb_S8x128x128_S1x128x128_5_0_0 (maskAt 4 inb_S8x128x128_S1x128x128_4_0_0 (maskAt 3 inb_S8x128x128_S1x128x128_3_0_0 (maskAt 2 inb_S8x128x128_S1x128x128_2_0_0 (maskAt 1 inb_S8x128x128_S1x128x128_1_0_0 (maskAt 0 inb_S8x128x128_S1x128x128_0_0_0 L))))))))
def sum8 (L : List (View.Piece (Elt Ideal) S128x1024 .f32)) : List (View.Piece (Elt Ideal) S128x1024 .f32) :=
  (sumAt 896 inb_S128x1024_S128x128_0_896 (sumAt 768 inb_S128x1024_S128x128_0_768 (sumAt 640 inb_S128x1024_S128x128_0_640 (sumAt 512 inb_S128x1024_S128x128_0_512 (sumAt 384 inb_S128x1024_S128x128_0_384 (sumAt 256 inb_S128x1024_S128x128_0_256 (sumAt 128 inb_S128x1024_S128x128_0_128 (sumAt 0 inb_S128x1024_S128x128_0_0 L))))))))
theorem mask8_at (L) (h : Fin 8) (t s : Fin 128) : View.canon (mask8 L) (ix3 h t s) = if s ≤ t then View.canon L (ix3 h t s) else ((0 : ℝ) : EReal) := by
  unfold mask8
  obtain rfl | rfl | rfl | rfl | rfl | rfl | rfl | rfl := head_cases h <;>
    simp (disch := decide) only [maskAt_hit, maskAt_miss]
theorem sumAt_else (o : ℕ) (inb) (L) (p : Fin 128) (h : Fin 8) (d : Fin 128) (hk : h.val * 128 ≠ o) (ho : o % 128 = 0) :
    View.canon (sumAt o inb L) (ix2 p (col h d)) = View.canon L (ix2 p (col h d)) :=
  sumAt_miss o inb L p (col h d) (by show h.val * 128 + d.val < o ∨ o + 128 ≤ h.val * 128 + d.val; omega)
theorem sum8_at (L) (f : Fin 128 → Fin 1024 → ℝ) (hf : ∀ p j, View.canon L (ix2 p j) = ((f p j : ℝ) : EReal)) (p : Fin 128) (h : Fin 8) (j : Fin 128) :
    View.canon (sum8 L) (ix2 p (col h j)) = ((∑ d, f p (col h d) : ℝ) : EReal) := by
  unfold sum8
  obtain rfl | rfl | rfl | rfl | rfl | rfl | rfl | rfl := head_cases h <;>
    (try simp (disch := decide) only [sumAt_else]) <;>
    refine sumAt_hit _ _ _ f _ (by decide) (fun p d => ?_) p j <;>
    (try simp (disch := decide) only [sumAt_else]) <;>
    exact hf _ _

theorem Q.C27 (q : Q) (a27) (h27) (y27 : Vec Ideal S8x128x128 .f32) : (⟨Rect.unit ![7, 0, 0] ![1, 128, 128] inb_S8x128x128_S1x128x128_7_0_0, k0_pay4 k0_pay30 (run_C.sl.v1591 (F := Ideal) q.a1 q.h1 q.a5 q.h5 q.a6 q.h6 q.a7 q.h7 q.a8 q.h8 q.a10 q.h10 q.a18 q.h18 a27 h27 q.a35 q.a36 q.a37 q.x1 q.x5 q.x6 q.x7 q.x8 q.x10 q.x18 y27 q.c)⟩ :: run_C.sl.H27_23 (F := Ideal) q.a1 q.h1 q.a5 q.h5 q.a6 q.h6 q.a7 q.h7 q.a8 q.h8 q.a10 q.h10 q.a18 q.h18 a27 h27 q.a35 q.a36 q.a37 q.x1 q.x5 q.x6 q.x7 q.x8 q.x10 q.x18 y27 q.c : List (View.Piece (Elt Ideal) S8x128x128 .f32)) = mask8 (run_B.sl.H27_16 (F := Ideal) q.a1 q.h1 q.a5 q.h5 q.a6 q.h6 q.a7 q.h7 q.a8 q.h8 q.a10 q.h10 q.a18 q.h18 a27 h27 q.a35 q.a36 q.a37 q.x1 q.x5 q.x6 q.x7 q.x8 q.x10 q.x18 y27 q.c) := by
  unfold run_C.sl.v1591 run_C.sl.H27_23 run_C.sl.v1577 run_C.sl.H27_22 run_C.sl.v1563 run_C.sl.H27_21 run_C.sl.v1549 run_C.sl.H27_20 run_C.sl.v1535 run_C.sl.H27_19 run_C.sl.r_87 run_C.sl.v1521 run_C.sl.H27_18 run_C.sl.v1507 run_C.sl.H27_17 run_C.sl.r_86 run_C.sl.v1493
  simp only [readCov_ld]
  rfl
theorem Q.C26 (q : Q) (a26) (h26) (y26 : Vec Ideal S128x1024 .f32) : (⟨Rect.unit ![0, 896] ![128, 128] inb_S128x1024_S128x128_0_896, k0_pay5 (run_C.sl.v1598 (F := Ideal) q.a1 q.h1 q.a5 q.h5 q.a6 q.h6 q.a7 q.h7 q.a8 q.h8 q.a10 q.h10 q.a18 q.h18 a26 h26 q.a35 q.a36 q.x1 q.x5 q.x6 q.x7 q.x8 q.x10 q.x18 y26 q.c)⟩ :: run_C.sl.H26_8 (F := Ideal) q.a1 q.h1 q.a5 q.h5 q.a6 q.h6 q.a7 q.h7 q.a8 q.h8 q.a10 q.h10 q.a18 q.h18 a26 h26 q.a35 q.a36 q.x1 q.x5 q.x6 q.x7 q.x8 q.x10 q.x18 y26 q.c : List (View.Piece (Elt Ideal) S128x1024 .f32)) = sum8 (run_B.sl.H26_1 (F := Ideal) q.a1 q.h1 q.a5 q.h5 q.a6 q.h6 q.a7 q.h7 q.a8 q.h8 q.a10 q.h10 q.a18 q.h18 a26 h26 q.a35 q.a36 q.x1 q.x5 q.x6 q.x7 q.x8 q.x10 q.x18 y26 q.c) := by
  unfold run_C.sl.v1598 run_C.sl.H26_8 run_C.sl.r_88 run_C.sl.v1584 run_C.sl.H26_7 run_C.sl.v1570 run_C.sl.H26_6 run_C.sl.v_1 run_C.sl.H26_5 run_C.sl.v1542 run_C.sl.H26_4 run_C.sl.v1528 run_C.sl.H26_3 run_C.sl.v1514 run_C.sl.H26_2 run_C.sl.v1500
  simp only [readCov_ld]
  rfl
theorem Q.C22 (q : Q) (a22) (h22) (y22 : Vec Ideal S8x1024 .f32) :
    View.canon (⟨(Rect.unit (s := S8x1024) ![0, 0] S8x1024.size inb_S8x1024_S8x1024_0_0), k0_pay16 (run_C.sl.v1399 (F := Ideal) q.a1 q.h1 q.a5 q.h5 q.a6 q.h6 q.a7 q.h7 q.a8 q.h8 q.a10 q.h10 a22 h22 q.a35 q.a36 q.x1 q.x5 q.x6 q.x7 q.x8 q.x10 y22 q.c)⟩ :: run_C.sl.H22_1 (F := Ideal) q.a1 q.h1 q.a5 q.h5 q.a6 q.h6 q.a7 q.h7 q.a8 q.h8 q.a10 q.h10 a22 h22 q.a35 q.a36 q.x1 q.x5 q.x6 q.x7 q.x8 q.x10 y22 q.c : List (View.Piece (Elt Ideal) S8x1024 .f32)) = k0_pay16 (View.canon (run_B.sl.H22_1 (F := Ideal) q.a1 q.h1 q.a5 q.h5 q.a6 q.h6 q.a7 q.h7 q.a8 q.h8 q.a10 q.h10 a22 h22 q.a35 q.a36 q.x1 q.x5 q.x6 q.x7 q.x8 q.x10 y22 q.c)) := by
  refine (whole_store (m := 8) (n := 1024) _ _ _).trans ?_
  unfold run_C.sl.v1399
  rw [readCov_ld, whole_load]
  rfl
theorem Q.C24 (q : Q) (a24) (h24) (y24 : Vec Ideal S8x1024 .f32) :
    View.canon (⟨(Rect.unit (s := S8x1024) ![0, 0] S8x1024.size inb_S8x1024_S8x1024_0_0), k0_pay18 (run_C.sl.v1413 (F := Ideal) q.a1 q.h1 q.a5 q.h5 q.a6 q.h6 q.a7 q.h7 q.a8 q.h8 q.a9 q.h9 q.a10 q.h10 q.a18 q.h18 a24 h24 q.a35 q.a36 q.a37 q.a38 q.x1 q.x5 q.x6 q.x7 q.x8 q.x9 q.x10 q.x18 y24 q.c)⟩ :: run_C.sl.H24_1 (F := Ideal) q.a1 q.h1 q.a5 q.h5 q.a6 q.h6 q.a7 q.h7 q.a8 q.h8 q.a9 q.h9 q.a10 q.h10 q.a18 q.h18 a24 h24 q.a35 q.a36 q.a37 q.a38 q.x1 q.x5 q.x6 q.x7 q.x8 q.x9 q.x10 q.x18 y24 q.c : List (View.Piece (Elt Ideal) S8x1024 .f32)) = k0_pay16 (View.canon (run_B.sl.H24_1 (F := Ideal) q.a1 q.h1 q.a5 q.h5 q.a6 q.h6 q.a7 q.h7 q.a8 q.h8 q.a9 q.h9 q.a10 q.h10 q.a18 q.h18 a24 h24 q.a35 q.a36 q.a37 q.a38 q.x1 q.x5 q.x6 q.x7 q.x8 q.x9 q.x10 q.x18 y24 q.c)) := by
  refine (whole_store (m := 8) (n := 1024) _ _ _).trans ?_
  unfold run_C.sl.v1413
  rw [readCov_ld, whole_load]
  rfl
theorem Q.C25 (q : Q) (a25) (h25) (y25 : Vec Ideal S8x1024 .f32) :
    View.canon (⟨(Rect.unit (s := S8x1024) ![0, 0] S8x1024.size inb_S8x1024_S8x1024_0_0), k0_pay19 (run_C.sl.v1420 (F := Ideal) q.a1 q.h1 q.a5 q.h5 q.a6 q.h6 q.a7 q.h7 q.a8 q.h8 q.a9 q.h9 q.a10 q.h10 q.a18 q.h18 a25 h25 q.a35 q.a36 q.a37 q.a38 q.x1 q.x5 q.x6 q.x7 q.x8 q.x9 q.x10 q.x18 y25 q.c)⟩ :: run_C.sl.H25_1 (F := Ideal) q.a1 q.h1 q.a5 q.h5 q.a6 q.h6 q.a7 q.h7 q.a8 q.h8 q.a9 q.h9 q.a10 q.h10 q.a18 q.h18 a25 h25 q.a35 q.a36 q.a37 q.a38 q.x1 q.x5 q.x6 q.x7 q.x8 q.x9 q.x10 q.x18 y25 q.c : List (View.Piece (Elt Ideal) S8x1024 .f32)) = k0_pay16 (View.canon (run_B.sl.H25_1 (F := Ideal) q.a1 q.h1 q.a5 q.h5 q.a6 q.h6 q.a7 q.h7 q.a8 q.h8 q.a9 q.h9 q.a10 q.h10 q.a18 q.h18 a25 h25 q.a35 q.a36 q.a37 q.a38 q.x1 q.x5 q.x6 q.x7 q.x8 q.x9 q.x10 q.x18 y25 q.c)) := by
  refine (whole_store (m := 8) (n := 1024) _ _ _).trans ?_
  unfold run_C.sl.v1420
  rw [readCov_ld, whole_load]
  rfl

end Cert.Kernel2Ideal.BrVal
end
-- ==== Proof.Br.KPoint.lean ====
module

public import proofs.«01_k».proof.Proof.Br.KEnd
public import proofs.«01_k».proof.Proof.Br.KSum
public import proofs.«01_k».proof.Proof.Br.Pt

/-! What the gMLP half's accumulators hold after a point. -/

@[expose] public section

set_option maxRecDepth 16384

noncomputable section

namespace Cert.Kernel2Ideal.BrVal

open Idealize.ShloMosaic Idealize.ShloMosaic.TcCoe
open Cert.Kernel2Ideal Cert.Kernel2Ideal.Gen Cert.Kernel2Ideal.Br Cert.Reals Cert.BrModel

variable (V : (c : Dev nD) → (b : Ref sig .tc) → Buf (Elt Ideal) ((c : Thread nD τ).loc b)) (c : Dev nD)

/-- What the gMLP half's part of the body reads at a point. -/
def Qt (t : Fin cfg0.N) : Q where
  a1 := win0_0.stage (cfg0.slots t 0)
  h1 := hstage0_0 ((cfg0.slots t 0).cast nbuf0_0)
  x1 := iblk0 V c 0 t
  a5 := win0_4.stage (cfg0.slots t 4)
  h5 := hstage0_4 ((cfg0.slots t 4).cast nbuf0_4)
  x5 := iblk0 V c 4 t
  a6 := win0_5.stage (cfg0.slots t 5)
  h6 := hstage0_5 ((cfg0.slots t 5).cast nbuf0_5)
  x6 := iblk0 V c 5 t
  a7 := win0_6.stage (cfg0.slots t 6)
  h7 := hstage0_6 ((cfg0.slots t 6).cast nbuf0_6)
  x7 := iblk0 V c 6 t
  a8 := win0_7.stage (cfg0.slots t 7)
  h8 := hstage0_7 ((cfg0.slots t 7).cast nbuf0_7)
  x8 := iblk0 V c 7 t
  a9 := win0_8.stage (cfg0.slots t 8)
  h9 := hstage0_8 ((cfg0.slots t 8).cast nbuf0_8)
  x9 := iblk0 V c 8 t
  a10 := win0_9.stage (cfg0.slots t 9)
  h10 := hstage0_9 ((cfg0.slots t 9).cast nbuf0_9)
  x10 := iblk0 V c 9 t
  a18 := win0_17.stage (cfg0.slots t 17)
  h18 := hstage0_17 ((cfg0.slots t 17).cast nbuf0_17)
  x18 := iblk0 V c 17 t
  a35 := Memref.whole cc0_scratch0
  a36 := Memref.whole cc0_scratch1
  a37 := Memref.whole cc0_scratch2
  a38 := Memref.whole cc0_scratch3
  c := c

/-- The five accumulators hold these reals. -/
structure AccIs (y : Acc Ideal) (og lg lb : Fin 8 → Fin 1024 → ℝ) (bs : Fin 128 → Fin 1024 → ℝ) (ws : Fin 8 → Fin 128 → Fin 128 → ℝ) : Prop where
  og : ∀ i j, y.1 (ix2 i j) = ((og i j : ℝ) : EReal)
  lg : ∀ i j, y.2.1 (ix2 i j) = ((lg i j : ℝ) : EReal)
  lb : ∀ i j, y.2.2.1 (ix2 i j) = ((lb i j : ℝ) : EReal)
  bs : ∀ i j, y.2.2.2.1 (ix2 i j) = ((bs i j : ℝ) : EReal)
  ws : ∀ h t s, y.2.2.2.2 (ix3 h t s) = ((ws h t s : ℝ) : EReal)

/-- A tile's two chunks' terms of a spatial weight's gradient. -/
def gw2 (m : M) (o : ℕ) (h : Fin 8) (t s : Fin 128) : ℝ := gwT m o h t s 0 + gwT m o h t s 1

variable (m : M)

/-- The stores a run leaves, by name. -/
theorem accA_22 (t : Fin cfg0.N) (h0 : t.val % 32 = 0) : (accA V c t h0).1 = (let q := Qt V c t; let a22 := win0_21.stage (cfg0.slots t 21); let h22 := hstage0_21 ((cfg0.slots t 21).cast nbuf0_21); View.canon (run_A.sl.H22_2 (F := Ideal) q.a1 q.h1 q.a5 q.h5 q.a6 q.h6 q.a7 q.h7 q.a8 q.h8 q.a10 q.h10 a22 q.a35 q.a36 q.x1 q.x5 q.x6 q.x7 q.x8 q.x10 q.c)) := by
  sl_kernel_rfl
theorem accB_22 (t : Fin cfg0.N) (y : Acc Ideal) (h0 : ¬t.val % 32 = 0) (h1 : ¬t.val % 32 = 31) : (accB V c t y h0 h1).1 = (let q := Qt V c t; let a22 := win0_21.stage (cfg0.slots t 21); let h22 := hstage0_21 ((cfg0.slots t 21).cast nbuf0_21); View.canon (run_B.sl.H22_1 (F := Ideal) q.a1 q.h1 q.a5 q.h5 q.a6 q.h6 q.a7 q.h7 q.a8 q.h8 q.a10 q.h10 a22 h22 q.a35 q.a36 q.x1 q.x5 q.x6 q.x7 q.x8 q.x10 y.1 q.c)) := by
  sl_kernel_rfl
theorem accC_22 (t : Fin cfg0.N) (y : Acc Ideal) (h1 : t.val % 32 = 31) : (accC V c t y h1).1 = (let q := Qt V c t; let a22 := win0_21.stage (cfg0.slots t 21); let h22 := hstage0_21 ((cfg0.slots t 21).cast nbuf0_21); View.canon (⟨(Rect.unit (s := S8x1024) ![0, 0] S8x1024.size inb_S8x1024_S8x1024_0_0), k0_pay16 (run_C.sl.v1399 (F := Ideal) q.a1 q.h1 q.a5 q.h5 q.a6 q.h6 q.a7 q.h7 q.a8 q.h8 q.a10 q.h10 a22 h22 q.a35 q.a36 q.x1 q.x5 q.x6 q.x7 q.x8 q.x10 y.1 q.c)⟩ :: run_C.sl.H22_1 (F := Ideal) q.a1 q.h1 q.a5 q.h5 q.a6 q.h6 q.a7 q.h7 q.a8 q.h8 q.a10 q.h10 a22 h22 q.a35 q.a36 q.x1 q.x5 q.x6 q.x7 q.x8 q.x10 y.1 q.c)) := by
  sl_kernel_rfl
theorem accA_24 (t : Fin cfg0.N) (h0 : t.val % 32 = 0) : (accA V c t h0).2.1 = (let q := Qt V c t; let a24 := win0_23.stage (cfg0.slots t 23); let h24 := hstage0_23 ((cfg0.slots t 23).cast nbuf0_23); View.canon (run_A.sl.H24_2 (F := Ideal) q.a1 q.h1 q.a5 q.h5 q.a6 q.h6 q.a7 q.h7 q.a8 q.h8 q.a9 q.h9 q.a10 q.h10 q.a18 q.h18 a24 q.a35 q.a36 q.a37 q.a38 q.x1 q.x5 q.x6 q.x7 q.x8 q.x9 q.x10 q.x18 q.c)) := by
  sl_kernel_rfl
theorem accB_24 (t : Fin cfg0.N) (y : Acc Ideal) (h0 : ¬t.val % 32 = 0) (h1 : ¬t.val % 32 = 31) : (accB V c t y h0 h1).2.1 = (let q := Qt V c t; let a24 := win0_23.stage (cfg0.slots t 23); let h24 := hstage0_23 ((cfg0.slots t 23).cast nbuf0_23); View.canon (run_B.sl.H24_1 (F := Ideal) q.a1 q.h1 q.a5 q.h5 q.a6 q.h6 q.a7 q.h7 q.a8 q.h8 q.a9 q.h9 q.a10 q.h10 q.a18 q.h18 a24 h24 q.a35 q.a36 q.a37 q.a38 q.x1 q.x5 q.x6 q.x7 q.x8 q.x9 q.x10 q.x18 y.2.1 q.c)) := by
  sl_kernel_rfl
theorem accC_24 (t : Fin cfg0.N) (y : Acc Ideal) (h1 : t.val % 32 = 31) : (accC V c t y h1).2.1 = (let q := Qt V c t; let a24 := win0_23.stage (cfg0.slots t 23); let h24 := hstage0_23 ((cfg0.slots t 23).cast nbuf0_23); View.canon (⟨(Rect.unit (s := S8x1024) ![0, 0] S8x1024.size inb_S8x1024_S8x1024_0_0), k0_pay18 (run_C.sl.v1413 (F := Ideal) q.a1 q.h1 q.a5 q.h5 q.a6 q.h6 q.a7 q.h7 q.a8 q.h8 q.a9 q.h9 q.a10 q.h10 q.a18 q.h18 a24 h24 q.a35 q.a36 q.a37 q.a38 q.x1 q.x5 q.x6 q.x7 q.x8 q.x9 q.x10 q.x18 y.2.1 q.c)⟩ :: run_C.sl.H24_1 (F := Ideal) q.a1 q.h1 q.a5 q.h5 q.a6 q.h6 q.a7 q.h7 q.a8 q.h8 q.a9 q.h9 q.a10 q.h10 q.a18 q.h18 a24 h24 q.a35 q.a36 q.a37 q.a38 q.x1 q.x5 q.x6 q.x7 q.x8 q.x9 q.x10 q.x18 y.2.1 q.c)) := by
  sl_kernel_rfl
theorem accA_25 (t : Fin cfg0.N) (h0 : t.val % 32 = 0) : (accA V c t h0).2.2.1 = (let q := Qt V c t; let a25 := win0_24.stage (cfg0.slots t 24); let h25 := hstage0_24 ((cfg0.slots t 24).cast nbuf0_24); View.canon (run_A.sl.H25_2 (F := Ideal) q.a1 q.h1 q.a5 q.h5 q.a6 q.h6 q.a7 q.h7 q.a8 q.h8 q.a9 q.h9 q.a10 q.h10 q.a18 q.h18 a25 q.a35 q.a36 q.a37 q.a38 q.x1 q.x5 q.x6 q.x7 q.x8 q.x9 q.x10 q.x18 q.c)) := by
  sl_kernel_rfl
theorem accB_25 (t : Fin cfg0.N) (y : Acc Ideal) (h0 : ¬t.val % 32 = 0) (h1 : ¬t.val % 32 = 31) : (accB V c t y h0 h1).2.2.1 = (let q := Qt V c t; let a25 := win0_24.stage (cfg0.slots t 24); let h25 := hstage0_24 ((cfg0.slots t 24).cast nbuf0_24); View.canon (run_B.sl.H25_1 (F := Ideal) q.a1 q.h1 q.a5 q.h5 q.a6 q.h6 q.a7 q.h7 q.a8 q.h8 q.a9 q.h9 q.a10 q.h10 q.a18 q.h18 a25 h25 q.a35 q.a36 q.a37 q.a38 q.x1 q.x5 q.x6 q.x7 q.x8 q.x9 q.x10 q.x18 y.2.2.1 q.c)) := by
  sl_kernel_rfl
theorem accC_25 (t : Fin cfg0.N) (y : Acc Ideal) (h1 : t.val % 32 = 31) : (accC V c t y h1).2.2.1 = (let q := Qt V c t; let a25 := win0_24.stage (cfg0.slots t 24); let h25 := hstage0_24 ((cfg0.slots t 24).cast nbuf0_24); View.canon (⟨(Rect.unit (s := S8x1024) ![0, 0] S8x1024.size inb_S8x1024_S8x1024_0_0), k0_pay19 (run_C.sl.v1420 (F := Ideal) q.a1 q.h1 q.a5 q.h5 q.a6 q.h6 q.a7 q.h7 q.a8 q.h8 q.a9 q.h9 q.a10 q.h10 q.a18 q.h18 a25 h25 q.a35 q.a36 q.a37 q.a38 q.x1 q.x5 q.x6 q.x7 q.x8 q.x9 q.x10 q.x18 y.2.2.1 q.c)⟩ :: run_C.sl.H25_1 (F := Ideal) q.a1 q.h1 q.a5 q.h5 q.a6 q.h6 q.a7 q.h7 q.a8 q.h8 q.a9 q.h9 q.a10 q.h10 q.a18 q.h18 a25 h25 q.a35 q.a36 q.a37 q.a38 q.x1 q.x5 q.x6 q.x7 q.x8 q.x9 q.x10 q.x18 y.2.2.1 q.c)) := by
  sl_kernel_rfl
theorem accA_26 (t : Fin cfg0.N) (h0 : t.val % 32 = 0) : (accA V c t h0).2.2.2.1 = (let q := Qt V c t; let a26 := win0_25.stage (cfg0.slots t 25); let h26 := hstage0_25 ((cfg0.slots t 25).cast nbuf0_25); View.canon (run_A.sl.H26_2 (F := Ideal) q.a1 q.h1 q.a5 q.h5 q.a6 q.h6 q.a7 q.h7 q.a8 q.h8 q.a10 q.h10 q.a18 q.h18 a26 q.a35 q.a36 q.x1 q.x5 q.x6 q.x7 q.x8 q.x10 q.x18 q.c)) := by
  sl_kernel_rfl
theorem accB_26 (t : Fin cfg0.N) (y : Acc Ideal) (h0 : ¬t.val % 32 = 0) (h1 : ¬t.val % 32 = 31) : (accB V c t y h0 h1).2.2.2.1 = (let q := Qt V c t; let a26 := win0_25.stage (cfg0.slots t 25); let h26 := hstage0_25 ((cfg0.slots t 25).cast nbuf0_25); View.canon (run_B.sl.H26_1 (F := Ideal) q.a1 q.h1 q.a5 q.h5 q.a6 q.h6 q.a7 q.h7 q.a8 q.h8 q.a10 q.h10 q.a18 q.h18 a26 h26 q.a35 q.a36 q.x1 q.x5 q.x6 q.x7 q.x8 q.x10 q.x18 y.2.2.2.1 q.c)) := by
  sl_kernel_rfl
theorem accC_26 (t : Fin cfg0.N) (y : Acc Ideal) (h1 : t.val % 32 = 31) : (accC V c t y h1).2.2.2.1 = (let q := Qt V c t; let a26 := win0_25.stage (cfg0.slots t 25); let h26 := hstage0_25 ((cfg0.slots t 25).cast nbuf0_25); View.canon ((⟨Rect.unit ![0, 896] ![128, 128] inb_S128x1024_S128x128_0_896, k0_pay5 (run_C.sl.v1598 (F := Ideal) q.a1 q.h1 q.a5 q.h5 q.a6 q.h6 q.a7 q.h7 q.a8 q.h8 q.a10 q.h10 q.a18 q.h18 a26 h26 q.a35 q.a36 q.x1 q.x5 q.x6 q.x7 q.x8 q.x10 q.x18 y.2.2.2.1 q.c)⟩ :: run_C.sl.H26_8 (F := Ideal) q.a1 q.h1 q.a5 q.h5 q.a6 q.h6 q.a7 q.h7 q.a8 q.h8 q.a10 q.h10 q.a18 q.h18 a26 h26 q.a35 q.a36 q.x1 q.x5 q.x6 q.x7 q.x8 q.x10 q.x18 y.2.2.2.1 q.c : List (View.Piece (Elt Ideal) S128x1024 .f32)))) := by
  sl_kernel_rfl
theorem accA_27 (t : Fin cfg0.N) (h0 : t.val % 32 = 0) : (accA V c t h0).2.2.2.2 = (let q := Qt V c t; let a27 := win0_26.stage (cfg0.slots t 26); let h27 := hstage0_26 ((cfg0.slots t 26).cast nbuf0_26); View.canon (run_A.sl.H27_17 (F := Ideal) q.a1 q.h1 q.a5 q.h5 q.a6 q.h6 q.a7 q.h7 q.a8 q.h8 q.a10 q.h10 q.a18 q.h18 a27 q.a35 q.a36 q.a37 q.x1 q.x5 q.x6 q.x7 q.x8 q.x10 q.x18 q.c)) := by
  sl_kernel_rfl
theorem accB_27 (t : Fin cfg0.N) (y : Acc Ideal) (h0 : ¬t.val % 32 = 0) (h1 : ¬t.val % 32 = 31) : (accB V c t y h0 h1).2.2.2.2 = (let q := Qt V c t; let a27 := win0_26.stage (cfg0.slots t 26); let h27 := hstage0_26 ((cfg0.slots t 26).cast nbuf0_26); View.canon (run_B.sl.H27_16 (F := Ideal) q.a1 q.h1 q.a5 q.h5 q.a6 q.h6 q.a7 q.h7 q.a8 q.h8 q.a10 q.h10 q.a18 q.h18 a27 h27 q.a35 q.a36 q.a37 q.x1 q.x5 q.x6 q.x7 q.x8 q.x10 q.x18 y.2.2.2.2 q.c)) := by
  sl_kernel_rfl
theorem accC_27 (t : Fin cfg0.N) (y : Acc Ideal) (h1 : t.val % 32 = 31) : (accC V c t y h1).2.2.2.2 = (let q := Qt V c t; let a27 := win0_26.stage (cfg0.slots t 26); let h27 := hstage0_26 ((cfg0.slots t 26).cast nbuf0_26); View.canon ((⟨Rect.unit ![7, 0, 0] ![1, 128, 128] inb_S8x128x128_S1x128x128_7_0_0, k0_pay4 k0_pay30 (run_C.sl.v1591 (F := Ideal) q.a1 q.h1 q.a5 q.h5 q.a6 q.h6 q.a7 q.h7 q.a8 q.h8 q.a10 q.h10 q.a18 q.h18 a27 h27 q.a35 q.a36 q.a37 q.x1 q.x5 q.x6 q.x7 q.x8 q.x10 q.x18 y.2.2.2.2 q.c)⟩ :: run_C.sl.H27_23 (F := Ideal) q.a1 q.h1 q.a5 q.h5 q.a6 q.h6 q.a7 q.h7 q.a8 q.h8 q.a10 q.h10 q.a18 q.h18 a27 h27 q.a35 q.a36 q.a37 q.x1 q.x5 q.x6 q.x7 q.x8 q.x10 q.x18 y.2.2.2.2 q.c : List (View.Piece (Elt Ideal) S8x128x128 .f32)))) := by
  sl_kernel_rfl
theorem dzA (t : Fin cfg0.N) (h0 : t.val % 32 = 0) : (rA V c t h0).1 = (Qt V c t).D21 := by sl_kernel_rfl
theorem dzB (t : Fin cfg0.N) (y : Acc Ideal) (h0 : ¬t.val % 32 = 0) (h1 : ¬t.val % 32 = 31) : (rB V c t y h0 h1).1 = (Qt V c t).D21 := by sl_kernel_rfl
theorem dzC (t : Fin cfg0.N) (y : Acc Ideal) (h1 : t.val % 32 = 31) : (rC V c t y h1).1 = (Qt V c t).D21 := by sl_kernel_rfl
theorem accA_is (t : Fin cfg0.N) (h0 : t.val % 32 = 0) {T : ℕ} (H : (Qt V c t).Real m T) :
    AccIs (accA V c t h0) (fun i j => 0 + by8 (fun R j => m.dy R j * m.yh R j) (256 * T) i j) (fun i j => 0 + by8 (fun R j => m.dvn R j * vh (m.v R) j) (256 * T) i j)
      (fun i j => 0 + by8 m.dvn (256 * T) i j) (fun i j => 0 + by2 m.dm (256 * T) i j) (fun h t s => 0 + gw2 m (256 * T) h t s) where
  og i j := (congrFun ((accA_22 V c t h0).trans ((Qt V c t).canon22_A _)) (ix2 i j)).trans (H.g22 (fun _ _ => 0) _ zero8 i j)
  lg i j := (congrFun ((accA_24 V c t h0).trans ((Qt V c t).canon24_A _)) (ix2 i j)).trans (H.g24 (fun _ _ => 0) _ zero8 i j)
  lb i j := (congrFun ((accA_25 V c t h0).trans ((Qt V c t).canon25_A _)) (ix2 i j)).trans (H.g25 (fun _ _ => 0) _ zero8 i j)
  bs i j := (congrFun ((accA_26 V c t h0).trans ((Qt V c t).canon26_A _)) (ix2 i j)).trans (H.g26 (fun _ _ => 0) _ zero128 i j)
  ws h t' s := (congrFun (accA_27 V c t h0) (ix3 h t' s)).trans <| (H.gws_A _ h t' s).trans (congrArg Real.toEReal (zero_add _).symm)

theorem accB_is (t : Fin cfg0.N) (y : Acc Ideal) (h0 : ¬t.val % 32 = 0) (h1 : ¬t.val % 32 = 31) (og lg lb bs ws) (hy : AccIs y og lg lb bs ws) {T : ℕ} (H : (Qt V c t).Real m T) :
    AccIs (accB V c t y h0 h1)
      (fun i j => og i j + by8 (fun R j => m.dy R j * m.yh R j) (256 * T) i j) (fun i j => lg i j + by8 (fun R j => m.dvn R j * vh (m.v R) j) (256 * T) i j)
      (fun i j => lb i j + by8 m.dvn (256 * T) i j) (fun i j => bs i j + by2 m.dm (256 * T) i j) (fun h t s => ws h t s + gw2 m (256 * T) h t s) where
  og i j := (congrFun ((accB_22 V c t y h0 h1).trans ((Qt V c t).canon22_B _ _ _)) (ix2 i j)).trans (H.g22 og _ hy.og i j)
  lg i j := (congrFun ((accB_24 V c t y h0 h1).trans ((Qt V c t).canon24_B _ _ _)) (ix2 i j)).trans (H.g24 lg _ hy.lg i j)
  lb i j := (congrFun ((accB_25 V c t y h0 h1).trans ((Qt V c t).canon25_B _ _ _)) (ix2 i j)).trans (H.g25 lb _ hy.lb i j)
  bs i j := (congrFun ((accB_26 V c t y h0 h1).trans ((Qt V c t).canon26_B _ _ _)) (ix2 i j)).trans (H.g26 bs _ hy.bs i j)
  ws h t' s := (congrFun (accB_27 V c t y h0 h1) (ix3 h t' s)).trans <| (H.gws_B _ _ _ ws hy.ws h t' s).trans (congrArg Real.toEReal (add_assoc _ _ _))

theorem accC_is (t : Fin cfg0.N) (y : Acc Ideal) (h1 : t.val % 32 = 31) (og lg lb bs ws) (hy : AccIs y og lg lb bs ws) {T : ℕ} (H : (Qt V c t).Real m T) :
    AccIs (accC V c t y h1)
      (fun _ j => ∑ i, (og i j + by8 (fun R j => m.dy R j * m.yh R j) (256 * T) i j)) (fun _ j => ∑ i, (lg i j + by8 (fun R j => m.dvn R j * vh (m.v R) j) (256 * T) i j))
      (fun _ j => ∑ i, (lb i j + by8 m.dvn (256 * T) i j)) (fun i j => ∑ d, (bs i (col (hd j) d) + by2 m.dm (256 * T) i (col (hd j) d)))
      (fun h t s => if s ≤ t then ws h t s + gw2 m (256 * T) h t s else 0) where
  og i j := (congrFun ((accC_22 V c t y h1).trans ((Qt V c t).C22 _ _ _)) (ix2 i j)).trans <|
    rows8 _ i j _ fun a j => (congrFun ((Qt V c t).canon22_B _ _ _) (ix2 a j)).trans (H.g22 og _ hy.og a j)
  lg i j := (congrFun ((accC_24 V c t y h1).trans ((Qt V c t).C24 _ _ _)) (ix2 i j)).trans <|
    rows8 _ i j _ fun a j => (congrFun ((Qt V c t).canon24_B _ _ _) (ix2 a j)).trans (H.g24 lg _ hy.lg a j)
  lb i j := (congrFun ((accC_25 V c t y h1).trans ((Qt V c t).C25 _ _ _)) (ix2 i j)).trans <|
    rows8 _ i j _ fun a j => (congrFun ((Qt V c t).canon25_B _ _ _) (ix2 a j)).trans (H.g25 lb _ hy.lb a j)
  bs i j := by
    refine (congrFun ((accC_26 V c t y h1).trans (congrArg View.canon ((Qt V c t).C26 _ _ _))) (ix2 i j)).trans ?_
    have e : j = col (hd j) ⟨j.val % 128, Nat.mod_lt _ (by decide)⟩ := Fin.ext (by show j.val = j.val / 128 * 128 + j.val % 128; omega)
    refine (congrArg (fun j' => View.canon _ (ix2 i j')) e).trans ?_
    exact sum8_at _ _ (fun a j => (congrFun ((Qt V c t).canon26_B _ _ _) (ix2 a j)).trans (H.g26 bs _ hy.bs a j)) i (hd j) _
  ws k t' s := by
    refine (congrFun ((accC_27 V c t y h1).trans (congrArg View.canon ((Qt V c t).C27 _ _ _))) (ix3 k t' s)).trans ?_
    refine (mask8_at _ k t' s).trans ?_
    split_ifs
    · exact (H.gws_B _ _ _ ws hy.ws k t' s).trans (congrArg Real.toEReal (add_assoc _ _ _))
    · rfl

end Cert.Kernel2Ideal.BrVal
end
-- ==== Proof.Br.KTot.lean ====
module

public import proofs.«01_k».proof.Proof.Br.KPoint

/-! The gMLP half's results over all the points. -/

@[expose] public section

set_option maxRecDepth 16384

noncomputable section

namespace Cert.Kernel2Ideal.BrVal

open Idealize.ShloMosaic Idealize.ShloMosaic.TcCoe
open Cert.Kernel2Ideal Cert.Kernel2Ideal.Gen Cert.Kernel2Ideal.Br Cert.Reals Cert.BrModel

variable (V : (c : Dev nD) → (b : Ref sig .tc) → Buf (Elt Ideal) ((c : Thread nD τ).loc b)) (c : Dev nD) (m : M)

theorem lt32 (t : Fin cfg0.N) : t.val < 32 := lt_of_lt_of_eq t.isLt N_0

/-- A sum over the points before `n` of their tiles' terms; points take the tiles from the last to the first. -/
def upTo (n : ℕ) (f : ℕ → ℝ) : ℝ := ∑ t ∈ Finset.range n, f (256 * (31 - t))
theorem upTo_succ (n : ℕ) (f : ℕ → ℝ) : upTo (n + 1) f = upTo n f + f (256 * (31 - n)) := Finset.sum_range_succ _ _
theorem upTo_all (f : ℕ → ℝ) : upTo 32 f = ∑ t : Fin 32, f (256 * t.val) := by
  unfold upTo
  rw [← Finset.sum_range_reflect, Finset.sum_range]
  refine Finset.sum_congr rfl fun t _ => ?_
  rw [show 31 - (32 - 1 - t.val) = t.val by omega]

/-- Every point's blocks hold its tile of the real arrays. -/
def Tiles : Prop := ∀ t : Fin cfg0.N, (Qt V c t).Real m (31 - t.val)

variable {V c m} (H : Tiles V c m)
include H

theorem accs_is : ∀ (n : ℕ) (h : n < cfg0.N), n < 31 →
    AccIs (accs V c n h) (fun i j => upTo (n + 1) fun o => by8 (fun R j => m.dy R j * m.yh R j) o i j) (fun i j => upTo (n + 1) fun o => by8 (fun R j => m.dvn R j * vh (m.v R) j) o i j)
      (fun i j => upTo (n + 1) fun o => by8 m.dvn o i j) (fun i j => upTo (n + 1) fun o => by2 m.dm o i j) (fun k t s => upTo (n + 1) fun o => gw2 m o k t s)
  | 0, h, _ => by
    simp only [upTo_succ]
    rw [accs_A V c ⟨0, h⟩ rfl]
    exact accA_is V c m ⟨0, h⟩ rfl (H ⟨0, h⟩)
  | n + 1, h, hn => by
    simp only [upTo_succ (n + 1)]
    have h0 : ¬(n + 1) % 32 = 0 := by omega
    have h1 : ¬(n + 1) % 32 = 31 := by omega
    rw [accs_B V c ⟨n + 1, h⟩ h0 h1]
    exact accB_is V c m ⟨n + 1, h⟩ _ h0 h1 _ _ _ _ _ (accs_is n (Nat.lt_of_succ_lt h) (by omega)) (H ⟨n + 1, h⟩)

omit H in
theorem sum_by8 (f : ℕ → Fin 1024 → ℝ) (j : Fin 1024) : ∑ i : Fin 8, upTo 32 (fun o => by8 f o i j) = ∑ R : Fin 8192, f R.val j := by
  simp only [upTo_all]
  rw [Finset.sum_comm]
  have e := Fin.sum_univ_tiles 32 256 rfl fun R : Fin 8192 => f R.val j
  refine Eq.trans ?_ e.symm
  refine Finset.sum_congr rfl fun t _ => ?_
  have e' := Fin.sum_univ_tiles 32 8 rfl fun q : Fin 256 => f (t.val * 256 + q.val) j
  refine Eq.trans ?_ e'.symm
  unfold by8
  rw [Finset.sum_comm]
  refine Finset.sum_congr rfl fun s _ => Finset.sum_congr rfl fun i _ => ?_
  rw [Nat.mul_comm 256]
omit H in
theorem sum_two (f : ℕ → ℝ) : (∑ t : Fin 32, ∑ k : Fin 2, f (256 * t.val + k.val * 128)) = ∑ q : Fin 64, f (128 * q.val) := by
  have e := Fin.sum_univ_tiles 32 2 rfl fun q : Fin 64 => f (128 * q.val)
  refine Eq.trans ?_ e.symm
  refine Finset.sum_congr rfl fun t _ => Finset.sum_congr rfl fun k _ => ?_
  rw [show 256 * t.val + k.val * 128 = 128 * (t.val * 2 + k.val) by omega]

/-- After the last point the accumulators hold the sums over all the rows. -/
theorem accs_last (h : 31 < cfg0.N) :
    AccIs (accs V c 31 h) (fun _ j => ∑ R : Fin 8192, m.dy R.val j * m.yh R.val j) (fun _ j => ∑ R : Fin 8192, m.dvn R.val j * vh (m.v R.val) j)
      (fun _ j => ∑ R : Fin 8192, m.dvn R.val j) (fun i j => ∑ d : Fin 128, ∑ q : Fin 64, m.dm (128 * q.val + i.val) (col (hd j) d))
      (fun k t s => if s ≤ t then ∑ q : Fin 64, ∑ d : Fin 128, m.dm (128 * q.val + t.val) (col k d) * m.vn (128 * q.val + s.val) (col k d) else 0) := by
  have hC := accC_is V c m ⟨31, h⟩ (accs V c 30 (Nat.lt_of_succ_lt h)) rfl _ _ _ _ _ (accs_is H 30 (Nat.lt_of_succ_lt h) (by decide)) (H ⟨31, h⟩)
  have e : accs V c 31 h = accC V c ⟨31, h⟩ (accs V c 30 (Nat.lt_of_succ_lt h)) rfl := accs_C V c ⟨31, h⟩ rfl
  rw [e]
  refine
  { og := fun i j => (hC.og i j).trans (congrArg Real.toEReal ((Finset.sum_congr rfl fun i _ => (upTo_succ 31 fun o => by8 (fun R j => m.dy R j * m.yh R j) o i j).symm).trans (sum_by8 (fun R j => m.dy R j * m.yh R j) j)))
    lg := fun i j => (hC.lg i j).trans (congrArg Real.toEReal ((Finset.sum_congr rfl fun i _ => (upTo_succ 31 fun o => by8 (fun R j => m.dvn R j * vh (m.v R) j) o i j).symm).trans (sum_by8 (fun R j => m.dvn R j * vh (m.v R) j) j)))
    lb := fun i j => (hC.lb i j).trans (congrArg Real.toEReal ((Finset.sum_congr rfl fun i _ => (upTo_succ 31 fun o => by8 m.dvn o i j).symm).trans (sum_by8 m.dvn j)))
    bs := fun i j => (hC.bs i j).trans (congrArg Real.toEReal (Finset.sum_congr rfl fun d _ => ?_))
    ws := fun k t s => (hC.ws k t s).trans (congrArg Real.toEReal (if_congr Iff.rfl ?_ rfl)) }
  · rw [← sum_two fun o => m.dm (o + i.val) (col (hd j) d)]
    refine (upTo_succ 31 fun o => by2 m.dm o i (col (hd j) d)).symm.trans ((upTo_all _).trans ?_)
    refine Finset.sum_congr rfl fun t _ => Finset.sum_congr rfl fun k _ => ?_
    rw [Nat.add_assoc]
  · rw [← sum_two fun o => ∑ d : Fin 128, m.dm (o + t.val) (col k d) * m.vn (o + s.val) (col k d)]
    refine (upTo_succ 31 fun o => gw2 m o k t s).symm.trans ((upTo_all _).trans ?_)
    refine Finset.sum_congr rfl fun q _ => ?_
    rw [Fin.sum_univ_two]
    unfold gw2 gwT
    simp only [Nat.add_assoc]

/-- The columns of the gradient tile at a point. -/
theorem dzv_is (t : Fin cfg0.N) (p : Fin 256) (j : Fin 1024) :
    dzv V c t (ix2 p ⟨j.val, by omega⟩) = ((m.zu (256 * (31 - t.val) + p.val) j : ℝ) : EReal)
    ∧ dzv V c t (ix2 p ⟨1024 + j.val, by omega⟩) = ((m.zv (256 * (31 - t.val) + p.val) j : ℝ) : EReal)
    ∧ dzv V c t (ix2 p ⟨2048 + j.val, by omega⟩) = ((m.zg (256 * (31 - t.val) + p.val) j : ℝ) : EReal) := by
  have e : dzv V c t = View.canon (Qt V c t).L21 := by
    rw [← Q.D21_eq]
    unfold dzv
    split_ifs with h0 h1
    · rw [dzA]
    · rw [dzC]
    · rw [dzB]
  rw [e]
  exact (H t).dz_ok p j

end Cert.Kernel2Ideal.BrVal
end
-- ==== Proof.Br.KHost.lean ====
module

public import proofs.«01_k».proof.Proof.Br.KTot
public import proofs.«01_k».proof.Proof.Br.Run

/-! The arrays the kernel finds, and the blocks its points read. -/

@[expose] public section

set_option maxRecDepth 16384

noncomputable section

namespace Cert.Kernel2Ideal.BrVal

open Idealize.ShloMosaic Idealize.ShloMosaic.TcCoe
open Cert.Kernel2Ideal Cert.Kernel2Ideal.Gen Cert.Kernel2Ideal.Br Cert.Reals Cert.BrModel

open Idealize.SL.Sem

variable (m : (ℓ : Loc nD τ sig) → Buf (Elt Ideal) ℓ) (c : Dev nD)

/-- The lower triangle's mask, as the host forms it. -/
theorem tri_le (t s : Fin 128) : IntOp.cmpi CmpIPredicate.sge (BitVec.ofNat 32 t.val) (BitVec.ofNat 32 s.val) = if s ≤ t then 1#1 else 0#1 := by
  revert t s
  decide +kernel

/-- An argument as the kernel finds it. -/
theorem Vk_arg (a : Ref sig .tc) (h : a ∉ loopW := by decide) (h' : a ∉ hostOps0_9_W := by decide) (hp : a ∉ preW := by decide) : Vk m c a = m ((c : Thread nD τ).loc a) :=
  (Wreg_of m c a h h').trans (Went_of m c a hp)

theorem Vk_v115 (a : Fin 4) (R : Fin 8192) (k : Fin 1280) :
    Vk m c main_v115 (ix3 a R k) = m ((c : Thread nD τ).loc main_arg0) (ix2 R ⟨a.val * 1280 + k.val, by omega⟩) := by
  rw [← (Wexit_of m c main_arg0 (by decide)).trans (Went_of m c main_arg0 (by decide))]
  show StableHlo.after hostOps0_9 (Wexit m c) (Proc.devRef .tc main_v115) (ix3 a R k) = _
  generalize Wexit m c = W
  after_results
  pointwise []
  try rfl

/-- The lines up to the masked weights, and what they leave. -/
abbrev W5 : Valuation τ sig (Elt Ideal) := StableHlo.after hostOps0_3 (StableHlo.after hostOps0_2 (StableHlo.after hostOps0_1 (StableHlo.after hostOps0 (W0 m c))))
theorem W5_v5 (h : Fin 8) (t s : Fin 128) :
    W5 m c (Proc.devRef .tc main_v5) (ix3 h t s) = if s ≤ t then m ((c : Thread nD τ).loc main_arg4) (ix4 0 h t s) else ((0 : ℝ) : EReal) := by
  show StableHlo.after hostOps0_3 (StableHlo.after hostOps0_2 (StableHlo.after hostOps0_1 (StableHlo.after hostOps0 (W0 m c)))) (Proc.devRef .tc main_v5) (ix3 h t s) = _
  after_results
  simp -implicitDefEqProofs only [StableHlo.TRef.toBuf, StableHlo.TRef.ofBuf, cast_cast, cast_eq]
  pointwise []
  have hz : (id (constant (F := Ideal) S_ FTy.f32 0#32) : S_.Idx → EReal) ix0 = ((0 : ℝ) : EReal) := cZero
  have ht := tri_le t s
  rw [show IntOp.addi (BitVec.ofNat 32 t.val) 0#32 = BitVec.ofNat 32 t.val from BitVec.add_zero _]
  by_cases hs : s ≤ t
  · rw [ht, if_pos hs, if_pos hs]; rfl
  · rw [ht, if_neg hs, if_neg hs]; exact hz
theorem Vk_pre (a : Ref sig .tc) (h : a ∉ loopW := by decide) (h' : a ∉ hostOps0_9_W := by decide) (h8 : a ∉ hostOps0_8_W := by decide) (h7 : a ∉ hostOps0_7_W := by decide) (h6 : a ∉ hostOps0_6_W := by decide) (h5 : a ∉ hostOps0_5_W := by decide) :
    Vk m c a = StableHlo.after hostOps0_4 (W5 m c) (Proc.devRef .tc a) := by
  refine (Wreg_of m c a h h').trans ?_
  show StableHlo.afterL preI (W0 m c) (Proc.devRef .tc a) = _
  simp only [StableHlo.afterL_cons, StableHlo.afterL_nil]
  rw [StableHlo.after_of_writes_sub hostOps0_8 _ hostOps0_8_writes h8, StableHlo.after_of_writes_sub hostOps0_7 _ hostOps0_7_writes h7, StableHlo.after_of_writes_sub hostOps0_6 _ hostOps0_6_writes h6, StableHlo.after_of_writes_sub hostOps0_5 _ hostOps0_5_writes h5]

theorem Vk_v6 (h : Fin 8) (t s : Fin 128) :
    Vk m c main_v6 (ix3 h t s) = if s ≤ t then m ((c : Thread nD τ).loc main_arg4) (ix4 0 h t s) else ((0 : ℝ) : EReal) := by
  rw [← W5_v5 m c h t s, Vk_pre m c main_v6]
  generalize W5 m c = W
  after_results
  pointwise []
  try rfl
theorem Vk_v8 (h : Fin 8) (t s : Fin 128) :
    Vk m c main_v8 (ix3 h t s) = if t ≤ s then m ((c : Thread nD τ).loc main_arg4) (ix4 0 h s t) else ((0 : ℝ) : EReal) := by
  rw [← W5_v5 m c h s t, Vk_pre m c main_v8]
  generalize W5 m c = W
  after_results
  pointwise []
  try rfl
theorem W5_arg5 : W5 m c (Proc.devRef .tc main_arg5) = m ((c : Thread nD τ).loc main_arg5) :=
  (StableHlo.after_of_writes_sub hostOps0_3 _ hostOps0_3_writes (by decide)).trans <| (StableHlo.after_of_writes_sub hostOps0_2 _ hostOps0_2_writes (by decide)).trans <|
    (StableHlo.after_of_writes_sub hostOps0_1 _ hostOps0_1_writes (by decide)).trans <| (StableHlo.after_of_writes_sub hostOps0 _ hostOps0_writes (by decide))
theorem Vk_v12 (i : Fin 128) (j : Fin 1024) :
    Vk m c main_v12 (ix2 i j) = m ((c : Thread nD τ).loc main_arg5) (ix3 0 (hd j) i) := by
  rw [← W5_arg5 m c, Vk_pre m c main_v12]
  generalize W5 m c = W
  after_results
  pointwise []
  try rfl

/-! ## The blocks -/

theorem idxK : ∀ t : Fin cfg0.N, win0_0.index t = ![0, 31 - t.val, 0] ∧ win0_4.index t = ![31 - t.val, 0] ∧ win0_5.index t = ![0, 0] ∧ win0_6.index t = ![0, 0]
    ∧ win0_7.index t = ![0, 0, 0] ∧ win0_8.index t = ![0, 0, 0] ∧ win0_9.index t = ![0, 0] ∧ win0_17.index t = ![0, 0] ∧ win0_20.index t = ![31 - t.val, 0] :=
  (by decide +kernel : ∀ t : Fin grid0.N, _)
variable (V : (c : Dev nD) → (b : Ref sig .tc) → Buf (Elt Ideal) ((c : Thread nD τ).loc b))
theorem rd_0 (t : Fin cfg0.N) (a : Fin 4) (p : Fin 256) (k : Fin 1280) :
    iblk0 V c 0 t (ix3 a p k) = V c main_v115 (ix3 a ⟨256 * (31 - t.val) + p.val, by have := lt32 t; omega⟩ k) := by
  blk_point [iblk0, idxK t]
theorem rd_4 (t : Fin cfg0.N) (p : Fin 256) (k : Fin 2048) :
    iblk0 V c 4 t (ix2 p k) = V c main_arg1 (ix2 ⟨256 * (31 - t.val) + p.val, by have := lt32 t; omega⟩ k) := by
  blk_point [iblk0, idxK t]
theorem rd_5 (t : Fin cfg0.N) : iblk0 V c 5 t = V c main_arg2 := by
  funext y
  blk_point [iblk0, idxK t]
theorem rd_6 (t : Fin cfg0.N) : iblk0 V c 6 t = V c main_arg3 := by
  funext y
  blk_point [iblk0, idxK t]
theorem rd_7 (t : Fin cfg0.N) : iblk0 V c 7 t = V c main_v6 := by
  funext y
  blk_point [iblk0, idxK t]
theorem rd_8 (t : Fin cfg0.N) : iblk0 V c 8 t = V c main_v8 := by
  funext y
  blk_point [iblk0, idxK t]
theorem rd_9 (t : Fin cfg0.N) : iblk0 V c 9 t = V c main_v12 := by
  funext y
  blk_point [iblk0, idxK t]
theorem rd_17 (t : Fin cfg0.N) : iblk0 V c 17 t = V c main_arg13 := by
  funext y
  blk_point [iblk0, idxK t]

end Cert.Kernel2Ideal.BrVal
end
-- ==== Proof.Br.Args.lean ====
module

public import proofs.«01_k».proof.Proof.Br.Model

/-! The gMLP half's arguments over the real numbers, and its results from them. -/

@[expose] public section

noncomputable section

namespace Cert.BrModel

/-- The arguments: the projected rows, the gradient that comes in, the norms' gains and offset, the spatial weights and offsets. -/
structure Args where
  z : Fin 8192 → Fin 5120 → ℝ
  dy : Fin 8192 → Fin 2048 → ℝ
  lg : Fin 1024 → ℝ
  lb : Fin 1024 → ℝ
  og : Fin 1024 → ℝ
  ws : Fin 8 → Fin 128 → Fin 128 → ℝ
  bs : Fin 8 → Fin 128 → ℝ

namespace Args

variable (a : Args)

/-- The half's rows: three column groups of the projection, the first half of the incoming gradient's columns, the causal weights. -/
def m : M where
  u R j := if h : R < 8192 then a.z ⟨R, h⟩ ⟨j.val, by omega⟩ else 0
  v R j := if h : R < 8192 then a.z ⟨R, h⟩ ⟨1024 + j.val, by omega⟩ else 0
  g R j := if h : R < 8192 then a.z ⟨R, h⟩ ⟨2048 + j.val, by omega⟩ else 0
  dy R j := if h : R < 8192 then a.dy ⟨R, h⟩ ⟨j.val, by omega⟩ else 0
  lg := a.lg
  lb := a.lb
  og := a.og
  w h t s := if s ≤ t then a.ws h t s else 0
  b := a.bs

variable (R : Fin 8192) (j : Fin 1024)
theorem m_u : a.m.u R.val j = a.z R ⟨j.val, by omega⟩ := dif_pos R.isLt
theorem m_v : a.m.v R.val j = a.z R ⟨1024 + j.val, by omega⟩ := dif_pos R.isLt
theorem m_g : a.m.g R.val j = a.z R ⟨2048 + j.val, by omega⟩ := dif_pos R.isLt
theorem m_dy : a.m.dy R.val j = a.dy R ⟨j.val, by omega⟩ := dif_pos R.isLt

/-- The gradient of the three column groups, side by side. -/
def dz (R : Fin 8192) (k : Fin 3072) : ℝ :=
  if h : k.val < 1024 then a.m.zu R ⟨k.val, h⟩
  else if h' : k.val < 2048 then a.m.zv R ⟨k.val - 1024, by omega⟩
  else a.m.zg R ⟨k.val - 2048, by omega⟩
/-- The gradients of the output norm's gain, the inner norm's gain and offset, the spatial offsets and the spatial weights. -/
def gog (j : Fin 1024) : ℝ := ∑ R : Fin 8192, a.m.dy R j * a.m.yh R j
def glg (j : Fin 1024) : ℝ := ∑ R : Fin 8192, a.m.dvn R j * vh (a.m.v R) j
def glb (j : Fin 1024) : ℝ := ∑ R : Fin 8192, a.m.dvn R j
def col (k : Fin 8) (d : Fin 128) : Fin 1024 := ⟨k.val * 128 + d.val, by omega⟩
def gbs (i : Fin 128) (j : Fin 1024) : ℝ := ∑ d : Fin 128, ∑ q : Fin 64, a.m.dm (128 * q.val + i.val) (col (hd j) d)
def gws (k : Fin 8) (t s : Fin 128) : ℝ :=
  if s ≤ t then ∑ q : Fin 64, ∑ d : Fin 128, a.m.dm (128 * q.val + t.val) (col k d) * a.m.vn (128 * q.val + s.val) (col k d) else 0

end Args

end Cert.BrModel
end
-- ==== Proof.Br.KFin.lean ====
module

public import proofs.«01_k».proof.Proof.Br.KHost
public import proofs.«01_k».proof.Proof.Br.Args
public import Idealize.ShloMosaic.Lib.Pipeline.ArrRel

/-! The results that the kernel leaves, from real arguments. -/

@[expose] public section

set_option maxRecDepth 16384

noncomputable section

namespace Cert.Kernel2Ideal.BrVal

open Idealize.ShloMosaic Idealize.ShloMosaic.TcCoe
open Cert.Kernel2Ideal Cert.Kernel2Ideal.Gen Cert.Kernel2Ideal.Br Cert.Reals Cert.BrModel

open Idealize.ShloMosaic.Pipeline (Dat RDat)

variable (m : (ℓ : Loc nD τ sig) → Buf (Elt Ideal) ℓ) (c : Dev nD)

/-- The arguments hold these reals. -/
structure Holds (a : Args) : Prop where
  z : ∀ R k, m ((c : Thread nD τ).loc main_arg0) (ix2 R k) = ((a.z R k : ℝ) : EReal)
  dy : ∀ R k, m ((c : Thread nD τ).loc main_arg1) (ix2 R k) = ((a.dy R k : ℝ) : EReal)
  lg : ∀ j, m ((c : Thread nD τ).loc main_arg2) (ix2 0 j) = ((a.lg j : ℝ) : EReal)
  lb : ∀ j, m ((c : Thread nD τ).loc main_arg3) (ix2 0 j) = ((a.lb j : ℝ) : EReal)
  ws : ∀ h t s, m ((c : Thread nD τ).loc main_arg4) (ix4 0 h t s) = ((a.ws h t s : ℝ) : EReal)
  bs : ∀ h t, m ((c : Thread nD τ).loc main_arg5) (ix3 0 h t) = ((a.bs h t : ℝ) : EReal)
  og : ∀ j, m ((c : Thread nD τ).loc main_arg13) (ix2 0 j) = ((a.og j : ℝ) : EReal)

variable {m c} {a : Args} (H : Holds m c a)
include H

omit H in
/-- A row of a tile. -/
theorem tile_row (t : Fin cfg0.N) (p : Fin 256) : 256 * (31 - t.val) + p.val < 8192 := by have := lt32 t; omega

theorem Holds.z_at (t : Fin cfg0.N) (b : Fin 4) (p : Fin 256) (k : Fin 1280) :
    iblk0 (Vk m) c 0 t (ix3 b p k) = ((a.z ⟨256 * (31 - t.val) + p.val, tile_row t p⟩ ⟨b.val * 1280 + k.val, by omega⟩ : ℝ) : EReal) :=
  (rd_0 c (Vk m) t b p k).trans ((Vk_v115 m c b _ k).trans (H.z _ _))

theorem Holds.b_u (t : Fin cfg0.N) (p : Fin 256) (j : Fin 1024) : iblk0 (Vk m) c 0 t (ix3 0 p ⟨j.val, by omega⟩) = ((a.m.u (256 * (31 - t.val) + p.val) j : ℝ) : EReal) :=
  (H.z_at t 0 p _).trans (congrArg Real.toEReal (.trans (congrArg (a.z ⟨256 * (31 - t.val) + p.val, tile_row t p⟩) (Fin.ext (by show 0 * 1280 + j.val = j.val; omega))) (a.m_u ⟨256 * (31 - t.val) + p.val, tile_row t p⟩ j).symm))
theorem Holds.b_v0 (t : Fin cfg0.N) (p : Fin 256) (j : Fin 256) : iblk0 (Vk m) c 0 t (ix3 0 p ⟨1024 + j.val, by omega⟩) = ((a.m.v (256 * (31 - t.val) + p.val) ⟨j.val, by omega⟩ : ℝ) : EReal) :=
  (H.z_at t 0 p _).trans (congrArg Real.toEReal (.trans (congrArg (a.z ⟨256 * (31 - t.val) + p.val, tile_row t p⟩) (Fin.ext (by show 0 * 1280 + (1024 + j.val) = 1024 + j.val; omega))) (a.m_v ⟨256 * (31 - t.val) + p.val, tile_row t p⟩ _).symm))
theorem Holds.b_v1 (t : Fin cfg0.N) (p : Fin 256) (j : Fin 768) : iblk0 (Vk m) c 0 t (ix3 1 p ⟨j.val, by omega⟩) = ((a.m.v (256 * (31 - t.val) + p.val) ⟨256 + j.val, by omega⟩ : ℝ) : EReal) :=
  (H.z_at t 1 p _).trans (congrArg Real.toEReal (.trans (congrArg (a.z ⟨256 * (31 - t.val) + p.val, tile_row t p⟩) (Fin.ext (by show 1 * 1280 + j.val = 1024 + (256 + j.val); omega))) (a.m_v ⟨256 * (31 - t.val) + p.val, tile_row t p⟩ _).symm))
theorem Holds.b_g1 (t : Fin cfg0.N) (p : Fin 256) (j : Fin 512) : iblk0 (Vk m) c 0 t (ix3 1 p ⟨768 + j.val, by omega⟩) = ((a.m.g (256 * (31 - t.val) + p.val) ⟨j.val, by omega⟩ : ℝ) : EReal) :=
  (H.z_at t 1 p _).trans (congrArg Real.toEReal (.trans (congrArg (a.z ⟨256 * (31 - t.val) + p.val, tile_row t p⟩) (Fin.ext (by show 1 * 1280 + (768 + j.val) = 2048 + j.val; omega))) (a.m_g ⟨256 * (31 - t.val) + p.val, tile_row t p⟩ _).symm))
theorem Holds.b_g2 (t : Fin cfg0.N) (p : Fin 256) (j : Fin 512) : iblk0 (Vk m) c 0 t (ix3 2 p ⟨j.val, by omega⟩) = ((a.m.g (256 * (31 - t.val) + p.val) ⟨512 + j.val, by omega⟩ : ℝ) : EReal) :=
  (H.z_at t 2 p _).trans (congrArg Real.toEReal (.trans (congrArg (a.z ⟨256 * (31 - t.val) + p.val, tile_row t p⟩) (Fin.ext (by show 2 * 1280 + j.val = 2048 + (512 + j.val); omega))) (a.m_g ⟨256 * (31 - t.val) + p.val, tile_row t p⟩ _).symm))
theorem Holds.b_dy (t : Fin cfg0.N) (p : Fin 256) (j : Fin 1024) : iblk0 (Vk m) c 4 t (ix2 p ⟨j.val, by omega⟩) = ((a.m.dy (256 * (31 - t.val) + p.val) j : ℝ) : EReal) :=
  ((rd_4 c (Vk m) t p _).trans (congrFun (Vk_arg m c main_arg1) _)).trans ((H.dy _ _).trans (congrArg Real.toEReal (a.m_dy ⟨_, tile_row t p⟩ j).symm))
theorem Holds.b_lg (t : Fin cfg0.N) : Row (iblk0 (Vk m) c 5 t) a.m.lg :=
  fun j => (congrFun ((rd_5 c (Vk m) t).trans (Vk_arg m c main_arg2)) _).trans (H.lg j)
theorem Holds.b_lb (t : Fin cfg0.N) : Row (iblk0 (Vk m) c 6 t) a.m.lb :=
  fun j => (congrFun ((rd_6 c (Vk m) t).trans (Vk_arg m c main_arg3)) _).trans (H.lb j)
theorem Holds.b_og (t : Fin cfg0.N) : Row (iblk0 (Vk m) c 17 t) a.m.og :=
  fun j => (congrFun ((rd_17 c (Vk m) t).trans (Vk_arg m c main_arg13)) _).trans (H.og j)
theorem Holds.b_w (t : Fin cfg0.N) (h : Fin 8) (i s : Fin 128) : iblk0 (Vk m) c 7 t (ix3 h i s) = ((a.m.w h i s : ℝ) : EReal) :=
  (congrFun (rd_7 c (Vk m) t) _).trans ((Vk_v6 m c h i s).trans (by
      show (if s ≤ i then _ else _) = (((if s ≤ i then a.ws h i s else 0 : ℝ)) : EReal)
      split_ifs
      · exact H.ws h i s
      · rfl))
theorem Holds.b_wt (t : Fin cfg0.N) (h : Fin 8) (i s : Fin 128) : iblk0 (Vk m) c 8 t (ix3 h i s) = ((a.m.w h s i : ℝ) : EReal) :=
  (congrFun (rd_8 c (Vk m) t) _).trans ((Vk_v8 m c h i s).trans (by
      show (if i ≤ s then _ else _) = (((if i ≤ s then a.ws h s i else 0 : ℝ)) : EReal)
      split_ifs
      · exact H.ws h s i
      · rfl))
theorem Holds.b_b (t : Fin cfg0.N) (i : Fin 128) (j : Fin 1024) : iblk0 (Vk m) c 9 t (ix2 i j) = ((a.m.b (hd j) i : ℝ) : EReal) :=
  (congrFun (rd_9 c (Vk m) t) _).trans ((Vk_v12 m c i j).trans (H.bs (hd j) i))
omit H in
theorem tiles_of (V : (c : Dev nD) → (b : Ref sig .tc) → Buf (Elt Ideal) ((c : Thread nD τ).loc b)) (c : Dev nD) (M' : M)
    (h_u : ∀ (t : Fin cfg0.N) (p : Fin 256) (j : Fin 1024), iblk0 V c 0 t (ix3 0 p ⟨j.val, by omega⟩) = ((M'.u (256 * (31 - t.val) + p.val) j : ℝ) : EReal))
    (h_v0 : ∀ (t : Fin cfg0.N) (p : Fin 256) (j : Fin 256), iblk0 V c 0 t (ix3 0 p ⟨1024 + j.val, by omega⟩) = ((M'.v (256 * (31 - t.val) + p.val) ⟨j.val, by omega⟩ : ℝ) : EReal))
    (h_v1 : ∀ (t : Fin cfg0.N) (p : Fin 256) (j : Fin 768), iblk0 V c 0 t (ix3 1 p ⟨j.val, by omega⟩) = ((M'.v (256 * (31 - t.val) + p.val) ⟨256 + j.val, by omega⟩ : ℝ) : EReal))
    (h_g1 : ∀ (t : Fin cfg0.N) (p : Fin 256) (j : Fin 512), iblk0 V c 0 t (ix3 1 p ⟨768 + j.val, by omega⟩) = ((M'.g (256 * (31 - t.val) + p.val) ⟨j.val, by omega⟩ : ℝ) : EReal))
    (h_g2 : ∀ (t : Fin cfg0.N) (p : Fin 256) (j : Fin 512), iblk0 V c 0 t (ix3 2 p ⟨j.val, by omega⟩) = ((M'.g (256 * (31 - t.val) + p.val) ⟨512 + j.val, by omega⟩ : ℝ) : EReal))
    (h_dy : ∀ (t : Fin cfg0.N) (p : Fin 256) (j : Fin 1024), iblk0 V c 4 t (ix2 p ⟨j.val, by omega⟩) = ((M'.dy (256 * (31 - t.val) + p.val) j : ℝ) : EReal))
    (h_lg : ∀ (t : Fin cfg0.N), Row (iblk0 V c 5 t) M'.lg)
    (h_lb : ∀ (t : Fin cfg0.N), Row (iblk0 V c 6 t) M'.lb)
    (h_og : ∀ (t : Fin cfg0.N), Row (iblk0 V c 17 t) M'.og)
    (h_w : ∀ (t : Fin cfg0.N) (h : Fin 8) (i s : Fin 128), iblk0 V c 7 t (ix3 h i s) = ((M'.w h i s : ℝ) : EReal))
    (h_wt : ∀ (t : Fin cfg0.N) (h : Fin 8) (i s : Fin 128), iblk0 V c 8 t (ix3 h i s) = ((M'.w h s i : ℝ) : EReal))
    (h_b : ∀ (t : Fin cfg0.N) (i : Fin 128) (j : Fin 1024), iblk0 V c 9 t (ix2 i j) = ((M'.b (hd j) i : ℝ) : EReal)) : Tiles V c M' := fun t =>
  ⟨h_u t, h_v0 t, h_v1 t, h_g1 t, h_g2 t, h_dy t, h_lg t, h_lb t, h_og t, h_w t, h_wt t, h_b t⟩
theorem Holds.tiles : Tiles (Vk m) c a.m := tiles_of (Vk m) c a.m H.b_u H.b_v0 H.b_v1 H.b_g1 H.b_g2 H.b_dy H.b_lg H.b_lb H.b_og H.b_w H.b_wt H.b_b

omit H in
/-- An array whose window is held to exact contents. -/
theorem left_exact {A : Arrs (F := Ideal)} (hA : Left m A c) (w : Fin cfg0.W) (hw : fgt w = false) : A c w = (dat0 (Vk m) c).arrAt w cfg0.N :=
  (((dat0 (Vk m) c).toR.override_arrAt (by simp only [hw]) cfg0.N (A c w)).trans ((dat0 (Vk m) c).toR_arrAt_iff w cfg0.N (A c w))).mp (hA w)

omit H in
theorem t31_lt : 31 < cfg0.N := by rw [show cfg0.N = 32 from N_0]; decide
omit H in
abbrev t31 : Fin cfg0.N := ⟨31, t31_lt⟩

omit H in
theorem after_21 (V : (c : Dev nD) → (b : Ref sig .tc) → Buf (Elt Ideal) ((c : Thread nD τ).loc b)) (c : Dev nD) (h : 31 < cfg0.N) :
    (dat0 V c).after 21 ⟨31, h⟩ = (accs V c 31 h).1 := by dsimp only [dat0]
omit H in
theorem final_21 (V : (c : Dev nD) → (b : Ref sig .tc) → Buf (Elt Ideal) ((c : Thread nD τ).loc b)) (c : Dev nD) :
    (dat0 V c).arrAt 21 cfg0.N = (accs V c 31 t31_lt).1 := by
  refine (dat0 V c).arrAt_eq_of_after_last 21 ⟨31, t31_lt⟩ (by decide +kernel) _ fun j => ?_
  rw [after_21]
  idx_vars j
  blk_simp
  exact congrArg _ (funext fun x => rfl)
omit H in
theorem after_23 (V : (c : Dev nD) → (b : Ref sig .tc) → Buf (Elt Ideal) ((c : Thread nD τ).loc b)) (c : Dev nD) (h : 31 < cfg0.N) :
    (dat0 V c).after 23 ⟨31, h⟩ = (accs V c 31 h).2.1 := by dsimp only [dat0]
omit H in
theorem final_23 (V : (c : Dev nD) → (b : Ref sig .tc) → Buf (Elt Ideal) ((c : Thread nD τ).loc b)) (c : Dev nD) :
    (dat0 V c).arrAt 23 cfg0.N = (accs V c 31 t31_lt).2.1 := by
  refine (dat0 V c).arrAt_eq_of_after_last 23 ⟨31, t31_lt⟩ (by decide +kernel) _ fun j => ?_
  rw [after_23]
  idx_vars j
  blk_simp
  exact congrArg _ (funext fun x => rfl)
omit H in
theorem after_24 (V : (c : Dev nD) → (b : Ref sig .tc) → Buf (Elt Ideal) ((c : Thread nD τ).loc b)) (c : Dev nD) (h : 31 < cfg0.N) :
    (dat0 V c).after 24 ⟨31, h⟩ = (accs V c 31 h).2.2.1 := by dsimp only [dat0]
omit H in
theorem final_24 (V : (c : Dev nD) → (b : Ref sig .tc) → Buf (Elt Ideal) ((c : Thread nD τ).loc b)) (c : Dev nD) :
    (dat0 V c).arrAt 24 cfg0.N = (accs V c 31 t31_lt).2.2.1 := by
  refine (dat0 V c).arrAt_eq_of_after_last 24 ⟨31, t31_lt⟩ (by decide +kernel) _ fun j => ?_
  rw [after_24]
  idx_vars j
  blk_simp
  exact congrArg _ (funext fun x => rfl)
omit H in
theorem after_25 (V : (c : Dev nD) → (b : Ref sig .tc) → Buf (Elt Ideal) ((c : Thread nD τ).loc b)) (c : Dev nD) (h : 31 < cfg0.N) :
    (dat0 V c).after 25 ⟨31, h⟩ = (accs V c 31 h).2.2.2.1 := by dsimp only [dat0]
omit H in
theorem final_25 (V : (c : Dev nD) → (b : Ref sig .tc) → Buf (Elt Ideal) ((c : Thread nD τ).loc b)) (c : Dev nD) :
    (dat0 V c).arrAt 25 cfg0.N = (accs V c 31 t31_lt).2.2.2.1 := by
  refine (dat0 V c).arrAt_eq_of_after_last 25 ⟨31, t31_lt⟩ (by decide +kernel) _ fun j => ?_
  rw [after_25]
  idx_vars j
  blk_simp
  exact congrArg _ (funext fun x => rfl)
omit H in
theorem after_26 (V : (c : Dev nD) → (b : Ref sig .tc) → Buf (Elt Ideal) ((c : Thread nD τ).loc b)) (c : Dev nD) (h : 31 < cfg0.N) :
    (dat0 V c).after 26 ⟨31, h⟩ = (accs V c 31 h).2.2.2.2 := by dsimp only [dat0]
omit H in
theorem final_26 (V : (c : Dev nD) → (b : Ref sig .tc) → Buf (Elt Ideal) ((c : Thread nD τ).loc b)) (c : Dev nD) :
    (dat0 V c).arrAt 26 cfg0.N = (accs V c 31 t31_lt).2.2.2.2 := by
  refine (dat0 V c).arrAt_eq_of_after_last 26 ⟨31, t31_lt⟩ (by decide +kernel) _ fun j => ?_
  rw [after_26]
  idx_vars j
  blk_simp
  exact congrArg _ (funext fun x => rfl)
theorem left_21 {A : Arrs (F := Ideal)} (hA : Left m A c) (i : Fin 8) (j : Fin 1024) : A c 21 (ix2 i j) = ((a.gog j : ℝ) : EReal) := by
  rw [left_exact hA 21 rfl, final_21 (Vk m) c]
  exact (accs_last H.tiles t31_lt).og i j
theorem left_23 {A : Arrs (F := Ideal)} (hA : Left m A c) (i : Fin 8) (j : Fin 1024) : A c 23 (ix2 i j) = ((a.glg j : ℝ) : EReal) := by
  rw [left_exact hA 23 rfl, final_23 (Vk m) c]
  exact (accs_last H.tiles t31_lt).lg i j
theorem left_24 {A : Arrs (F := Ideal)} (hA : Left m A c) (i : Fin 8) (j : Fin 1024) : A c 24 (ix2 i j) = ((a.glb j : ℝ) : EReal) := by
  rw [left_exact hA 24 rfl, final_24 (Vk m) c]
  exact (accs_last H.tiles t31_lt).lb i j
theorem left_25 {A : Arrs (F := Ideal)} (hA : Left m A c) (i : Fin 128) (j : Fin 1024) : A c 25 (ix2 i j) = ((a.gbs i j : ℝ) : EReal) := by
  rw [left_exact hA 25 rfl, final_25 (Vk m) c]
  exact (accs_last H.tiles t31_lt).bs i j
theorem left_26 {A : Arrs (F := Ideal)} (hA : Left m A c) (h : Fin 8) (t s : Fin 128) : A c 26 (ix3 h t s) = ((a.gws h t s : ℝ) : EReal) := by
  rw [left_exact hA 26 rfl, final_26 (Vk m) c]
  exact (accs_last H.tiles t31_lt).ws h t s

theorem dzv_at (t : Fin cfg0.N) (p : Fin 256) (k : Fin 3072) :
    dzv (Vk m) c t (ix2 p ⟨k.val, by omega⟩) = ((a.dz ⟨256 * (31 - t.val) + p.val, tile_row t p⟩ k : ℝ) : EReal) := by
  unfold Args.dz
  split_ifs with h h'
  · exact (dzv_is H.tiles t p ⟨k.val, h⟩).1
  · refine .trans (congrArg (dzv (Vk m) c t) (congrArg (ix2 p) (Fin.ext ?_))) (dzv_is H.tiles t p ⟨k.val - 1024, by omega⟩).2.1
    show k.val = 1024 + (k.val - 1024)
    omega
  · refine .trans (congrArg (dzv (Vk m) c t) (congrArg (ix2 p) (Fin.ext ?_))) (dzv_is H.tiles t p ⟨k.val - 2048, by omega⟩).2.2
    show k.val = 2048 + (k.val - 2048)
    omega

theorem left_20 {A : Arrs (F := Ideal)} (hA : Left m A c) (R : Fin 8192) (k : Fin 3072) :
    A c 20 (ix2 R ⟨k.val, by omega⟩) = ((a.dz R k : ℝ) : EReal) := by
  obtain ⟨af, hL, hG⟩ := RDat.ArrAt.exists_exact_all hA
  rw [hG 20]
  have h := ((((dat0 (Vk m) c).toRRel fgt (Rl (Vk m) c)).withAfter af).arrAt_forall_of_coversWhere 20
    (fun i x => ∀ h : (i 1).val < 3072, x = ((a.dz (i 0) ⟨(i 1).val, h⟩ : ℝ) : EReal)) (fun _ => True) (by decide +kernel) (fun t hf y => ?_)
    (fun j hj => absurd trivial hj) (ix2 R ⟨k.val, by omega⟩))
  · exact h k.isLt
  have hR := Dat.toRRel_leaves (dat0 (Vk m) c) (w := 20) rfl (hL 20 t t.isLt hf)
  intro h
  blk_simp
  have hy : (y 1).val < 3072 := by
    have h' := h
    blk_simp [idxK t] at h'
    omega
  refine (hR y hy).trans ?_
  have e : (y : S256x5120.Idx) = ix2 (y 0) ⟨(y 1).val, by omega⟩ := by
    funext x
    fin_cases x <;> rfl
  refine (congrArg (dzv (Vk m) c t) e).trans ((dzv_at H t (y 0) ⟨(y 1).val, hy⟩).trans (congrArg Real.toEReal (congrArg₂ a.dz (Fin.ext ?_) (Fin.ext ?_))))
  · blk_simp [idxK t]
    show 256 * (31 - t.val) + (y 0).val = (31 - t.val) * 256 + (y 0).val
    omega
  · blk_simp [idxK t]

end Cert.Kernel2Ideal.BrVal
end
-- ==== Proof.Br.RefA.lean ====
module

public import proofs.«01_k».proof.Proof.Gen.Reference2Ideal.Read
public import proofs.«01_k».proof.Proof.Br.Args

/-! The reference's forward values over the real numbers: the activations, the normalised rows, their mixture and the gated product. -/

@[expose] public section

set_option maxRecDepth 16384

noncomputable section

namespace Cert.Reference2Ideal.BrRef

open Idealize.ShloMosaic Idealize.ShloMosaic.TcCoe Idealize.SL.Sem
open Cert.Reference2Ideal Cert.Reference2Ideal.Value Cert.Reference2Ideal.Read Cert.Reals Cert.BrModel

theorem cThree : Ideal.ofBits .f32 0x40400000#32 = ((3 : ℝ) : EReal) := by
  simp [Ideal.ofBits, Ideal.ieee, -EReal.coe_mul]
  norm_num
theorem cNum : Ideal.ofBits .f32 0x472EAB00#32 = ((44715 : ℝ) : EReal) := by
  simp [Ideal.ofBits, Ideal.ieee, -EReal.coe_mul]
  norm_num
theorem cDen : Ideal.ofBits .f32 0x49742400#32 = ((1000000 : ℝ) : EReal) := by
  simp [Ideal.ofBits, Ideal.ieee, -EReal.coe_mul]
  norm_num
theorem cQuo : Ideal.div ((44715 : ℝ) : EReal) ((1000000 : ℝ) : EReal) = ((8943 / 200000 : ℝ) : EReal) :=
  (div_real _ _ (by norm_num)).trans (congrArg _ (by norm_num))

/-- The program's arguments are the real ones. -/
structure Is (x0 : S8192x5120.Idx → EReal) (x1 : S8192x2048.Idx → EReal) (x2 x3 : S1x1024.Idx → EReal) (x4 : S1x8x128x128.Idx → EReal)
    (x5 : S1x8x128.Idx → EReal) (x13 : S1x1024.Idx → EReal) (a : Args) : Prop where
  z : ∀ R k, x0 (ix2 R k) = ((a.z R k : ℝ) : EReal)
  dy : ∀ R k, x1 (ix2 R k) = ((a.dy R k : ℝ) : EReal)
  lg : ∀ j, x2 (ix2 0 j) = ((a.lg j : ℝ) : EReal)
  lb : ∀ j, x3 (ix2 0 j) = ((a.lb j : ℝ) : EReal)
  ws : ∀ h t s, x4 (ix4 0 h t s) = ((a.ws h t s : ℝ) : EReal)
  bs : ∀ h t, x5 (ix3 0 h t) = ((a.bs h t : ℝ) : EReal)
  og : ∀ j, x13 (ix2 0 j) = ((a.og j : ℝ) : EReal)

variable {x0 : S8192x5120.Idx → EReal} {x1 : S8192x2048.Idx → EReal} {x2 x3 : S1x1024.Idx → EReal} {x4 : S1x8x128x128.Idx → EReal}
  {x5 : S1x8x128.Idx → EReal} {x13 : S1x1024.Idx → EReal} {a : Args} (H : Is x0 x1 x2 x3 x4 x5 x13 a)

include H

theorem r_u (R : Fin 8192) (j : Fin 1024) : val_main_v2 (F := Ideal) x0 (ix2 R j) = ((a.m.u R j : ℝ) : EReal) := by
  pointwise [val_main_v2, val_main_v1, val_main_v0, H.z]
  exact congrArg Real.toEReal (a.m_u R j).symm
theorem r_v (R : Fin 8192) (j : Fin 1024) : val_main_v3 (F := Ideal) x0 (ix2 R j) = ((a.m.v R j : ℝ) : EReal) := by
  pointwise [val_main_v3, val_main_v1, val_main_v0, H.z]
  exact congrArg Real.toEReal (a.m_v R j).symm
theorem r_g (R : Fin 8192) (j : Fin 1024) : val_main_v4 (F := Ideal) x0 (ix2 R j) = ((a.m.g R j : ℝ) : EReal) := by
  pointwise [val_main_v4, val_main_v1, val_main_v0, H.z]
  exact congrArg Real.toEReal (a.m_g R j).symm
theorem r_dy (R : Fin 8192) (j : Fin 1024) : val_main_v111 (F := Ideal) x1 (ix2 R j) = ((a.m.dy R j : ℝ) : EReal) := by
  pointwise [val_main_v111, H.dy]
  exact congrArg Real.toEReal (a.m_dy R j).symm
/-! The activation of the two column groups, and what its derivative is made of. -/

theorem th_u (R : Fin 8192) (j : Fin 1024) : val_main_v21 (F := Ideal) x0 (ix2 R j) = ((th (a.m.u R j) : ℝ) : EReal) := by
  pointwise [val_main_v21, val_main_v20, val_main_v19, val_main_v18, val_main_v17, val_main_v16, val_main_v12, val_main_v11, val_main_v10, val_main_cst_0, val_main_cst, val_main_cst_2, r_u H]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  exact congrArg Real.toEReal (by unfold th; ring_nf)
theorem gel_u (R : Fin 8192) (j : Fin 1024) : val_main_v31 (F := Ideal) x0 (ix2 R j) = ((gel (a.m.u R j) : ℝ) : EReal) := by
  pointwise [val_main_v31, val_main_v30, val_main_v29, val_main_v28, val_main_v27, val_main_cst_5, val_main_cst_6, r_u H, th_u H]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  exact congrArg Real.toEReal (by unfold gel; ring)
theorem one_u (R : Fin 8192) (j : Fin 1024) : val_main_v30 (F := Ideal) x0 (ix2 R j) = ((1 / 2 * (1 + th (a.m.u R j)) : ℝ) : EReal) := by
  pointwise [val_main_v30, val_main_v29, val_main_v28, val_main_v27, val_main_cst_5, val_main_cst_6, r_u H, th_u H]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  try rfl
theorem dth_u (R : Fin 8192) (j : Fin 1024) : val_main_v26 (F := Ideal) x0 (ix2 R j) = (((1 + th (a.m.u R j)) * (1 - th (a.m.u R j)) : ℝ) : EReal) := by
  pointwise [val_main_v26, val_main_v25, val_main_v24, val_main_v23, val_main_v22, val_main_cst_4, val_main_cst_3, r_u H, th_u H]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  try rfl
theorem sq_u (R : Fin 8192) (j : Fin 1024) : val_main_v15 (F := Ideal) x0 (ix2 R j) = ((3 * (a.m.u R j * a.m.u R j) : ℝ) : EReal) := by
  pointwise [val_main_v15, val_main_v14, val_main_v13, val_main_cst_1, r_u H, th_u H]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  try rfl
theorem th_v (R : Fin 8192) (j : Fin 1024) : val_main_v43 (F := Ideal) x0 (ix2 R j) = ((th (a.m.v R j) : ℝ) : EReal) := by
  pointwise [val_main_v43, val_main_v42, val_main_v41, val_main_v40, val_main_v39, val_main_v38, val_main_v34, val_main_v33, val_main_v32, val_main_cst_8, val_main_cst_7, val_main_cst_10, r_v H]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  exact congrArg Real.toEReal (by unfold th; ring_nf)
theorem gel_v (R : Fin 8192) (j : Fin 1024) : val_main_v53 (F := Ideal) x0 (ix2 R j) = ((gel (a.m.v R j) : ℝ) : EReal) := by
  pointwise [val_main_v53, val_main_v52, val_main_v51, val_main_v50, val_main_v49, val_main_cst_13, val_main_cst_14, r_v H, th_v H]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  exact congrArg Real.toEReal (by unfold gel; ring)
theorem one_v (R : Fin 8192) (j : Fin 1024) : val_main_v52 (F := Ideal) x0 (ix2 R j) = ((1 / 2 * (1 + th (a.m.v R j)) : ℝ) : EReal) := by
  pointwise [val_main_v52, val_main_v51, val_main_v50, val_main_v49, val_main_cst_13, val_main_cst_14, r_v H, th_v H]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  try rfl
theorem dth_v (R : Fin 8192) (j : Fin 1024) : val_main_v48 (F := Ideal) x0 (ix2 R j) = (((1 + th (a.m.v R j)) * (1 - th (a.m.v R j)) : ℝ) : EReal) := by
  pointwise [val_main_v48, val_main_v47, val_main_v46, val_main_v45, val_main_v44, val_main_cst_12, val_main_cst_11, r_v H, th_v H]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  try rfl
theorem sq_v (R : Fin 8192) (j : Fin 1024) : val_main_v37 (F := Ideal) x0 (ix2 R j) = ((3 * (a.m.v R j * a.m.v R j) : ℝ) : EReal) := by
  pointwise [val_main_v37, val_main_v36, val_main_v35, val_main_cst_9, r_v H, th_v H]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  try rfl
/-! The inner norm. -/

theorem cen_v (R : Fin 8192) (j : Fin 1024) : val_main_v59 (F := Ideal) x0 (ix2 R j) = ((cen (a.m.v R) j : ℝ) : EReal) := by
  pointwise [val_main_v59, val_main_v58, val_main_v57, val_main_v56, val_main_v55, val_main_v54, val_main_cst_16, val_main_cst_15, gel_v H]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  rfl
theorem ms_v (R : Fin 8192) (y : Fin 1) : val_main_v66 (F := Ideal) x0 (ix2 R y) = ((ms (cen (a.m.v R)) : ℝ) : EReal) := by
  pointwise [val_main_v66, val_main_v65, val_main_v64, val_main_v63, val_main_v62, val_main_v61, val_main_v60, val_main_cst_19, val_main_cst_18, val_main_cst_17, cen_v H]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  rfl
theorem rs_v (R : Fin 8192) (y : Fin 1) : val_main_v67 (F := Ideal) x0 (ix2 R y) = ((rs (cen (a.m.v R)) : ℝ) : EReal) := by
  pointwise [val_main_v67, ms_v H]
  exact rs_eq _
theorem hv_v (R : Fin 8192) (y : Fin 1) : val_main_v70 (F := Ideal) x0 (ix2 R y) = ((-(1 / 2) * (rs (cen (a.m.v R)) / ms (cen (a.m.v R))) : ℝ) : EReal) := by
  pointwise [val_main_v70, val_main_v69, val_main_v68, val_main_cst_20, ms_v H, rs_v H]
  rw [cNegHalf, div_real _ _ (ms_pos _).ne', ← EReal.coe_mul]
theorem vh_v (R : Fin 8192) (j : Fin 1024) : val_main_v72 (F := Ideal) x0 (ix2 R j) = ((vh (a.m.v R) j : ℝ) : EReal) := by
  pointwise [val_main_v72, val_main_v71, cen_v H, rs_v H]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  rfl
theorem vn_v (R : Fin 8192) (j : Fin 1024) : val_main_v78 (F := Ideal) x0 x2 x3 (ix2 R j) = ((a.m.vn R j : ℝ) : EReal) := by
  pointwise [val_main_v78, val_main_v77, val_main_v76, val_main_v75, val_main_v74, val_main_v73, val_main_v6, val_main_v5, vh_v H, H.lg, H.lb]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  rfl
/-! The causal weights and the mixture over a chunk. -/

omit H in
/-- The lower triangle's mask. -/
theorem tri_le (t s : Fin 128) : IntOp.cmpi CmpIPredicate.sge (BitVec.ofNat 32 t.val) (BitVec.ofNat 32 s.val) = if s ≤ t then 1#1 else 0#1 := by
  revert t s
  decide +kernel
omit H in
theorem mask_at (h : Fin 8) (t s : Fin 128) : val_main_v84_1 (F := Ideal) (ix3 h t s) = if s ≤ t then 1#1 else 0#1 := by
  pointwise [val_main_v84_1, val_main_v82, val_main_v81, val_main_v80, val_main_call0_v5, val_main_call0_c_0, val_main_c, val_main_call0_v4, val_main_call0_v3, val_main_call0_v2, val_main_call0_v1, val_main_call0_c, val_main_call0_v0]
  have ht := tri_le t s
  rw [show IntOp.addi (BitVec.ofNat 32 t.val) 0#32 = BitVec.ofNat 32 t.val from BitVec.add_zero _]
  by_cases hs : s ≤ t
  · rw [ht, if_pos hs]; rfl
  · rw [ht, if_neg hs]; rfl
theorem w_at (h : Fin 8) (t s : Fin 128) : val_main_v84_0 (F := Ideal) x4 (ix3 h t s) = ((a.m.w h t s : ℝ) : EReal) := by
  pointwise [val_main_v84_0, val_main_v83, val_main_v7, val_main_cst_21, mask_at]
  by_cases hs : s ≤ t
  · rw [if_pos hs]
    exact (H.ws h t s).trans (congrArg Real.toEReal (if_pos hs).symm)
  · rw [if_neg hs]
    exact congrArg Real.toEReal (if_neg hs).symm
theorem vn4 (q : Fin 64) (i : Fin 128) (k : Fin 8) (d : Fin 128) : val_main_v79 (F := Ideal) x0 x2 x3 (ix4 q i k d) = ((a.m.vn (q.val * 128 + i.val) (Args.col k d) : ℝ) : EReal) := by
  refine .trans ?_ (vn_v H ⟨q.val * 128 + i.val, by omega⟩ (Args.col k d))
  pointwise [val_main_v79]
  rfl
theorem mix_at (R : Fin 8192) (j : Fin 1024) : val_main_v91 (F := Ideal) x0 x2 x3 x4 x5 (ix2 R j) = ((a.m.mix R j : ℝ) : EReal) := by
  pointwise [val_main_v91, val_main_v90, val_main_v89, val_main_v88, val_main_v87, val_main_v86, val_main_v85, val_main_v8, val_main_v85_apply, vn4 H, w_at H, H.bs]
  simp only [← EReal.coe_mul, coe_sum, ← EReal.coe_add]
  refine congrArg Real.toEReal (congrArg (· + a.bs (hd j) (pl R)) (Finset.sum_congr rfl fun s _ => ?_))
  rw [mul_comm, show Args.col ⟨j.val / 128, by omega⟩ ⟨j.val % 128, by omega⟩ = j from Fin.ext (Nat.div_add_mod' j.val 128)]
  rfl
/-! The gated product and its norm. -/

theorem um_at (R : Fin 8192) (j : Fin 1024) : val_main_v92 (F := Ideal) x0 x2 x3 x4 x5 (ix2 R j) = ((a.m.um R j : ℝ) : EReal) := by
  pointwise [val_main_v92, gel_u H, mix_at H]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  rfl
theorem sg_at (R : Fin 8192) (j : Fin 1024) : val_main_v93_2 (F := Ideal) x0 (ix2 R j) = ((sg (a.m.g R j) : ℝ) : EReal) := by
  pointwise [val_main_v93_2, val_main_call2_v3, val_main_call2_v1, val_main_call2_v0, val_main_call2_v2, val_main_call2_cst, val_main_call2_v4, val_main_call2_cst_0, r_g H]
  rw [← EReal.coe_neg, Ideal.exp_coe, ← EReal.coe_one, ← EReal.coe_add, div_real _ _ (add_pos one_pos (Real.exp_pos _)).ne', one_div]
  rfl
theorem sd_at (R : Fin 8192) (j : Fin 1024) : val_main_v93_1 (F := Ideal) x0 (ix2 R j) = ((sg (a.m.g R j) * (1 - sg (a.m.g R j)) : ℝ) : EReal) := by
  pointwise [val_main_v93_1, val_main_call2_v7, val_main_call2_v6, val_main_call2_cst_1, sg_at H]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  try rfl
theorem sil_at (R : Fin 8192) (j : Fin 1024) : val_main_v93_0 (F := Ideal) x0 (ix2 R j) = ((a.m.sil R j : ℝ) : EReal) := by
  pointwise [val_main_v93_0, r_g H, sg_at H]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  rfl
theorem ya_at (R : Fin 8192) (j : Fin 1024) : val_main_v94 (F := Ideal) x0 x2 x3 x4 x5 (ix2 R j) = ((a.m.ya R j : ℝ) : EReal) := by
  pointwise [val_main_v94, um_at H, sil_at H]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  rfl
theorem ms_y (R : Fin 8192) (y : Fin 1) : val_main_v101 (F := Ideal) x0 x2 x3 x4 x5 (ix2 R y) = ((ms (a.m.ya R) : ℝ) : EReal) := by
  pointwise [val_main_v101, val_main_v100, val_main_v99, val_main_v98, val_main_v97, val_main_v96, val_main_v95, val_main_cst_24, val_main_cst_23, val_main_cst_22, ya_at H]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  rfl
theorem ra_at (R : Fin 8192) (y : Fin 1) : val_main_v102 (F := Ideal) x0 x2 x3 x4 x5 (ix2 R y) = ((a.m.ra R : ℝ) : EReal) := by
  pointwise [val_main_v102, ms_y H]
  exact rs_eq _
theorem hv_y (R : Fin 8192) (y : Fin 1) : val_main_v105 (F := Ideal) x0 x2 x3 x4 x5 (ix2 R y) = ((-(1 / 2) * (a.m.ra R / ms (a.m.ya R)) : ℝ) : EReal) := by
  pointwise [val_main_v105, val_main_v104, val_main_v103, val_main_cst_25, ms_y H, ra_at H]
  rw [cNegHalf, div_real _ _ (ms_pos _).ne', ← EReal.coe_mul]
theorem yh_at (R : Fin 8192) (j : Fin 1024) : val_main_v107 (F := Ideal) x0 x2 x3 x4 x5 (ix2 R j) = ((a.m.yh R j : ℝ) : EReal) := by
  pointwise [val_main_v107, val_main_v106, ya_at H, ra_at H]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  rfl

end Cert.Reference2Ideal.BrRef
end
-- ==== Proof.Br.RefB.lean ====
module

public import proofs.«01_k».proof.Proof.Br.RefA

/-! The reference's gradients over the real numbers. -/

@[expose] public section

set_option maxRecDepth 16384

noncomputable section

namespace Cert.Reference2Ideal.BrRef

open Idealize.ShloMosaic Idealize.ShloMosaic.TcCoe Idealize.SL.Sem
open Cert.Reference2Ideal Cert.Reference2Ideal.Value Cert.Reference2Ideal.Read Cert.Reals Cert.BrModel

/-! ## The identities of real numbers behind the norms and the activation -/

theorem rs_sq (r : Fin 1024 → ℝ) : rs r / ms r = rs r * (rs r * rs r) := by
  have h : rs r * rs r = (ms r)⁻¹ := by
    unfold rs
    rw [← mul_inv, Real.mul_self_sqrt (ms_pos r).le]
  rw [h, div_eq_mul_inv]
theorem norm_back (s y d D : ℝ) : d * s + y * (D * (-(1 / 2) * (s * (s * s))) / 1024) + D * (-(1 / 2) * (s * (s * s))) / 1024 * y
    = s * (d - y * s * (s * D / 1024)) := by ring
theorem sum_cen (r : Fin 1024 → ℝ) : ∑ j, cen r j = 0 := by
  unfold cen
  rw [Finset.sum_sub_distrib, Finset.sum_const, Finset.card_univ, Fintype.card_fin, nsmul_eq_mul]
  push_cast
  ring
theorem gel_back (x e : ℝ) : e * (1 / 2 * (1 + th x)) + c0 * (1 / 2 * (x * e) * ((1 + th x) * (1 - th x)))
    + 8943 / 200000 * (c0 * (1 / 2 * (x * e) * ((1 + th x) * (1 - th x)))) * (3 * (x * x)) = e * gelD x := by
  unfold gelD
  ring

variable {x0 : S8192x5120.Idx → EReal} {x1 : S8192x2048.Idx → EReal} {x2 x3 : S1x1024.Idx → EReal} {x4 : S1x8x128x128.Idx → EReal}
  {x5 : S1x8x128.Idx → EReal} {x13 : S1x1024.Idx → EReal} {a : Args} (H : Is x0 x1 x2 x3 x4 x5 x13 a)

include H

theorem dn_at (R : Fin 8192) (j : Fin 1024) : val_main_v116 (F := Ideal) x1 x13 (ix2 R j) = ((a.m.dn R j : ℝ) : EReal) := by
  pointwise [val_main_v116, val_main_v115, val_main_v108, val_main_v9, r_dy H, H.og]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  rfl
theorem ydn_at (R : Fin 8192) (y : Fin 1) : val_main_v120 (F := Ideal) x0 x1 x2 x3 x4 x5 x13 (ix2 R y) = ((∑ k, a.m.ya R k * a.m.dn R k : ℝ) : EReal) := by
  pointwise [val_main_v120, val_main_v119, val_main_v118, val_main_cst_28, ya_at H, dn_at H]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  try rfl
theorem cy_at (R : Fin 8192) (j : Fin 1024) : val_main_v127 (F := Ideal) x0 x1 x2 x3 x4 x5 x13 (ix2 R j) = (((∑ k, a.m.ya R k * a.m.dn R k) * (-(1 / 2) * (a.m.ra R / ms (a.m.ya R))) / 1024 : ℝ) : EReal) := by
  pointwise [val_main_v127, val_main_v126, val_main_v125, val_main_v124, val_main_v123, val_main_cst_30, val_main_cst_29, ydn_at H, hv_y H]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  try rfl
theorem dya_at (R : Fin 8192) (j : Fin 1024) : val_main_v131 (F := Ideal) x0 x1 x2 x3 x4 x5 x13 (ix2 R j) = ((a.m.dya R j : ℝ) : EReal) := by
  pointwise [val_main_v131, val_main_v130, val_main_v129, val_main_v128, val_main_v122, val_main_v121, ya_at H, ra_at H, dn_at H, cy_at H]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  refine congrArg Real.toEReal ?_
  unfold M.dya M.yh
  rw [show a.m.ra R / ms (a.m.ya R) = a.m.ra R * (a.m.ra R * a.m.ra R) from rs_sq _, norm_back]
  rw [show ∑ k, a.m.dn R k * (a.m.ya R k * a.m.ra R) = a.m.ra R * ∑ k, a.m.ya R k * a.m.dn R k from by
    rw [Finset.mul_sum]
    exact Finset.sum_congr rfl fun k _ => by ring]
theorem zg_at (R : Fin 8192) (j : Fin 1024) : val_main_v134 (F := Ideal) x0 x1 x2 x3 x4 x5 x13 (ix2 R j) = ((a.m.zg R j : ℝ) : EReal) := by
  pointwise [val_main_v134, val_main_v132, val_main_call3_v2, val_main_call3_v0, val_main_call3_v1, r_g H, um_at H, dya_at H, sg_at H, sd_at H]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  exact congrArg Real.toEReal (by unfold M.zg; ring)
theorem ds_at (R : Fin 8192) (j : Fin 1024) : val_main_v133 (F := Ideal) x0 x1 x2 x3 x4 x5 x13 (ix2 R j) = ((a.m.dya R j * a.m.sil R j : ℝ) : EReal) := by
  pointwise [val_main_v133, dya_at H, sil_at H]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  try rfl
theorem dm_at (R : Fin 8192) (j : Fin 1024) : val_main_v135 (F := Ideal) x0 x1 x2 x3 x4 x5 x13 (ix2 R j) = ((a.m.dm R j : ℝ) : EReal) := by
  pointwise [val_main_v135, gel_u H, ds_at H]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  exact congrArg Real.toEReal (by unfold M.dm; ring)
theorem du_at (R : Fin 8192) (j : Fin 1024) : val_main_v136 (F := Ideal) x0 x1 x2 x3 x4 x5 x13 (ix2 R j) = ((a.m.du R j : ℝ) : EReal) := by
  pointwise [val_main_v136, ds_at H, mix_at H]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  exact congrArg Real.toEReal (by unfold M.du; ring)
/-! The chunks' gradients. -/

theorem dm4 (q : Fin 64) (i : Fin 128) (k : Fin 8) (d : Fin 128) : val_main_v137 (F := Ideal) x0 x1 x2 x3 x4 x5 x13 (ix4 q i k d) = ((a.m.dm (q.val * 128 + i.val) (Args.col k d) : ℝ) : EReal) := by
  refine .trans ?_ (dm_at H ⟨q.val * 128 + i.val, by omega⟩ (Args.col k d))
  pointwise [val_main_v137]
  rfl
theorem dm4t (k : Fin 8) (q : Fin 64) (d i : Fin 128) : val_main_v142 (F := Ideal) x0 x1 x2 x3 x4 x5 x13 (ix4 k q d i) = ((a.m.dm (q.val * 128 + i.val) (Args.col k d) : ℝ) : EReal) := by
  refine .trans ?_ (dm4 H q i k d)
  rw [val_main_v142_apply]
  exact congrArg (val_main_v137 (F := Ideal) x0 x1 x2 x3 x4 x5 x13) (funext fun b => by fin_cases b <;> rfl)
theorem dv4 (k : Fin 8) (q : Fin 64) (d s : Fin 128) :
    val_main_v144 (F := Ideal) x0 x1 x2 x3 x4 x5 x13 (ix4 k q d s) = ((∑ t : Fin 128, a.m.dm (q.val * 128 + t.val) (Args.col k d) * a.m.w k t s : ℝ) : EReal) := by
  rw [val_main_v144_apply, ← coe_sum]
  refine Finset.sum_congr rfl fun t _ => ?_
  rw [EReal.coe_mul, ← dm4t H k q d t, ← w_at H k t s]
  exact congrArg₂ (· * ·) (congrArg (val_main_v142 (F := Ideal) x0 x1 x2 x3 x4 x5 x13) (funext fun b => by fin_cases b <;> rfl))
    (congrArg (val_main_v84_0 (F := Ideal) x4) (funext fun b => by fin_cases b <;> rfl))
theorem dvn_at (R : Fin 8192) (j : Fin 1024) : val_main_v147 (F := Ideal) x0 x1 x2 x3 x4 x5 x13 (ix2 R j) = ((a.m.dvn R j : ℝ) : EReal) := by
  pointwise [val_main_v147, val_main_v145, dv4 H]
  refine congrArg Real.toEReal (Finset.sum_congr rfl fun s _ => ?_)
  rw [mul_comm, show Args.col ⟨j.val / 128, by omega⟩ ⟨j.val % 128, by omega⟩ = j from Fin.ext (Nat.div_add_mod' j.val 128)]
  rfl
theorem dvh_at (R : Fin 8192) (j : Fin 1024) : val_main_v155 (F := Ideal) x0 x1 x2 x3 x4 x5 x13 (ix2 R j) = ((a.m.dvh R j : ℝ) : EReal) := by
  pointwise [val_main_v155, val_main_v154, val_main_v73, val_main_v5, dvn_at H, H.lg]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  rfl
theorem cdv_at (R : Fin 8192) (y : Fin 1) : val_main_v159 (F := Ideal) x0 x1 x2 x3 x4 x5 x13 (ix2 R y) = ((∑ k, cen (a.m.v R) k * a.m.dvh R k : ℝ) : EReal) := by
  pointwise [val_main_v159, val_main_v158, val_main_v157, val_main_cst_37, cen_v H, dvh_at H]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  try rfl
theorem cv_at (R : Fin 8192) (j : Fin 1024) : val_main_v166 (F := Ideal) x0 x1 x2 x3 x4 x5 x13 (ix2 R j) = (((∑ k, cen (a.m.v R) k * a.m.dvh R k) * (-(1 / 2) * (rs (cen (a.m.v R)) / ms (cen (a.m.v R)))) / 1024 : ℝ) : EReal) := by
  pointwise [val_main_v166, val_main_v165, val_main_v164, val_main_v163, val_main_v162, val_main_cst_39, val_main_cst_38, cdv_at H, hv_v H]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  try rfl
theorem ce_at (R : Fin 8192) (j : Fin 1024) : val_main_v170 (F := Ideal) x0 x1 x2 x3 x4 x5 x13 (ix2 R j) = ((rs (cen (a.m.v R)) * (a.m.dvh R j - vh (a.m.v R) j * ((∑ k, a.m.dvh R k * vh (a.m.v R) k) / 1024)) : ℝ) : EReal) := by
  pointwise [val_main_v170, val_main_v169, val_main_v168, val_main_v167, val_main_v161, val_main_v160, cen_v H, dvh_at H, rs_v H, cv_at H]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  refine congrArg Real.toEReal ?_
  unfold vh
  rw [rs_sq, norm_back]
  rw [show ∑ k, a.m.dvh R k * (cen (a.m.v R) k * rs (cen (a.m.v R))) = rs (cen (a.m.v R)) * ∑ k, cen (a.m.v R) k * a.m.dvh R k from by
    rw [Finset.mul_sum]
    exact Finset.sum_congr rfl fun k _ => by ring]
theorem de_at (R : Fin 8192) (j : Fin 1024) : val_main_v178 (F := Ideal) x0 x1 x2 x3 x4 x5 x13 (ix2 R j) = ((rs (cen (a.m.v R)) * (a.m.dvh R j - (∑ k, a.m.dvh R k) / 1024 - vh (a.m.v R) j * ((∑ k, a.m.dvh R k * vh (a.m.v R) k) / 1024)) : ℝ) : EReal) := by
  pointwise [val_main_v178, val_main_v177, val_main_v176, val_main_v175, val_main_v174, val_main_v173, val_main_v172, val_main_v171, val_main_cst_42, val_main_cst_41, val_main_cst_40, ce_at H]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  refine congrArg Real.toEReal ?_
  generalize (∑ k, a.m.dvh R k * vh (a.m.v R) k) / 1024 = E
  rw [Finset.sum_neg_distrib, ← Finset.mul_sum, Finset.sum_sub_distrib, ← Finset.sum_mul,
    show ∑ k, vh (a.m.v R) k = 0 from by unfold vh; rw [← Finset.sum_mul, sum_cen, zero_mul]]
  ring
theorem zv_at (R : Fin 8192) (j : Fin 1024) : val_main_v190 (F := Ideal) x0 x1 x2 x3 x4 x5 x13 (ix2 R j) = ((a.m.zv R j : ℝ) : EReal) := by
  pointwise [val_main_v190, val_main_v189, val_main_v188, val_main_v187, val_main_v186, val_main_v185, val_main_v184, val_main_v183, val_main_v182, val_main_v181, val_main_v180, val_main_v179, val_main_v32, val_main_cst_43, val_main_cst_44, val_main_cst_8, val_main_cst_7, r_v H, one_v H, dth_v H, sq_v H, de_at H]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  exact congrArg Real.toEReal (gel_back (a.m.v R j) _)
theorem zu_at (R : Fin 8192) (j : Fin 1024) : val_main_v202 (F := Ideal) x0 x1 x2 x3 x4 x5 x13 (ix2 R j) = ((a.m.zu R j : ℝ) : EReal) := by
  pointwise [val_main_v202, val_main_v201, val_main_v200, val_main_v199, val_main_v198, val_main_v197, val_main_v196, val_main_v195, val_main_v194, val_main_v193, val_main_v192, val_main_v191, val_main_v10, val_main_cst_45, val_main_cst_46, val_main_cst_0, val_main_cst, r_u H, one_u H, dth_u H, sq_u H, du_at H]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  exact congrArg Real.toEReal (gel_back (a.m.u R j) _)

end Cert.Reference2Ideal.BrRef
end
-- ==== Proof.Br.RefC.lean ====
module

public import proofs.«01_k».proof.Proof.Br.RefB
public import Idealize.ShloMosaic.Lib.TwoAxisContraction

/-! The reference's results over the real numbers. -/

@[expose] public section

set_option maxRecDepth 16384

noncomputable section

namespace Cert.Reference2Ideal.BrRef

open Idealize.ShloMosaic Idealize.ShloMosaic.TcCoe Idealize.SL.Sem
open Cert.Reference2Ideal Cert.Reference2Ideal.Value Cert.Reference2Ideal.Read Cert.Reals Cert.BrModel

/-- The host's float sum over the first and last of four axes. -/
theorem sum_03 {n0 n1 n2 n3 : ℕ} (h : (⟨4, ![n0, n1, n2, n3]⟩ : Shape).ReducesTo [0, 3] ⟨2, ![n1, n2]⟩)
    (x : (⟨4, ![n0, n1, n2, n3]⟩ : Shape).Idx → EReal) (init : EReal) (i : Fin n1) (k : Fin n2) :
    Ideal.hostReduceAdd h x init (ix2 i k) = init + ∑ d : Fin n3, ∑ q : Fin n0, x (ix4 q i k d) := by
  unfold Ideal.hostReduceAdd
  refine congrArg (init + ·) ?_
  rw [← Fintype.sum_prod_type']
  symm
  refine Finset.sum_nbij' (fun p => ix4 p.2 i k p.1) (fun e => (e 3, e 0)) (fun p _ => ?_) (fun _ _ => Finset.mem_univ _) (fun _ _ => rfl) (fun e he => ?_) (fun _ _ => rfl)
  · rw [Finset.mem_filter]
    refine ⟨Finset.mem_univ _, funext fun b => ?_⟩
    fin_cases b <;> rfl
  · rw [Finset.mem_filter] at he
    have h0 := congrFun he.2 0
    have h1 := congrFun he.2 1
    refine funext fun b => ?_
    fin_cases b
    · rfl
    · exact h0.symm
    · exact h1.symm
    · rfl

variable {x0 : S8192x5120.Idx → EReal} {x1 : S8192x2048.Idx → EReal} {x2 x3 : S1x1024.Idx → EReal} {x4 : S1x8x128x128.Idx → EReal}
  {x5 : S1x8x128.Idx → EReal} {x13 : S1x1024.Idx → EReal} {a : Args} (H : Is x0 x1 x2 x3 x4 x5 x13 a)

include H

theorem gog_at (i : Fin 8) (j : Fin 1024) : val_main_v206 (F := Ideal) x0 x1 x2 x3 x4 x5 (ix2 i j) = ((a.gog j : ℝ) : EReal) := by
  pointwise [val_main_v206, val_main_v205, val_main_v117, val_main_v114, val_main_v113, val_main_v112, val_main_cst_27, val_main_cst_26, r_dy H, yh_at H]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  exact congrArg Real.toEReal (Finset.sum_congr rfl fun R _ => mul_comm _ _)
theorem glg_at (i : Fin 8) (j : Fin 1024) : val_main_v208 (F := Ideal) x0 x1 x2 x3 x4 x5 x13 (ix2 i j) = ((a.glg j : ℝ) : EReal) := by
  pointwise [val_main_v208, val_main_v207, val_main_v156, val_main_v153, val_main_v152, val_main_v151, val_main_cst_36, val_main_cst_35, vh_v H, dvn_at H]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  exact congrArg Real.toEReal (Finset.sum_congr rfl fun R _ => mul_comm _ _)
theorem glb_at (i : Fin 8) (j : Fin 1024) : val_main_v210 (F := Ideal) x0 x1 x2 x3 x4 x5 x13 (ix2 i j) = ((a.glb j : ℝ) : EReal) := by
  pointwise [val_main_v210, val_main_v209, val_main_v150, val_main_v149, val_main_v148, val_main_cst_34, val_main_cst_33, dvn_at H]
  simp only [Fin.sum_univ_one, ← EReal.coe_one, cThree, cNum, cDen, cQuo, cC0, cHalf, cOne, c1024, cEps, cNegHalf, cZero, div1024, Ideal.tanh_coe, ← EReal.coe_mul, coe_sum, ← EReal.coe_add, ← EReal.coe_sub, ← EReal.coe_neg]
  rfl
theorem gb_at (i : Fin 128) (k : Fin 8) : val_main_v138 (F := Ideal) x0 x1 x2 x3 x4 x5 x13 (ix2 i k) = ((∑ d : Fin 128, ∑ q : Fin 64, a.m.dm (q.val * 128 + i.val) (Args.col k d) : ℝ) : EReal) := by
  unfold val_main_v138
  refine (sum_03 _ _ _ i k).trans ?_
  simp only [dm4 H, coe_sum]
  rw [show val_main_cst_31 (F := Ideal) (Shape.Idx.first Gen.h_S_) = ((0 : ℝ) : EReal) from cZero, EReal.coe_zero, zero_add]
theorem gb_one (i : Fin 128) (k : Fin 8) : val_main_v140 (F := Ideal) x0 x1 x2 x3 x4 x5 x13 (ix2 i k) = ((∑ d : Fin 128, ∑ q : Fin 64, a.m.dm (q.val * 128 + i.val) (Args.col k d) : ℝ) : EReal) := by
  unfold val_main_v140
  refine (sum_03 _ _ _ i k).trans ?_
  rw [show val_main_cst_32 (F := Ideal) (Shape.Idx.first Gen.h_S_) = ((0 : ℝ) : EReal) from cZero, EReal.coe_zero, zero_add, Fin.sum_univ_one, Fin.sum_univ_one]
  refine .trans ?_ (gb_at H i k)
  pointwise [val_main_v139]
theorem gbs_at (i : Fin 128) (j : Fin 1024) : val_main_v213 (F := Ideal) x0 x1 x2 x3 x4 x5 x13 (ix2 i j) = ((a.gbs i j : ℝ) : EReal) := by
  pointwise [val_main_v213, val_main_v212, val_main_v211, val_main_v141, gb_one H]
  exact congrArg Real.toEReal (Finset.sum_congr rfl fun d _ => Finset.sum_congr rfl fun q _ => by rw [mul_comm q.val]; rfl)
theorem gw_at (k : Fin 8) (t s : Fin 128) :
    val_main_v143 (F := Ideal) x0 x1 x2 x3 x4 x5 x13 (ix3 k t s) = ((∑ q : Fin 64, ∑ d : Fin 128, a.m.dm (q.val * 128 + t.val) (Args.col k d) * a.m.vn (q.val * 128 + s.val) (Args.col k d) : ℝ) : EReal) := by
  unfold val_main_v143
  let D := dot_S8x64x128x128_S64x128x8x128_S8x128x128_12_03_3_1_0_2
  have hr : D.contr.rank = 2 := rfl
  have c0 : D.contr.size ⟨0, by rw [hr]; omega⟩ = 64 := rfl
  have c1 : D.contr.size ⟨1, by rw [hr]; omega⟩ = 128 := rfl
  simp only [Host.dotGeneral]
  rw [Ideal.dotGeneral_apply, ← Equiv.sum_comp (ValueIdx.contrEquiv2 D 64 128 hr c0 c1).symm, Fintype.sum_prod_type, ← coe_sum]
  refine Finset.sum_congr rfl fun q _ => ?_
  rw [← coe_sum]
  refine Finset.sum_congr rfl fun d _ => ?_
  have h0 := ValueIdx.contrEquiv2_symm_val0 D 64 128 hr c0 c1 (q, d)
  have h1 := ValueIdx.contrEquiv2_symm_val1 D 64 128 hr c0 c1 (q, d)
  have el : D.lhsIdx (ix3 k t s) ((ValueIdx.contrEquiv2 D 64 128 hr c0 c1).symm (q, d)) = ix4 k q d t := by
    funext b
    apply Fin.ext
    match b with
    | ⟨0, _⟩ => rfl
    | ⟨1, _⟩ => exact h0
    | ⟨2, _⟩ => exact h1
    | ⟨3, _⟩ => rfl
  have er : D.rhsIdx (ix3 k t s) ((ValueIdx.contrEquiv2 D 64 128 hr c0 c1).symm (q, d)) = ix4 q s k d := by
    funext b
    apply Fin.ext
    match b with
    | ⟨0, _⟩ => exact h0
    | ⟨1, _⟩ => rfl
    | ⟨2, _⟩ => rfl
    | ⟨3, _⟩ => exact h1
  rw [el, er, dm4t H, vn4 H, ← EReal.coe_mul]
theorem gws_at (k : Fin 8) (t s : Fin 128) : val_main_v146 (F := Ideal) x0 x1 x2 x3 x4 x5 x13 (ix3 k t s) = ((a.gws k t s : ℝ) : EReal) := by
  pointwise [val_main_v146, val_main_call4_v0, val_main_call4_cst, gw_at H, mask_at]
  unfold Args.gws
  by_cases hs : s ≤ t
  · rw [if_pos hs, if_pos hs]
    exact congrArg Real.toEReal (Finset.sum_congr rfl fun q _ => Finset.sum_congr rfl fun d _ => by rw [mul_comm q.val])
  · rw [if_neg hs, if_neg hs]
    rfl
theorem dz_at (R : Fin 8192) (k : Fin 3072) : val_main_v204 (F := Ideal) x0 x1 x2 x3 x4 x5 x13 (ix2 R k) = ((a.dz R k : ℝ) : EReal) := by
  pointwise [val_main_v204, val_main_v203, zu_at H, zv_at H, zg_at H]
  unfold Args.dz
  by_cases h : k.val < 1024
  · rw [dif_pos h, dif_pos h]
  · rw [dif_neg h, dif_neg h]
    by_cases h' : k.val < 2048
    · rw [dif_pos (by omega), dif_pos h']
    · rw [dif_neg (by omega), dif_neg h']
      exact congrArg Real.toEReal (congrArg (a.m.zg R) (Fin.ext (show k.val - 1024 - 1024 = k.val - 2048 by omega)))

end Cert.Reference2Ideal.BrRef
end
-- ==== Proof.Br.Value.lean ====
module

public import proofs.«01_k».proof.Defs
public import proofs.«01_k».proof.Proof.Br.KFin
public import proofs.«01_k».proof.Proof.Br.RefC
public import proofs.«01_k».proof.Proof.Br.Frames
public import proofs.«01_k».proof.Pre_finite2
public import proofs.«01_k».proof.Proof.Gen.Reference2Ideal.Run

/-! The branches pair's value: the kernel's six results of the gMLP half are the reference's. -/

@[expose] public section

set_option maxRecDepth 16384

noncomputable section

namespace Cert.Kernel2Ideal.BrVal

open Idealize.ShloMosaic Idealize.ShloMosaic.TcCoe Idealize.ShloMosaic.Tactic
open Idealize.SL Idealize.SL.Sem
open Cert.Kernel2Ideal Cert.Kernel2Ideal.Gen Cert.Kernel2Ideal.Br Cert.Reals Cert.BrModel

/-- The shape relations of the precondition's program. -/
instance preFacts : Cert.Pre_finite2.Facts where
  bcast_S_S8192x5120 := by decide
  bcast_S_S8192x2048 := by decide
  bcast_S_S1x1024 := by decide
  bcast_S_S1x8x128x128 := by decide
  bcast_S_S1x8x128 := by decide

/-- The precondition's arguments are real numbers. -/
theorem args_of (m : (ℓ : Loc nD τ sig) → Buf (Elt Ideal) ℓ) (h : Cert.Pre_Kernel2Ideal_finite2 m) (c : Dev nD) : ∃ a : Args, Holds m c a := by
  obtain ⟨h0, h1, h2, h3, h4, h5, h6⟩ := h c
  have e0 : ∀ i, ∃ r : ℝ, m ((c : Thread nD τ).loc main_arg0) i = (r : EReal) := fun i => real_of_cmpB _ (congrFun h0 i)
  have e1 : ∀ i, ∃ r : ℝ, m ((c : Thread nD τ).loc main_arg1) i = (r : EReal) := fun i => real_of_cmp _ (congrFun h1 i)
  have e2 : ∀ i, ∃ r : ℝ, m ((c : Thread nD τ).loc main_arg2) i = (r : EReal) := fun i => real_of_cmp _ (congrFun h2 i)
  have e3 : ∀ i, ∃ r : ℝ, m ((c : Thread nD τ).loc main_arg3) i = (r : EReal) := fun i => real_of_cmp _ (congrFun h3 i)
  have e4 : ∀ i, ∃ r : ℝ, m ((c : Thread nD τ).loc main_arg4) i = (r : EReal) := fun i => real_of_cmp _ (congrFun h4 i)
  have e5 : ∀ i, ∃ r : ℝ, m ((c : Thread nD τ).loc main_arg5) i = (r : EReal) := fun i => real_of_cmp _ (congrFun h5 i)
  have e6 : ∀ i, ∃ r : ℝ, m ((c : Thread nD τ).loc main_arg13) i = (r : EReal) := fun i => real_of_cmp _ (congrFun h6 i)
  choose r0 e0 using e0
  choose r1 e1 using e1
  choose r2 e2 using e2
  choose r3 e3 using e3
  choose r4 e4 using e4
  choose r5 e5 using e5
  choose r6 e6 using e6
  exact ⟨⟨fun R k => r0 (ix2 R k), fun R k => r1 (ix2 R k), fun j => r2 (ix2 0 j), fun j => r3 (ix2 0 j), fun j => r6 (ix2 0 j), fun h t s => r4 (ix4 0 h t s), fun h t => r5 (ix3 0 h t)⟩,
    ⟨fun _ _ => e0 _, fun _ _ => e1 _, fun _ => e2 _, fun _ => e3 _, fun _ _ _ => e4 _, fun _ _ => e5 _, fun _ => e6 _⟩⟩

variable {m : (ℓ : Loc nD τ sig) → Buf (Elt Ideal) ℓ} {c : Dev nD} {A : Arrs (F := Ideal)}

/-- A result the last lines leave alone, and the one they cut out. -/
theorem Wend_arr (hA : Left m A c) (w : Fin cfg0.W) (h : Pipeline.arrRef spec0 w ∉ hostOps1_W) :
    Wend m A c (Proc.devRef .tc (Pipeline.arrRef spec0 w)) = A c w :=
  (StableHlo.after_of_writes_sub hostOps1 _ hostOps1_writes h).trans (hA.post m w)
theorem Wend_v117 (hA : Left m A c) (R : Fin 8192) (k : Fin 3072) :
    Wend m A c (Proc.devRef .tc main_v117) (ix2 R k) = A c 20 (ix2 R ⟨k.val, by omega⟩) := by
  rw [← hA.post m 20]
  show StableHlo.after hostOps1 (Wpost m A c) (Proc.devRef .tc main_v117) (ix2 R k) = _
  generalize Wpost m A c = W
  after_results
  pointwise []
  try rfl

set_option maxHeartbeats 4000000 in
/-- The branches' gradients of the gMLP half are those of the reference. -/
theorem branches : Cert.algebraic_Kernel2Ideal_Reference2Ideal_pre_finite2 := by
  intro m g m' g' hpre heq
  choose a ha using args_of m hpre
  refine ⟨fun c i => (((a c).dz (i 0) (i 1) : ℝ) : EReal), fun c i => (((a c).gog (i 1) : ℝ) : EReal), fun c i => (((a c).glg (i 1) : ℝ) : EReal),
    fun c i => (((a c).glb (i 1) : ℝ) : EReal), fun c i => (((a c).gbs (i 0) (i 1) : ℝ) : EReal), fun c i => (((a c).gws (i 0) (i 1) (i 2) : ℝ) : EReal),
    (θ_run _ _ _).mono (fun r h c => ?_) (run_main m g), (θ_run _ _ _).mono (fun r h c => ?_) (Cert.Reference2Ideal.Value.run m' g')⟩
  · have hc := h.1 c
    have hk := arg_kept m hc
    obtain ⟨A, hA, hb⟩ := hc
    refine ⟨?_, ?_, ?_, ?_, ?_, ?_, hk main_arg0 (by decide), hk main_arg1 (by decide), hk main_arg2 (by decide), hk main_arg3 (by decide), hk main_arg4 (by decide),
      hk main_arg5 (by decide), hk main_arg6 (by decide), hk main_arg7 (by decide), hk main_arg8 (by decide), hk main_arg9 (by decide), hk main_arg10 (by decide),
      hk main_arg11 (by decide), hk main_arg12 (by decide), hk main_arg13 (by decide), hk main_arg14 (by decide)⟩
    · refine (hb _ (mem_uc main_v117)).trans (funext fun i => ?_)
      rw [eq_ix2 i]
      exact (Wend_v117 hA (i 0) (i 1)).trans (left_20 (ha c) hA (i 0) (i 1))
    · refine (hb _ (mem_uc main_v116_1)).trans ((Wend_arr hA 21 (by decide)).trans (funext fun i => ?_))
      rw [eq_ix2 i]
      exact left_21 (ha c) hA (i 0) (i 1)
    · refine (hb _ (mem_uc main_v116_3)).trans ((Wend_arr hA 23 (by decide)).trans (funext fun i => ?_))
      rw [eq_ix2 i]
      exact left_23 (ha c) hA (i 0) (i 1)
    · refine (hb _ (mem_uc main_v116_4)).trans ((Wend_arr hA 24 (by decide)).trans (funext fun i => ?_))
      rw [eq_ix2 i]
      exact left_24 (ha c) hA (i 0) (i 1)
    · refine (hb _ (mem_uc main_v116_5)).trans ((Wend_arr hA 25 (by decide)).trans (funext fun i => ?_))
      rw [eq_ix2 i]
      exact left_25 (ha c) hA (i 0) (i 1)
    · refine (hb _ (mem_uc main_v116_6)).trans ((Wend_arr hA 26 (by decide)).trans (funext fun i => ?_))
      rw [eq_ix3 i]
      exact left_26 (ha c) hA (i 0) (i 1) (i 2)
  · obtain ⟨e0, e1, e2, e3, e4, e5, e6, e7, e8, e9, e10, e11, e12, e13, e14⟩ := heq c
    have H : Cert.Reference2Ideal.BrRef.Is (m' ((c.tc : Thread Cert.Reference2Ideal.nD Cert.Reference2Ideal.τ).loc Cert.Reference2Ideal.main_arg0))
        (m' ((c.tc : Thread Cert.Reference2Ideal.nD Cert.Reference2Ideal.τ).loc Cert.Reference2Ideal.main_arg1))
        (m' ((c.tc : Thread Cert.Reference2Ideal.nD Cert.Reference2Ideal.τ).loc Cert.Reference2Ideal.main_arg2))
        (m' ((c.tc : Thread Cert.Reference2Ideal.nD Cert.Reference2Ideal.τ).loc Cert.Reference2Ideal.main_arg3))
        (m' ((c.tc : Thread Cert.Reference2Ideal.nD Cert.Reference2Ideal.τ).loc Cert.Reference2Ideal.main_arg4))
        (m' ((c.tc : Thread Cert.Reference2Ideal.nD Cert.Reference2Ideal.τ).loc Cert.Reference2Ideal.main_arg5))
        (m' ((c.tc : Thread Cert.Reference2Ideal.nD Cert.Reference2Ideal.τ).loc Cert.Reference2Ideal.main_arg13)) (a c) := by
      rw [e0, e1, e2, e3, e4, e5, e13]
      exact ⟨(ha c).z, (ha c).dy, (ha c).lg, (ha c).lb, (ha c).ws, (ha c).bs, (ha c).og⟩
    obtain ⟨r0, r1, r2, r3, r4, r5, hk⟩ := h c
    refine ⟨r0.trans ((Cert.Reference2Ideal.Read.val_main_v204_eq _).trans (funext fun i => ?_)), r1.trans ((Cert.Reference2Ideal.Read.val_main_v206_eq _).trans (funext fun i => ?_)),
      r2.trans ((Cert.Reference2Ideal.Read.val_main_v208_eq _).trans (funext fun i => ?_)), r3.trans ((Cert.Reference2Ideal.Read.val_main_v210_eq _).trans (funext fun i => ?_)),
      r4.trans ((Cert.Reference2Ideal.Read.val_main_v213_eq _).trans (funext fun i => ?_)), r5.trans ((Cert.Reference2Ideal.Read.val_main_v146_eq _).trans (funext fun i => ?_)), hk⟩
    · rw [eq_ix2 i]
      exact Cert.Reference2Ideal.BrRef.dz_at H (i 0) (i 1)
    · rw [eq_ix2 i]
      exact Cert.Reference2Ideal.BrRef.gog_at H (i 0) (i 1)
    · rw [eq_ix2 i]
      exact Cert.Reference2Ideal.BrRef.glg_at H (i 0) (i 1)
    · rw [eq_ix2 i]
      exact Cert.Reference2Ideal.BrRef.glb_at H (i 0) (i 1)
    · rw [eq_ix2 i]
      exact Cert.Reference2Ideal.BrRef.gbs_at H (i 0) (i 1)
    · rw [eq_ix3 i]
      exact Cert.Reference2Ideal.BrRef.gws_at H (i 0) (i 1) (i 2)

end Cert.Kernel2Ideal.BrVal
end
-- ==== Proof.Hd.Model.lean ====
module

public import proofs.«01_k».proof.Proof.Reals

/-! The head's forward and backward pass over the real numbers, row by row. -/

@[expose] public section

noncomputable section

namespace Cert.HdModel

open Idealize.ShloMosaic Cert.Reals

theorem cOne : Ideal.ofBits .f32 0x3F800000#32 = ((1 : ℝ) : EReal) := by
  simp [Ideal.ofBits, Ideal.ieee, -EReal.coe_mul]
  norm_num
theorem cTwo : Ideal.ofBits .f32 0x40000000#32 = ((2 : ℝ) : EReal) := by
  simp [Ideal.ofBits, Ideal.ieee, -EReal.coe_mul]
  norm_num
theorem cHalf : Ideal.ofBits .f32 0x3F000000#32 = ((1 / 2 : ℝ) : EReal) := by
  simp [Ideal.ofBits, Ideal.ieee, -EReal.coe_mul]
  norm_num
theorem cZero : Ideal.ofBits .f32 0x00000000#32 = ((0 : ℝ) : EReal) := by
  simp [Ideal.ofBits, Ideal.ieee]
/-- One over the width, and half of it. -/
theorem cInv : Ideal.ofBits .f32 0x3A000000#32 = ((1 / 2048 : ℝ) : EReal) := by
  simp [Ideal.ofBits, Ideal.ieee, -EReal.coe_mul]
  norm_num
theorem cInvHalf : Ideal.ofBits .f32 0x39800000#32 = ((1 / 4096 : ℝ) : EReal) := by
  simp [Ideal.ofBits, Ideal.ieee, -EReal.coe_mul]
  norm_num
theorem div2048 (x : ℝ) : Ideal.div (x : EReal) ((2048 : ℝ) : EReal) = ((x / 2048 : ℝ) : EReal) := div_real _ _ (by norm_num)

/-- The sigmoid, and the form both programs write it in. -/
def sg (x : ℝ) : ℝ := (1 + Real.exp (-x))⁻¹
theorem sg_eq (x : ℝ) : Ideal.div ((1 : ℝ) : EReal) (((1 : ℝ) : EReal) + Ideal.exp (-(x : EReal))) = ((sg x : ℝ) : EReal) := by
  rw [← EReal.coe_neg, Ideal.exp_coe, ← EReal.coe_add, div_real _ _ (add_pos one_pos (Real.exp_pos _)).ne', one_div]
  rfl

/-- The arguments: the residual's rows, the branches' rows, the side input's rows, the targets, the norm's gain, the
three weights. -/
structure Args where
  x : Fin 8192 → Fin 2048 → ℝ
  y : Fin 8192 → Fin 2048 → ℝ
  p : Fin 8192 → Fin 256 → ℝ
  t : Fin 8192 → Fin 2048 → ℝ
  g : Fin 2048 → ℝ
  wo : Fin 2048 → Fin 2048 → ℝ
  wg : Fin 2048 → Fin 2048 → ℝ
  we : Fin 256 → Fin 2048 → ℝ

namespace Args

variable (a : Args) (R : Fin 8192) (n : Fin 2048)

/-- The projected row, its mean square and reciprocal root, the normalised row, the residual sum. -/
def o : ℝ := ∑ k, a.y R k * a.wo k n
def ms : ℝ := (∑ k, a.o R k * a.o R k) / 2048 + eps
def rs : ℝ := (Real.sqrt (a.ms R))⁻¹
def on : ℝ := a.o R n * a.rs R
def h : ℝ := a.x R n + a.on R n * a.g n
/-- The gate, the side input's projection, the distance to the target. -/
def gt : ℝ := sg (∑ k, a.h R k * a.wg k n)
def pe : ℝ := ∑ k, a.p R k * a.we k n
def d : ℝ := a.h R n + a.pe R n * a.gt R n - a.t R n
/-- The gradients: of the output, of the gate's argument, of the residual sum, of the normalised row, of the projected row, of the branches' row. -/
def dt : ℝ := a.d R n * (1 / 2048)
def dq : ℝ := a.dt R n * a.gt R n * a.pe R n * (1 - a.gt R n)
def dh : ℝ := a.dt R n + ∑ k, a.dq R k * a.wg n k
def dn : ℝ := a.dh R n * a.g n
def dc : ℝ := a.rs R * (a.dn R n - a.on R n * ((∑ k, a.dn R k * a.on R k) / 2048))
def dy : ℝ := ∑ k, a.dc R k * a.wo n k
/-- The sums over the rows: the side weight's gradient, the gain's gradient, the loss. -/
def ge (j : Fin 256) : ℝ := ∑ R, a.p R j * (a.dt R n * a.gt R n)
def gg : ℝ := ∑ R, a.dh R n * a.on R n
def loss : ℝ := ∑ R, (∑ n, a.d R n * a.d R n) * (1 / 4096)

theorem ms_pos : 0 < a.ms R :=
  add_pos_of_nonneg_of_pos (div_nonneg (Finset.sum_nonneg fun k _ => mul_self_nonneg _) (by norm_num)) eps_pos
theorem rs_eq : Ideal.rsqrt ((a.ms R : ℝ) : EReal) = ((a.rs R : ℝ) : EReal) := rsqrt_real _ (a.ms_pos R)
theorem rs_sq : a.rs R / a.ms R = a.rs R * (a.rs R * a.rs R) := by
  have h : a.rs R * a.rs R = (a.ms R)⁻¹ := by
    unfold rs
    rw [← mul_inv, Real.mul_self_sqrt (a.ms_pos R).le]
  rw [h, div_eq_mul_inv]

end Args

end Cert.HdModel
end
-- ==== Proof.Hd.Pay.lean ====
module

public import proofs.«01_k».proof.Proof.Gen.Kernel3Ideal.Skeleton
public import proofs.«01_k».proof.Proof.Hd.Model

/-! The head's vectors at one tile of rows, over the real numbers. -/

@[expose] public section

set_option maxRecDepth 16384

noncomputable section

namespace Cert.Kernel3Ideal.HdVal

open Idealize.ShloMosaic Idealize.ShloMosaic.TcCoe Idealize.SL.Sem
open Cert.Kernel3Ideal Cert.Kernel3Ideal.Gen Cert.Reals Cert.HdModel

/-- A vector whose entries are the given reals. -/
def Is2 {m n : Nat} (v : (⟨2, ![m, n]⟩ : Shape).Idx → EReal) (f : Fin m → Fin n → ℝ) : Prop := ∀ i j, v (ix2 i j) = ((f i j : ℝ) : EReal)

/-- The four slabs of columns. -/
def sl0 (j : Fin 512) : Fin 2048 := ⟨j.val, by omega⟩
def sl1 (j : Fin 512) : Fin 2048 := ⟨512 + j.val, by omega⟩
def sl2 (j : Fin 512) : Fin 2048 := ⟨1024 + j.val, by omega⟩
def sl3 (j : Fin 512) : Fin 2048 := ⟨1536 + j.val, by omega⟩

/-- The slabs' columns together are all the columns. -/
theorem sum_sl (f : Fin 2048 → ℝ) : ∑ n, f n = (∑ j, f (sl0 j)) + (∑ j, f (sl1 j)) + (∑ j, f (sl2 j)) + ∑ j, f (sl3 j) := by
  have h0 := Fin.sum_univ_add (a := 1536) (b := 512) f
  have h1 := Fin.sum_univ_add (a := 1024) (b := 512) fun k : Fin 1536 => f ⟨k.val, by omega⟩
  have h2 := Fin.sum_univ_add (a := 512) (b := 512) fun k : Fin 1024 => f ⟨k.val, by omega⟩
  exact h0.trans (congrArg (· + _) (h1.trans (congrArg (· + _) h2)))

variable {a : Args} {e : Fin 256 → Fin 8192}

/-! ## The whole rows -/

theorem o_at {Y : S256x2048.Idx → EReal} {W : S2048x2048.Idx → EReal} (hY : Is2 Y fun r k => a.y (e r) k) (hW : Is2 W a.wo) :
    Is2 (k0_pay13 (F := Ideal) Y W) fun r n => a.o (e r) n := fun r n => by
  unfold Is2 at hY hW
  pointwise [k0_pay13, hY, hW]
  simp only [← EReal.coe_mul, coe_sum]
  rfl
theorem rs_at {Y : S256x2048.Idx → EReal} {W : S2048x2048.Idx → EReal} (hO : Is2 (k0_pay13 (F := Ideal) Y W) fun r n => a.o (e r) n) :
    Is2 (k0_pay14 (F := Ideal) Y W) fun r (y : Fin 1) => a.rs (e r) := fun r y => by
  unfold Is2 at hO
  pointwise [k0_pay14, hO]
  simp only [c2048, cEps, div2048, ← EReal.coe_mul, coe_sum, ← EReal.coe_add]
  exact a.rs_eq _
section
variable {O : S256x2048.Idx → EReal} {S : S256x1.Idx → EReal} (hO : Is2 O fun r n => a.o (e r) n) (hS : Is2 S fun r (y : Fin 1) => a.rs (e r))
include hO hS
theorem on_at : Is2 (k0_pay15 (F := Ideal) O S) fun r n => a.on (e r) n := fun r n => by
  unfold Is2 at hO hS
  pointwise [k0_pay15, hO, hS]
  rfl
variable {X : S256x2048.Idx → EReal} {G : S1x2048.Idx → EReal} (hX : Is2 X fun r k => a.x (e r) k) (hG : Is2 G fun (y : Fin 1) k => a.g k)
include hX hG
theorem h_at : Is2 (k0_pay16 (F := Ideal) O S X G) fun r n => a.h (e r) n := fun r n => by
  have hN := on_at hO hS
  unfold Is2 at hN hX hG
  pointwise [k0_pay16, hN, hX, hG]
  rfl
theorem hb_at : Is2 (k0_pay17 (F := Ideal) O S X G) fun r n => a.h (e r) n := fun r n => by
  have hH := h_at hO hS hX hG
  unfold Is2 at hH
  pointwise [k0_pay17, hH]
theorem gt_at {W : S2048x2048.Idx → EReal} (hW : Is2 W a.wg) : Is2 (k0_pay18 (F := Ideal) O S X G W) fun r n => a.gt (e r) n := fun r n => by
  have hH := hb_at hO hS hX hG
  unfold Is2 at hH hW
  pointwise [k0_pay18, hH, hW]
  simp only [← EReal.coe_mul, coe_sum, ← EReal.coe_one]
  exact sg_eq _
end

/-! ## The four slabs of columns -/

/-- The sum of a tile's squares over its rows and columns. -/
theorem sum_sq (v : S256x512.Idx → EReal) (f : Fin 256 → Fin 512 → ℝ) (hv : Is2 v f) :
    extractAt ![0, 0, 0] (shapeCast S1x1x1 (multiReduction (F := Ideal) (φ := .f32) .add [1, 2] S1 (shapeCast S1x256x512 (mulf (F := Ideal) (φ := .f32) v v) shapeCasts_S256x512_S1x256x512) 0x00000000#32 reduces_S1x256x512_S1 (.inl rfl) rfl) shapeCasts_S1_S1x1x1) inpos_S1x1x1_p0_0_0
      = ((∑ r, ∑ j, f r j * f r j : ℝ) : EReal) := by
  unfold Is2 at hv
  pointwise [hv]
  simp only [← EReal.coe_mul, coe_sum]

/-! Slab 0. -/

section
variable {P : S256x256.Idx → EReal} (hP : Is2 P fun r k => a.p (e r) k) {E : S256x512.Idx → EReal} (hE : Is2 E fun r j => a.pe (e r) (sl0 j))
include hP in
theorem pe_at0 {W : S1x256x512.Idx → EReal} (hW : ∀ (k : Fin 256) (j : Fin 512), W (ix3 0 k j) = ((a.we k (sl0 j) : ℝ) : EReal)) :
    Is2 (k0_pay9 (F := Ideal) P W) fun r j => a.pe (e r) (sl0 j) := fun r j => by
  unfold Is2 at hP
  pointwise [k0_pay9, k0_pay8, hP, hW]
  simp only [← EReal.coe_mul, coe_sum]
  rfl
variable {O : S256x2048.Idx → EReal} {S : S256x1.Idx → EReal} (hO : Is2 O fun r n => a.o (e r) n) (hS : Is2 S fun r (y : Fin 1) => a.rs (e r))
  {X : S256x2048.Idx → EReal} {G : S1x2048.Idx → EReal} (hX : Is2 X fun r k => a.x (e r) k) (hG : Is2 G fun (y : Fin 1) k => a.g k)
  {W : S2048x2048.Idx → EReal} (hW : Is2 W a.wg) {T : S256x512.Idx → EReal} (hT : Is2 T fun r j => a.t (e r) (sl0 j))
include hO hS hX hG hW
theorem gs_at0 : Is2 (k0_pay19 (F := Ideal) O S X G W) fun r j => a.gt (e r) (sl0 j) := fun r j => by
  have hA := gt_at hO hS hX hG hW
  unfold Is2 at hA
  pointwise [k0_pay19, hA]
  rfl
include hE hT
theorem d_at0 : Is2 (k0_pay20 (F := Ideal) E O S X G W T) fun r j => a.d (e r) (sl0 j) := fun r j => by
  have hA := gs_at0 hO hS hX hG hW
  have hB := h_at hO hS hX hG
  unfold Is2 at hE hA hB hT
  pointwise [k0_pay20, hA, hB, hE, hT]
  simp only [← EReal.coe_mul, ← EReal.coe_add, ← EReal.coe_sub]
  rfl
theorem ls_at0 (L : S8x128.Idx → EReal) (i : Fin 8) (j : Fin 128) :
    k0_pay21 (F := Ideal) E O S X G W T L (ix2 i j) = L (ix2 i j) + (((∑ r, ∑ j, a.d (e r) (sl0 j) * a.d (e r) (sl0 j)) * (1 / 4096) : ℝ) : EReal) := by
  have hq := sum_sq _ _ (d_at0 hE hO hS hX hG hW hT)
  rw [EReal.coe_mul, ← hq, ← cInvHalf]
  refine Eq.trans (b := shapeCast S8x128 L shapeCasts_S8x128_S8x128 (ix2 i j) + _) rfl (congrArg (· + _) ?_)
  pointwise []
theorem dt_at0 : Is2 (k0_pay22 (F := Ideal) E O S X G W T) fun r j => a.dt (e r) (sl0 j) := fun r j => by
  have hD := d_at0 hE hO hS hX hG hW hT
  unfold Is2 at hD
  pointwise [k0_pay22, hD]
  rw [cInv, ← EReal.coe_mul]
  rfl
theorem dts_at0 : Is2 (k0_pay23 (F := Ideal) E O S X G W T) fun r j => a.dt (e r) (sl0 j) := fun r j => by
  have hD := dt_at0 hE hO hS hX hG hW hT
  unfold Is2 at hD
  pointwise [k0_pay23, hD]
end
section
variable {C : S256x512.Idx → EReal} (hC : Is2 C fun r j => a.gt (e r) (sl0 j)) {D : S256x512.Idx → EReal} (hD : Is2 D fun r j => a.dt (e r) (sl0 j))
include hC hD
theorem dg_at0 : Is2 (k0_pay24 (F := Ideal) C D) fun r j => a.dt (e r) (sl0 j) * a.gt (e r) (sl0 j) := fun r j => by
  unfold Is2 at hC hD
  pointwise [k0_pay24, hC, hD]
  rfl
theorem gw_at0 {P : S256x256.Idx → EReal} (hP : Is2 P fun r k => a.p (e r) k) (L : S1x256x512.Idx → EReal) (i : Fin 256) (j : Fin 512) :
    k0_pay25 (F := Ideal) (k0_pay8 (F := Ideal) P) C D L (ix3 0 i j) = L (ix3 0 i j) + ((∑ r, a.p (e r) i * (a.dt (e r) (sl0 j) * a.gt (e r) (sl0 j)) : ℝ) : EReal) := by
  have hA := dg_at0 hC hD
  unfold Is2 at hA hP
  pointwise [k0_pay25, k0_pay8, hA, hP]
  simp only [← EReal.coe_mul, coe_sum]
theorem dq_at0 {E : S256x512.Idx → EReal} (hE : Is2 E fun r j => a.pe (e r) (sl0 j)) : Is2 (k0_pay26 (F := Ideal) E C D) fun r j => a.dq (e r) (sl0 j) := fun r j => by
  have hA := dg_at0 hC hD
  unfold Is2 at hA hE hC
  pointwise [k0_pay26, hA, hE, hC]
  simp only [cOne, ← EReal.coe_mul, ← EReal.coe_sub, ← EReal.coe_one]
  rfl
end

/-! Slab 1. -/

section
variable {P : S256x256.Idx → EReal} (hP : Is2 P fun r k => a.p (e r) k) {E : S256x512.Idx → EReal} (hE : Is2 E fun r j => a.pe (e r) (sl1 j))
include hP in
theorem pe_at1 {W : S1x256x512.Idx → EReal} (hW : ∀ (k : Fin 256) (j : Fin 512), W (ix3 0 k j) = ((a.we k (sl1 j) : ℝ) : EReal)) :
    Is2 (k0_pay10 (F := Ideal) P W) fun r j => a.pe (e r) (sl1 j) := fun r j => by
  unfold Is2 at hP
  pointwise [k0_pay10, k0_pay8, hP, hW]
  simp only [← EReal.coe_mul, coe_sum]
  rfl
variable {B : S256x2048.Idx → EReal} (hB : Is2 B fun r n => a.h (e r) n) {C : S256x2048.Idx → EReal} (hC : Is2 C fun r n => a.gt (e r) n)
  {T : S256x512.Idx → EReal} (hT : Is2 T fun r j => a.t (e r) (sl1 j))
include hC
theorem gs_at1 : Is2 (k0_pay27 (F := Ideal) C) fun r j => a.gt (e r) (sl1 j) := fun r j => by
  unfold Is2 at hC
  pointwise [k0_pay27, hC]
  rfl
include hE hT hB
theorem d_at1 : Is2 (k0_pay28 (F := Ideal) E B C T) fun r j => a.d (e r) (sl1 j) := fun r j => by
  have hA := gs_at1 hC
  unfold Is2 at hE hA hB hT
  pointwise [k0_pay28, hA, hB, hE, hT]
  simp only [← EReal.coe_mul, ← EReal.coe_add, ← EReal.coe_sub]
  rfl
theorem ls_at1 (L : S8x128.Idx → EReal) (i : Fin 8) (j : Fin 128) :
    k0_pay29 (F := Ideal) E B C T L (ix2 i j) = L (ix2 i j) + (((∑ r, ∑ j, a.d (e r) (sl1 j) * a.d (e r) (sl1 j)) * (1 / 4096) : ℝ) : EReal) := by
  have hq := sum_sq _ _ (d_at1 hE hB hC hT)
  rw [EReal.coe_mul, ← hq, ← cInvHalf]
  refine Eq.trans (b := shapeCast S8x128 L shapeCasts_S8x128_S8x128 (ix2 i j) + _) rfl (congrArg (· + _) ?_)
  pointwise []
theorem dt_at1 : Is2 (k0_pay30 (F := Ideal) E B C T) fun r j => a.dt (e r) (sl1 j) := fun r j => by
  have hD := d_at1 hE hB hC hT
  unfold Is2 at hD
  pointwise [k0_pay30, hD]
  rw [cInv, ← EReal.coe_mul]
  rfl
end
theorem dts_at1 {D : S256x512.Idx → EReal} (hD : Is2 D fun r j => a.dt (e r) (sl1 j)) : Is2 (k0_pay31 (F := Ideal) D) fun r j => a.dt (e r) (sl1 j) := fun r j => by
  unfold Is2 at hD
  pointwise [k0_pay31, hD]
section
variable {C : S256x512.Idx → EReal} (hC : Is2 C fun r j => a.gt (e r) (sl1 j)) {D : S256x512.Idx → EReal} (hD : Is2 D fun r j => a.dt (e r) (sl1 j))
include hC hD
theorem dg_at1 : Is2 (k0_pay32 (F := Ideal) C D) fun r j => a.dt (e r) (sl1 j) * a.gt (e r) (sl1 j) := fun r j => by
  unfold Is2 at hC hD
  pointwise [k0_pay32, hC, hD]
  rfl
theorem gw_at1 {P : S256x256.Idx → EReal} (hP : Is2 P fun r k => a.p (e r) k) (L : S1x256x512.Idx → EReal) (i : Fin 256) (j : Fin 512) :
    k0_pay33 (F := Ideal) (k0_pay8 (F := Ideal) P) C D L (ix3 0 i j) = L (ix3 0 i j) + ((∑ r, a.p (e r) i * (a.dt (e r) (sl1 j) * a.gt (e r) (sl1 j)) : ℝ) : EReal) := by
  have hA := dg_at1 hC hD
  unfold Is2 at hA hP
  pointwise [k0_pay33, k0_pay8, hA, hP]
  simp only [← EReal.coe_mul, coe_sum]
theorem dq_at1 {E : S256x512.Idx → EReal} (hE : Is2 E fun r j => a.pe (e r) (sl1 j)) : Is2 (k0_pay34 (F := Ideal) E C D) fun r j => a.dq (e r) (sl1 j) := fun r j => by
  have hA := dg_at1 hC hD
  unfold Is2 at hA hE hC
  pointwise [k0_pay34, hA, hE, hC]
  simp only [cOne, ← EReal.coe_mul, ← EReal.coe_sub, ← EReal.coe_one]
  rfl
end

/-! Slab 2. -/

section
variable {P : S256x256.Idx → EReal} (hP : Is2 P fun r k => a.p (e r) k) {E : S256x512.Idx → EReal} (hE : Is2 E fun r j => a.pe (e r) (sl2 j))
include hP in
theorem pe_at2 {W : S1x256x512.Idx → EReal} (hW : ∀ (k : Fin 256) (j : Fin 512), W (ix3 0 k j) = ((a.we k (sl2 j) : ℝ) : EReal)) :
    Is2 (k0_pay11 (F := Ideal) P W) fun r j => a.pe (e r) (sl2 j) := fun r j => by
  unfold Is2 at hP
  pointwise [k0_pay11, k0_pay8, hP, hW]
  simp only [← EReal.coe_mul, coe_sum]
  rfl
variable {B : S256x2048.Idx → EReal} (hB : Is2 B fun r n => a.h (e r) n) {C : S256x2048.Idx → EReal} (hC : Is2 C fun r n => a.gt (e r) n)
  {T : S256x512.Idx → EReal} (hT : Is2 T fun r j => a.t (e r) (sl2 j))
include hC
theorem gs_at2 : Is2 (k0_pay35 (F := Ideal) C) fun r j => a.gt (e r) (sl2 j) := fun r j => by
  unfold Is2 at hC
  pointwise [k0_pay35, hC]
  rfl
include hE hT hB
theorem d_at2 : Is2 (k0_pay36 (F := Ideal) E B C T) fun r j => a.d (e r) (sl2 j) := fun r j => by
  have hA := gs_at2 hC
  unfold Is2 at hE hA hB hT
  pointwise [k0_pay36, hA, hB, hE, hT]
  simp only [← EReal.coe_mul, ← EReal.coe_add, ← EReal.coe_sub]
  rfl
theorem ls_at2 (L : S8x128.Idx → EReal) (i : Fin 8) (j : Fin 128) :
    k0_pay37 (F := Ideal) E B C T L (ix2 i j) = L (ix2 i j) + (((∑ r, ∑ j, a.d (e r) (sl2 j) * a.d (e r) (sl2 j)) * (1 / 4096) : ℝ) : EReal) := by
  have hq := sum_sq _ _ (d_at2 hE hB hC hT)
  rw [EReal.coe_mul, ← hq, ← cInvHalf]
  refine Eq.trans (b := shapeCast S8x128 L shapeCasts_S8x128_S8x128 (ix2 i j) + _) rfl (congrArg (· + _) ?_)
  pointwise []
theorem dt_at2 : Is2 (k0_pay38 (F := Ideal) E B C T) fun r j => a.dt (e r) (sl2 j) := fun r j => by
  have hD := d_at2 hE hB hC hT
  unfold Is2 at hD
  pointwise [k0_pay38, hD]
  rw [cInv, ← EReal.coe_mul]
  rfl
end
theorem dts_at2 {D : S256x512.Idx → EReal} (hD : Is2 D fun r j => a.dt (e r) (sl2 j)) : Is2 (k0_pay39 (F := Ideal) D) fun r j => a.dt (e r) (sl2 j) := fun r j => by
  unfold Is2 at hD
  pointwise [k0_pay39, hD]
section
variable {C : S256x512.Idx → EReal} (hC : Is2 C fun r j => a.gt (e r) (sl2 j)) {D : S256x512.Idx → EReal} (hD : Is2 D fun r j => a.dt (e r) (sl2 j))
include hC hD
theorem dg_at2 : Is2 (k0_pay40 (F := Ideal) C D) fun r j => a.dt (e r) (sl2 j) * a.gt (e r) (sl2 j) := fun r j => by
  unfold Is2 at hC hD
  pointwise [k0_pay40, hC, hD]
  rfl
theorem gw_at2 {P : S256x256.Idx → EReal} (hP : Is2 P fun r k => a.p (e r) k) (L : S1x256x512.Idx → EReal) (i : Fin 256) (j : Fin 512) :
    k0_pay41 (F := Ideal) (k0_pay8 (F := Ideal) P) C D L (ix3 0 i j) = L (ix3 0 i j) + ((∑ r, a.p (e r) i * (a.dt (e r) (sl2 j) * a.gt (e r) (sl2 j)) : ℝ) : EReal) := by
  have hA := dg_at2 hC hD
  unfold Is2 at hA hP
  pointwise [k0_pay41, k0_pay8, hA, hP]
  simp only [← EReal.coe_mul, coe_sum]
theorem dq_at2 {E : S256x512.Idx → EReal} (hE : Is2 E fun r j => a.pe (e r) (sl2 j)) : Is2 (k0_pay42 (F := Ideal) E C D) fun r j => a.dq (e r) (sl2 j) := fun r j => by
  have hA := dg_at2 hC hD
  unfold Is2 at hA hE hC
  pointwise [k0_pay42, hA, hE, hC]
  simp only [cOne, ← EReal.coe_mul, ← EReal.coe_sub, ← EReal.coe_one]
  rfl
end

/-! Slab 3. -/

section
variable {P : S256x256.Idx → EReal} (hP : Is2 P fun r k => a.p (e r) k) {E : S256x512.Idx → EReal} (hE : Is2 E fun r j => a.pe (e r) (sl3 j))
include hP in
theorem pe_at3 {W : S1x256x512.Idx → EReal} (hW : ∀ (k : Fin 256) (j : Fin 512), W (ix3 0 k j) = ((a.we k (sl3 j) : ℝ) : EReal)) :
    Is2 (k0_pay12 (F := Ideal) P W) fun r j => a.pe (e r) (sl3 j) := fun r j => by
  unfold Is2 at hP
  pointwise [k0_pay12, k0_pay8, hP, hW]
  simp only [← EReal.coe_mul, coe_sum]
  rfl
variable {B : S256x2048.Idx → EReal} (hB : Is2 B fun r n => a.h (e r) n) {C : S256x2048.Idx → EReal} (hC : Is2 C fun r n => a.gt (e r) n)
  {T : S256x512.Idx → EReal} (hT : Is2 T fun r j => a.t (e r) (sl3 j))
include hC
theorem gs_at3 : Is2 (k0_pay43 (F := Ideal) C) fun r j => a.gt (e r) (sl3 j) := fun r j => by
  unfold Is2 at hC
  pointwise [k0_pay43, hC]
  rfl
include hE hT hB
theorem d_at3 : Is2 (k0_pay44 (F := Ideal) E B C T) fun r j => a.d (e r) (sl3 j) := fun r j => by
  have hA := gs_at3 hC
  unfold Is2 at hE hA hB hT
  pointwise [k0_pay44, hA, hB, hE, hT]
  simp only [← EReal.coe_mul, ← EReal.coe_add, ← EReal.coe_sub]
  rfl
theorem ls_at3 (L : S8x128.Idx → EReal) (i : Fin 8) (j : Fin 128) :
    k0_pay45 (F := Ideal) E B C T L (ix2 i j) = L (ix2 i j) + (((∑ r, ∑ j, a.d (e r) (sl3 j) * a.d (e r) (sl3 j)) * (1 / 4096) : ℝ) : EReal) := by
  have hq := sum_sq _ _ (d_at3 hE hB hC hT)
  rw [EReal.coe_mul, ← hq, ← cInvHalf]
  refine Eq.trans (b := shapeCast S8x128 L shapeCasts_S8x128_S8x128 (ix2 i j) + _) rfl (congrArg (· + _) ?_)
  pointwise []
end
theorem dt_at3 {D : S256x512.Idx → EReal} (hD : Is2 D fun r j => a.d (e r) (sl3 j)) : Is2 (k0_pay46 (F := Ideal) D) fun r j => a.dt (e r) (sl3 j) := fun r j => by
  unfold Is2 at hD
  pointwise [k0_pay46, hD]
  rw [cInv, ← EReal.coe_mul]
  rfl
theorem dts_at3 {D : S256x512.Idx → EReal} (hD : Is2 D fun r j => a.d (e r) (sl3 j)) : Is2 (k0_pay47 (F := Ideal) D) fun r j => a.dt (e r) (sl3 j) := fun r j => by
  have hT := dt_at3 hD
  unfold Is2 at hT
  pointwise [k0_pay47, hT]
section
variable {C : S256x512.Idx → EReal} (hC : Is2 C fun r j => a.gt (e r) (sl3 j)) {D : S256x512.Idx → EReal} (hD : Is2 D fun r j => a.d (e r) (sl3 j))
include hC hD
theorem dg_at3 : Is2 (k0_pay48 (F := Ideal) C D) fun r j => a.dt (e r) (sl3 j) * a.gt (e r) (sl3 j) := fun r j => by
  have hD := dt_at3 hD
  unfold Is2 at hC hD
  pointwise [k0_pay48, hC, hD]
  rfl
theorem gw_at3 {P : S256x256.Idx → EReal} (hP : Is2 P fun r k => a.p (e r) k) (L : S1x256x512.Idx → EReal) (i : Fin 256) (j : Fin 512) :
    k0_pay49 (F := Ideal) (k0_pay8 (F := Ideal) P) C D L (ix3 0 i j) = L (ix3 0 i j) + ((∑ r, a.p (e r) i * (a.dt (e r) (sl3 j) * a.gt (e r) (sl3 j)) : ℝ) : EReal) := by
  have hA := dg_at3 hC hD
  unfold Is2 at hA hP
  pointwise [k0_pay49, k0_pay8, hA, hP]
  simp only [← EReal.coe_mul, coe_sum]
theorem dq_at3 {E : S256x512.Idx → EReal} (hE : Is2 E fun r j => a.pe (e r) (sl3 j)) : Is2 (k0_pay50 (F := Ideal) E C D) fun r j => a.dq (e r) (sl3 j) := fun r j => by
  have hA := dg_at3 hC hD
  unfold Is2 at hA hE hC
  pointwise [k0_pay50, hA, hE, hC]
  simp only [cOne, ← EReal.coe_mul, ← EReal.coe_sub, ← EReal.coe_one]
  rfl
end

/-! ## The rows' gradients -/

section
variable {U Q : S256x2048.Idx → EReal} (hU : Is2 U fun r n => a.dt (e r) n) (hQ : Is2 Q fun r n => a.dq (e r) n) {W : S2048x2048.Idx → EReal} (hW : Is2 W a.wg)
include hU hQ hW
theorem dh_at : Is2 (k0_pay51 (F := Ideal) U Q W) fun r n => a.dh (e r) n := fun r n => by
  unfold Is2 at hU hQ hW
  pointwise [k0_pay51, hU, hQ, hW]
  simp only [← EReal.coe_mul, coe_sum, ← EReal.coe_add]
  rfl
end
/-- A group of eight rows' share of the gain's gradient. -/
theorem gp_at {N U Q : S256x2048.Idx → EReal} {W : S2048x2048.Idx → EReal} (hH : Is2 (k0_pay51 (F := Ideal) U Q W) fun r n => a.dh (e r) n)
    (hN : Is2 N fun r n => a.on (e r) n) (L : S8x2048.Idx → EReal) (b : Fin 8) (n : Fin 2048) :
    k0_pay1 (F := Ideal) (k0_pay52 (F := Ideal) L) (k0_pay53 (F := Ideal) N U Q W) (ix2 b n)
      = L (ix2 b n) + ((∑ s : Fin 32, a.dh (e ⟨s.val * 8 + b.val, by omega⟩) n * a.on (e ⟨s.val * 8 + b.val, by omega⟩) n : ℝ) : EReal) := by
  unfold Is2 at hH hN
  pointwise [k0_pay1, k0_pay52, k0_pay53, hH, hN]
  simp only [← EReal.coe_mul, coe_sum]
theorem zero5 (i) : k0_pay5 (F := Ideal) i = 0 := by
  idx_vars i
  pointwise [k0_pay5]
theorem zero6 (i) : k0_pay6 (F := Ideal) i = 0 := by
  idx_vars i
  pointwise [k0_pay6]
theorem zero7 (i) : k0_pay7 (F := Ideal) i = 0 := by
  idx_vars i
  pointwise [k0_pay7]
theorem gl_at (L : S8x2048.Idx → EReal) (b : Fin 8) (n : Fin 2048) : k0_pay4 (F := Ideal) L (ix2 b n) = ∑ b : Fin 8, L (ix2 b n) := by
  pointwise [k0_pay4]
section
variable {N D : S256x2048.Idx → EReal} {S : S256x1.Idx → EReal} {G : S1x2048.Idx → EReal} (hN : Is2 N fun r n => a.on (e r) n) (hD : Is2 D fun r n => a.dh (e r) n)
  (hS : Is2 S fun r (y : Fin 1) => a.rs (e r)) (hG : Is2 G fun (y : Fin 1) k => a.g k)
include hN hD hS hG
theorem dc_at : Is2 (k0_pay2 (F := Ideal) S N D G) fun r n => a.dc (e r) n := fun r n => by
  unfold Is2 at hN hD hS hG
  pointwise [k0_pay2, hN, hD, hS, hG]
  simp only [c2048, div2048, ← EReal.coe_mul, coe_sum, ← EReal.coe_sub]
  rfl
theorem dy_at {W : S2048x2048.Idx → EReal} (hW : Is2 W a.wo) : Is2 (k0_pay3 (F := Ideal) S N D G W) fun r n => a.dy (e r) n := fun r n => by
  have hC := dc_at hN hD hS hG
  unfold Is2 at hC hW
  pointwise [k0_pay3, hC, hW]
  simp only [← EReal.coe_mul, coe_sum]
  rfl
end

end Cert.Kernel3Ideal.HdVal
end
-- ==== Proof.Hd.Rows.lean ====
module

public import proofs.«01_k».proof.Proof.Gen.Kernel3Ideal.Frame
public import proofs.«01_k».proof.Proof.Hd.Pay
public import Idealize.ShloMosaic.Lib.Pipeline.ValueKit
public import Idealize.ShloMosaic.Lib.Pipeline.ReadBack

/-! What one point of the head's grid leaves in each result, over the real numbers. -/

@[expose] public section

set_option maxRecDepth 16384

noncomputable section

namespace Cert.Kernel3Ideal.HdVal

open Idealize.ShloMosaic Idealize.ShloMosaic.TcCoe Idealize.SL.Sem
open Idealize.ShloMosaic.Pipeline (Dat)
open Cert.Kernel3Ideal Cert.Kernel3Ideal.Gen Cert.Reals Cert.HdModel

/-! ## Four slabs put together -/

/-- Four slabs of columns stored one after another hold all the columns. -/
theorem slabs {Val : EltTy → Type} [∀ e, Nonempty (Val e)] {ε : EltTy} {L0 L1 L2 L3 : S256x512.Idx → Val ε} {F : S256x2048.Idx → Val ε}
    (p0 : ∀ r j, L0 (ix2 r j) = F (ix2 r (sl0 j))) (p1 : ∀ r j, L1 (ix2 r j) = F (ix2 r (sl1 j)))
    (p2 : ∀ r j, L2 (ix2 r j) = F (ix2 r (sl2 j))) (p3 : ∀ r j, L3 (ix2 r j) = F (ix2 r (sl3 j))) (y : S256x2048.Idx) :
    View.canon ([⟨Rect.unit (s := S256x2048) ![0, 1536] ![256, 512] inb_S256x2048_S256x512_0_1536, L3⟩,
      ⟨Rect.unit (s := S256x2048) ![0, 1024] ![256, 512] inb_S256x2048_S256x512_0_1024, L2⟩,
      ⟨Rect.unit (s := S256x2048) ![0, 512] ![256, 512] inb_S256x2048_S256x512_0_512, L1⟩,
      ⟨Rect.unit (s := S256x2048) ![0, 0] ![256, 512] inb_S256x2048_S256x512_0_0, L0⟩] : List (View.Piece Val S256x2048 ε)) y = F y := by
  canon_tiles x h
  all_goals
    idx_vars x
    idx_vars y
    have q : ∀ u : Fin 2048, y1.val = u.val → F (ix2 x0 u) = F (ix2 y0 y1) := fun u hu => congrArg₂ (fun a b => F (ix2 a b)) (Fin.ext h0.symm) (Fin.ext hu.symm)
    first | exact (p0 _ _).trans (q _ h1) | exact (p1 _ _).trans (q _ h1) | exact (p2 _ _).trans (q _ h1) | exact (p3 _ _).trans (q _ h1)

/-- Four slabs of the side weight's gradient stored one after another hold all of it, whatever was stored before. -/
theorem slabs3 {Val : EltTy → Type} [∀ e, Nonempty (Val e)] {ε : EltTy} {L0 L1 L2 L3 : S1x256x512.Idx → Val ε} {F : S4x256x512.Idx → Val ε}
    (p0 : ∀ i j, L0 (ix3 0 i j) = F (ix3 0 i j)) (p1 : ∀ i j, L1 (ix3 0 i j) = F (ix3 1 i j))
    (p2 : ∀ i j, L2 (ix3 0 i j) = F (ix3 2 i j)) (p3 : ∀ i j, L3 (ix3 0 i j) = F (ix3 3 i j)) (M : List (View.Piece Val S4x256x512 ε)) (y : S4x256x512.Idx) :
    View.canon (([⟨Rect.unit (s := S4x256x512) ![3, 0, 0] ![1, 256, 512] inb_S4x256x512_S1x256x512_3_0_0, L3⟩,
      ⟨Rect.unit (s := S4x256x512) ![2, 0, 0] ![1, 256, 512] inb_S4x256x512_S1x256x512_2_0_0, L2⟩,
      ⟨Rect.unit (s := S4x256x512) ![1, 0, 0] ![1, 256, 512] inb_S4x256x512_S1x256x512_1_0_0, L1⟩,
      ⟨Rect.unit (s := S4x256x512) ![0, 0, 0] ![1, 256, 512] inb_S4x256x512_S1x256x512_0_0_0, L0⟩] : List (View.Piece Val S4x256x512 ε)) ++ M) y = F y := by
  have q : ∀ (L : S1x256x512.Idx → Val ε) (s : Fin 4) (inb), (∀ i j, L (ix3 0 i j) = F (ix3 s i j)) →
      ∀ x : S1x256x512.Idx, L x = F ((Rect.unit (s := S4x256x512) ![s.val, 0, 0] ![1, 256, 512] inb).emb x) := fun L s inb hL x => by
    idx_vars x
    obtain rfl : x0 = 0 := Subsingleton.elim _ _
    refine (hL _ _).trans (congrArg F (funext fun d => Fin.ext ?_))
    rw [Rect.emb_apply]
    fin_cases d <;> simp
  refine View.canon_append_of_piecesOf F M _ ?_ y (View.cover_of_tiled_head _ _ _ rfl y)
  exact ⟨q L3 3 inb_S4x256x512_S1x256x512_3_0_0 p3, q L2 2 inb_S4x256x512_S1x256x512_2_0_0 p2, q L1 1 inb_S4x256x512_S1x256x512_1_0_0 p1,
    q L0 0 inb_S4x256x512_S1x256x512_0_0_0 p0, trivial⟩

/-- A load of one slab. -/
theorem slab_ld {Val : EltTy → Type} {ε : EltTy} (Z : S4x256x512.Idx → Val ε) (s : Fin 4) (inb) (i : Fin 256) (j : Fin 512) :
    View.ld Z (Rect.unit (s := S4x256x512) ![s.val, 0, 0] ![1, 256, 512] inb) (ix3 0 i j) = Z (ix3 s i j) :=
  View.ld_unit_apply_of Z _ _ inb _ _ fun d => by fin_cases d <;> simp

/-- A load of the whole array just stored in four slabs of columns. -/
theorem slabs_ld {Val : EltTy → Type} [∀ e, Nonempty (Val e)] {sig : RefSig} {κ : Kind} {sp : Space} {ε : EltTy} (v : View sig κ sp S256x2048 ε)
    {L0 L1 L2 L3 : S256x512.Idx → Val ε} {F : S256x2048.Idx → Val ε}
    (p0 : ∀ r j, L0 (ix2 r j) = F (ix2 r (sl0 j))) (p1 : ∀ r j, L1 (ix2 r j) = F (ix2 r (sl1 j)))
    (p2 : ∀ r j, L2 (ix2 r j) = F (ix2 r (sl2 j))) (p3 : ∀ r j, L3 (ix2 r j) = F (ix2 r (sl3 j))) (r : Fin 256) (n : Fin 2048) :
    v.readCov ([⟨Rect.unit (s := S256x2048) ![0, 1536] ![256, 512] inb_S256x2048_S256x512_0_1536, L3⟩,
      ⟨Rect.unit (s := S256x2048) ![0, 1024] ![256, 512] inb_S256x2048_S256x512_0_1024, L2⟩,
      ⟨Rect.unit (s := S256x2048) ![0, 512] ![256, 512] inb_S256x2048_S256x512_0_512, L1⟩,
      ⟨Rect.unit (s := S256x2048) ![0, 0] ![256, 512] inb_S256x2048_S256x512_0_0, L0⟩] : List (View.Piece Val S256x2048 ε))
      (Rect.unit (s := S256x2048) ![0, 0] ![256, 2048] inb_S256x2048_S256x2048_0_0).toLoadRect (ix2 r n) = F (ix2 r n) := by
  rw [View.readCov_eq_canon']
  refine (slabs p0 p1 p2 p3 _).trans (congrArg F ?_)
  funext d
  refine Fin.ext ((Rect.idx_unit_val _ _ _ _ _).trans ?_)
  fin_cases d <;> simp

/-! ## One point -/

variable (m : (ℓ : Loc nD τ sig) → Buf (Elt Ideal) ℓ)

/-- The blocks a point reads hold these rows of the arguments. -/
structure Tile (c : Dev nD) (t : Fin cfg0.N) (a : Args) (e : Fin 256 → Fin 8192) : Prop where
  x : Is2 (iblk m c 0 t : S256x2048.Idx → EReal) fun r k => a.x (e r) k
  y : Is2 (iblk m c 1 t : S256x2048.Idx → EReal) fun r k => a.y (e r) k
  p : Is2 (iblk m c 2 t : S256x256.Idx → EReal) fun r k => a.p (e r) k
  tg : Is2 (iblk m c 3 t : S256x2048.Idx → EReal) fun r k => a.t (e r) k
  g : Is2 (iblk m c 4 t : S1x2048.Idx → EReal) fun (y : Fin 1) k => a.g k
  wo : Is2 (iblk m c 5 t : S2048x2048.Idx → EReal) a.wo
  wg : Is2 (iblk m c 6 t : S2048x2048.Idx → EReal) a.wg
  we : ∀ (s : Fin 4) (k : Fin 256) (j : Fin 512), (iblk m c 7 t : S4x256x512.Idx → EReal) (ix3 s k j) = ((a.we k ⟨s.val * 512 + j.val, by omega⟩ : ℝ) : EReal)

variable {m} {c : Dev nD} {t : Fin cfg0.N} {a : Args} {e : Fin 256 → Fin 8192} (h : Tile m c t a e)
include h

theorem Tile.o : Is2 (k0_pay13 (F := Ideal) (iblk m c 1 t) (iblk m c 5 t)) fun r n => a.o (e r) n := o_at h.y h.wo
theorem Tile.rs : Is2 (k0_pay14 (F := Ideal) (iblk m c 1 t) (iblk m c 5 t)) fun r (y : Fin 1) => a.rs (e r) := rs_at h.o

theorem Tile.we0 : Is2 (k0_pay9 (F := Ideal) (iblk m c 2 t) (View.ld (iblk m c 7 t) (Rect.unit ![0, 0, 0] ![1, 256, 512] inb_S4x256x512_S1x256x512_0_0_0))) fun r j => a.pe (e r) (sl0 j) :=
  pe_at0 h.p fun i j => (slab_ld _ 0 _ i j).trans ((h.we 0 i j).trans (congrArg (fun n => ((a.we i n : ℝ) : EReal)) (Fin.ext (by simp [sl0]))))
theorem Tile.tg0 : Is2 (View.ld (iblk m c 3 t : S256x2048.Idx → EReal) (Rect.unit ![0, 0] ![256, 512] inb_S256x2048_S256x512_0_0)) fun r j => a.t (e r) (sl0 j) := fun r j =>
  (View.ld_unit_apply_of (iblk m c 3 t : S256x2048.Idx → EReal) _ _ inb_S256x2048_S256x512_0_0 _ (ix2 r (sl0 j)) fun d => by fin_cases d <;> simp [sl0]).trans (h.tg _ _)

theorem Tile.we1 : Is2 (k0_pay10 (F := Ideal) (iblk m c 2 t) (View.ld (iblk m c 7 t) (Rect.unit ![1, 0, 0] ![1, 256, 512] inb_S4x256x512_S1x256x512_1_0_0))) fun r j => a.pe (e r) (sl1 j) :=
  pe_at1 h.p fun i j => (slab_ld _ 1 _ i j).trans ((h.we 1 i j).trans (congrArg (fun n => ((a.we i n : ℝ) : EReal)) (Fin.ext (by simp [sl1]))))
theorem Tile.tg1 : Is2 (View.ld (iblk m c 3 t : S256x2048.Idx → EReal) (Rect.unit ![0, 512] ![256, 512] inb_S256x2048_S256x512_0_512)) fun r j => a.t (e r) (sl1 j) := fun r j =>
  (View.ld_unit_apply_of (iblk m c 3 t : S256x2048.Idx → EReal) _ _ inb_S256x2048_S256x512_0_512 _ (ix2 r (sl1 j)) fun d => by fin_cases d <;> simp [sl1]).trans (h.tg _ _)

theorem Tile.we2 : Is2 (k0_pay11 (F := Ideal) (iblk m c 2 t) (View.ld (iblk m c 7 t) (Rect.unit ![2, 0, 0] ![1, 256, 512] inb_S4x256x512_S1x256x512_2_0_0))) fun r j => a.pe (e r) (sl2 j) :=
  pe_at2 h.p fun i j => (slab_ld _ 2 _ i j).trans ((h.we 2 i j).trans (congrArg (fun n => ((a.we i n : ℝ) : EReal)) (Fin.ext (by simp [sl2]))))
theorem Tile.tg2 : Is2 (View.ld (iblk m c 3 t : S256x2048.Idx → EReal) (Rect.unit ![0, 1024] ![256, 512] inb_S256x2048_S256x512_0_1024)) fun r j => a.t (e r) (sl2 j) := fun r j =>
  (View.ld_unit_apply_of (iblk m c 3 t : S256x2048.Idx → EReal) _ _ inb_S256x2048_S256x512_0_1024 _ (ix2 r (sl2 j)) fun d => by fin_cases d <;> simp [sl2]).trans (h.tg _ _)

theorem Tile.we3 : Is2 (k0_pay12 (F := Ideal) (iblk m c 2 t) (View.ld (iblk m c 7 t) (Rect.unit ![3, 0, 0] ![1, 256, 512] inb_S4x256x512_S1x256x512_3_0_0))) fun r j => a.pe (e r) (sl3 j) :=
  pe_at3 h.p fun i j => (slab_ld _ 3 _ i j).trans ((h.we 3 i j).trans (congrArg (fun n => ((a.we i n : ℝ) : EReal)) (Fin.ext (by simp [sl3]))))
theorem Tile.tg3 : Is2 (View.ld (iblk m c 3 t : S256x2048.Idx → EReal) (Rect.unit ![0, 1536] ![256, 512] inb_S256x2048_S256x512_0_1536)) fun r j => a.t (e r) (sl3 j) := fun r j =>
  (View.ld_unit_apply_of (iblk m c 3 t : S256x2048.Idx → EReal) _ _ inb_S256x2048_S256x512_0_1536 _ (ix2 r (sl3 j)) fun d => by fin_cases d <;> simp [sl3]).trans (h.tg _ _)

/-! The slabs. -/

theorem Tile.hr : Is2 (k0_pay16 (F := Ideal) (k0_pay13 (iblk m c 1 t) (iblk m c 5 t)) (k0_pay14 (iblk m c 1 t) (iblk m c 5 t)) (iblk m c 0 t) (iblk m c 4 t)) fun r n => a.h (e r) n :=
  h_at h.o h.rs h.x h.g
theorem Tile.gt : Is2 (k0_pay18 (F := Ideal) (k0_pay13 (iblk m c 1 t) (iblk m c 5 t)) (k0_pay14 (iblk m c 1 t) (iblk m c 5 t)) (iblk m c 0 t) (iblk m c 4 t) (iblk m c 6 t)) fun r n => a.gt (e r) n :=
  gt_at h.o h.rs h.x h.g h.wg
omit h in
theorem cases (t : Fin cfg0.N) : (t.val % 32 = 0 ∧ ¬t.val % 32 = 31) ∨ (¬t.val % 32 = 0 ∧ ¬t.val % 32 = 31) ∨ (¬t.val % 32 = 0 ∧ t.val % 32 = 31) := by omega

/-! The rows' results. -/

theorem h8 (r : Fin 256) (n : Fin 2048) : (outsAt0 m c t.val t.isLt).1 (ix2 r n) = ((a.h (e r) n : ℝ) : EReal) := by
  rcases cases t with ⟨h0, h1⟩ | ⟨h0, h1⟩ | ⟨h0, h1⟩ <;> first | rw [outsAt0_A m c t h0 h1] | rw [outsAt0_B m c t h0 h1] | rw [outsAt0_C m c t h0 h1]
  all_goals
    frame_out
    exact hb_at h.o h.rs h.x h.g r n
theorem h9 (y : S256x2048.Idx) : (outsAt0 m c t.val t.isLt).2.1 y = ((a.dq (e (y 0)) (y 1) : ℝ) : EReal) := by
  rcases cases t with ⟨h0, h1⟩ | ⟨h0, h1⟩ | ⟨h0, h1⟩ <;> first | rw [outsAt0_A m c t h0 h1] | rw [outsAt0_B m c t h0 h1] | rw [outsAt0_C m c t h0 h1]
  all_goals
    frame_out
    refine slabs (Val := Elt Ideal) (ε := .bf16) (F := fun y => ((a.dq (e (y 0)) (y 1) : ℝ) : EReal)) ?_ ?_ ?_ ?_ y
    · exact dq_at0 (gs_at0 h.o h.rs h.x h.g h.wg) (dt_at0 h.we0 h.o h.rs h.x h.g h.wg h.tg0) h.we0
    · exact dq_at1 (gs_at1 h.gt) (dt_at1 h.we1 h.hr h.gt h.tg1) h.we1
    · exact dq_at2 (gs_at2 h.gt) (dt_at2 h.we2 h.hr h.gt h.tg2) h.we2
    · exact dq_at3 (gs_at3 h.gt) (d_at3 h.we3 h.hr h.gt h.tg3) h.we3

theorem h10 (r : Fin 256) (n : Fin 2048) : (outsAt0 m c t.val t.isLt).2.2.1 (ix2 r n) = ((a.dh (e r) n : ℝ) : EReal) := by
  rcases cases t with ⟨h0, h1⟩ | ⟨h0, h1⟩ | ⟨h0, h1⟩ <;> first | rw [outsAt0_A m c t h0 h1] | rw [outsAt0_B m c t h0 h1] | rw [outsAt0_C m c t h0 h1]
  all_goals
    frame_out
    refine dh_at (a := a) (e := e) ?_ ?_ h.wg r n
    · intro r n
      refine (slabs_ld (Val := Elt Ideal) (ε := .f32) (F := fun y => ((a.dt (e (y 0)) (y 1) : ℝ) : EReal)) _ ?_ ?_ ?_ ?_ r n).trans rfl
      · exact dts_at0 h.we0 h.o h.rs h.x h.g h.wg h.tg0
      · exact dts_at1 (dt_at1 h.we1 h.hr h.gt h.tg1)
      · exact dts_at2 (dt_at2 h.we2 h.hr h.gt h.tg2)
      · exact dts_at3 (d_at3 h.we3 h.hr h.gt h.tg3)
    · intro r n
      refine (slabs_ld (Val := Elt Ideal) (ε := .bf16) (F := fun y => ((a.dq (e (y 0)) (y 1) : ℝ) : EReal)) _ ?_ ?_ ?_ ?_ r n).trans rfl
      · exact dq_at0 (gs_at0 h.o h.rs h.x h.g h.wg) (dt_at0 h.we0 h.o h.rs h.x h.g h.wg h.tg0) h.we0
      · exact dq_at1 (gs_at1 h.gt) (dt_at1 h.we1 h.hr h.gt h.tg1) h.we1
      · exact dq_at2 (gs_at2 h.gt) (dt_at2 h.we2 h.hr h.gt h.tg2) h.we2
      · exact dq_at3 (gs_at3 h.gt) (d_at3 h.we3 h.hr h.gt h.tg3) h.we3

theorem h11 (r : Fin 256) (n : Fin 2048) : (outsAt0 m c t.val t.isLt).2.2.2.1 (ix2 r n) = ((a.dc (e r) n : ℝ) : EReal) := by
  have h10 := h10 h
  rcases cases t with ⟨h0, h1⟩ | ⟨h0, h1⟩ | ⟨h0, h1⟩ <;> first | rw [outsAt0_A m c t h0 h1] at * | rw [outsAt0_B m c t h0 h1] at * | rw [outsAt0_C m c t h0 h1] at *
  all_goals
    frame_out at *
    exact dc_at (on_at h.o h.rs) h10 h.rs h.g r n
theorem h12 (r : Fin 256) (n : Fin 2048) : (outsAt0 m c t.val t.isLt).2.2.2.2.1 (ix2 r n) = ((a.dy (e r) n : ℝ) : EReal) := by
  have h10 := h10 h
  rcases cases t with ⟨h0, h1⟩ | ⟨h0, h1⟩ | ⟨h0, h1⟩ <;> first | rw [outsAt0_A m c t h0 h1] at * | rw [outsAt0_B m c t h0 h1] at * | rw [outsAt0_C m c t h0 h1] at *
  all_goals
    frame_out at *
    exact dy_at (on_at h.o h.rs) h10 h.rs h.g h.wo r n

/-! The sums over the rows. -/

/-- A tile's share of the side weight's gradient, of the gain's gradient (rows of one residue modulo eight), of the loss. -/
def gwS (a : Args) (e : Fin 256 → Fin 8192) (s : Fin 4) (i : Fin 256) (j : Fin 512) : ℝ :=
  ∑ r, a.p (e r) i * (a.dt (e r) ⟨s.val * 512 + j.val, by omega⟩ * a.gt (e r) ⟨s.val * 512 + j.val, by omega⟩)
def gpS (a : Args) (e : Fin 256 → Fin 8192) (b : Fin 8) (n : Fin 2048) : ℝ :=
  ∑ s : Fin 32, a.dh (e ⟨s.val * 8 + b.val, by omega⟩) n * a.on (e ⟨s.val * 8 + b.val, by omega⟩) n
def lsS (a : Args) (e : Fin 256 → Fin 8192) : ℝ := ∑ r, (∑ n, a.d (e r) n * a.d (e r) n) * (1 / 4096)

section
omit h
variable (a e)
theorem gwS_sl0 (i : Fin 256) (j : Fin 512) : ((∑ r, a.p (e r) i * (a.dt (e r) (sl0 j) * a.gt (e r) (sl0 j)) : ℝ) : EReal) = ((gwS a e 0 i j : ℝ) : EReal) := by
  have : sl0 j = ⟨(0 : Fin 4).val * 512 + j.val, by omega⟩ := Fin.ext (by simp [sl0])
  rw [this]
  rfl
theorem gwS_sl1 (i : Fin 256) (j : Fin 512) : ((∑ r, a.p (e r) i * (a.dt (e r) (sl1 j) * a.gt (e r) (sl1 j)) : ℝ) : EReal) = ((gwS a e 1 i j : ℝ) : EReal) := by
  have : sl1 j = ⟨(1 : Fin 4).val * 512 + j.val, by omega⟩ := Fin.ext (by simp [sl1])
  rw [this]
  rfl
theorem gwS_sl2 (i : Fin 256) (j : Fin 512) : ((∑ r, a.p (e r) i * (a.dt (e r) (sl2 j) * a.gt (e r) (sl2 j)) : ℝ) : EReal) = ((gwS a e 2 i j : ℝ) : EReal) := by
  have : sl2 j = ⟨(2 : Fin 4).val * 512 + j.val, by omega⟩ := Fin.ext (by simp [sl2])
  rw [this]
  rfl
theorem gwS_sl3 (i : Fin 256) (j : Fin 512) : ((∑ r, a.p (e r) i * (a.dt (e r) (sl3 j) * a.gt (e r) (sl3 j)) : ℝ) : EReal) = ((gwS a e 3 i j : ℝ) : EReal) := by
  have : sl3 j = ⟨(3 : Fin 4).val * 512 + j.val, by omega⟩ := Fin.ext (by simp [sl3])
  rw [this]
  rfl

/-- The four slabs' shares of the loss, added one after another. -/
theorem ls_sum (x : EReal) : x + (((∑ r, ∑ j, a.d (e r) (sl0 j) * a.d (e r) (sl0 j)) * (1 / 4096) : ℝ) : EReal) + (((∑ r, ∑ j, a.d (e r) (sl1 j) * a.d (e r) (sl1 j)) * (1 / 4096) : ℝ) : EReal)
      + (((∑ r, ∑ j, a.d (e r) (sl2 j) * a.d (e r) (sl2 j)) * (1 / 4096) : ℝ) : EReal) + (((∑ r, ∑ j, a.d (e r) (sl3 j) * a.d (e r) (sl3 j)) * (1 / 4096) : ℝ) : EReal)
      = x + ((lsS a e : ℝ) : EReal) := by
  simp only [add_assoc, ← EReal.coe_add]
  congr 2
  unfold lsS
  simp only [sum_sl, Finset.sum_mul, add_mul, Finset.sum_add_distrib]
  ring
end

theorem h13_A (h0 : t.val % 32 = 0) (h1 : ¬t.val % 32 = 31) (y : S4x256x512.Idx) :
    (outsAt0 m c t.val t.isLt).2.2.2.2.2.1 y = ((gwS a e (y 0) (y 1) (y 2) : ℝ) : EReal) := by
  rw [outsAt0_A m c t h0 h1]
  frame_out
  refine slabs3 (Val := Elt Ideal) (ε := .f32) (F := fun y => ((gwS a e (y 0) (y 1) (y 2) : ℝ) : EReal)) ?_ ?_ ?_ ?_ [_] y
  · intro i j
    refine (gw_at0 (gs_at0 h.o h.rs h.x h.g h.wg) (dt_at0 h.we0 h.o h.rs h.x h.g h.wg h.tg0) h.p _ i j).trans ?_
    rw [View.readCov_fill _ _ _ _ _ (by decide)]
    exact (congrArg₂ (· + ·) ((slab_ld _ 0 _ i j).trans (zero6 _)) (gwS_sl0 a e i j)).trans (zero_add _)
  · intro i j
    refine (gw_at1 (gs_at1 h.gt) (dt_at1 h.we1 h.hr h.gt h.tg1) h.p _ i j).trans ?_
    rw [View.readCov_skip _ _ _ _ _ rfl, View.readCov_fill _ _ _ _ _ (by decide)]
    exact (congrArg₂ (· + ·) ((slab_ld _ 1 _ i j).trans (zero6 _)) (gwS_sl1 a e i j)).trans (zero_add _)
  · intro i j
    refine (gw_at2 (gs_at2 h.gt) (dt_at2 h.we2 h.hr h.gt h.tg2) h.p _ i j).trans ?_
    rw [View.readCov_skip _ _ _ _ _ rfl, View.readCov_skip _ _ _ _ _ rfl, View.readCov_fill _ _ _ _ _ (by decide)]
    exact (congrArg₂ (· + ·) ((slab_ld _ 2 _ i j).trans (zero6 _)) (gwS_sl2 a e i j)).trans (zero_add _)
  · intro i j
    refine (gw_at3 (gs_at3 h.gt) (d_at3 h.we3 h.hr h.gt h.tg3) h.p _ i j).trans ?_
    rw [View.readCov_skip _ _ _ _ _ rfl, View.readCov_skip _ _ _ _ _ rfl, View.readCov_skip _ _ _ _ _ rfl, View.readCov_fill _ _ _ _ _ (by decide)]
    exact (congrArg₂ (· + ·) ((slab_ld _ 3 _ i j).trans (zero6 _)) (gwS_sl3 a e i j)).trans (zero_add _)
theorem h13_B (h0 : ¬t.val % 32 = 0) (y : S4x256x512.Idx) :
    (outsAt0 m c t.val t.isLt).2.2.2.2.2.1 y = (outsAt0 m c (t.val - 1) (by omega)).2.2.2.2.2.1 y + ((gwS a e (y 0) (y 1) (y 2) : ℝ) : EReal) := by
  by_cases h1 : t.val % 32 = 31 <;> first | rw [outsAt0_B m c t h0 h1] | rw [outsAt0_C m c t h0 h1]
  all_goals
    frame_out
    refine slabs3 (Val := Elt Ideal) (ε := .f32) (F := fun y => (outsAt0 m c (t.val - 1) (by omega)).2.2.2.2.2.1 y + ((gwS a e (y 0) (y 1) (y 2) : ℝ) : EReal)) ?_ ?_ ?_ ?_ [] y
    · intro i j
      refine (gw_at0 (gs_at0 h.o h.rs h.x h.g h.wg) (dt_at0 h.we0 h.o h.rs h.x h.g h.wg h.tg0) h.p _ i j).trans ?_
      exact congrArg₂ (· + ·) (slab_ld _ 0 _ i j) (gwS_sl0 a e i j)
    · intro i j
      refine (gw_at1 (gs_at1 h.gt) (dt_at1 h.we1 h.hr h.gt h.tg1) h.p _ i j).trans ?_
      exact congrArg₂ (· + ·) (slab_ld _ 1 _ i j) (gwS_sl1 a e i j)
    · intro i j
      refine (gw_at2 (gs_at2 h.gt) (dt_at2 h.we2 h.hr h.gt h.tg2) h.p _ i j).trans ?_
      exact congrArg₂ (· + ·) (slab_ld _ 2 _ i j) (gwS_sl2 a e i j)
    · intro i j
      refine (gw_at3 (gs_at3 h.gt) (d_at3 h.we3 h.hr h.gt h.tg3) h.p _ i j).trans ?_
      exact congrArg₂ (· + ·) (slab_ld _ 3 _ i j) (gwS_sl3 a e i j)

theorem h14_A (h0 : t.val % 32 = 0) (h1 : ¬t.val % 32 = 31) (b : Fin 8) (n : Fin 2048) :
    (outsAt0 m c t.val t.isLt).2.2.2.2.2.2.1 (ix2 b n) = ((gpS a e b n : ℝ) : EReal) := by
  have h10 := h10 h
  rw [outsAt0_A m c t h0 h1] at *
  frame_out at *
  exact (gp_at h10 (on_at h.o h.rs) _ b n).trans ((congrArg (· + _) (zero5 _)).trans (zero_add _))
theorem h14_B (h0 : ¬t.val % 32 = 0) (h1 : ¬t.val % 32 = 31) (b : Fin 8) (n : Fin 2048) :
    (outsAt0 m c t.val t.isLt).2.2.2.2.2.2.1 (ix2 b n) = (outsAt0 m c (t.val - 1) (by omega)).2.2.2.2.2.2.1 (ix2 b n) + ((gpS a e b n : ℝ) : EReal) := by
  have h10 := h10 h
  rw [outsAt0_B m c t h0 h1] at *
  frame_out at *
  exact gp_at h10 (on_at h.o h.rs) _ b n
theorem h14_C (h0 : ¬t.val % 32 = 0) (h1 : t.val % 32 = 31) (b : Fin 8) (n : Fin 2048) :
    (outsAt0 m c t.val t.isLt).2.2.2.2.2.2.1 (ix2 b n)
      = ∑ b : Fin 8, ((outsAt0 m c (t.val - 1) (by omega)).2.2.2.2.2.2.1 (ix2 b n) + ((gpS a e b n : ℝ) : EReal)) := by
  have h10 := h10 h
  rw [outsAt0_C m c t h0 h1] at *
  frame_out at *
  exact (gl_at _ b n).trans (Finset.sum_congr rfl fun b _ => gp_at h10 (on_at h.o h.rs) _ b n)

theorem h15_A (h0 : t.val % 32 = 0) (h1 : ¬t.val % 32 = 31) (i : Fin 8) (j : Fin 128) :
    (outsAt0 m c t.val t.isLt).2.2.2.2.2.2.2 (ix2 i j) = ((lsS a e : ℝ) : EReal) := by
  rw [outsAt0_A m c t h0 h1]
  frame_out
  refine (ls_at3 h.we3 h.hr h.gt h.tg3 _ i j).trans (Eq.trans (congrArg (· + _) ((ls_at2 h.we2 h.hr h.gt h.tg2 _ i j).trans (congrArg (· + _)
    ((ls_at1 h.we1 h.hr h.gt h.tg1 _ i j).trans (congrArg (· + _) (ls_at0 h.we0 h.o h.rs h.x h.g h.wg h.tg0 _ i j)))))) ((ls_sum a e _).trans ((congrArg (· + _) (zero7 _)).trans (zero_add _))))
theorem h15_B (h0 : ¬t.val % 32 = 0) (i : Fin 8) (j : Fin 128) :
    (outsAt0 m c t.val t.isLt).2.2.2.2.2.2.2 (ix2 i j) = (outsAt0 m c (t.val - 1) (by omega)).2.2.2.2.2.2.2 (ix2 i j) + ((lsS a e : ℝ) : EReal) := by
  by_cases h1 : t.val % 32 = 31 <;> first | rw [outsAt0_B m c t h0 h1] | rw [outsAt0_C m c t h0 h1]
  all_goals
    frame_out
    refine (ls_at3 h.we3 h.hr h.gt h.tg3 _ i j).trans (Eq.trans (congrArg (· + _) ((ls_at2 h.we2 h.hr h.gt h.tg2 _ i j).trans (congrArg (· + _)
      ((ls_at1 h.we1 h.hr h.gt h.tg1 _ i j).trans (congrArg (· + _) (ls_at0 h.we0 h.o h.rs h.x h.g h.wg h.tg0 _ i j)))))) (ls_sum a e _))

end Cert.Kernel3Ideal.HdVal
end
-- ==== Proof.Hd.Final.lean ====
module

public import proofs.«01_k».proof.Proof.Hd.Rows

/-! The arrays the head's call leaves, over the real numbers. -/

@[expose] public section

set_option maxRecDepth 16384

noncomputable section

namespace Cert.Kernel3Ideal.HdVal

open Idealize.ShloMosaic Idealize.ShloMosaic.TcCoe Idealize.SL.Sem
open Idealize.ShloMosaic.Pipeline (Dat)
open Cert.Kernel3Ideal Cert.Kernel3Ideal.Gen Cert.Reals Cert.HdModel

/-- The arguments in memory are these real numbers. -/
structure Holds (m : (ℓ : Loc nD τ sig) → Buf (Elt Ideal) ℓ) (c : Dev nD) (a : Args) : Prop where
  x : ∀ R k, (m ((c : Thread nD τ).loc main_arg0) : S1x8192x2048.Idx → EReal) (ix3 0 R k) = ((a.x R k : ℝ) : EReal)
  y : ∀ R k, (m ((c : Thread nD τ).loc main_arg1) : S8192x2048.Idx → EReal) (ix2 R k) = ((a.y R k : ℝ) : EReal)
  p : ∀ R k, (m ((c : Thread nD τ).loc main_arg2) : S1x1x8192x256.Idx → EReal) (ix4 0 0 R k) = ((a.p R k : ℝ) : EReal)
  t : ∀ R k, (m ((c : Thread nD τ).loc main_arg3) : S1x8192x2048.Idx → EReal) (ix3 0 R k) = ((a.t R k : ℝ) : EReal)
  g : ∀ k, (m ((c : Thread nD τ).loc main_arg4) : S1x2048.Idx → EReal) (ix2 0 k) = ((a.g k : ℝ) : EReal)
  wo : ∀ k n, (m ((c : Thread nD τ).loc main_arg5) : S1x2048x2048.Idx → EReal) (ix3 0 k n) = ((a.wo k n : ℝ) : EReal)
  wg : ∀ k n, (m ((c : Thread nD τ).loc main_arg6) : S1x2048x2048.Idx → EReal) (ix3 0 k n) = ((a.wg k n : ℝ) : EReal)
  we : ∀ k n, (m ((c : Thread nD τ).loc main_arg7) : S1x256x2048.Idx → EReal) (ix3 0 k n) = ((a.we k n : ℝ) : EReal)

/-! ## The arrays the call reads -/

section
variable (m : (ℓ : Loc nD τ sig) → Buf (Elt Ideal) ℓ) (c : Dev nD)

theorem V_v4 (R : Fin 8192) (k : Fin 2048) : (V m c main_v4 : S8192x2048.Idx → EReal) (ix2 R k)
    = (m ((c : Thread nD τ).loc main_arg0) : S1x8192x2048.Idx → EReal) (ix3 0 R k) := by
  show StableHlo.after hostOps0 _ (Proc.devRef .tc main_v4) (ix2 R k) = _
  after_results
  pointwise []
  try rfl
theorem V_v5 (R : Fin 8192) (k : Fin 256) : (V m c main_v5 : S8192x256.Idx → EReal) (ix2 R k)
    = (m ((c : Thread nD τ).loc main_arg2) : S1x1x8192x256.Idx → EReal) (ix4 0 0 R k) := by
  show StableHlo.after hostOps0 _ (Proc.devRef .tc main_v5) (ix2 R k) = _
  after_results
  pointwise []
  try rfl
theorem V_v6 (R : Fin 8192) (k : Fin 2048) : (V m c main_v6 : S8192x2048.Idx → EReal) (ix2 R k)
    = (m ((c : Thread nD τ).loc main_arg3) : S1x8192x2048.Idx → EReal) (ix3 0 R k) := by
  show StableHlo.after hostOps0 _ (Proc.devRef .tc main_v6) (ix2 R k) = _
  after_results
  pointwise []
  try rfl
theorem V_v8 (k n : Fin 2048) : (V m c main_v8 : S2048x2048.Idx → EReal) (ix2 k n)
    = (m ((c : Thread nD τ).loc main_arg5) : S1x2048x2048.Idx → EReal) (ix3 0 k n) := by
  show StableHlo.after hostOps0 _ (Proc.devRef .tc main_v8) (ix2 k n) = _
  after_results
  pointwise []
  try rfl
theorem V_v10 (k n : Fin 2048) : (V m c main_v10 : S2048x2048.Idx → EReal) (ix2 k n)
    = (m ((c : Thread nD τ).loc main_arg6) : S1x2048x2048.Idx → EReal) (ix3 0 k n) := by
  show StableHlo.after hostOps0 _ (Proc.devRef .tc main_v10) (ix2 k n) = _
  after_results
  pointwise []
  try rfl
theorem V_v3 (s : Fin 4) (k : Fin 256) (j : Fin 512) : (V m c main_v3 : S4x256x512.Idx → EReal) (ix3 s k j)
    = (m ((c : Thread nD τ).loc main_arg7) : S1x256x2048.Idx → EReal) (ix3 0 k ⟨s.val * 512 + j.val, by omega⟩) := by
  show StableHlo.after hostOps0 _ (Proc.devRef .tc main_v3) (ix3 s k j) = _
  after_results
  pointwise []
  try rfl

/-! ## The blocks a point reads -/

theorem idx0 : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0] ∧ win0_7.index t = ![0, 0, 0]
    ∧ win0_8.index t = ![t.val, 0] ∧ win0_9.index t = ![t.val, 0] ∧ win0_10.index t = ![t.val, 0] ∧ win0_11.index t = ![t.val, 0] ∧ win0_12.index t = ![t.val, 0] :=
  (by decide +kernel : ∀ t : Fin grid0.N, _)

theorem lt0 (t : Fin cfg0.N) : t.val < 32 := lt_of_lt_of_eq t.isLt N_0

/-- The row of the arrays that row `r` of a point's block is. -/
def at0 (t : ℕ) (h : t < 32) (r : Fin 256) : Fin 8192 := ⟨256 * t + r.val, by omega⟩

variable (t : Fin cfg0.N)

theorem b0 (r : Fin 256) (k : Fin 2048) : (iblk m c 0 t : S256x2048.Idx → EReal) (ix2 r k) = (V m c main_v4 : S8192x2048.Idx → EReal) (ix2 (at0 t.val (lt0 t) r) k) := by
  unfold at0
  blk_point [iblk, idx0 t]
theorem b1 (r : Fin 256) (k : Fin 2048) : (iblk m c 1 t : S256x2048.Idx → EReal) (ix2 r k) = (V m c main_arg1 : S8192x2048.Idx → EReal) (ix2 (at0 t.val (lt0 t) r) k) := by
  unfold at0
  blk_point [iblk, idx0 t]
theorem b2 (r : Fin 256) (k : Fin 256) : (iblk m c 2 t : S256x256.Idx → EReal) (ix2 r k) = (V m c main_v5 : S8192x256.Idx → EReal) (ix2 (at0 t.val (lt0 t) r) k) := by
  unfold at0
  blk_point [iblk, idx0 t]
theorem b3 (r : Fin 256) (k : Fin 2048) : (iblk m c 3 t : S256x2048.Idx → EReal) (ix2 r k) = (V m c main_v6 : S8192x2048.Idx → EReal) (ix2 (at0 t.val (lt0 t) r) k) := by
  unfold at0
  blk_point [iblk, idx0 t]
theorem b4 : iblk m c 4 t = V m c main_arg4 := by
  funext y
  blk_point [iblk, idx0 t]
theorem b5 : iblk m c 5 t = V m c main_v8 := by
  funext y
  blk_point [iblk, idx0 t]
theorem b6 : iblk m c 6 t = V m c main_v10 := by
  funext y
  blk_point [iblk, idx0 t]
theorem b7 : iblk m c 7 t = V m c main_v3 := by
  funext y
  blk_point [iblk, idx0 t]
end

variable {m : (ℓ : Loc nD τ sig) → Buf (Elt Ideal) ℓ} {c : Dev nD} {a : Args} (H : Holds m c a)
include H

theorem tile (t : Fin cfg0.N) : Tile m c t a (at0 t.val (lt0 t)) where
  x := fun r k => (b0 m c t r k).trans ((V_v4 m c _ _).trans (H.x _ _))
  y := fun r k => (b1 m c t r k).trans ((congrFun (V_main_arg1 m c) _).trans (H.y _ _))
  p := fun r k => (b2 m c t r k).trans ((V_v5 m c _ _).trans (H.p _ _))
  tg := fun r k => (b3 m c t r k).trans ((V_v6 m c _ _).trans (H.t _ _))
  g := fun r k => by
    obtain rfl : r = 0 := Subsingleton.elim _ _
    exact (congrFun (b4 m c t) _).trans ((congrFun (V_main_arg4 m c) _).trans (H.g _))
  wo := fun k n => (congrFun (b5 m c t) _).trans ((V_v8 m c _ _).trans (H.wo _ _))
  wg := fun k n => (congrFun (b6 m c t) _).trans ((V_v10 m c _ _).trans (H.wg _ _))
  we := fun s k j => (congrFun (b7 m c t) _).trans ((V_v3 m c _ _ _).trans (H.we _ _))

/-! ## The results by rows -/

theorem fin8 : (dats m 0 c).arrAt 8 cfg0.N = fun i => ((a.h (i 0) (i 1) : ℝ) : EReal) := by
  refine (dats m 0 c).arrAt_eq_of_covers 8 _ (by decide +kernel) fun t hf y => ?_
  blk_simp
  rw [after0_8]
  refine (congrArg _ (eq_ix2 y)).trans ((h8 (tile H t) (y 0) (y 1)).trans ?_)
  exact congrArg₂ (fun R k => ((a.h R k : ℝ) : EReal)) (Fin.ext (by blk_simp [idx0 t, at0]; show 256 * t.val + (y 0).val = t.val * 256 + (y 0).val; omega)) (Fin.ext (by blk_simp [idx0 t]))
theorem fin9 : (dats m 0 c).arrAt 9 cfg0.N = fun i => ((a.dq (i 0) (i 1) : ℝ) : EReal) := by
  refine (dats m 0 c).arrAt_eq_of_covers 9 _ (by decide +kernel) fun t hf y => ?_
  blk_simp
  rw [after0_9]
  refine (h9 (tile H t) y).trans ?_
  exact congrArg₂ (fun R k => ((a.dq R k : ℝ) : EReal)) (Fin.ext (by blk_simp [idx0 t, at0]; show 256 * t.val + (y 0).val = t.val * 256 + (y 0).val; omega)) (Fin.ext (by blk_simp [idx0 t]))
theorem fin10 : (dats m 0 c).arrAt 10 cfg0.N = fun i => ((a.dh (i 0) (i 1) : ℝ) : EReal) := by
  refine (dats m 0 c).arrAt_eq_of_covers 10 _ (by decide +kernel) fun t hf y => ?_
  blk_simp
  rw [after0_10]
  refine (congrArg _ (eq_ix2 y)).trans ((h10 (tile H t) (y 0) (y 1)).trans ?_)
  exact congrArg₂ (fun R k => ((a.dh R k : ℝ) : EReal)) (Fin.ext (by blk_simp [idx0 t, at0]; show 256 * t.val + (y 0).val = t.val * 256 + (y 0).val; omega)) (Fin.ext (by blk_simp [idx0 t]))
theorem fin11 : (dats m 0 c).arrAt 11 cfg0.N = fun i => ((a.dc (i 0) (i 1) : ℝ) : EReal) := by
  refine (dats m 0 c).arrAt_eq_of_covers 11 _ (by decide +kernel) fun t hf y => ?_
  blk_simp
  rw [after0_11]
  refine (congrArg _ (eq_ix2 y)).trans ((h11 (tile H t) (y 0) (y 1)).trans ?_)
  exact congrArg₂ (fun R k => ((a.dc R k : ℝ) : EReal)) (Fin.ext (by blk_simp [idx0 t, at0]; show 256 * t.val + (y 0).val = t.val * 256 + (y 0).val; omega)) (Fin.ext (by blk_simp [idx0 t]))
theorem fin12 : (dats m 0 c).arrAt 12 cfg0.N = fun i => ((a.dy (i 0) (i 1) : ℝ) : EReal) := by
  refine (dats m 0 c).arrAt_eq_of_covers 12 _ (by decide +kernel) fun t hf y => ?_
  blk_simp
  rw [after0_12]
  refine (congrArg _ (eq_ix2 y)).trans ((h12 (tile H t) (y 0) (y 1)).trans ?_)
  exact congrArg₂ (fun R k => ((a.dy R k : ℝ) : EReal)) (Fin.ext (by blk_simp [idx0 t, at0]; show 256 * t.val + (y 0).val = t.val * 256 + (y 0).val; omega)) (Fin.ext (by blk_simp [idx0 t]))

/-! ## The results summed over the tiles -/

omit H in
theorem sum_tiles (f : Fin 8192 → ℝ) : ∑ t : Fin 32, ∑ r : Fin 256, f (at0 t.val t.isLt r) = ∑ R, f R := by
  have e := Fin.sum_univ_tiles 32 256 rfl f
  simp only [Nat.mul_comm _ 256] at e
  exact e.symm
omit H in
theorem sum_eights (f : Fin 256 → ℝ) : ∑ b : Fin 8, ∑ s : Fin 32, f ⟨s.val * 8 + b.val, by omega⟩ = ∑ r, f r := by
  rw [Fin.sum_univ_tiles 32 8 rfl f, Finset.sum_comm]

/-- The last point. -/
def tLast : Fin cfg0.N := ⟨31, by rw [show cfg0.N = 32 from N_0]; decide⟩

omit H in
theorem lt_of {n : ℕ} (h : n < cfg0.N) (t : Fin (n + 1)) : t.val < 32 := by
  have := lt0 ⟨n, h⟩
  have := t.isLt
  show t.val < 32
  simp only at *
  omega

theorem acc13 (y : S4x256x512.Idx) : ∀ (n : ℕ) (h : n < cfg0.N), ((outsAt0 m c n h).2.2.2.2.2.1 : S4x256x512.Idx → EReal) y
    = ((∑ t : Fin (n + 1), gwS a (at0 t.val (lt_of h t)) (y 0) (y 1) (y 2) : ℝ) : EReal)
  | 0, h => by
    rw [Fin.sum_univ_one]
    exact h13_A (tile H ⟨0, h⟩) rfl (by show ¬0 % 32 = 31; omega) y
  | n + 1, h => by
    have : n + 1 < 32 := lt0 ⟨n + 1, h⟩
    rw [Fin.sum_univ_castSucc, EReal.coe_add]
    exact (h13_B (tile H ⟨n + 1, h⟩) (by show ¬(n + 1) % 32 = 0; omega) y).trans (congrArg (· + _) (acc13 y n (by omega)))

theorem acc14 (b : Fin 8) (k : Fin 2048) : ∀ (n : ℕ) (h : n < cfg0.N), n < 31 → ((outsAt0 m c n h).2.2.2.2.2.2.1 : S8x2048.Idx → EReal) (ix2 b k)
    = ((∑ t : Fin (n + 1), gpS a (at0 t.val (lt_of h t)) b k : ℝ) : EReal)
  | 0, h, _ => by
    rw [Fin.sum_univ_one]
    exact h14_A (tile H ⟨0, h⟩) rfl (by show ¬0 % 32 = 31; omega) b k
  | n + 1, h, hn => by
    rw [Fin.sum_univ_castSucc, EReal.coe_add]
    exact (h14_B (tile H ⟨n + 1, h⟩) (by show ¬(n + 1) % 32 = 0; omega) (by show ¬(n + 1) % 32 = 31; omega) b k).trans
      (congrArg (· + _) (acc14 b k n (by omega) (by omega)))

theorem acc15 (i : Fin 8) (j : Fin 128) : ∀ (n : ℕ) (h : n < cfg0.N), ((outsAt0 m c n h).2.2.2.2.2.2.2 : S8x128.Idx → EReal) (ix2 i j)
    = ((∑ t : Fin (n + 1), lsS a (at0 t.val (lt_of h t)) : ℝ) : EReal)
  | 0, h => by
    rw [Fin.sum_univ_one]
    exact h15_A (tile H ⟨0, h⟩) rfl (by show ¬0 % 32 = 31; omega) i j
  | n + 1, h => by
    have : n + 1 < 32 := lt0 ⟨n + 1, h⟩
    rw [Fin.sum_univ_castSucc, EReal.coe_add]
    exact (h15_B (tile H ⟨n + 1, h⟩) (by show ¬(n + 1) % 32 = 0; omega) i j).trans (congrArg (· + _) (acc15 i j n (by omega)))

/-- The side weight's gradient, slab by slab. -/
def geA (a : Args) (y : S4x256x512.Idx) : EReal :=
  ((a.ge ⟨(y 0).val * 512 + (y 2).val, by have : (y 0).val < 4 := (y 0).isLt; have : (y 2).val < 512 := (y 2).isLt; omega⟩ (y 1) : ℝ) : EReal)

theorem fin13 : (dats m 0 c).arrAt 13 cfg0.N = geA a := by
  refine (dats m 0 c).arrAt_eq_of_after_last 13 tLast (by decide +kernel) _ fun j => ?_
  idx_vars j
  blk_simp
  rw [after0_13]
  refine (acc13 H (ix3 j0 j1 j2) 31 tLast.isLt).trans (congrArg _ ?_)
  exact sum_tiles fun R => a.p R j1 * (a.dt R ⟨j0.val * 512 + j2.val, by omega⟩ * a.gt R ⟨j0.val * 512 + j2.val, by omega⟩)

theorem fin14 : (dats m 0 c).arrAt 14 cfg0.N = fun y => ((a.gg (y 1) : ℝ) : EReal) := by
  refine (dats m 0 c).arrAt_eq_of_after_last 14 tLast (by decide +kernel) _ fun j => ?_
  idx_vars j
  blk_simp
  rw [after0_14]
  refine (h14_C (tile H tLast) (by decide +kernel) (by decide +kernel) j0 j1).trans ?_
  refine (Finset.sum_congr rfl fun b _ => (congrArg (· + _) (acc14 H b j1 30 _ (by omega))).trans ((EReal.coe_add _ _).symm.trans
    (congrArg _ (Fin.sum_univ_castSucc (n := 31) fun t : Fin 32 => gpS a (at0 t.val t.isLt) b j1).symm))).trans ?_
  refine (coe_sum _ _).trans (congrArg _ ?_)
  rw [Finset.sum_comm]
  refine Eq.trans (Finset.sum_congr rfl fun t _ => sum_eights fun r => a.dh (at0 t.val t.isLt r) j1 * a.on (at0 t.val t.isLt r) j1) ?_
  exact sum_tiles fun R => a.dh R j1 * a.on R j1

theorem fin15 : (dats m 0 c).arrAt 15 cfg0.N = fun y => ((a.loss : ℝ) : EReal) := by
  refine (dats m 0 c).arrAt_eq_of_after_last 15 tLast (by decide +kernel) _ fun j => ?_
  idx_vars j
  blk_simp
  rw [after0_15]
  refine (acc15 H j0 j1 31 tLast.isLt).trans (congrArg _ ?_)
  exact sum_tiles fun R => (∑ n, a.d R n * a.d R n) * (1 / 4096)

end Cert.Kernel3Ideal.HdVal
end
-- ==== Proof.Hd.Ref.lean ====
module

public import proofs.«01_k».proof.Proof.Gen.Reference3Ideal.Read
public import proofs.«01_k».proof.Proof.Hd.Model

/-! The head's reference over the real numbers. -/

@[expose] public section

set_option maxRecDepth 16384

noncomputable section

namespace Cert.Reference3Ideal.HdRef

open Idealize.ShloMosaic Idealize.ShloMosaic.TcCoe Idealize.SL.Sem
open Cert.Reference3Ideal Cert.Reference3Ideal.Value Cert.Reference3Ideal.Read Cert.Reals Cert.HdModel

/-- The program's arguments are the real ones. -/
structure Is (x0 : S1x8192x2048.Idx → EReal) (x1 : S8192x2048.Idx → EReal) (x2 : S1x1x8192x256.Idx → EReal) (x3 : S1x8192x2048.Idx → EReal)
    (x4 : S1x2048.Idx → EReal) (x5 x6 : S1x2048x2048.Idx → EReal) (x7 : S1x256x2048.Idx → EReal) (a : Args) : Prop where
  x : ∀ R k, x0 (ix3 0 R k) = ((a.x R k : ℝ) : EReal)
  y : ∀ R k, x1 (ix2 R k) = ((a.y R k : ℝ) : EReal)
  p : ∀ R k, x2 (ix4 0 0 R k) = ((a.p R k : ℝ) : EReal)
  t : ∀ R k, x3 (ix3 0 R k) = ((a.t R k : ℝ) : EReal)
  g : ∀ k, x4 (ix2 0 k) = ((a.g k : ℝ) : EReal)
  wo : ∀ k n, x5 (ix3 0 k n) = ((a.wo k n : ℝ) : EReal)
  wg : ∀ k n, x6 (ix3 0 k n) = ((a.wg k n : ℝ) : EReal)
  we : ∀ k n, x7 (ix3 0 k n) = ((a.we k n : ℝ) : EReal)

variable {x0 : S1x8192x2048.Idx → EReal} {x1 : S8192x2048.Idx → EReal} {x2 : S1x1x8192x256.Idx → EReal} {x3 : S1x8192x2048.Idx → EReal}
  {x4 : S1x2048.Idx → EReal} {x5 x6 : S1x2048x2048.Idx → EReal} {x7 : S1x256x2048.Idx → EReal} {a : Args} (H : Is x0 x1 x2 x3 x4 x5 x6 x7 a)

include H

/-! The forward pass. -/

theorem wo_at (k n : Fin 2048) : val_main_v5 (F := Ideal) x5 (ix2 k n) = ((a.wo k n : ℝ) : EReal) := by
  pointwise [val_main_v5, H.wo]
theorem wg_at (k n : Fin 2048) : val_main_v27 (F := Ideal) x6 (ix2 k n) = ((a.wg k n : ℝ) : EReal) := by
  pointwise [val_main_v27, H.wg]
theorem we_at (k : Fin 256) (n : Fin 2048) : val_main_v4 (F := Ideal) x7 (ix2 k n) = ((a.we k n : ℝ) : EReal) := by
  pointwise [val_main_v4, H.we]
theorem p_at (R : Fin 8192) (k : Fin 256) : val_main_v25 (F := Ideal) x2 (ix2 R k) = ((a.p R k : ℝ) : EReal) := by
  pointwise [val_main_v25, H.p]
theorem o_at (R : Fin 8192) (n : Fin 2048) : val_main_v7 (F := Ideal) x1 x5 (ix2 R n) = ((a.o R n : ℝ) : EReal) := by
  pointwise [val_main_v7, val_main_v6, val_main_v2, val_main_v0, val_main_cst, wo_at H, H.y]
  simp only [cZero, ← EReal.coe_mul, coe_sum, ← EReal.coe_add]
  rfl
theorem ms_at (R : Fin 8192) (y : Fin 1) : val_main_v14 (F := Ideal) x1 x5 (ix2 R y) = ((a.ms R : ℝ) : EReal) := by
  pointwise [val_main_v14, val_main_v13, val_main_v12, val_main_v11, val_main_v10, val_main_v9, val_main_v8, val_main_cst_0, val_main_cst_1, val_main_cst_2, o_at H]
  simp only [c2048, cEps, cZero, div2048, ← EReal.coe_mul, coe_sum, ← EReal.coe_add]
  rfl
theorem rs_at (R : Fin 8192) (y : Fin 1) : val_main_v15 (F := Ideal) x1 x5 (ix2 R y) = ((a.rs R : ℝ) : EReal) := by
  pointwise [val_main_v15, ms_at H]
  exact a.rs_eq R
theorem hv_at (R : Fin 8192) (y : Fin 1) : val_main_v18 (F := Ideal) x1 x5 (ix2 R y) = ((-(1 / 2) * (a.rs R / a.ms R) : ℝ) : EReal) := by
  pointwise [val_main_v18, val_main_v17, val_main_v16, val_main_cst_3, ms_at H, rs_at H]
  rw [cNegHalf, div_real _ _ (a.ms_pos R).ne', ← EReal.coe_mul]
theorem on_at (R : Fin 8192) (n : Fin 2048) : val_main_v20 (F := Ideal) x1 x5 (ix2 R n) = ((a.on R n : ℝ) : EReal) := by
  pointwise [val_main_v20, val_main_v19, o_at H, rs_at H]
  simp only [← EReal.coe_mul]
  rfl
theorem h_at (R : Fin 8192) (n : Fin 2048) : val_main_v24 (F := Ideal) x0 x1 x4 x5 (ix2 R n) = ((a.h R n : ℝ) : EReal) := by
  pointwise [val_main_v24, val_main_v23, val_main_v22, val_main_v21, val_main_v3, val_main_v1, on_at H, H.x, H.g]
  simp only [← EReal.coe_mul, ← EReal.coe_add]
  rfl
theorem pe_at (R : Fin 8192) (n : Fin 2048) : val_main_v26 (F := Ideal) x2 x7 (ix2 R n) = ((a.pe R n : ℝ) : EReal) := by
  pointwise [val_main_v26, p_at H, we_at H]
  simp only [← EReal.coe_mul, coe_sum]
  rfl
theorem gt_at (R : Fin 8192) (n : Fin 2048) : val_main_v35 (F := Ideal) x0 x1 x4 x5 x6 (ix2 R n) = ((a.gt R n : ℝ) : EReal) := by
  pointwise [val_main_v35, val_main_v34, val_main_v33, val_main_v32, val_main_v31, val_main_v30, val_main_v29, val_main_v28, val_main_v0, val_main_cst, val_main_cst_4, val_main_cst_5, h_at H, wg_at H]
  simp only [cOne, cZero, ← EReal.coe_mul, coe_sum, ← EReal.coe_add]
  exact sg_eq _
theorem d_at (R : Fin 8192) (n : Fin 2048) : val_main_v42 (F := Ideal) x0 x1 x2 x3 x4 x5 x6 x7 (ix2 R n) = ((a.d R n : ℝ) : EReal) := by
  pointwise [val_main_v42, val_main_v41, val_main_v40, val_main_v39, h_at H, pe_at H, gt_at H, H.t]
  simp only [← EReal.coe_mul, ← EReal.coe_add, ← EReal.coe_sub]
  rfl
theorem loss_at (i : S8x128.Idx) : val_main_v91 (F := Ideal) x0 x1 x2 x3 x4 x5 x6 x7 i = ((a.loss : ℝ) : EReal) := by
  idx_vars i
  pointwise [val_main_v91, val_main_v50, val_main_v49, val_main_v48, val_main_v47, val_main_v46, val_main_v43, val_main_cst_8, val_main_cst_9, val_main_cst_10, val_main_cst_11, d_at H]
  simp only [cHalf, c2048, cZero, div2048, ← EReal.coe_mul, coe_sum, ← EReal.coe_add]
  refine congrArg Real.toEReal ?_
  unfold Args.loss
  rw [Finset.mul_sum]
  exact Finset.sum_congr rfl fun R _ => by ring

/-! The backward pass. -/

theorem dt_at (R : Fin 8192) (n : Fin 2048) : val_main_v56 (F := Ideal) x0 x1 x2 x3 x4 x5 x6 x7 (ix2 R n) = ((a.dt R n : ℝ) : EReal) := by
  pointwise [val_main_v56, val_main_v55, val_main_v54, val_main_v53, val_main_v52, val_main_v51, val_main_v45, val_main_v44, val_main_cst_7, val_main_cst_12, val_main_cst_13, val_main_cst_14, d_at H]
  simp only [cHalf, cOne, cTwo, c2048, div2048, ← EReal.coe_mul]
  exact congrArg Real.toEReal (by unfold Args.dt; ring)
theorem dq_at (R : Fin 8192) (n : Fin 2048) : val_main_v59 (F := Ideal) x0 x1 x2 x3 x4 x5 x6 x7 (ix2 R n) = ((a.dq R n : ℝ) : EReal) := by
  pointwise [val_main_v59, val_main_v57, val_main_v38, val_main_v37, val_main_v36, val_main_cst_6, pe_at H, dt_at H, gt_at H]
  simp only [cOne, ← EReal.coe_mul, ← EReal.coe_sub]
  exact congrArg Real.toEReal (by unfold Args.dq; ring)
theorem dh_at (R : Fin 8192) (n : Fin 2048) : val_main_v61 (F := Ideal) x0 x1 x2 x3 x4 x5 x6 x7 (ix2 R n) = ((a.dh R n : ℝ) : EReal) := by
  pointwise [val_main_v61, val_main_v60, dt_at H, dq_at H, wg_at H]
  simp only [← EReal.coe_mul, coe_sum, ← EReal.coe_add]
  rfl
theorem dn_at (R : Fin 8192) (n : Fin 2048) : val_main_v68 (F := Ideal) x0 x1 x2 x3 x4 x5 x6 x7 (ix2 R n) = ((a.dn R n : ℝ) : EReal) := by
  pointwise [val_main_v68, val_main_v67, val_main_v21, val_main_v3, dh_at H, H.g]
  simp only [← EReal.coe_mul]
  rfl
theorem cy_at (R : Fin 8192) (y : Fin 1) : val_main_v77 (F := Ideal) x0 x1 x2 x3 x4 x5 x6 x7 (ix2 R y) = (((∑ k, a.o R k * a.dn R k) * (-(1 / 2) * (a.rs R / a.ms R)) / 2048 : ℝ) : EReal) := by
  pointwise [val_main_v77, val_main_v76, val_main_v75, val_main_v72, val_main_v71, val_main_v70, val_main_cst_17, val_main_cst_18, o_at H, dn_at H, hv_at H]
  simp only [c2048, cZero, div2048, ← EReal.coe_mul, coe_sum, ← EReal.coe_add]
theorem dc_at (R : Fin 8192) (n : Fin 2048) : val_main_v83 (F := Ideal) x0 x1 x2 x3 x4 x5 x6 x7 (ix2 R n) = ((a.dc R n : ℝ) : EReal) := by
  pointwise [val_main_v83, val_main_v82, val_main_v81, val_main_v80, val_main_v79, val_main_v78, val_main_v74, val_main_v73, val_main_cst_19, o_at H, rs_at H, dn_at H, cy_at H]
  simp only [Fin.sum_univ_one, ← EReal.coe_mul, ← EReal.coe_add]
  refine congrArg Real.toEReal ?_
  unfold Args.dc Args.on
  rw [a.rs_sq R, show ∑ k, a.dn R k * (a.o R k * a.rs R) = a.rs R * ∑ k, a.o R k * a.dn R k from by
    rw [Finset.mul_sum]
    exact Finset.sum_congr rfl fun k _ => by ring]
  ring
theorem dy_at (R : Fin 8192) (n : Fin 2048) : val_main_v84 (F := Ideal) x0 x1 x2 x3 x4 x5 x6 x7 (ix2 R n) = ((a.dy R n : ℝ) : EReal) := by
  pointwise [val_main_v84, dc_at H, wo_at H]
  simp only [← EReal.coe_mul, coe_sum]
  rfl
theorem hb_at (R : Fin 8192) (n : Fin 2048) : val_main_v85 (F := Ideal) x0 x1 x4 x5 (ix2 R n) = ((a.h R n : ℝ) : EReal) := by
  pointwise [val_main_v85, h_at H]
theorem dqb_at (R : Fin 8192) (n : Fin 2048) : val_main_v86 (F := Ideal) x0 x1 x2 x3 x4 x5 x6 x7 (ix2 R n) = ((a.dq R n : ℝ) : EReal) := by
  pointwise [val_main_v86, dq_at H]
theorem dcb_at (R : Fin 8192) (n : Fin 2048) : val_main_v87 (F := Ideal) x0 x1 x2 x3 x4 x5 x6 x7 (ix2 R n) = ((a.dc R n : ℝ) : EReal) := by
  pointwise [val_main_v87, dc_at H]

/-! The sums over the rows. -/

theorem ge2 (n : Fin 2048) (j : Fin 256) : val_main_v62 (F := Ideal) x0 x1 x2 x3 x4 x5 x6 x7 (ix2 n j) = ((a.ge n j : ℝ) : EReal) := by
  pointwise [val_main_v62, val_main_v58, dt_at H, gt_at H, p_at H]
  simp only [← EReal.coe_mul, coe_sum]
  exact congrArg Real.toEReal (Finset.sum_congr rfl fun R _ => mul_comm _ _)
theorem ge_at (s : Fin 4) (j : Fin 256) (k : Fin 512) : val_main_v89 (F := Ideal) x0 x1 x2 x3 x4 x5 x6 x7 (ix3 s j k) = ((a.ge ⟨s.val * 512 + k.val, by omega⟩ j : ℝ) : EReal) := by
  pointwise [val_main_v89, val_main_v88, val_main_v63, ge2 H]
theorem gg_at (b : Fin 8) (n : Fin 2048) : val_main_v90 (F := Ideal) x0 x1 x2 x3 x4 x5 x6 x7 (ix2 b n) = ((a.gg n : ℝ) : EReal) := by
  pointwise [val_main_v90, val_main_v69, val_main_v66, val_main_v65, val_main_v64, val_main_cst_15, val_main_cst_16, on_at H, dh_at H]
  simp only [Fin.sum_univ_one, cZero, ← EReal.coe_mul, coe_sum, ← EReal.coe_add]
  refine congrArg Real.toEReal ?_
  unfold Args.gg
  exact Finset.sum_congr rfl fun R _ => mul_comm _ _

end Cert.Reference3Ideal.HdRef
end
-- ==== Proof.Hd.Value.lean ====
module

public import proofs.«01_k».proof.Defs
public import proofs.«01_k».proof.Proof.Hd.Final
public import proofs.«01_k».proof.Proof.Hd.Ref
public import proofs.«01_k».proof.Proof.Gen.Kernel3Ideal.Value
public import proofs.«01_k».proof.Proof.Gen.Pre_finite3
public import proofs.«01_k».proof.Proof.Gen.Reference3Ideal.Run

/-! The head pair's value: every result of the kernel is the reference's. -/

@[expose] public section

set_option maxRecDepth 16384

noncomputable section

namespace Cert.Kernel3Ideal.HdVal

open Idealize.ShloMosaic Idealize.ShloMosaic.TcCoe Idealize.ShloMosaic.Tactic
open Idealize.SL Idealize.SL.Sem
open Cert.Kernel3Ideal Cert.Kernel3Ideal.Gen Cert.Reals Cert.HdModel

/-- The precondition's arguments are real numbers. -/
theorem args_of (m : (ℓ : Loc nD τ sig) → Buf (Elt Ideal) ℓ) (h : Cert.Pre_Kernel3Ideal_finite3 m) (c : Dev nD) : ∃ a : Args, Holds m c a := by
  obtain ⟨h0, h1, h2, h3, h4, h5, h6, h7⟩ := h c
  have e0 : ∀ i, ∃ r : ℝ, m ((c : Thread nD τ).loc main_arg0) i = (r : EReal) := fun i => real_of_cmp _ (congrFun h0 i)
  have e1 : ∀ i, ∃ r : ℝ, m ((c : Thread nD τ).loc main_arg1) i = (r : EReal) := fun i => real_of_cmpB _ (congrFun h1 i)
  have e2 : ∀ i, ∃ r : ℝ, m ((c : Thread nD τ).loc main_arg2) i = (r : EReal) := fun i => real_of_cmp _ (congrFun h2 i)
  have e3 : ∀ i, ∃ r : ℝ, m ((c : Thread nD τ).loc main_arg3) i = (r : EReal) := fun i => real_of_cmp _ (congrFun h3 i)
  have e4 : ∀ i, ∃ r : ℝ, m ((c : Thread nD τ).loc main_arg4) i = (r : EReal) := fun i => real_of_cmp _ (congrFun h4 i)
  have e5 : ∀ i, ∃ r : ℝ, m ((c : Thread nD τ).loc main_arg5) i = (r : EReal) := fun i => real_of_cmp _ (congrFun h5 i)
  have e6 : ∀ i, ∃ r : ℝ, m ((c : Thread nD τ).loc main_arg6) i = (r : EReal) := fun i => real_of_cmp _ (congrFun h6 i)
  have e7 : ∀ i, ∃ r : ℝ, m ((c : Thread nD τ).loc main_arg7) i = (r : EReal) := fun i => real_of_cmp _ (congrFun h7 i)
  choose r0 e0 using e0
  choose r1 e1 using e1
  choose r2 e2 using e2
  choose r3 e3 using e3
  choose r4 e4 using e4
  choose r5 e5 using e5
  choose r6 e6 using e6
  choose r7 e7 using e7
  exact ⟨⟨fun R k => r0 (ix3 0 R k), fun R k => r1 (ix2 R k), fun R k => r2 (ix4 0 0 R k), fun R k => r3 (ix3 0 R k), fun k => r4 (ix2 0 k), fun k n => r5 (ix3 0 k n), fun k n => r6 (ix3 0 k n), fun k n => r7 (ix3 0 k n)⟩,
    ⟨fun _ _ => e0 _, fun _ _ => e1 _, fun _ _ => e2 _, fun _ _ => e3 _, fun _ => e4 _, fun _ _ => e5 _, fun _ _ => e6 _, fun _ _ => e7 _⟩⟩

set_option maxHeartbeats 4000000 in
/-- The head's results are those of the reference. -/
theorem head : Cert.algebraic_Kernel3Ideal_Reference3Ideal_pre_finite3 := by
  intro m g m' g' hpre heq
  choose a ha using args_of m hpre
  refine ⟨fun c i => (((a c).h (i 0) (i 1) : ℝ) : EReal), fun c i => (((a c).dq (i 0) (i 1) : ℝ) : EReal), fun c i => (((a c).dh (i 0) (i 1) : ℝ) : EReal),
    fun c i => (((a c).dc (i 0) (i 1) : ℝ) : EReal), fun c i => (((a c).dy (i 0) (i 1) : ℝ) : EReal), fun c => geA (a c),
    fun c i => (((a c).gg (i 1) : ℝ) : EReal), fun c i => (((a c).loss : ℝ) : EReal),
    (θ_run _ _ _).mono (fun r h c => ?_) (Cert.Kernel3Ideal.Value.run_blocks m g), (θ_run _ _ _).mono (fun r h c => ?_) (Cert.Reference3Ideal.Value.run m' g')⟩
  · obtain ⟨k0, k1, k2, k3, k4, k5, k6, k7, hk⟩ := h c
    exact ⟨k0.trans (fin8 (ha c)), k1.trans (fin9 (ha c)), k2.trans (fin10 (ha c)), k3.trans (fin11 (ha c)), k4.trans (fin12 (ha c)), k5.trans (fin13 (ha c)),
      k6.trans (fin14 (ha c)), k7.trans (fin15 (ha c)), hk⟩
  · obtain ⟨e0, e1, e2, e3, e4, e5, e6, e7⟩ := heq c
    have H : Cert.Reference3Ideal.HdRef.Is (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2))
        (m' ((c.tc : Thread Cert.Reference3Ideal.nD Cert.Reference3Ideal.τ).loc Cert.Reference3Ideal.main_arg3))
        (m' ((c.tc : Thread Cert.Reference3Ideal.nD Cert.Reference3Ideal.τ).loc Cert.Reference3Ideal.main_arg4))
        (m' ((c.tc : Thread Cert.Reference3Ideal.nD Cert.Reference3Ideal.τ).loc Cert.Reference3Ideal.main_arg5))
        (m' ((c.tc : Thread Cert.Reference3Ideal.nD Cert.Reference3Ideal.τ).loc Cert.Reference3Ideal.main_arg6))
        (m' ((c.tc : Thread Cert.Reference3Ideal.nD Cert.Reference3Ideal.τ).loc Cert.Reference3Ideal.main_arg7)) (a c) := by
      rw [e0, e1, e2, e3, e4, e5, e6, e7]
      exact ⟨(ha c).x, (ha c).y, (ha c).p, (ha c).t, (ha c).g, (ha c).wo, (ha c).wg, (ha c).we⟩
    obtain ⟨r0, r1, r2, r3, r4, r5, r6, r7, hk⟩ := h c
    refine ⟨r0.trans ((Cert.Reference3Ideal.Read.val_main_v85_eq _ _ _ _).trans (funext fun i => ?_)),
      r1.trans ((Cert.Reference3Ideal.Read.val_main_v86_eq _ _).trans (funext fun i => ?_)),
      r2.trans ((Cert.Reference3Ideal.Read.val_main_v61_eq _ _).trans (funext fun i => ?_)),
      r3.trans ((Cert.Reference3Ideal.Read.val_main_v87_eq _ _).trans (funext fun i => ?_)),
      r4.trans ((Cert.Reference3Ideal.Read.val_main_v84_eq _ _).trans (funext fun i => ?_)),
      r5.trans ((Cert.Reference3Ideal.Read.val_main_v89_eq _ _).trans (funext fun i => ?_)),
      r6.trans ((Cert.Reference3Ideal.Read.val_main_v90_eq _ _).trans (funext fun i => ?_)),
      r7.trans ((Cert.Reference3Ideal.Read.val_main_v91_eq _ _).trans (funext fun i => ?_)), hk⟩
    · rw [eq_ix2 i]
      exact Cert.Reference3Ideal.HdRef.hb_at H (i 0) (i 1)
    · rw [eq_ix2 i]
      exact Cert.Reference3Ideal.HdRef.dqb_at H (i 0) (i 1)
    · rw [eq_ix2 i]
      exact Cert.Reference3Ideal.HdRef.dh_at H (i 0) (i 1)
    · rw [eq_ix2 i]
      exact Cert.Reference3Ideal.HdRef.dcb_at H (i 0) (i 1)
    · rw [eq_ix2 i]
      exact Cert.Reference3Ideal.HdRef.dy_at H (i 0) (i 1)
    · rw [eq_ix3 i]
      exact Cert.Reference3Ideal.HdRef.ge_at H (i 0) (i 1) (i 2)
    · rw [eq_ix2 i]
      exact Cert.Reference3Ideal.HdRef.gg_at H (i 0) (i 1)
    · exact Cert.Reference3Ideal.HdRef.loss_at H i

end Cert.Kernel3Ideal.HdVal
end
-- ==== Proof.Pj.Rows.lean ====
module

public import proofs.«01_k».proof.Proof.Gen.Kernel4Ideal.Frame
public import proofs.«01_k».proof.Proof.Gen.Kernel4Ideal.Value
public import proofs.«01_k».proof.Proof.Gen.Reference4Ideal.Read
public import proofs.«01_k».proof.Proof.Gen.Reference4Ideal.Run
public import proofs.«01_k».proof.Defs
public import Idealize.ShloMosaic.Lib.Pipeline.ValueKit
public import Idealize.ShloMosaic.Lib.Pipeline.ReadBack

/-! The pre-norm and the device's own columns of the input projection, row by row. -/

@[expose] public section

set_option maxRecDepth 16384

noncomputable section

namespace Cert.Kernel4Ideal.PjVal

open Idealize.ShloMosaic Idealize.ShloMosaic.TcCoe Idealize.SL.Sem
open Idealize.ShloMosaic.Pipeline (Dat)
open Cert.Kernel4Ideal Cert.Kernel4Ideal.Gen

/-- A normalised row with its gain, and its product with a column. -/
def hnR (x g : Fin 2048 → EReal) (n : Fin 2048) : EReal :=
  x n * Ideal.rsqrt (Ideal.div (∑ k, x k * x k) (Ideal.ofBits FTy.f32 0x45000000#32) + Ideal.ofBits FTy.f32 0x358637BD#32) * g n
def zR (x g w : Fin 2048 → EReal) : EReal := ∑ k, hnR x g k * w k

theorem hn_at (U : S256x2048.Idx → EReal) (G : S1x2048.Idx → EReal) (r : Fin 256) (n : Fin 2048) :
    k0_pay2 (F := Ideal) U G (ix2 r n) = hnR (fun k => U (ix2 r k)) (fun k => G (ix2 0 k)) n := by
  pointwise [k0_pay2]
  try rfl
theorem z_at (U : S256x2048.Idx → EReal) (G : S1x2048.Idx → EReal) (W : S2048x1280.Idx → EReal) (r : Fin 256) (j : Fin 1280) :
    k0_pay5 (F := Ideal) U G W (ix2 r j) = zR (fun k => U (ix2 r k)) (fun k => G (ix2 0 k)) (fun k => W (ix2 k j)) := by
  pointwise [k0_pay5, k0_pay3, hn_at]
  try rfl
theorem w_at (W : S2048x1280.Idx → EReal) : k0_pay1 (F := Ideal) W = W := by
  funext y
  idx_vars y
  pointwise [k0_pay1]
theorem t_at (U : S256x2048.Idx → EReal) (G : S1x2048.Idx → EReal) (r : Fin 256) (n : Fin 2048) :
    k0_pay4 (F := Ideal) U G (ix2 n r) = hnR (fun k => U (ix2 r k)) (fun k => G (ix2 0 k)) n := by
  pointwise [k0_pay4, hn_at]

variable (m : (ℓ : Loc nD τ sig) → Buf (Elt Ideal) ℓ) (c : Dev nD)

theorem o4 (t : Fin cfg0.N) (r : Fin 256) (n : Fin 2048) : ((outsAt0 m c t.val t.isLt).1 : S256x2048.Idx → EReal) (ix2 r n)
    = hnR (fun k => (iblk m c 0 t : S256x2048.Idx → EReal) (ix2 r k)) (fun k => (iblk m c 1 t : S1x2048.Idx → EReal) (ix2 0 k)) n := by
  by_cases h0 : t.val % 32 = 0 <;> first | rw [outsAt0_A m c t h0] | rw [outsAt0_B m c t h0]
  all_goals
    frame_out
    pointwise [k0_pay3, hn_at]
theorem o6 (t : Fin cfg0.N) (r : Fin 256) (n : Fin 2048) : ((outsAt0 m c t.val t.isLt).2.2.1 : S2048x256.Idx → EReal) (ix2 n r)
    = hnR (fun k => (iblk m c 0 t : S256x2048.Idx → EReal) (ix2 r k)) (fun k => (iblk m c 1 t : S1x2048.Idx → EReal) (ix2 0 k)) n := by
  by_cases h0 : t.val % 32 = 0 <;> first | rw [outsAt0_A m c t h0] | rw [outsAt0_B m c t h0]
  all_goals
    frame_out
    exact t_at _ _ r n

/-! The weight stays in the scratch buffer from the first point on. -/

theorem s_A (t : Fin cfg0.N) (h0 : t.val % 32 = 0) : (outsAt0 m c t.val t.isLt).2.2.2 = (iblk m c 2 t : S2048x1280.Idx → EReal) := by
  rw [outsAt0_A m c t h0]
  frame_out
  exact w_at _
theorem s_B (t : Fin cfg0.N) (h0 : ¬t.val % 32 = 0) : (outsAt0 m c t.val t.isLt).2.2.2 = (outsAt0 m c (t.val - 1) (by omega)).2.2.2 := by
  rw [outsAt0_B m c t h0]
  rfl
theorem o5_A (t : Fin cfg0.N) (h0 : t.val % 32 = 0) (r : Fin 256) (j : Fin 1280) : ((outsAt0 m c t.val t.isLt).2.1 : S256x1280.Idx → EReal) (ix2 r j)
    = zR (fun k => (iblk m c 0 t : S256x2048.Idx → EReal) (ix2 r k)) (fun k => (iblk m c 1 t : S1x2048.Idx → EReal) (ix2 0 k))
      (fun k => (iblk m c 2 t : S2048x1280.Idx → EReal) (ix2 k j)) := by
  rw [outsAt0_A m c t h0]
  frame_out
  rw [w_at]
  exact z_at _ _ _ r j
theorem o5_B (t : Fin cfg0.N) (h0 : ¬t.val % 32 = 0) (r : Fin 256) (j : Fin 1280) : ((outsAt0 m c t.val t.isLt).2.1 : S256x1280.Idx → EReal) (ix2 r j)
    = zR (fun k => (iblk m c 0 t : S256x2048.Idx → EReal) (ix2 r k)) (fun k => (iblk m c 1 t : S1x2048.Idx → EReal) (ix2 0 k))
      (fun k => ((outsAt0 m c (t.val - 1) (by omega)).2.2.2 : S2048x1280.Idx → EReal) (ix2 k j)) := by
  rw [outsAt0_B m c t h0]
  frame_out
  exact (congrArg (fun W : S2048x1280.Idx → EReal => k0_pay5 (F := Ideal) (iblk m c 0 t) (iblk m c 1 t) W (ix2 r j)) (Memref.IsWhole.read_unread _ _)).trans (z_at _ _ _ r j)

/-! ## The arrays and blocks -/

theorem V_v0 (R : Fin 8192) (k : Fin 2048) : (V m c main_v0 : S8192x2048.Idx → EReal) (ix2 R k)
    = (m ((c : Thread nD τ).loc main_arg0) : S1x8192x2048.Idx → EReal) (ix3 0 R k) := by
  show StableHlo.after hostOps0 _ (Proc.devRef .tc main_v0) (ix2 R k) = _
  after_results
  pointwise []
  try rfl
theorem V_v1 (k : Fin 2048) (j : Fin 1280) : (V m c main_v1 : S2048x1280.Idx → EReal) (ix2 k j)
    = (m ((c : Thread nD τ).loc main_arg2) : S1x2048x1280.Idx → EReal) (ix3 0 k j) := by
  show StableHlo.after hostOps0 _ (Proc.devRef .tc main_v1) (ix2 k j) = _
  after_results
  pointwise []
  try rfl

theorem idx0 : ∀ t : Fin cfg0.N, win0_0.index t = ![t.val, 0] ∧ win0_1.index t = ![0, 0] ∧ win0_2.index t = ![0, 0]
    ∧ win0_4.index t = ![t.val, 0] ∧ win0_5.index t = ![t.val, 0] ∧ win0_6.index t = ![0, t.val] :=
  (by decide +kernel : ∀ t : Fin grid0.N, _)

theorem lt0 (t : Fin cfg0.N) : t.val < 32 := lt_of_lt_of_eq t.isLt N_0

/-- The row of the arrays that row `r` of a point's block is. -/
def at0 (t : Fin cfg0.N) (r : Fin 256) : Fin 8192 := ⟨256 * t.val + r.val, by have := lt0 t; omega⟩

/-- The arguments by rows and columns. -/
def xA (R : Fin 8192) (k : Fin 2048) : EReal := (m ((c : Thread nD τ).loc main_arg0) : S1x8192x2048.Idx → EReal) (ix3 0 R k)
def gA (k : Fin 2048) : EReal := (m ((c : Thread nD τ).loc main_arg1) : S1x2048.Idx → EReal) (ix2 0 k)
def wA (j : Fin 1280) (k : Fin 2048) : EReal := (m ((c : Thread nD τ).loc main_arg2) : S1x2048x1280.Idx → EReal) (ix3 0 k j)

theorem b0 (t : Fin cfg0.N) (r : Fin 256) : (fun k => (iblk m c 0 t : S256x2048.Idx → EReal) (ix2 r k)) = xA m c (at0 t r) := by
  funext k
  refine Eq.trans ?_ (V_v0 m c _ _)
  unfold at0
  blk_point [iblk, idx0 t]
theorem b1 (t : Fin cfg0.N) : (fun k => (iblk m c 1 t : S1x2048.Idx → EReal) (ix2 0 k)) = gA m c := by
  funext k
  refine Eq.trans ?_ (congrFun (V_main_arg1 m c) _)
  blk_point [iblk, idx0 t]
theorem b2 (t : Fin cfg0.N) : iblk m c 2 t = V m c main_v1 := by
  funext y
  blk_point [iblk, idx0 t]

theorem held : ∀ (n : ℕ) (h : n < cfg0.N), (outsAt0 m c n h).2.2.2 = (V m c main_v1 : S2048x1280.Idx → EReal)
  | 0, h => (s_A m c ⟨0, h⟩ rfl).trans (b2 m c ⟨0, h⟩)
  | n + 1, h => by
    have : n + 1 < 32 := lt0 ⟨n + 1, h⟩
    exact (s_B m c ⟨n + 1, h⟩ (by show ¬(n + 1) % 32 = 0; omega)).trans (held n (by omega))

theorem o5 (t : Fin cfg0.N) (r : Fin 256) (j : Fin 1280) : ((outsAt0 m c t.val t.isLt).2.1 : S256x1280.Idx → EReal) (ix2 r j)
    = zR (xA m c (at0 t r)) (gA m c) (wA m c j) := by
  have e : (fun k => (V m c main_v1 : S2048x1280.Idx → EReal) (ix2 k j)) = wA m c j := funext fun k => V_v1 m c k j
  by_cases h0 : t.val % 32 = 0
  · rw [o5_A m c t h0, b0, b1, b2, e]
  · rw [o5_B m c t h0, b0, b1, held, e]

theorem hn4 (t : Fin cfg0.N) (r : Fin 256) (n : Fin 2048) : ((outsAt0 m c t.val t.isLt).1 : S256x2048.Idx → EReal) (ix2 r n)
    = hnR (xA m c (at0 t r)) (gA m c) n := by rw [o4, b0, b1]
theorem hn6 (t : Fin cfg0.N) (r : Fin 256) (n : Fin 2048) : ((outsAt0 m c t.val t.isLt).2.2.1 : S2048x256.Idx → EReal) (ix2 n r)
    = hnR (xA m c (at0 t r)) (gA m c) n := by rw [o6, b0, b1]

/-! ## The arrays the call leaves -/

theorem fin4 : (dats m 0 c).arrAt 4 cfg0.N = fun i => hnR (xA m c (i 0)) (gA m c) (i 1) := by
  refine (dats m 0 c).arrAt_eq_of_covers 4 _ (by decide +kernel) fun t hf y => ?_
  blk_simp
  rw [after0_4]
  refine (congrArg _ (eq_ix2 y)).trans ((hn4 m c t (y 0) (y 1)).trans ?_)
  exact congrArg₂ (fun R k => hnR (xA m c R) (gA m c) k) (Fin.ext (by blk_simp [idx0 t, at0]; show 256 * t.val + (y 0).val = t.val * 256 + (y 0).val; omega)) (Fin.ext (by blk_simp [idx0 t]))
theorem fin5 : (dats m 0 c).arrAt 5 cfg0.N = fun i => zR (xA m c (i 0)) (gA m c) (wA m c (i 1)) := by
  refine (dats m 0 c).arrAt_eq_of_covers 5 _ (by decide +kernel) fun t hf y => ?_
  blk_simp
  rw [after0_5]
  refine (congrArg _ (eq_ix2 y)).trans ((o5 m c t (y 0) (y 1)).trans ?_)
  exact congrArg₂ (fun R j => zR (xA m c R) (gA m c) (wA m c j)) (Fin.ext (by blk_simp [idx0 t, at0]; show 256 * t.val + (y 0).val = t.val * 256 + (y 0).val; omega)) (Fin.ext (by blk_simp [idx0 t]))
theorem fin6 : (dats m 0 c).arrAt 6 cfg0.N = fun i => hnR (xA m c (i 1)) (gA m c) (i 0) := by
  refine (dats m 0 c).arrAt_eq_of_covers 6 _ (by decide +kernel) fun t hf y => ?_
  blk_simp
  rw [after0_6]
  refine (congrArg _ (eq_ix2 y)).trans ((hn6 m c t (y 1) (y 0)).trans ?_)
  exact congrArg₂ (fun R k => hnR (xA m c R) (gA m c) k) (Fin.ext (by blk_simp [idx0 t, at0]; show 256 * t.val + (y 1).val = t.val * 256 + (y 1).val; omega)) (Fin.ext (by blk_simp [idx0 t]))

end Cert.Kernel4Ideal.PjVal
end
-- ==== Proof.Pj.Value.lean ====
module

public import proofs.«01_k».proof.Proof.Pj.Rows

/-! The pre-norm and the device's own columns: the reference's results and the kernel's are one function of the arguments. -/

@[expose] public section

set_option maxRecDepth 16384

noncomputable section

namespace Cert.Reference4Ideal.PjRef

open Idealize.ShloMosaic Idealize.ShloMosaic.TcCoe
open Cert.Reference4Ideal Cert.Reference4Ideal.Gen Cert.Reference4Ideal.Read Cert.Kernel4Ideal.PjVal

variable (x : S1x8192x2048.Idx → EReal) (g : S1x2048.Idx → EReal) (w : S1x2048x1280.Idx → EReal)

theorem ss_at (R : Fin 8192) : val_main_v3 (F := Ideal) x (ix1 R) = ∑ k, x (ix3 0 R k) * x (ix3 0 R k) := by
  pointwise [val_main_v3, val_main_v2, val_main_v0, val_main_cst]
theorem rs_at (R : Fin 8192) : val_main_v9 (F := Ideal) x (ix2 R 0)
    = Ideal.rsqrt (Ideal.div (∑ k, x (ix3 0 R k) * x (ix3 0 R k)) (Ideal.ofBits FTy.f32 0x45000000#32) + Ideal.ofBits FTy.f32 0x358637BD#32) := by
  pointwise [val_main_v9, val_main_v8, val_main_v7, val_main_v6, val_main_v5, val_main_v4, val_main_cst_0, val_main_cst_1, ss_at]
theorem hn_at (R : Fin 8192) (n : Fin 2048) : val_main_v14 (F := Ideal) x g (ix2 R n) = hnR (fun k => x (ix3 0 R k)) (fun k => g (ix2 0 k)) n := by
  unfold hnR
  rw [← rs_at x R]
  pointwise [val_main_v14, val_main_v13, val_main_v12, val_main_v11, val_main_v10, val_main_v0, val_main_v1]
theorem h_at (R : Fin 8192) (n : Fin 2048) : val_main_v15 (F := Ideal) x g (ix2 R n) = hnR (fun k => x (ix3 0 R k)) (fun k => g (ix2 0 k)) n := by
  pointwise [val_main_v15, hn_at]
theorem t_at (R : Fin 8192) (n : Fin 2048) : val_main_v20 (F := Ideal) x g (ix2 n R) = hnR (fun k => x (ix3 0 R k)) (fun k => g (ix2 0 k)) n := by
  pointwise [val_main_v20, val_main_v19, hn_at]
theorem z_at (R : Fin 8192) (j : Fin 1280) : val_main_v18 (F := Ideal) x g w (ix2 R j)
    = zR (fun k => x (ix3 0 R k)) (fun k => g (ix2 0 k)) (fun k => w (ix3 0 k j)) := by
  pointwise [val_main_v18, val_main_v17, val_main_v16, hn_at]
  try rfl

end Cert.Reference4Ideal.PjRef

namespace Cert.Kernel4Ideal.PjVal

open Idealize.ShloMosaic Idealize.ShloMosaic.TcCoe Idealize.SL Idealize.SL.Sem
open Cert.Kernel4Ideal Cert.Kernel4Ideal.Gen

/-- Every result of the kernel is the reference's. -/
theorem norm_proj : Cert.algebraic_Kernel4Ideal_Reference4Ideal := by
  intro m g m' g' hpre heq
  refine ⟨fun c i => hnR (xA m c (i 0)) (gA m c) (i 1), fun c i => zR (xA m c (i 0)) (gA m c) (wA m c (i 1)), fun c i => hnR (xA m c (i 1)) (gA m c) (i 0),
    (θ_run _ _ _).mono (fun r h c => ?_) (Cert.Kernel4Ideal.Value.run_blocks m g), (θ_run _ _ _).mono (fun r h c => ?_) (Cert.Reference4Ideal.Value.run m' g')⟩
  · obtain ⟨k0, k1, k2, hk⟩ := h c
    exact ⟨k0.trans (fin4 m c), k1.trans (fin5 m c), k2.trans (fin6 m c), hk⟩
  · obtain ⟨e0, e1, e2⟩ := heq c
    obtain ⟨r0, r1, r2, hk⟩ := h c
    refine ⟨r0.trans ((Cert.Reference4Ideal.Read.val_main_v15_eq _ _).trans (funext fun i => ?_)),
      r1.trans ((Cert.Reference4Ideal.Read.val_main_v18_eq _ _ _).trans (funext fun i => ?_)),
      r2.trans ((Cert.Reference4Ideal.Read.val_main_v20_eq _ _).trans (funext fun i => ?_)), hk⟩
    · rw [e0, e1, eq_ix2 i]
      exact Cert.Reference4Ideal.PjRef.h_at _ _ (i 0) (i 1)
    · rw [e0, e1, e2, eq_ix2 i]
      exact Cert.Reference4Ideal.PjRef.z_at _ _ _ (i 0) (i 1)
    · rw [e0, e1, eq_ix2 i]
      exact Cert.Reference4Ideal.PjRef.t_at _ _ (i 1) (i 0)

end Cert.Kernel4Ideal.PjVal
end
-- ==== Proof.Wg.Sums.lean ====
module

public import proofs.«01_k».proof.Proof.Gen.Kernel5Ideal.Frame
public import proofs.«01_k».proof.Proof.Gen.Kernel5Ideal.Value
public import proofs.«01_k».proof.Defs
public import Idealize.ShloMosaic.Lib.Pipeline.ValueKit
public import Idealize.ShloMosaic.Lib.Pipeline.ReadBack

/-! The input projection's weight gradient: a sum over the rows, taken in four parts. -/

@[expose] public section

set_option maxRecDepth 16384

noncomputable section

namespace Cert.Kernel5Ideal.WgVal

open Idealize.ShloMosaic Idealize.ShloMosaic.TcCoe Idealize.SL.Sem
open Idealize.ShloMosaic.Pipeline (Dat)
open Cert.Kernel5Ideal Cert.Kernel5Ideal.Gen

/-! ## One point -/

theorem zero_at (i : Fin 1024) (j : Fin 1280) : k0_pay1 (F := Ideal) (ix4 0 0 i j) = 0 := by
  pointwise [k0_pay1]
theorem add_at (V : S1x1x1024x1280.Idx → EReal) (U : S1024x2048.Idx → EReal) (W : S2048x1280.Idx → EReal) (i : Fin 1024) (j : Fin 1280) :
    k0_pay2 (F := Ideal) V U W (ix4 0 0 i j) = V (ix4 0 0 i j) + ∑ k, U (ix2 i k) * W (ix2 k j) := by
  pointwise [k0_pay2]
  try rfl

variable (m : (ℓ : Loc nD τ sig) → Buf (Elt Ideal) ℓ) (c : Dev nD)

/-- A point's two blocks, and the two arrays they are cut from. -/
def blkA (t : Fin cfg0.N) (i : Fin 1024) (k : Fin 2048) : EReal := (iblk m c 0 t : S1024x2048.Idx → EReal) (ix2 i k)
def blkB (t : Fin cfg0.N) (k : Fin 2048) (j : Fin 1280) : EReal := (iblk m c 1 t : S2048x1280.Idx → EReal) (ix2 k j)
def hA (p : Fin 2048) (R : Fin 8192) : EReal := (V m c main_v16 : S2048x8192.Idx → EReal) (ix2 p R)
def dA (R : Fin 8192) (q : Fin 5120) : EReal := (m ((c : Thread nD τ).loc main_arg2) : S8192x5120.Idx → EReal) (ix2 R q)

/-- The product of a point's two blocks. -/
def part (t : Fin cfg0.N) (i : Fin 1024) (j : Fin 1280) : EReal :=
  ∑ k : Fin 2048, blkA m c t i k * blkB m c t k j

theorem first (t : Fin cfg0.N) (h0 : t.val % 4 = 0) (i : Fin 1024) (j : Fin 1280) :
    (outsAt0 m c t.val t.isLt : S1x1x1024x1280.Idx → EReal) (ix4 0 0 i j) = part m c t i j := by
  rw [outsAt0_A m c t h0]
  frame_out
  refine (add_at _ _ _ i j).trans ?_
  rw [zero_at, zero_add]
  rfl
theorem next (t : Fin cfg0.N) (h0 : ¬t.val % 4 = 0) (i : Fin 1024) (j : Fin 1280) :
    (outsAt0 m c t.val t.isLt : S1x1x1024x1280.Idx → EReal) (ix4 0 0 i j)
      = (outsAt0 m c (t.val - 1) (by omega) : S1x1x1024x1280.Idx → EReal) (ix4 0 0 i j) + part m c t i j := by
  rw [outsAt0_B m c t h0]
  frame_out
  refine (add_at _ _ _ i j).trans ?_
  rfl

/-! ## The blocks -/

theorem idx0 : ∀ t : Fin cfg0.N, win0_0.index t = ![t.val / 4 % 2, t.val % 4] ∧ win0_1.index t = ![t.val % 4, t.val / 8]
    ∧ win0_3.index t = ![t.val / 8, t.val / 4 % 2, 0, 0] :=
  (by decide +kernel : ∀ t : Fin grid0.N, _)

theorem lt0 (t : Fin cfg0.N) : t.val < 32 := lt_of_lt_of_eq t.isLt N_0

/-- What the product adds for a row of the arrays; nothing past the last row. -/
def term (p : Fin 2048) (q : Fin 5120) (r : ℕ) : EReal :=
  if h : r < 8192 then hA m c p ⟨r, h⟩ * dA m c ⟨r, h⟩ q else 0

def rowAt (t : Fin cfg0.N) (i : Fin 1024) : Fin 2048 := ⟨1024 * (t.val / 4 % 2) + i.val, by omega⟩
def colAt (t : Fin cfg0.N) (j : Fin 1280) : Fin 5120 := ⟨1280 * (t.val / 8) + j.val, by have := lt0 t; omega⟩
def sumAt (t : Fin cfg0.N) (k : Fin 2048) : Fin 8192 := ⟨2048 * (t.val % 4) + k.val, by omega⟩

theorem b0 (t : Fin cfg0.N) (i : Fin 1024) (k : Fin 2048) : blkA m c t i k = hA m c (rowAt t i) (sumAt t k) := by
  unfold blkA hA rowAt sumAt
  blk_point [iblk, idx0 t]
theorem b1 (t : Fin cfg0.N) (k : Fin 2048) (j : Fin 1280) : blkB m c t k j = dA m c (sumAt t k) (colAt t j) := by
  refine Eq.trans ?_ (congrFun (V_main_arg2 m c) _)
  unfold blkB colAt sumAt
  blk_point [iblk, idx0 t]

theorem part_eq (t : Fin cfg0.N) (i : Fin 1024) (j : Fin 1280) :
    part m c t i j = ∑ r ∈ Finset.range 2048, term m c (rowAt t i) (colAt t j) (2048 * (t.val % 4) + r) := by
  rw [Finset.sum_range]
  refine Finset.sum_congr rfl fun k _ => ?_
  rw [b0, b1]
  show _ = term m c _ _ (sumAt t k).val
  unfold term
  rw [dif_pos (sumAt t k).isLt]

/-- After a point the output block holds the sum over the rows read so far. -/
theorem held : ∀ (n : ℕ) (h : n < cfg0.N) (i : Fin 1024) (j : Fin 1280), (outsAt0 m c n h : S1x1x1024x1280.Idx → EReal) (ix4 0 0 i j)
    = ∑ r ∈ Finset.range (2048 * (n % 4) + 2048), term m c (rowAt ⟨n, h⟩ i) (colAt ⟨n, h⟩ j) r
  | n, h, i, j => by
    by_cases h0 : n % 4 = 0
    · rw [first m c ⟨n, h⟩ h0, part_eq]
      simp only [h0, Nat.mul_zero, Nat.zero_add]
    · have hn : n - 1 + 1 = n := by omega
      have ih := held (n - 1) (by omega) i j
      have er : rowAt (⟨n - 1, by omega⟩ : Fin cfg0.N) i = rowAt ⟨n, h⟩ i := Fin.ext (by simp only [rowAt]; omega)
      have ec : colAt (⟨n - 1, by omega⟩ : Fin cfg0.N) j = colAt ⟨n, h⟩ j := Fin.ext (by simp only [colAt]; omega)
      have em : 2048 * ((n - 1) % 4) + 2048 = 2048 * (n % 4) := by omega
      rw [next m c ⟨n, h⟩ h0, part_eq, Finset.sum_range_add]
      rw [er, ec, em] at ih
      exact congrArg (· + _) ih
  termination_by n => n
  decreasing_by omega

/-- The gradient by rows and columns of the weight. -/
def gw (p : Fin 2048) (q : Fin 5120) : EReal :=
  ∑ R : Fin 8192, hA m c p R * dA m c R q

theorem last (t : Fin cfg0.N) (h3 : t.val % 4 = 3) (i : Fin 1024) (j : Fin 1280) :
    (outsAt0 m c t.val t.isLt : S1x1x1024x1280.Idx → EReal) (ix4 0 0 i j) = gw m c (rowAt t i) (colAt t j) := by
  rw [held, h3]
  refine (Finset.sum_range _).trans (Finset.sum_congr rfl fun R _ => ?_)
  exact dif_pos R.isLt

/-- The weight's row and column of an entry of the result. -/
def rowOf (h : Fin 2) (i : Fin 1024) : Fin 2048 := ⟨1024 * h.val + i.val, by omega⟩
def colOf (b : Fin 4) (j : Fin 1280) : Fin 5120 := ⟨1280 * b.val + j.val, by omega⟩

theorem fin3 : (dats m 0 c).arrAt 3 cfg0.N = fun i => gw m c (rowOf (i 1) (i 2)) (colOf (i 0) (i 3)) := by
  refine (dats m 0 c).arrAt_eq_of_covers 3 _ (by decide +kernel) fun t hf y => ?_
  have h3 : t.val % 4 = 3 := (flush0_3 t).mp hf
  blk_simp
  rw [after0_3]
  have ey : y = ix4 0 0 (y 2) (y 3) := (eq_ix4 y).trans
    (congrArg₂ (fun a b : Fin 1 => ix4 a b (y 2) (y 3)) (Subsingleton.elim _ _) (Subsingleton.elim _ _))
  refine (congrArg _ ey).trans ((last m c t h3 (y 2) (y 3)).trans ?_)
  have e0 : (y 0).val = 0 := Nat.lt_one_iff.mp (y 0).isLt
  have e1 : (y 1).val = 0 := Nat.lt_one_iff.mp (y 1).isLt
  exact congrArg₂ (gw m c)
    (Fin.ext (by blk_simp [idx0 t, rowAt, rowOf]))
    (Fin.ext (by blk_simp [idx0 t, colAt, colOf]))

end Cert.Kernel5Ideal.WgVal
end
-- ==== Proof.Wg.Value.lean ====
module

public import proofs.«01_k».proof.Proof.Wg.Sums
public import proofs.«01_k».proof.Proof.Pj.Rows
public import proofs.«01_k».proof.Proof.Gen.Reference5Ideal.Read
public import proofs.«01_k».proof.Proof.Gen.Reference5Ideal.Run

/-! The input projection's weight gradient: the kernel's sum in parts and the transposed product are one array. -/

@[expose] public section

set_option maxRecDepth 16384

noncomputable section

namespace Cert.Reference5Ideal.WgRef

open Idealize.ShloMosaic Idealize.ShloMosaic.TcCoe
open Cert.Reference5Ideal Cert.Reference5Ideal.Gen Cert.Reference5Ideal.Read
open Cert.Kernel4Ideal.PjVal (hnR)
open Cert.Kernel5Ideal.WgVal (rowOf colOf)

variable (x : S1x8192x2048.Idx → EReal) (g : S1x2048.Idx → EReal) (d : S8192x5120.Idx → EReal)

theorem rs_at (R : Fin 8192) : val_main_v9 (F := Ideal) x (ix2 R 0)
    = Ideal.rsqrt (Ideal.div (∑ k, x (ix3 0 R k) * x (ix3 0 R k)) (Ideal.ofBits FTy.f32 0x45000000#32) + Ideal.ofBits FTy.f32 0x358637BD#32) := by
  pointwise [val_main_v9, val_main_v8, val_main_v7, val_main_v6, val_main_v5, val_main_v4, val_main_v3, val_main_v2, val_main_v0, val_main_cst,
    val_main_cst_0, val_main_cst_1]
theorem hn_at (R : Fin 8192) (n : Fin 2048) : val_main_v14 (F := Ideal) x g (ix2 R n) = hnR (fun k => x (ix3 0 R k)) (fun k => g (ix2 0 k)) n := by
  unfold hnR
  rw [← rs_at x R]
  pointwise [val_main_v14, val_main_v13, val_main_v12, val_main_v11, val_main_v10, val_main_v0, val_main_v1]
theorem gw_at (p : Fin 2048) (q : Fin 5120) : val_main_v19 (F := Ideal) x g d (ix2 p q)
    = ∑ R, hnR (fun k => x (ix3 0 R k)) (fun k => g (ix2 0 k)) p * d (ix2 R q) := by
  pointwise [val_main_v19, val_main_v18, val_main_v17, hn_at]
  exact Finset.sum_congr rfl fun R _ => mul_comm _ _
theorem cut_at (i : S4x2x1024x1280.Idx) : val_main_v21 (F := Ideal) x g d i
    = val_main_v19 (F := Ideal) x g d (ix2 (rowOf (i 1) (i 2)) (colOf (i 0) (i 3))) := by
  idx_vars i
  pointwise [val_main_v21, val_main_v20]
  refine congrArg₂ (fun p q => val_main_v19 (F := Ideal) x g d (ix2 p q)) (Fin.ext ?_) (Fin.ext ?_)
  · show i1.val * 1024 + i2.val = 1024 * i1.val + i2.val
    omega
  · show i0.val * 1280 + i3.val = 1280 * i0.val + i3.val
    omega

end Cert.Reference5Ideal.WgRef

namespace Cert.Kernel5Ideal.WgVal

open Idealize.ShloMosaic Idealize.ShloMosaic.TcCoe Idealize.SL Idealize.SL.Sem
open Cert.Kernel5Ideal Cert.Kernel5Ideal.Gen
open Cert.Kernel4Ideal.PjVal (hnR)

/-- The kernel's first operand is the normalised x, transposed. -/
theorem hA_eq (m : (ℓ : Loc nD τ sig) → Buf (Elt Ideal) ℓ) (c : Dev nD) (p : Fin 2048) (R : Fin 8192) : hA m c p R
    = hnR (fun k => (m ((c : Thread nD τ).loc main_arg0) : S1x8192x2048.Idx → EReal) (ix3 0 R k))
      (fun k => (m ((c : Thread nD τ).loc main_arg1) : S1x2048.Idx → EReal) (ix2 0 k)) p := by
  show StableHlo.after hostOps0 _ (Proc.devRef .tc main_v16) (ix2 p R) = _
  after_results
  pointwise [hnR]
  try rfl

/-- Every entry of the kernel's result is the reference's. -/
theorem weight : Cert.algebraic_Kernel5Ideal_Reference5Ideal := by
  intro m g m' g' hpre heq
  refine ⟨fun c i => gw m c (rowOf (i 1) (i 2)) (colOf (i 0) (i 3)),
    (θ_run _ _ _).mono (fun r h c => ?_) (Cert.Kernel5Ideal.Value.run_blocks m g), (θ_run _ _ _).mono (fun r h c => ?_) (Cert.Reference5Ideal.Value.run m' g')⟩
  · exact ⟨(h c).1.trans (fin3 m c), (h c).2⟩
  · obtain ⟨e0, e1, e2⟩ := heq c
    refine ⟨(h c).1.trans ((Cert.Reference5Ideal.Read.val_main_v21_eq _ _ _).trans (funext fun i => ?_)), (h c).2⟩
    rw [e0, e1, e2]
    refine (Cert.Reference5Ideal.WgRef.cut_at _ _ _ i).trans ((Cert.Reference5Ideal.WgRef.gw_at _ _ _ _ _).trans ?_)
    refine Finset.sum_congr rfl fun R _ => ?_
    rw [hA_eq]
    rfl

end Cert.Kernel5Ideal.WgVal
end
-- ==== Proof.Ad.Value.lean ====
module

public import proofs.«01_k».proof.Proof.Gen.Kernel6Ideal.Frame
public import proofs.«01_k».proof.Proof.Gen.Kernel6Ideal.Value
public import proofs.«01_k».proof.Proof.Gen.Reference6Ideal.Read
public import proofs.«01_k».proof.Proof.Gen.Reference6Ideal.Run
public import proofs.«01_k».proof.Defs
public import Idealize.ShloMosaic.Lib.Pipeline.ValueKit
public import Idealize.ShloMosaic.Lib.Pipeline.ReadBack

/-! The optimiser's step on one weight: both programs compute the same number at every entry. -/

@[expose] public section

set_option maxRecDepth 16384

noncomputable section

namespace Cert.Kernel6Ideal.AdVal

open Idealize.ShloMosaic Idealize.ShloMosaic.TcCoe Idealize.SL Idealize.SL.Sem
open Idealize.ShloMosaic.Pipeline (Dat)
open Cert.Kernel6Ideal Cert.Kernel6Ideal.Gen

/-- The new first and second moments, and the step. -/
def mom (g u : EReal) : EReal := Ideal.ofBits FTy.f32 0x3F666666#32 * u + Ideal.ofBits FTy.f32 0x3DCCCCCD#32 * g
def sqm (g u : EReal) : EReal := Ideal.ofBits FTy.f32 0x3F7FBE77#32 * u + Ideal.ofBits FTy.f32 0x3A83126F#32 * (g * g)
def stp (w g u v : EReal) : EReal :=
  Ideal.ofBits FTy.f32 0xBA83126F#32 * (Ideal.div (Ideal.div (mom g u) (Ideal.ofBits FTy.f32 0x3F26BD02#32))
    (Ideal.sqrt (Ideal.div (sqm g v) (Ideal.ofBits FTy.f32 0x3C231ACC#32)) + Ideal.ofBits FTy.f32 0x322BCC77#32)
    + Ideal.ofBits FTy.f32 0x3C23D70A#32 * w)

variable (G W U S : S512x1280.Idx → EReal) (r : Fin 512) (j : Fin 1280)

theorem mom_at : k0_pay1 (F := Ideal) G U (ix2 r j) = mom (G (ix2 r j)) (U (ix2 r j)) := by
  pointwise [k0_pay1, mom]
theorem sqm_at : k0_pay2 (F := Ideal) G S (ix2 r j) = sqm (G (ix2 r j)) (S (ix2 r j)) := by
  pointwise [k0_pay2, sqm]
theorem stp_at : k0_pay3 (F := Ideal) G W U S (ix2 r j) = stp (W (ix2 r j)) (G (ix2 r j)) (U (ix2 r j)) (S (ix2 r j)) := by
  pointwise [k0_pay3, mom_at, sqm_at, stp]

variable (m : (ℓ : Loc nD τ sig) → Buf (Elt Ideal) ℓ) (c : Dev nD)

/-- The arguments by rows and columns. -/
def wA (R : Fin 2048) (k : Fin 1280) : EReal := (m ((c : Thread nD τ).loc main_arg0) : S1x2048x1280.Idx → EReal) (ix3 0 R k)
def gA (R : Fin 2048) (k : Fin 1280) : EReal := (m ((c : Thread nD τ).loc main_arg1) : S2048x1280.Idx → EReal) (ix2 R k)
def uA (R : Fin 2048) (k : Fin 1280) : EReal := (m ((c : Thread nD τ).loc main_arg2) : S1x2048x1280.Idx → EReal) (ix3 0 R k)
def vA (R : Fin 2048) (k : Fin 1280) : EReal := (m ((c : Thread nD τ).loc main_arg3) : S1x2048x1280.Idx → EReal) (ix3 0 R k)

theorem V_v0 (R : Fin 2048) (k : Fin 1280) : (V m c main_v0 : S2048x1280.Idx → EReal) (ix2 R k) = wA m c R k := by
  show StableHlo.after hostOps0 _ (Proc.devRef .tc main_v0) (ix2 R k) = _
  after_results
  pointwise []
  try rfl
theorem V_v1 (R : Fin 2048) (k : Fin 1280) : (V m c main_v1 : S2048x1280.Idx → EReal) (ix2 R k) = uA m c R k := by
  show StableHlo.after hostOps0 _ (Proc.devRef .tc main_v1) (ix2 R k) = _
  after_results
  pointwise []
  try rfl
theorem V_v2 (R : Fin 2048) (k : Fin 1280) : (V m c main_v2 : S2048x1280.Idx → EReal) (ix2 R k) = vA m c R k := by
  show StableHlo.after hostOps0 _ (Proc.devRef .tc main_v2) (ix2 R k) = _
  after_results
  pointwise []
  try rfl

theorem idx0 : ∀ t : Fin cfg0.N, win0_0.index t = ![t.val, 0] ∧ win0_1.index t = ![t.val, 0] ∧ win0_2.index t = ![t.val, 0]
    ∧ win0_3.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

theorem lt0 (t : Fin cfg0.N) : t.val < 4 := lt_of_lt_of_eq t.isLt N_0

/-- The row of the arrays that row `r` of a point's block is. -/
def at0 (t : Fin cfg0.N) (r : Fin 512) : Fin 2048 := ⟨512 * t.val + r.val, by have := lt0 t; omega⟩

theorem b0 (t : Fin cfg0.N) : (iblk m c 0 t : S512x1280.Idx → EReal) (ix2 r j) = wA m c (at0 t r) j := by
  refine Eq.trans ?_ (V_v0 m c _ _)
  unfold at0
  blk_point [iblk, idx0 t]
theorem b1 (t : Fin cfg0.N) : (iblk m c 1 t : S512x1280.Idx → EReal) (ix2 r j) = gA m c (at0 t r) j := by
  refine Eq.trans ?_ (congrFun (V_main_arg1 m c) (ix2 (at0 t r) j))
  unfold at0
  blk_point [iblk, idx0 t]
theorem b2 (t : Fin cfg0.N) : (iblk m c 2 t : S512x1280.Idx → EReal) (ix2 r j) = uA m c (at0 t r) j := by
  refine Eq.trans ?_ (V_v1 m c _ _)
  unfold at0
  blk_point [iblk, idx0 t]
theorem b3 (t : Fin cfg0.N) : (iblk m c 3 t : S512x1280.Idx → EReal) (ix2 r j) = vA m c (at0 t r) j := by
  refine Eq.trans ?_ (V_v2 m c _ _)
  unfold at0
  blk_point [iblk, idx0 t]

theorem o5 (t : Fin cfg0.N) : out0_5 (F := Ideal) (iblk m c 0 t) (iblk m c 1 t) (iblk m c 2 t) (iblk m c 3 t) (iblk m c 4 t) (ix2 r j)
    = gA m c (at0 t r) j := by
  unfold out0_5
  frame_out
  exact b1 r j m c t
theorem o6 (t : Fin cfg0.N) : out0_6 (F := Ideal) (iblk m c 0 t) (iblk m c 1 t) (iblk m c 2 t) (iblk m c 3 t) (iblk m c 4 t) (ix2 r j)
    = stp (wA m c (at0 t r) j) (gA m c (at0 t r) j) (uA m c (at0 t r) j) (vA m c (at0 t r) j) := by
  unfold out0_6
  frame_out
  refine (stp_at _ _ _ _ r j).trans ?_
  rw [b0, b1, b2, b3]
theorem o7 (t : Fin cfg0.N) : out0_7 (F := Ideal) (iblk m c 0 t) (iblk m c 1 t) (iblk m c 2 t) (iblk m c 3 t) (iblk m c 4 t) (ix2 r j)
    = mom (gA m c (at0 t r) j) (uA m c (at0 t r) j) := by
  unfold out0_7
  frame_out
  refine (mom_at _ _ r j).trans ?_
  rw [b1, b2]
theorem o8 (t : Fin cfg0.N) : out0_8 (F := Ideal) (iblk m c 0 t) (iblk m c 1 t) (iblk m c 2 t) (iblk m c 3 t) (iblk m c 4 t) (ix2 r j)
    = sqm (gA m c (at0 t r) j) (vA m c (at0 t r) j) := by
  unfold out0_8
  frame_out
  refine (sqm_at _ _ r j).trans ?_
  rw [b1, b3]

theorem fin5 : (dats m 0 c).arrAt 5 cfg0.N = fun i => gA m c (i 0) (i 1) := by
  refine (dats m 0 c).arrAt_eq_of_covers 5 _ (by decide +kernel) fun t hf y => ?_
  blk_simp
  rw [after0_5]
  refine (congrArg _ (eq_ix2 y)).trans ((o5 (y 0) (y 1) m c t).trans ?_)
  exact congrArg₂ (gA m c) (Fin.ext (by blk_simp [idx0 t, at0]; show 512 * t.val + (y 0).val = t.val * 512 + (y 0).val; omega)) (Fin.ext (by blk_simp [idx0 t]))
theorem fin6 : (dats m 0 c).arrAt 6 cfg0.N = fun i => stp (wA m c (i 0) (i 1)) (gA m c (i 0) (i 1)) (uA m c (i 0) (i 1)) (vA m c (i 0) (i 1)) := by
  refine (dats m 0 c).arrAt_eq_of_covers 6 _ (by decide +kernel) fun t hf y => ?_
  blk_simp
  rw [after0_6]
  refine (congrArg _ (eq_ix2 y)).trans ((o6 (y 0) (y 1) m c t).trans ?_)
  exact congrArg₂ (fun R k => stp (wA m c R k) (gA m c R k) (uA m c R k) (vA m c R k)) (Fin.ext (by blk_simp [idx0 t, at0]; show 512 * t.val + (y 0).val = t.val * 512 + (y 0).val; omega)) (Fin.ext (by blk_simp [idx0 t]))
theorem fin7 : (dats m 0 c).arrAt 7 cfg0.N = fun i => mom (gA m c (i 0) (i 1)) (uA m c (i 0) (i 1)) := by
  refine (dats m 0 c).arrAt_eq_of_covers 7 _ (by decide +kernel) fun t hf y => ?_
  blk_simp
  rw [after0_7]
  refine (congrArg _ (eq_ix2 y)).trans ((o7 (y 0) (y 1) m c t).trans ?_)
  exact congrArg₂ (fun R k => mom (gA m c R k) (uA m c R k)) (Fin.ext (by blk_simp [idx0 t, at0]; show 512 * t.val + (y 0).val = t.val * 512 + (y 0).val; omega)) (Fin.ext (by blk_simp [idx0 t]))
theorem fin8 : (dats m 0 c).arrAt 8 cfg0.N = fun i => sqm (gA m c (i 0) (i 1)) (vA m c (i 0) (i 1)) := by
  refine (dats m 0 c).arrAt_eq_of_covers 8 _ (by decide +kernel) fun t hf y => ?_
  blk_simp
  rw [after0_8]
  refine (congrArg _ (eq_ix2 y)).trans ((o8 (y 0) (y 1) m c t).trans ?_)
  exact congrArg₂ (fun R k => sqm (gA m c R k) (vA m c R k)) (Fin.ext (by blk_simp [idx0 t, at0]; show 512 * t.val + (y 0).val = t.val * 512 + (y 0).val; omega)) (Fin.ext (by blk_simp [idx0 t]))

end Cert.Kernel6Ideal.AdVal

namespace Cert.Reference6Ideal.AdRef

open Idealize.ShloMosaic Idealize.ShloMosaic.TcCoe
open Cert.Reference6Ideal Cert.Reference6Ideal.Gen Cert.Reference6Ideal.Read
open Cert.Kernel6Ideal.AdVal (mom sqm stp)

variable (w u v : S1x2048x1280.Idx → EReal) (g : S2048x1280.Idx → EReal) (R : Fin 2048) (j : Fin 1280)

theorem mom_at : val_main_v5 (F := Ideal) g u (ix2 R j) = mom (g (ix2 R j)) (u (ix3 0 R j)) := by
  pointwise [val_main_v5, val_main_v4, val_main_v3, val_main_v2, val_main_v1, val_main_v0, val_main_cst, val_main_cst_0, mom]
theorem sqm_at : val_main_v12 (F := Ideal) g v (ix2 R j) = sqm (g (ix2 R j)) (v (ix3 0 R j)) := by
  pointwise [val_main_v12, val_main_v11, val_main_v10, val_main_v9, val_main_v8, val_main_v7, val_main_v6, val_main_cst_1, val_main_cst_2, sqm]
theorem stp_at : val_main_v26 (F := Ideal) w g u v (ix2 R j) = stp (w (ix3 0 R j)) (g (ix2 R j)) (u (ix3 0 R j)) (v (ix3 0 R j)) := by
  pointwise [val_main_v26, val_main_v25, val_main_v24, val_main_v23, val_main_v22, val_main_v21, val_main_v20, val_main_v19, val_main_v18, val_main_v17,
    val_main_v16, val_main_v15, val_main_v14, val_main_v13, val_main_cst_3, val_main_cst_4, val_main_cst_5, val_main_cst_6, val_main_cst_7, mom_at, sqm_at, stp]

end Cert.Reference6Ideal.AdRef

namespace Cert.Kernel6Ideal.AdVal

open Idealize.ShloMosaic Idealize.ShloMosaic.TcCoe Idealize.SL Idealize.SL.Sem
open Cert.Kernel6Ideal Cert.Kernel6Ideal.Gen

/-- Every entry of the four results is the reference's. -/
theorem optimiser : Cert.algebraic_Kernel6Ideal_Reference6Ideal := by
  intro m g m' g' hpre heq
  refine ⟨fun c i => gA m c (i 0) (i 1),
    fun c i => stp (wA m c (i 0) (i 1)) (gA m c (i 0) (i 1)) (uA m c (i 0) (i 1)) (vA m c (i 0) (i 1)),
    fun c i => mom (gA m c (i 0) (i 1)) (uA m c (i 0) (i 1)),
    fun c i => sqm (gA m c (i 0) (i 1)) (vA m c (i 0) (i 1)),
    (θ_run _ _ _).mono (fun r h c => ?_) (Cert.Kernel6Ideal.Value.run_blocks m g), (θ_run _ _ _).mono (fun r h c => ?_) (Cert.Reference6Ideal.Value.run m' g')⟩
  · obtain ⟨r0, r1, r2, r3, rest⟩ := h c
    exact ⟨r0.trans (fin5 m c), r1.trans (fin6 m c), r2.trans (fin7 m c), r3.trans (fin8 m c), rest⟩
  · obtain ⟨r0, r1, r2, r3, rest⟩ := h c
    obtain ⟨e0, e1, e2, e3⟩ := heq c
    refine ⟨r0.trans (e1.trans (funext fun i => ?_)), r1.trans ((Cert.Reference6Ideal.Read.val_main_v26_eq _ _ _ _).trans (funext fun i => ?_)),
      r2.trans ((Cert.Reference6Ideal.Read.val_main_v5_eq _ _).trans (funext fun i => ?_)),
      r3.trans ((Cert.Reference6Ideal.Read.val_main_v12_eq _ _).trans (funext fun i => ?_)), rest⟩
    · exact congrArg _ (eq_ix2 i)
    · rw [e0, e1, e2, e3, eq_ix2 i]
      exact Cert.Reference6Ideal.AdRef.stp_at _ _ _ _ (i 0) (i 1)
    · rw [e1, e2, eq_ix2 i]
      exact Cert.Reference6Ideal.AdRef.mom_at _ _ (i 0) (i 1)
    · rw [e1, e3, eq_ix2 i]
      exact Cert.Reference6Ideal.AdRef.sqm_at _ _ (i 0) (i 1)

end Cert.Kernel6Ideal.AdVal
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Loops
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Loops
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.In.Value
public import proofs.«01_k».proof.Proof.Sm.Value
public import proofs.«01_k».proof.Proof.Pk.Value
public import proofs.«01_k».proof.Proof.Br.Frames
public import proofs.«01_k».proof.Proof.Br.Value
public import proofs.«01_k».proof.Proof.Hd.Value
public import proofs.«01_k».proof.Proof.Pj.Value
public import proofs.«01_k».proof.Proof.Wg.Value
public import proofs.«01_k».proof.Proof.Ad.Value
public import Idealize.ShloMosaic.Adequacy
public import Idealize.ShloMosaic.Init

@[expose] public section

noncomputable section

namespace Cert.Proof

open Idealize.ShloMosaic Idealize.SL.Sem

theorem frameR : Cert.quiescent_ReferenceIdeal := fun m ρ _ =>
  (θ_run _ _ _).mono (fun r h => ⟨fun c => (h c).2.2, sem_eq_zero_of_no_sems (by decide) r.2⟩) (Cert.ReferenceIdeal.Value.run m ρ)

/-- The input projection's gradients are those of the reference. -/
theorem inproj : Cert.algebraic_KernelIdeal_ReferenceIdeal_pre_finite := by
  intro m g m' g' hpre heq
  refine ⟨_, _, (θ_run _ _ _).mono (fun r h c => ⟨(h c).1.1, (h c).1.2, (h c).2⟩) (Cert.KernelIdeal.InVal.run m g),
    (θ_run _ _ _).mono (fun r h c => ?_) (Cert.ReferenceIdeal.Value.run m' g')⟩
  obtain ⟨e0, e1, e2, e3, e4⟩ := heq c
  refine ⟨(h c).1.trans ?_, (h c).2.1.trans ?_, (h c).2.2⟩
  · rw [Cert.ReferenceIdeal.Read.val_main_v45_eq, e0, e1, e2, e3, e4]
    funext i
    rw [eq_ix2 i]
    exact (Cert.InValue.gx_value m g c hpre (i 0) (i 1)).symm
  · rw [Cert.ReferenceIdeal.Read.val_main_v46_eq, e0, e2, e3]
    funext i
    rw [eq_ix2 i]
    exact (Cert.InValue.gp_value m g c (i 0) (i 1)).symm

theorem frameR3 : Cert.quiescent_Reference3Ideal := fun m ρ _ =>
  (θ_run _ _ _).mono (fun r h => ⟨fun c => (h c).2.2.2.2.2.2.2.2, sem_eq_zero_of_no_sems (by decide) r.2⟩) (Cert.Reference3Ideal.Value.run m ρ)

theorem frameR4 : Cert.quiescent_Reference4Ideal := fun m ρ _ =>
  (θ_run _ _ _).mono (fun r h => ⟨fun c => (h c).2.2.2, sem_eq_zero_of_no_sems (by decide) r.2⟩) (Cert.Reference4Ideal.Value.run m ρ)

theorem frameR5 : Cert.quiescent_Reference5Ideal := fun m ρ _ =>
  (θ_run _ _ _).mono (fun r h => ⟨fun c => (h c).2, sem_eq_zero_of_no_sems (by decide) r.2⟩) (Cert.Reference5Ideal.Value.run m ρ)

theorem frameR6 : Cert.quiescent_Reference6Ideal := fun m ρ _ =>
  (θ_run _ _ _).mono (fun r h => ⟨fun c => (h c).2.2.2.2, sem_eq_zero_of_no_sems (by decide) r.2⟩) (Cert.Reference6Ideal.Value.run m ρ)

theorem frameR7 : Cert.quiescent_Reference7Ideal := fun m ρ _ =>
  (θ_run _ _ _).mono (fun r h => ⟨fun c => (h c).2, sem_eq_zero_of_no_sems (by decide) r.2⟩) (Cert.Reference7Ideal.Value.run m ρ)

theorem frameR8 : Cert.quiescent_Reference8Ideal := fun m ρ _ =>
  (θ_run _ _ _).mono (fun r h => ⟨fun c => (h c).2, sem_eq_zero_of_no_sems (by decide) r.2⟩) (Cert.Reference8Ideal.Value.run m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Pre_finite.Gen.facts, Cert.Kernel2Ideal.BrVal.preFacts, Cert.Pre_finite3.Gen.facts,
    fun m ρ _ => Cert.Kernel.Gen.frame m ρ,
    fun m ρ _ => Cert.KernelIdeal.Gen.frame m ρ,
    fun m ρ _ => Cert.KernelIdeal.Gen.frame m ρ,
    frameR,
    fun m ρ _ => frameR m ρ True.intro,
    Cert.Kernel2Ideal.Br.frameK, Cert.Kernel2Ideal.Br.frameI,
    fun m ρ _ => Cert.Kernel2Ideal.Br.frameI m ρ True.intro,
    Cert.Kernel2Ideal.Br.frameR,
    fun m ρ _ => Cert.Kernel2Ideal.Br.frameR m ρ True.intro,
    fun m ρ _ => Cert.Kernel3.Gen.frame m ρ,
    fun m ρ _ => Cert.Kernel3Ideal.Gen.frame m ρ,
    fun m ρ _ => Cert.Kernel3Ideal.Gen.frame m ρ,
    frameR3,
    fun m ρ _ => frameR3 m ρ True.intro,
    fun m ρ _ => Cert.Kernel4.Gen.frame m ρ,
    fun m ρ _ => Cert.Kernel4Ideal.Gen.frame m ρ,
    frameR4,
    fun m ρ _ => Cert.Kernel5.Gen.frame m ρ,
    fun m ρ _ => Cert.Kernel5Ideal.Gen.frame m ρ,
    frameR5,
    fun m ρ _ => Cert.Kernel6.Gen.frame m ρ,
    fun m ρ _ => Cert.Kernel6Ideal.Gen.frame m ρ,
    frameR6,
    fun m ρ _ => Cert.Kernel7.Gen.frame m ρ (Cert.Kernel7.SmTab.ok m),
    fun m ρ _ => Cert.Kernel7Ideal.Gen.frame m ρ (Cert.Kernel7Ideal.SmVal.ok m),
    frameR7,
    fun m ρ _ => Cert.Kernel8.Gen.frame m ρ (Cert.Kernel8.PkTab.ok m),
    fun m ρ _ => Cert.Kernel8Ideal.Gen.frame m ρ (Cert.Kernel8Ideal.PkVal.ok m),
    frameR8,
    trivial, inproj, Cert.Kernel2Ideal.Br.keeps, Cert.Kernel2Ideal.BrVal.branches,
    trivial, Cert.Kernel3Ideal.HdVal.head,
    trivial, Cert.Kernel4Ideal.PjVal.norm_proj,
    trivial, Cert.Kernel5Ideal.WgVal.weight,
    trivial, Cert.Kernel6Ideal.AdVal.optimiser,
    trivial, Cert.Kernel7Ideal.SmVal.summed,
    trivial, Cert.Kernel8Ideal.PkVal.packed⟩

end Cert.Proof

end
